-- ==== Defs.lean ====
def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3))) = (fun _ => 1#1)

def Pre_FfnDh (m : (ℓ : Loc Cert.FfnDh.nD Cert.FfnDh.τ Cert.FfnDh.sig) → Buf (Elt Bits) ℓ) : Prop :=
  True

def Pre_FfnDhIdeal (m : (ℓ : Loc Cert.FfnDhIdeal.nD Cert.FfnDhIdeal.τ Cert.FfnDhIdeal.sig) → Buf (Elt Ideal) ℓ) : Prop :=
  True

def Pre_FfnDhRefIdeal (m : (ℓ : Loc Cert.FfnDhRefIdeal.nD Cert.FfnDhRefIdeal.τ Cert.FfnDhRefIdeal.sig) → Buf (Elt Ideal) ℓ) : Prop :=
  True

def Pre_HgrnDx (m : (ℓ : Loc Cert.HgrnDx.nD Cert.HgrnDx.τ Cert.HgrnDx.sig) → Buf (Elt Bits) ℓ) : Prop :=
  True

def Pre_HgrnDxIdeal (m : (ℓ : Loc Cert.HgrnDxIdeal.nD Cert.HgrnDxIdeal.τ Cert.HgrnDxIdeal.sig) → Buf (Elt Ideal) ℓ) : Prop :=
  True

def Pre_HgrnDxRefIdeal (m : (ℓ : Loc Cert.HgrnDxRefIdeal.nD Cert.HgrnDxRefIdeal.τ Cert.HgrnDxRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_FfnAct (m : (ℓ : Loc Cert.FfnAct.nD Cert.FfnAct.τ Cert.FfnAct.sig) → Buf (Elt Bits) ℓ) : Prop :=
  True

def Pre_FfnActIdeal (m : (ℓ : Loc Cert.FfnActIdeal.nD Cert.FfnActIdeal.τ Cert.FfnActIdeal.sig) → Buf (Elt Ideal) ℓ) : Prop :=
  True

def Pre_FfnActIdeal_ffn_finite [hPre_ffn_finite : Cert.Pre_ffn_finite.Facts] (m : (ℓ : Loc Cert.FfnActIdeal.nD Cert.FfnActIdeal.τ Cert.FfnActIdeal.sig) → Buf (Elt Ideal) ℓ) : Prop :=
  ∀ c : Dev Cert.FfnActIdeal.nD,
    (Cert.Pre_ffn_finite.fn (F := Ideal) (m ((c.tc : Thread Cert.FfnActIdeal.nD Cert.FfnActIdeal.τ).loc Cert.FfnActIdeal.main_arg0)) (m ((c.tc : Thread Cert.FfnActIdeal.nD Cert.FfnActIdeal.τ).loc Cert.FfnActIdeal.main_arg1)) (m ((c.tc : Thread Cert.FfnActIdeal.nD Cert.FfnActIdeal.τ).loc Cert.FfnActIdeal.main_arg2)) (m ((c.tc : Thread Cert.FfnActIdeal.nD Cert.FfnActIdeal.τ).loc Cert.FfnActIdeal.main_arg3)) (m ((c.tc : Thread Cert.FfnActIdeal.nD Cert.FfnActIdeal.τ).loc Cert.FfnActIdeal.main_arg4))) = (fun _ => 1#1)

def Pre_FfnActRefIdeal (m : (ℓ : Loc Cert.FfnActRefIdeal.nD Cert.FfnActRefIdeal.τ Cert.FfnActRefIdeal.sig) → Buf (Elt Ideal) ℓ) : Prop :=
  True

def Pre_FfnActRefIdeal_ffn_finite [hPre_ffn_finite : Cert.Pre_ffn_finite.Facts] (m : (ℓ : Loc Cert.FfnActRefIdeal.nD Cert.FfnActRefIdeal.τ Cert.FfnActRefIdeal.sig) → Buf (Elt Ideal) ℓ) : Prop :=
  ∀ c : Dev Cert.FfnActRefIdeal.nD,
    (Cert.Pre_ffn_finite.fn (F := Ideal) (m ((c.tc : Thread Cert.FfnActRefIdeal.nD Cert.FfnActRefIdeal.τ).loc Cert.FfnActRefIdeal.main_arg0)) (m ((c.tc : Thread Cert.FfnActRefIdeal.nD Cert.FfnActRefIdeal.τ).loc Cert.FfnActRefIdeal.main_arg1)) (m ((c.tc : Thread Cert.FfnActRefIdeal.nD Cert.FfnActRefIdeal.τ).loc Cert.FfnActRefIdeal.main_arg2)) (m ((c.tc : Thread Cert.FfnActRefIdeal.nD Cert.FfnActRefIdeal.τ).loc Cert.FfnActRefIdeal.main_arg3)) (m ((c.tc : Thread Cert.FfnActRefIdeal.nD Cert.FfnActRefIdeal.τ).loc Cert.FfnActRefIdeal.main_arg4))) = (fun _ => 1#1)

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_HgrnOut (m : (ℓ : Loc Cert.HgrnOut.nD Cert.HgrnOut.τ Cert.HgrnOut.sig) → Buf (Elt Bits) ℓ) : Prop :=
  True

def Pre_HgrnOutIdeal (m : (ℓ : Loc Cert.HgrnOutIdeal.nD Cert.HgrnOutIdeal.τ Cert.HgrnOutIdeal.sig) → Buf (Elt Ideal) ℓ) : Prop :=
  True

def Pre_HgrnOutRefIdeal (m : (ℓ : Loc Cert.HgrnOutRefIdeal.nD Cert.HgrnOutRefIdeal.τ Cert.HgrnOutRefIdeal.sig) → Buf (Elt Ideal) ℓ) : Prop :=
  True

def Pre_MlaOut (m : (ℓ : Loc Cert.MlaOut.nD Cert.MlaOut.τ Cert.MlaOut.sig) → Buf (Elt Bits) ℓ) : Prop :=
  True

def Pre_MlaOutIdeal (m : (ℓ : Loc Cert.MlaOutIdeal.nD Cert.MlaOutIdeal.τ Cert.MlaOutIdeal.sig) → Buf (Elt Ideal) ℓ) : Prop :=
  True

def Pre_MlaOutRefIdeal (m : (ℓ : Loc Cert.MlaOutRefIdeal.nD Cert.MlaOutRefIdeal.τ Cert.MlaOutRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3)
      ∧ r.2.mem ((c.tc : Thread Cert.NormBwd.nD Cert.NormBwd.τ).loc Cert.NormBwd.main_arg4) = m ((c.tc : Thread Cert.NormBwd.nD Cert.NormBwd.τ).loc Cert.NormBwd.main_arg4))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3)
      ∧ r.2.mem ((c.tc : Thread Cert.NormBwdRefIdeal.nD Cert.NormBwdRefIdeal.τ).loc Cert.NormBwdRefIdeal.main_arg4) = m ((c.tc : Thread Cert.NormBwdRefIdeal.nD Cert.NormBwdRefIdeal.τ).loc Cert.NormBwdRefIdeal.main_arg4))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3))
      ∧ r.2.sem = fun _ => 0)

def quiescent_FfnDh [hFfnDh : Cert.FfnDh.Facts] : Prop :=
  ∀ (m : (ℓ : Loc Cert.FfnDh.nD Cert.FfnDh.τ Cert.FfnDh.sig) → Buf (Elt Bits) ℓ) (g : Dev Cert.FfnDh.nD → PrngReg), Pre_FfnDh m →
    θ_run (Cert.FfnDh.defs (F := Bits)) (onTc (τ := Cert.FfnDh.τ) (Cert.FfnDh.main (F := Bits))) ⟨m, fun _ => 0, g⟩ (fun r => (∀ c : Dev Cert.FfnDh.nD,
      r.2.mem ((c.tc : Thread Cert.FfnDh.nD Cert.FfnDh.τ).loc Cert.FfnDh.main_arg0) = m ((c.tc : Thread Cert.FfnDh.nD Cert.FfnDh.τ).loc Cert.FfnDh.main_arg0)
      ∧ r.2.mem ((c.tc : Thread Cert.FfnDh.nD Cert.FfnDh.τ).loc Cert.FfnDh.main_arg1) = m ((c.tc : Thread Cert.FfnDh.nD Cert.FfnDh.τ).loc Cert.FfnDh.main_arg1)
      ∧ r.2.mem ((c.tc : Thread Cert.FfnDh.nD Cert.FfnDh.τ).loc Cert.FfnDh.main_arg2) = m ((c.tc : Thread Cert.FfnDh.nD Cert.FfnDh.τ).loc Cert.FfnDh.main_arg2)
      ∧ r.2.mem ((c.tc : Thread Cert.FfnDh.nD Cert.FfnDh.τ).loc Cert.FfnDh.main_arg3) = m ((c.tc : Thread Cert.FfnDh.nD Cert.FfnDh.τ).loc Cert.FfnDh.main_arg3)
      ∧ r.2.mem ((c.tc : Thread Cert.FfnDh.nD Cert.FfnDh.τ).loc Cert.FfnDh.main_arg4) = m ((c.tc : Thread Cert.FfnDh.nD Cert.FfnDh.τ).loc Cert.FfnDh.main_arg4))
      ∧ r.2.sem = fun _ => 0)

def quiescent_FfnDhIdeal [hFfnDhIdeal : Cert.FfnDhIdeal.Facts] : Prop :=
  ∀ (m : (ℓ : Loc Cert.FfnDhIdeal.nD Cert.FfnDhIdeal.τ Cert.FfnDhIdeal.sig) → Buf (Elt Ideal) ℓ) (g : Dev Cert.FfnDhIdeal.nD → PrngReg), Pre_FfnDhIdeal m →
    θ_run (Cert.FfnDhIdeal.defs (F := Ideal)) (onTc (τ := Cert.FfnDhIdeal.τ) (Cert.FfnDhIdeal.main (F := Ideal))) ⟨m, fun _ => 0, g⟩ (fun r => (∀ c : Dev Cert.FfnDhIdeal.nD,
      r.2.mem ((c.tc : Thread Cert.FfnDhIdeal.nD Cert.FfnDhIdeal.τ).loc Cert.FfnDhIdeal.main_arg0) = m ((c.tc : Thread Cert.FfnDhIdeal.nD Cert.FfnDhIdeal.τ).loc Cert.FfnDhIdeal.main_arg0)
      ∧ r.2.mem ((c.tc : Thread Cert.FfnDhIdeal.nD Cert.FfnDhIdeal.τ).loc Cert.FfnDhIdeal.main_arg1) = m ((c.tc : Thread Cert.FfnDhIdeal.nD Cert.FfnDhIdeal.τ).loc Cert.FfnDhIdeal.main_arg1)
      ∧ r.2.mem ((c.tc : Thread Cert.FfnDhIdeal.nD Cert.FfnDhIdeal.τ).loc Cert.FfnDhIdeal.main_arg2) = m ((c.tc : Thread Cert.FfnDhIdeal.nD Cert.FfnDhIdeal.τ).loc Cert.FfnDhIdeal.main_arg2)
      ∧ r.2.mem ((c.tc : Thread Cert.FfnDhIdeal.nD Cert.FfnDhIdeal.τ).loc Cert.FfnDhIdeal.main_arg3) = m ((c.tc : Thread Cert.FfnDhIdeal.nD Cert.FfnDhIdeal.τ).loc Cert.FfnDhIdeal.main_arg3)
      ∧ r.2.mem ((c.tc : Thread Cert.FfnDhIdeal.nD Cert.FfnDhIdeal.τ).loc Cert.FfnDhIdeal.main_arg4) = m ((c.tc : Thread Cert.FfnDhIdeal.nD Cert.FfnDhIdeal.τ).loc Cert.FfnDhIdeal.main_arg4))
      ∧ r.2.sem = fun _ => 0)

def quiescent_FfnDhRefIdeal [hFfnDhRefIdeal : Cert.FfnDhRefIdeal.Facts] : Prop :=
  ∀ (m : (ℓ : Loc Cert.FfnDhRefIdeal.nD Cert.FfnDhRefIdeal.τ Cert.FfnDhRefIdeal.sig) → Buf (Elt Ideal) ℓ) (g : Dev Cert.FfnDhRefIdeal.nD → PrngReg), Pre_FfnDhRefIdeal m →
    θ_run (Cert.FfnDhRefIdeal.defs (F := Ideal)) (onTc (τ := Cert.FfnDhRefIdeal.τ) (Cert.FfnDhRefIdeal.main (F := Ideal))) ⟨m, fun _ => 0, g⟩ (fun r => (∀ c : Dev Cert.FfnDhRefIdeal.nD,
      r.2.mem ((c.tc : Thread Cert.FfnDhRefIdeal.nD Cert.FfnDhRefIdeal.τ).loc Cert.FfnDhRefIdeal.main_arg0) = m ((c.tc : Thread Cert.FfnDhRefIdeal.nD Cert.FfnDhRefIdeal.τ).loc Cert.FfnDhRefIdeal.main_arg0)
      ∧ r.2.mem ((c.tc : Thread Cert.FfnDhRefIdeal.nD Cert.FfnDhRefIdeal.τ).loc Cert.FfnDhRefIdeal.main_arg1) = m ((c.tc : Thread Cert.FfnDhRefIdeal.nD Cert.FfnDhRefIdeal.τ).loc Cert.FfnDhRefIdeal.main_arg1)
      ∧ r.2.mem ((c.tc : Thread Cert.FfnDhRefIdeal.nD Cert.FfnDhRefIdeal.τ).loc Cert.FfnDhRefIdeal.main_arg2) = m ((c.tc : Thread Cert.FfnDhRefIdeal.nD Cert.FfnDhRefIdeal.τ).loc Cert.FfnDhRefIdeal.main_arg2)
      ∧ r.2.mem ((c.tc : Thread Cert.FfnDhRefIdeal.nD Cert.FfnDhRefIdeal.τ).loc Cert.FfnDhRefIdeal.main_arg3) = m ((c.tc : Thread Cert.FfnDhRefIdeal.nD Cert.FfnDhRefIdeal.τ).loc Cert.FfnDhRefIdeal.main_arg3)
      ∧ r.2.mem ((c.tc : Thread Cert.FfnDhRefIdeal.nD Cert.FfnDhRefIdeal.τ).loc Cert.FfnDhRefIdeal.main_arg4) = m ((c.tc : Thread Cert.FfnDhRefIdeal.nD Cert.FfnDhRefIdeal.τ).loc Cert.FfnDhRefIdeal.main_arg4))
      ∧ r.2.sem = fun _ => 0)

def quiescent_HgrnDx [hHgrnDx : Cert.HgrnDx.Facts] : Prop :=
  ∀ (m : (ℓ : Loc Cert.HgrnDx.nD Cert.HgrnDx.τ Cert.HgrnDx.sig) → Buf (Elt Bits) ℓ) (g : Dev Cert.HgrnDx.nD → PrngReg), Pre_HgrnDx m →
    θ_run (Cert.HgrnDx.defs (F := Bits)) (onTc (τ := Cert.HgrnDx.τ) (Cert.HgrnDx.main (F := Bits))) ⟨m, fun _ => 0, g⟩ (fun r => (∀ c : Dev Cert.HgrnDx.nD,
      r.2.mem ((c.tc : Thread Cert.HgrnDx.nD Cert.HgrnDx.τ).loc Cert.HgrnDx.main_arg0) = m ((c.tc : Thread Cert.HgrnDx.nD Cert.HgrnDx.τ).loc Cert.HgrnDx.main_arg0)
      ∧ r.2.mem ((c.tc : Thread Cert.HgrnDx.nD Cert.HgrnDx.τ).loc Cert.HgrnDx.main_arg1) = m ((c.tc : Thread Cert.HgrnDx.nD Cert.HgrnDx.τ).loc Cert.HgrnDx.main_arg1)
      ∧ r.2.mem ((c.tc : Thread Cert.HgrnDx.nD Cert.HgrnDx.τ).loc Cert.HgrnDx.main_arg2) = m ((c.tc : Thread Cert.HgrnDx.nD Cert.HgrnDx.τ).loc Cert.HgrnDx.main_arg2)
      ∧ r.2.mem ((c.tc : Thread Cert.HgrnDx.nD Cert.HgrnDx.τ).loc Cert.HgrnDx.main_arg3) = m ((c.tc : Thread Cert.HgrnDx.nD Cert.HgrnDx.τ).loc Cert.HgrnDx.main_arg3)
      ∧ r.2.mem ((c.tc : Thread Cert.HgrnDx.nD Cert.HgrnDx.τ).loc Cert.HgrnDx.main_arg4) = m ((c.tc : Thread Cert.HgrnDx.nD Cert.HgrnDx.τ).loc Cert.HgrnDx.main_arg4))
      ∧ r.2.sem = fun _ => 0)

def quiescent_HgrnDxIdeal [hHgrnDxIdeal : Cert.HgrnDxIdeal.Facts] : Prop :=
  ∀ (m : (ℓ : Loc Cert.HgrnDxIdeal.nD Cert.HgrnDxIdeal.τ Cert.HgrnDxIdeal.sig) → Buf (Elt Ideal) ℓ) (g : Dev Cert.HgrnDxIdeal.nD → PrngReg), Pre_HgrnDxIdeal m →
    θ_run (Cert.HgrnDxIdeal.defs (F := Ideal)) (onTc (τ := Cert.HgrnDxIdeal.τ) (Cert.HgrnDxIdeal.main (F := Ideal))) ⟨m, fun _ => 0, g⟩ (fun r => (∀ c : Dev Cert.HgrnDxIdeal.nD,
      r.2.mem ((c.tc : Thread Cert.HgrnDxIdeal.nD Cert.HgrnDxIdeal.τ).loc Cert.HgrnDxIdeal.main_arg0) = m ((c.tc : Thread Cert.HgrnDxIdeal.nD Cert.HgrnDxIdeal.τ).loc Cert.HgrnDxIdeal.main_arg0)
      ∧ r.2.mem ((c.tc : Thread Cert.HgrnDxIdeal.nD Cert.HgrnDxIdeal.τ).loc Cert.HgrnDxIdeal.main_arg1) = m ((c.tc : Thread Cert.HgrnDxIdeal.nD Cert.HgrnDxIdeal.τ).loc Cert.HgrnDxIdeal.main_arg1)
      ∧ r.2.mem ((c.tc : Thread Cert.HgrnDxIdeal.nD Cert.HgrnDxIdeal.τ).loc Cert.HgrnDxIdeal.main_arg2) = m ((c.tc : Thread Cert.HgrnDxIdeal.nD Cert.HgrnDxIdeal.τ).loc Cert.HgrnDxIdeal.main_arg2)
      ∧ r.2.mem ((c.tc : Thread Cert.HgrnDxIdeal.nD Cert.HgrnDxIdeal.τ).loc Cert.HgrnDxIdeal.main_arg3) = m ((c.tc : Thread Cert.HgrnDxIdeal.nD Cert.HgrnDxIdeal.τ).loc Cert.HgrnDxIdeal.main_arg3)
      ∧ r.2.mem ((c.tc : Thread Cert.HgrnDxIdeal.nD Cert.HgrnDxIdeal.τ).loc Cert.HgrnDxIdeal.main_arg4) = m ((c.tc : Thread Cert.HgrnDxIdeal.nD Cert.HgrnDxIdeal.τ).loc Cert.HgrnDxIdeal.main_arg4))
      ∧ r.2.sem = fun _ => 0)

def quiescent_HgrnDxRefIdeal [hHgrnDxRefIdeal : Cert.HgrnDxRefIdeal.Facts] : Prop :=
  ∀ (m : (ℓ : Loc Cert.HgrnDxRefIdeal.nD Cert.HgrnDxRefIdeal.τ Cert.HgrnDxRefIdeal.sig) → Buf (Elt Ideal) ℓ) (g : Dev Cert.HgrnDxRefIdeal.nD → PrngReg), Pre_HgrnDxRefIdeal m →
    θ_run (Cert.HgrnDxRefIdeal.defs (F := Ideal)) (onTc (τ := Cert.HgrnDxRefIdeal.τ) (Cert.HgrnDxRefIdeal.main (F := Ideal))) ⟨m, fun _ => 0, g⟩ (fun r => (∀ c : Dev Cert.HgrnDxRefIdeal.nD,
      r.2.mem ((c.tc : Thread Cert.HgrnDxRefIdeal.nD Cert.HgrnDxRefIdeal.τ).loc Cert.HgrnDxRefIdeal.main_arg0) = m ((c.tc : Thread Cert.HgrnDxRefIdeal.nD Cert.HgrnDxRefIdeal.τ).loc Cert.HgrnDxRefIdeal.main_arg0)
      ∧ r.2.mem ((c.tc : Thread Cert.HgrnDxRefIdeal.nD Cert.HgrnDxRefIdeal.τ).loc Cert.HgrnDxRefIdeal.main_arg1) = m ((c.tc : Thread Cert.HgrnDxRefIdeal.nD Cert.HgrnDxRefIdeal.τ).loc Cert.HgrnDxRefIdeal.main_arg1)
      ∧ r.2.mem ((c.tc : Thread Cert.HgrnDxRefIdeal.nD Cert.HgrnDxRefIdeal.τ).loc Cert.HgrnDxRefIdeal.main_arg2) = m ((c.tc : Thread Cert.HgrnDxRefIdeal.nD Cert.HgrnDxRefIdeal.τ).loc Cert.HgrnDxRefIdeal.main_arg2)
      ∧ r.2.mem ((c.tc : Thread Cert.HgrnDxRefIdeal.nD Cert.HgrnDxRefIdeal.τ).loc Cert.HgrnDxRefIdeal.main_arg3) = m ((c.tc : Thread Cert.HgrnDxRefIdeal.nD Cert.HgrnDxRefIdeal.τ).loc Cert.HgrnDxRefIdeal.main_arg3)
      ∧ r.2.mem ((c.tc : Thread Cert.HgrnDxRefIdeal.nD Cert.HgrnDxRefIdeal.τ).loc Cert.HgrnDxRefIdeal.main_arg4) = m ((c.tc : Thread Cert.HgrnDxRefIdeal.nD Cert.HgrnDxRefIdeal.τ).loc Cert.HgrnDxRefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_FfnAct [hFfnAct : Cert.FfnAct.Facts] : Prop :=
  ∀ (m : (ℓ : Loc Cert.FfnAct.nD Cert.FfnAct.τ Cert.FfnAct.sig) → Buf (Elt Bits) ℓ) (g : Dev Cert.FfnAct.nD → PrngReg), Pre_FfnAct m →
    θ_run (Cert.FfnAct.defs (F := Bits)) (onTc (τ := Cert.FfnAct.τ) (Cert.FfnAct.main (F := Bits))) ⟨m, fun _ => 0, g⟩ (fun r => (∀ c : Dev Cert.FfnAct.nD,
      r.2.mem ((c.tc : Thread Cert.FfnAct.nD Cert.FfnAct.τ).loc Cert.FfnAct.main_arg0) = m ((c.tc : Thread Cert.FfnAct.nD Cert.FfnAct.τ).loc Cert.FfnAct.main_arg0)
      ∧ r.2.mem ((c.tc : Thread Cert.FfnAct.nD Cert.FfnAct.τ).loc Cert.FfnAct.main_arg1) = m ((c.tc : Thread Cert.FfnAct.nD Cert.FfnAct.τ).loc Cert.FfnAct.main_arg1)
      ∧ r.2.mem ((c.tc : Thread Cert.FfnAct.nD Cert.FfnAct.τ).loc Cert.FfnAct.main_arg2) = m ((c.tc : Thread Cert.FfnAct.nD Cert.FfnAct.τ).loc Cert.FfnAct.main_arg2)
      ∧ r.2.mem ((c.tc : Thread Cert.FfnAct.nD Cert.FfnAct.τ).loc Cert.FfnAct.main_arg3) = m ((c.tc : Thread Cert.FfnAct.nD Cert.FfnAct.τ).loc Cert.FfnAct.main_arg3)
      ∧ r.2.mem ((c.tc : Thread Cert.FfnAct.nD Cert.FfnAct.τ).loc Cert.FfnAct.main_arg4) = m ((c.tc : Thread Cert.FfnAct.nD Cert.FfnAct.τ).loc Cert.FfnAct.main_arg4))
      ∧ r.2.sem = fun _ => 0)

def quiescent_FfnActIdeal [hFfnActIdeal : Cert.FfnActIdeal.Facts] : Prop :=
  ∀ (m : (ℓ : Loc Cert.FfnActIdeal.nD Cert.FfnActIdeal.τ Cert.FfnActIdeal.sig) → Buf (Elt Ideal) ℓ) (g : Dev Cert.FfnActIdeal.nD → PrngReg), Pre_FfnActIdeal m →
    θ_run (Cert.FfnActIdeal.defs (F := Ideal)) (onTc (τ := Cert.FfnActIdeal.τ) (Cert.FfnActIdeal.main (F := Ideal))) ⟨m, fun _ => 0, g⟩ (fun r => (∀ c : Dev Cert.FfnActIdeal.nD,
      r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
      ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
      ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
      ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3)
      ∧ r.2.mem ((c.tc : Thread Cert.FfnActIdeal.nD Cert.FfnActIdeal.τ).loc Cert.FfnActIdeal.main_arg4) = m ((c.tc : Thread Cert.FfnActIdeal.nD Cert.FfnActIdeal.τ).loc Cert.FfnActIdeal.main_arg4))
      ∧ r.2.sem = fun _ => 0)

def quiescent_FfnActIdeal_pre_ffn_finite [hFfnActIdeal : Cert.FfnActIdeal.Facts] [hPre_ffn_finite : Cert.Pre_ffn_finite.Facts] : Prop :=
  ∀ (m : (ℓ : Loc Cert.FfnActIdeal.nD Cert.FfnActIdeal.τ Cert.FfnActIdeal.sig) → Buf (Elt Ideal) ℓ) (g : Dev Cert.FfnActIdeal.nD → PrngReg), Pre_FfnActIdeal_ffn_finite m →
    θ_run (Cert.FfnActIdeal.defs (F := Ideal)) (onTc (τ := Cert.FfnActIdeal.τ) (Cert.FfnActIdeal.main (F := Ideal))) ⟨m, fun _ => 0, g⟩ (fun r => (∀ c : Dev Cert.FfnActIdeal.nD,
      r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
      ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
      ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
      ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3)
      ∧ r.2.mem ((c.tc : Thread Cert.FfnActIdeal.nD Cert.FfnActIdeal.τ).loc Cert.FfnActIdeal.main_arg4) = m ((c.tc : Thread Cert.FfnActIdeal.nD Cert.FfnActIdeal.τ).loc Cert.FfnActIdeal.main_arg4))
      ∧ r.2.sem = fun _ => 0)

def quiescent_FfnActRefIdeal [hFfnActRefIdeal : Cert.FfnActRefIdeal.Facts] : Prop :=
  ∀ (m : (ℓ : Loc Cert.FfnActRefIdeal.nD Cert.FfnActRefIdeal.τ Cert.FfnActRefIdeal.sig) → Buf (Elt Ideal) ℓ) (g : Dev Cert.FfnActRefIdeal.nD → PrngReg), Pre_FfnActRefIdeal m →
    θ_run (Cert.FfnActRefIdeal.defs (F := Ideal)) (onTc (τ := Cert.FfnActRefIdeal.τ) (Cert.FfnActRefIdeal.main (F := Ideal))) ⟨m, fun _ => 0, g⟩ (fun r => (∀ c : Dev Cert.FfnActRefIdeal.nD,
      r.2.mem ((c.tc : Thread Cert.FfnActRefIdeal.nD Cert.FfnActRefIdeal.τ).loc Cert.FfnActRefIdeal.main_arg0) = m ((c.tc : Thread Cert.FfnActRefIdeal.nD Cert.FfnActRefIdeal.τ).loc Cert.FfnActRefIdeal.main_arg0)
      ∧ r.2.mem ((c.tc : Thread Cert.FfnActRefIdeal.nD Cert.FfnActRefIdeal.τ).loc Cert.FfnActRefIdeal.main_arg1) = m ((c.tc : Thread Cert.FfnActRefIdeal.nD Cert.FfnActRefIdeal.τ).loc Cert.FfnActRefIdeal.main_arg1)
      ∧ r.2.mem ((c.tc : Thread Cert.FfnActRefIdeal.nD Cert.FfnActRefIdeal.τ).loc Cert.FfnActRefIdeal.main_arg2) = m ((c.tc : Thread Cert.FfnActRefIdeal.nD Cert.FfnActRefIdeal.τ).loc Cert.FfnActRefIdeal.main_arg2)
      ∧ r.2.mem ((c.tc : Thread Cert.FfnActRefIdeal.nD Cert.FfnActRefIdeal.τ).loc Cert.FfnActRefIdeal.main_arg3) = m ((c.tc : Thread Cert.FfnActRefIdeal.nD Cert.FfnActRefIdeal.τ).loc Cert.FfnActRefIdeal.main_arg3)
      ∧ r.2.mem ((c.tc : Thread Cert.FfnActRefIdeal.nD Cert.FfnActRefIdeal.τ).loc Cert.FfnActRefIdeal.main_arg4) = m ((c.tc : Thread Cert.FfnActRefIdeal.nD Cert.FfnActRefIdeal.τ).loc Cert.FfnActRefIdeal.main_arg4))
      ∧ r.2.sem = fun _ => 0)

def quiescent_FfnActRefIdeal_pre_ffn_finite [hFfnActRefIdeal : Cert.FfnActRefIdeal.Facts] [hPre_ffn_finite : Cert.Pre_ffn_finite.Facts] : Prop :=
  ∀ (m : (ℓ : Loc Cert.FfnActRefIdeal.nD Cert.FfnActRefIdeal.τ Cert.FfnActRefIdeal.sig) → Buf (Elt Ideal) ℓ) (g : Dev Cert.FfnActRefIdeal.nD → PrngReg), Pre_FfnActRefIdeal_ffn_finite m →
    θ_run (Cert.FfnActRefIdeal.defs (F := Ideal)) (onTc (τ := Cert.FfnActRefIdeal.τ) (Cert.FfnActRefIdeal.main (F := Ideal))) ⟨m, fun _ => 0, g⟩ (fun r => (∀ c : Dev Cert.FfnActRefIdeal.nD,
      r.2.mem ((c.tc : Thread Cert.FfnActRefIdeal.nD Cert.FfnActRefIdeal.τ).loc Cert.FfnActRefIdeal.main_arg0) = m ((c.tc : Thread Cert.FfnActRefIdeal.nD Cert.FfnActRefIdeal.τ).loc Cert.FfnActRefIdeal.main_arg0)
      ∧ r.2.mem ((c.tc : Thread Cert.FfnActRefIdeal.nD Cert.FfnActRefIdeal.τ).loc Cert.FfnActRefIdeal.main_arg1) = m ((c.tc : Thread Cert.FfnActRefIdeal.nD Cert.FfnActRefIdeal.τ).loc Cert.FfnActRefIdeal.main_arg1)
      ∧ r.2.mem ((c.tc : Thread Cert.FfnActRefIdeal.nD Cert.FfnActRefIdeal.τ).loc Cert.FfnActRefIdeal.main_arg2) = m ((c.tc : Thread Cert.FfnActRefIdeal.nD Cert.FfnActRefIdeal.τ).loc Cert.FfnActRefIdeal.main_arg2)
      ∧ r.2.mem ((c.tc : Thread Cert.FfnActRefIdeal.nD Cert.FfnActRefIdeal.τ).loc Cert.FfnActRefIdeal.main_arg3) = m ((c.tc : Thread Cert.FfnActRefIdeal.nD Cert.FfnActRefIdeal.τ).loc Cert.FfnActRefIdeal.main_arg3)
      ∧ r.2.mem ((c.tc : Thread Cert.FfnActRefIdeal.nD Cert.FfnActRefIdeal.τ).loc Cert.FfnActRefIdeal.main_arg4) = m ((c.tc : Thread Cert.FfnActRefIdeal.nD Cert.FfnActRefIdeal.τ).loc Cert.FfnActRefIdeal.main_arg4))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2)
      ∧ r.2.mem ((c.tc : Thread Cert.FfnUp.nD Cert.FfnUp.τ).loc Cert.FfnUp.main_arg3) = m ((c.tc : Thread Cert.FfnUp.nD Cert.FfnUp.τ).loc Cert.FfnUp.main_arg3))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
      ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2)
      ∧ r.2.mem ((c.tc : Thread Cert.FfnUpRefIdeal.nD Cert.FfnUpRefIdeal.τ).loc Cert.FfnUpRefIdeal.main_arg3) = m ((c.tc : Thread Cert.FfnUpRefIdeal.nD Cert.FfnUpRefIdeal.τ).loc Cert.FfnUpRefIdeal.main_arg3))
      ∧ r.2.sem = fun _ => 0)

def quiescent_HgrnOut [hHgrnOut : Cert.HgrnOut.Facts] : Prop :=
  ∀ (m : (ℓ : Loc Cert.HgrnOut.nD Cert.HgrnOut.τ Cert.HgrnOut.sig) → Buf (Elt Bits) ℓ) (g : Dev Cert.HgrnOut.nD → PrngReg), Pre_HgrnOut m →
    θ_run (Cert.HgrnOut.defs (F := Bits)) (onTc (τ := Cert.HgrnOut.τ) (Cert.HgrnOut.main (F := Bits))) ⟨m, fun _ => 0, g⟩ (fun r => (∀ c : Dev Cert.HgrnOut.nD,
      r.2.mem ((c.tc : Thread Cert.HgrnOut.nD Cert.HgrnOut.τ).loc Cert.HgrnOut.main_arg0) = m ((c.tc : Thread Cert.HgrnOut.nD Cert.HgrnOut.τ).loc Cert.HgrnOut.main_arg0)
      ∧ r.2.mem ((c.tc : Thread Cert.HgrnOut.nD Cert.HgrnOut.τ).loc Cert.HgrnOut.main_arg1) = m ((c.tc : Thread Cert.HgrnOut.nD Cert.HgrnOut.τ).loc Cert.HgrnOut.main_arg1)
      ∧ r.2.mem ((c.tc : Thread Cert.HgrnOut.nD Cert.HgrnOut.τ).loc Cert.HgrnOut.main_arg2) = m ((c.tc : Thread Cert.HgrnOut.nD Cert.HgrnOut.τ).loc Cert.HgrnOut.main_arg2)
      ∧ r.2.mem ((c.tc : Thread Cert.HgrnOut.nD Cert.HgrnOut.τ).loc Cert.HgrnOut.main_arg3) = m ((c.tc : Thread Cert.HgrnOut.nD Cert.HgrnOut.τ).loc Cert.HgrnOut.main_arg3))
      ∧ r.2.sem = fun _ => 0)

def quiescent_HgrnOutIdeal [hHgrnOutIdeal : Cert.HgrnOutIdeal.Facts] : Prop :=
  ∀ (m : (ℓ : Loc Cert.HgrnOutIdeal.nD Cert.HgrnOutIdeal.τ Cert.HgrnOutIdeal.sig) → Buf (Elt Ideal) ℓ) (g : Dev Cert.HgrnOutIdeal.nD → PrngReg), Pre_HgrnOutIdeal m →
    θ_run (Cert.HgrnOutIdeal.defs (F := Ideal)) (onTc (τ := Cert.HgrnOutIdeal.τ) (Cert.HgrnOutIdeal.main (F := Ideal))) ⟨m, fun _ => 0, g⟩ (fun r => (∀ c : Dev Cert.HgrnOutIdeal.nD,
      r.2.mem ((c.tc : Thread Cert.HgrnOutIdeal.nD Cert.HgrnOutIdeal.τ).loc Cert.HgrnOutIdeal.main_arg0) = m ((c.tc : Thread Cert.HgrnOutIdeal.nD Cert.HgrnOutIdeal.τ).loc Cert.HgrnOutIdeal.main_arg0)
      ∧ r.2.mem ((c.tc : Thread Cert.HgrnOutIdeal.nD Cert.HgrnOutIdeal.τ).loc Cert.HgrnOutIdeal.main_arg1) = m ((c.tc : Thread Cert.HgrnOutIdeal.nD Cert.HgrnOutIdeal.τ).loc Cert.HgrnOutIdeal.main_arg1)
      ∧ r.2.mem ((c.tc : Thread Cert.HgrnOutIdeal.nD Cert.HgrnOutIdeal.τ).loc Cert.HgrnOutIdeal.main_arg2) = m ((c.tc : Thread Cert.HgrnOutIdeal.nD Cert.HgrnOutIdeal.τ).loc Cert.HgrnOutIdeal.main_arg2)
      ∧ r.2.mem ((c.tc : Thread Cert.HgrnOutIdeal.nD Cert.HgrnOutIdeal.τ).loc Cert.HgrnOutIdeal.main_arg3) = m ((c.tc : Thread Cert.HgrnOutIdeal.nD Cert.HgrnOutIdeal.τ).loc Cert.HgrnOutIdeal.main_arg3))
      ∧ r.2.sem = fun _ => 0)

def quiescent_HgrnOutRefIdeal [hHgrnOutRefIdeal : Cert.HgrnOutRefIdeal.Facts] : Prop :=
  ∀ (m : (ℓ : Loc Cert.HgrnOutRefIdeal.nD Cert.HgrnOutRefIdeal.τ Cert.HgrnOutRefIdeal.sig) → Buf (Elt Ideal) ℓ) (g : Dev Cert.HgrnOutRefIdeal.nD → PrngReg), Pre_HgrnOutRefIdeal m →
    θ_run (Cert.HgrnOutRefIdeal.defs (F := Ideal)) (onTc (τ := Cert.HgrnOutRefIdeal.τ) (Cert.HgrnOutRefIdeal.main (F := Ideal))) ⟨m, fun _ => 0, g⟩ (fun r => (∀ c : Dev Cert.HgrnOutRefIdeal.nD,
      r.2.mem ((c.tc : Thread Cert.HgrnOutRefIdeal.nD Cert.HgrnOutRefIdeal.τ).loc Cert.HgrnOutRefIdeal.main_arg0) = m ((c.tc : Thread Cert.HgrnOutRefIdeal.nD Cert.HgrnOutRefIdeal.τ).loc Cert.HgrnOutRefIdeal.main_arg0)
      ∧ r.2.mem ((c.tc : Thread Cert.HgrnOutRefIdeal.nD Cert.HgrnOutRefIdeal.τ).loc Cert.HgrnOutRefIdeal.main_arg1) = m ((c.tc : Thread Cert.HgrnOutRefIdeal.nD Cert.HgrnOutRefIdeal.τ).loc Cert.HgrnOutRefIdeal.main_arg1)
      ∧ r.2.mem ((c.tc : Thread Cert.HgrnOutRefIdeal.nD Cert.HgrnOutRefIdeal.τ).loc Cert.HgrnOutRefIdeal.main_arg2) = m ((c.tc : Thread Cert.HgrnOutRefIdeal.nD Cert.HgrnOutRefIdeal.τ).loc Cert.HgrnOutRefIdeal.main_arg2)
      ∧ r.2.mem ((c.tc : Thread Cert.HgrnOutRefIdeal.nD Cert.HgrnOutRefIdeal.τ).loc Cert.HgrnOutRefIdeal.main_arg3) = m ((c.tc : Thread Cert.HgrnOutRefIdeal.nD Cert.HgrnOutRefIdeal.τ).loc Cert.HgrnOutRefIdeal.main_arg3))
      ∧ r.2.sem = fun _ => 0)

def quiescent_MlaOut [hMlaOut : Cert.MlaOut.Facts] : Prop :=
  ∀ (m : (ℓ : Loc Cert.MlaOut.nD Cert.MlaOut.τ Cert.MlaOut.sig) → Buf (Elt Bits) ℓ) (g : Dev Cert.MlaOut.nD → PrngReg), Pre_MlaOut m →
    θ_run (Cert.MlaOut.defs (F := Bits)) (onTc (τ := Cert.MlaOut.τ) (Cert.MlaOut.main (F := Bits))) ⟨m, fun _ => 0, g⟩ (fun r => (∀ c : Dev Cert.MlaOut.nD,
      r.2.mem ((c.tc : Thread Cert.MlaOut.nD Cert.MlaOut.τ).loc Cert.MlaOut.main_arg0) = m ((c.tc : Thread Cert.MlaOut.nD Cert.MlaOut.τ).loc Cert.MlaOut.main_arg0)
      ∧ r.2.mem ((c.tc : Thread Cert.MlaOut.nD Cert.MlaOut.τ).loc Cert.MlaOut.main_arg1) = m ((c.tc : Thread Cert.MlaOut.nD Cert.MlaOut.τ).loc Cert.MlaOut.main_arg1)
      ∧ r.2.mem ((c.tc : Thread Cert.MlaOut.nD Cert.MlaOut.τ).loc Cert.MlaOut.main_arg2) = m ((c.tc : Thread Cert.MlaOut.nD Cert.MlaOut.τ).loc Cert.MlaOut.main_arg2)
      ∧ r.2.mem ((c.tc : Thread Cert.MlaOut.nD Cert.MlaOut.τ).loc Cert.MlaOut.main_arg3) = m ((c.tc : Thread Cert.MlaOut.nD Cert.MlaOut.τ).loc Cert.MlaOut.main_arg3))
      ∧ r.2.sem = fun _ => 0)

def quiescent_MlaOutIdeal [hMlaOutIdeal : Cert.MlaOutIdeal.Facts] : Prop :=
  ∀ (m : (ℓ : Loc Cert.MlaOutIdeal.nD Cert.MlaOutIdeal.τ Cert.MlaOutIdeal.sig) → Buf (Elt Ideal) ℓ) (g : Dev Cert.MlaOutIdeal.nD → PrngReg), Pre_MlaOutIdeal m →
    θ_run (Cert.MlaOutIdeal.defs (F := Ideal)) (onTc (τ := Cert.MlaOutIdeal.τ) (Cert.MlaOutIdeal.main (F := Ideal))) ⟨m, fun _ => 0, g⟩ (fun r => (∀ c : Dev Cert.MlaOutIdeal.nD,
      r.2.mem ((c.tc : Thread Cert.MlaOutIdeal.nD Cert.MlaOutIdeal.τ).loc Cert.MlaOutIdeal.main_arg0) = m ((c.tc : Thread Cert.MlaOutIdeal.nD Cert.MlaOutIdeal.τ).loc Cert.MlaOutIdeal.main_arg0)
      ∧ r.2.mem ((c.tc : Thread Cert.MlaOutIdeal.nD Cert.MlaOutIdeal.τ).loc Cert.MlaOutIdeal.main_arg1) = m ((c.tc : Thread Cert.MlaOutIdeal.nD Cert.MlaOutIdeal.τ).loc Cert.MlaOutIdeal.main_arg1)
      ∧ r.2.mem ((c.tc : Thread Cert.MlaOutIdeal.nD Cert.MlaOutIdeal.τ).loc Cert.MlaOutIdeal.main_arg2) = m ((c.tc : Thread Cert.MlaOutIdeal.nD Cert.MlaOutIdeal.τ).loc Cert.MlaOutIdeal.main_arg2)
      ∧ r.2.mem ((c.tc : Thread Cert.MlaOutIdeal.nD Cert.MlaOutIdeal.τ).loc Cert.MlaOutIdeal.main_arg3) = m ((c.tc : Thread Cert.MlaOutIdeal.nD Cert.MlaOutIdeal.τ).loc Cert.MlaOutIdeal.main_arg3))
      ∧ r.2.sem = fun _ => 0)

def quiescent_MlaOutRefIdeal [hMlaOutRefIdeal : Cert.MlaOutRefIdeal.Facts] : Prop :=
  ∀ (m : (ℓ : Loc Cert.MlaOutRefIdeal.nD Cert.MlaOutRefIdeal.τ Cert.MlaOutRefIdeal.sig) → Buf (Elt Ideal) ℓ) (g : Dev Cert.MlaOutRefIdeal.nD → PrngReg), Pre_MlaOutRefIdeal m →
    θ_run (Cert.MlaOutRefIdeal.defs (F := Ideal)) (onTc (τ := Cert.MlaOutRefIdeal.τ) (Cert.MlaOutRefIdeal.main (F := Ideal))) ⟨m, fun _ => 0, g⟩ (fun r => (∀ c : Dev Cert.MlaOutRefIdeal.nD,
      r.2.mem ((c.tc : Thread Cert.MlaOutRefIdeal.nD Cert.MlaOutRefIdeal.τ).loc Cert.MlaOutRefIdeal.main_arg0) = m ((c.tc : Thread Cert.MlaOutRefIdeal.nD Cert.MlaOutRefIdeal.τ).loc Cert.MlaOutRefIdeal.main_arg0)
      ∧ r.2.mem ((c.tc : Thread Cert.MlaOutRefIdeal.nD Cert.MlaOutRefIdeal.τ).loc Cert.MlaOutRefIdeal.main_arg1) = m ((c.tc : Thread Cert.MlaOutRefIdeal.nD Cert.MlaOutRefIdeal.τ).loc Cert.MlaOutRefIdeal.main_arg1)
      ∧ r.2.mem ((c.tc : Thread Cert.MlaOutRefIdeal.nD Cert.MlaOutRefIdeal.τ).loc Cert.MlaOutRefIdeal.main_arg2) = m ((c.tc : Thread Cert.MlaOutRefIdeal.nD Cert.MlaOutRefIdeal.τ).loc Cert.MlaOutRefIdeal.main_arg2)
      ∧ r.2.mem ((c.tc : Thread Cert.MlaOutRefIdeal.nD Cert.MlaOutRefIdeal.τ).loc Cert.MlaOutRefIdeal.main_arg3) = m ((c.tc : Thread Cert.MlaOutRefIdeal.nD Cert.MlaOutRefIdeal.τ).loc Cert.MlaOutRefIdeal.main_arg3))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3))
      ∧ r.2.sem = fun _ => 0)

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)
      ∧ m' ((c.tc : Thread Cert.NormBwdRefIdeal.nD Cert.NormBwdRefIdeal.τ).loc Cert.NormBwdRefIdeal.main_arg4) = m ((c.tc : Thread Cert.NormBwdIdeal.nD Cert.NormBwdIdeal.τ).loc Cert.NormBwdIdeal.main_arg4)) →
    ∃ (v0 : (c : Dev Cert.NormBwdIdeal.nD) → Buf (Elt Ideal) ((c.tc : Thread Cert.NormBwdIdeal.nD Cert.NormBwdIdeal.τ).loc Cert.NormBwdIdeal.main_v8_0)) (v1 : (c : Dev Cert.NormBwdIdeal.nD) → Buf (Elt Ideal) ((c.tc : Thread Cert.NormBwdIdeal.nD Cert.NormBwdIdeal.τ).loc Cert.NormBwdIdeal.main_v8_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v8_0) = v0 c
          ∧ r.2.mem ((c.tc : Thread Cert.NormBwdIdeal.nD Cert.NormBwdIdeal.τ).loc Cert.NormBwdIdeal.main_v8_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v41) = v0 c
          ∧ r.2.mem ((c.tc : Thread Cert.NormBwdRefIdeal.nD Cert.NormBwdRefIdeal.τ).loc Cert.NormBwdRefIdeal.main_v42) = v1 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3)
          ∧ r.2.mem ((c.tc : Thread Cert.NormBwdRefIdeal.nD Cert.NormBwdRefIdeal.τ).loc Cert.NormBwdRefIdeal.main_arg4) = m' ((c.tc : Thread Cert.NormBwdRefIdeal.nD Cert.NormBwdRefIdeal.τ).loc Cert.NormBwdRefIdeal.main_arg4))

def preserves_Attn_AttnIdeal : Prop :=
  IdealRules.named_const.Statement Cert.AttnIdeal.κ "mask" .f32 0xF149F2CA#32 ⊥
  ∧ IdealRules.named_const.Statement Cert.AttnIdeal.κ "scale_log2e" .f32 0x3DD53B95#32 (((Real.sqrt 192)⁻¹ * (Real.log 2)⁻¹ : ℝ) : EReal)
  ∧ IdealRules.named_const.Statement Cert.AttnIdeal.κ "log2e" .f32 0x3FB8AA3B#32 (((Real.log 2)⁻¹ : ℝ) : EReal)
  ∧ IdealRules.named_const.Statement Cert.AttnIdeal.κ "scale" .f32 0x3D93CD3A#32 (((Real.sqrt 192)⁻¹ : ℝ) : EReal)

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)) →
    ∃ (v0 : (c : Dev Cert.AttnIdeal.nD) → Buf (Elt Ideal) ((c.tc : Thread Cert.AttnIdeal.nD Cert.AttnIdeal.τ).loc Cert.AttnIdeal.main_v46_0)) (v1 : (c : Dev Cert.AttnIdeal.nD) → Buf (Elt Ideal) ((c.tc : Thread Cert.AttnIdeal.nD Cert.AttnIdeal.τ).loc Cert.AttnIdeal.main_v46_1)) (v2 : (c : Dev Cert.AttnIdeal.nD) → Buf (Elt Ideal) ((c.tc : Thread Cert.AttnIdeal.nD Cert.AttnIdeal.τ).loc Cert.AttnIdeal.main_v46_2)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v46_0) = v0 c
          ∧ r.2.mem ((c.tc : Thread Cert.AttnIdeal.nD Cert.AttnIdeal.τ).loc Cert.AttnIdeal.main_v46_1) = v1 c
          ∧ r.2.mem ((c.tc : Thread Cert.AttnIdeal.nD Cert.AttnIdeal.τ).loc Cert.AttnIdeal.main_v46_2) = v2 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v69) = v0 c
          ∧ r.2.mem ((c.tc : Thread Cert.AttnRefIdeal.nD Cert.AttnRefIdeal.τ).loc Cert.AttnRefIdeal.main_v71) = v1 c
          ∧ r.2.mem ((c.tc : Thread Cert.AttnRefIdeal.nD Cert.AttnRefIdeal.τ).loc Cert.AttnRefIdeal.main_v72) = v2 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3))

def preserves_FfnDh_FfnDhIdeal : Prop :=
  True

def algebraic_FfnDhIdeal_FfnDhRefIdeal [hFfnDhIdeal : Cert.FfnDhIdeal.Facts] [hFfnDhRefIdeal : Cert.FfnDhRefIdeal.Facts] : Prop :=
  ∀ (m : (ℓ : Loc Cert.FfnDhIdeal.nD Cert.FfnDhIdeal.τ Cert.FfnDhIdeal.sig) → Buf (Elt Ideal) ℓ) (g : Dev Cert.FfnDhIdeal.nD → PrngReg)
    (m' : (ℓ : Loc Cert.FfnDhRefIdeal.nD Cert.FfnDhRefIdeal.τ Cert.FfnDhRefIdeal.sig) → Buf (Elt Ideal) ℓ) (g' : Dev Cert.FfnDhRefIdeal.nD → PrngReg), Pre_FfnDhIdeal m →
    (∀ c : Dev Cert.FfnDhIdeal.nD,
      m' ((c.tc : Thread Cert.FfnDhRefIdeal.nD Cert.FfnDhRefIdeal.τ).loc Cert.FfnDhRefIdeal.main_arg0) = m ((c.tc : Thread Cert.FfnDhIdeal.nD Cert.FfnDhIdeal.τ).loc Cert.FfnDhIdeal.main_arg0)
      ∧ m' ((c.tc : Thread Cert.FfnDhRefIdeal.nD Cert.FfnDhRefIdeal.τ).loc Cert.FfnDhRefIdeal.main_arg1) = m ((c.tc : Thread Cert.FfnDhIdeal.nD Cert.FfnDhIdeal.τ).loc Cert.FfnDhIdeal.main_arg1)
      ∧ m' ((c.tc : Thread Cert.FfnDhRefIdeal.nD Cert.FfnDhRefIdeal.τ).loc Cert.FfnDhRefIdeal.main_arg2) = m ((c.tc : Thread Cert.FfnDhIdeal.nD Cert.FfnDhIdeal.τ).loc Cert.FfnDhIdeal.main_arg2)
      ∧ m' ((c.tc : Thread Cert.FfnDhRefIdeal.nD Cert.FfnDhRefIdeal.τ).loc Cert.FfnDhRefIdeal.main_arg3) = m ((c.tc : Thread Cert.FfnDhIdeal.nD Cert.FfnDhIdeal.τ).loc Cert.FfnDhIdeal.main_arg3)
      ∧ m' ((c.tc : Thread Cert.FfnDhRefIdeal.nD Cert.FfnDhRefIdeal.τ).loc Cert.FfnDhRefIdeal.main_arg4) = m ((c.tc : Thread Cert.FfnDhIdeal.nD Cert.FfnDhIdeal.τ).loc Cert.FfnDhIdeal.main_arg4)) →
    ∃ (v0 : (c : Dev Cert.FfnDhIdeal.nD) → Buf (Elt Ideal) ((c.tc : Thread Cert.FfnDhIdeal.nD Cert.FfnDhIdeal.τ).loc Cert.FfnDhIdeal.main_v10_0)) (v1 : (c : Dev Cert.FfnDhIdeal.nD) → Buf (Elt Ideal) ((c.tc : Thread Cert.FfnDhIdeal.nD Cert.FfnDhIdeal.τ).loc Cert.FfnDhIdeal.main_v10_1)),
      θ_run (Cert.FfnDhIdeal.defs (F := Ideal)) (onTc (τ := Cert.FfnDhIdeal.τ) (Cert.FfnDhIdeal.main (F := Ideal))) ⟨m, fun _ => 0, g⟩ (fun r => ∀ c : Dev Cert.FfnDhIdeal.nD,
          r.2.mem ((c.tc : Thread Cert.FfnDhIdeal.nD Cert.FfnDhIdeal.τ).loc Cert.FfnDhIdeal.main_v10_0) = v0 c
          ∧ r.2.mem ((c.tc : Thread Cert.FfnDhIdeal.nD Cert.FfnDhIdeal.τ).loc Cert.FfnDhIdeal.main_v10_1) = v1 c
          ∧ r.2.mem ((c.tc : Thread Cert.FfnDhIdeal.nD Cert.FfnDhIdeal.τ).loc Cert.FfnDhIdeal.main_arg0) = m ((c.tc : Thread Cert.FfnDhIdeal.nD Cert.FfnDhIdeal.τ).loc Cert.FfnDhIdeal.main_arg0)
          ∧ r.2.mem ((c.tc : Thread Cert.FfnDhIdeal.nD Cert.FfnDhIdeal.τ).loc Cert.FfnDhIdeal.main_arg1) = m ((c.tc : Thread Cert.FfnDhIdeal.nD Cert.FfnDhIdeal.τ).loc Cert.FfnDhIdeal.main_arg1)
          ∧ r.2.mem ((c.tc : Thread Cert.FfnDhIdeal.nD Cert.FfnDhIdeal.τ).loc Cert.FfnDhIdeal.main_arg2) = m ((c.tc : Thread Cert.FfnDhIdeal.nD Cert.FfnDhIdeal.τ).loc Cert.FfnDhIdeal.main_arg2)
          ∧ r.2.mem ((c.tc : Thread Cert.FfnDhIdeal.nD Cert.FfnDhIdeal.τ).loc Cert.FfnDhIdeal.main_arg3) = m ((c.tc : Thread Cert.FfnDhIdeal.nD Cert.FfnDhIdeal.τ).loc Cert.FfnDhIdeal.main_arg3)
          ∧ r.2.mem ((c.tc : Thread Cert.FfnDhIdeal.nD Cert.FfnDhIdeal.τ).loc Cert.FfnDhIdeal.main_arg4) = m ((c.tc : Thread Cert.FfnDhIdeal.nD Cert.FfnDhIdeal.τ).loc Cert.FfnDhIdeal.main_arg4))
      ∧ θ_run (Cert.FfnDhRefIdeal.defs (F := Ideal)) (onTc (τ := Cert.FfnDhRefIdeal.τ) (Cert.FfnDhRefIdeal.main (F := Ideal))) ⟨m', fun _ => 0, g'⟩ (fun r => ∀ c : Dev Cert.FfnDhRefIdeal.nD,
          r.2.mem ((c.tc : Thread Cert.FfnDhRefIdeal.nD Cert.FfnDhRefIdeal.τ).loc Cert.FfnDhRefIdeal.main_v41) = v0 c
          ∧ r.2.mem ((c.tc : Thread Cert.FfnDhRefIdeal.nD Cert.FfnDhRefIdeal.τ).loc Cert.FfnDhRefIdeal.main_v42) = v1 c
          ∧ r.2.mem ((c.tc : Thread Cert.FfnDhRefIdeal.nD Cert.FfnDhRefIdeal.τ).loc Cert.FfnDhRefIdeal.main_arg0) = m' ((c.tc : Thread Cert.FfnDhRefIdeal.nD Cert.FfnDhRefIdeal.τ).loc Cert.FfnDhRefIdeal.main_arg0)
          ∧ r.2.mem ((c.tc : Thread Cert.FfnDhRefIdeal.nD Cert.FfnDhRefIdeal.τ).loc Cert.FfnDhRefIdeal.main_arg1) = m' ((c.tc : Thread Cert.FfnDhRefIdeal.nD Cert.FfnDhRefIdeal.τ).loc Cert.FfnDhRefIdeal.main_arg1)
          ∧ r.2.mem ((c.tc : Thread Cert.FfnDhRefIdeal.nD Cert.FfnDhRefIdeal.τ).loc Cert.FfnDhRefIdeal.main_arg2) = m' ((c.tc : Thread Cert.FfnDhRefIdeal.nD Cert.FfnDhRefIdeal.τ).loc Cert.FfnDhRefIdeal.main_arg2)
          ∧ r.2.mem ((c.tc : Thread Cert.FfnDhRefIdeal.nD Cert.FfnDhRefIdeal.τ).loc Cert.FfnDhRefIdeal.main_arg3) = m' ((c.tc : Thread Cert.FfnDhRefIdeal.nD Cert.FfnDhRefIdeal.τ).loc Cert.FfnDhRefIdeal.main_arg3)
          ∧ r.2.mem ((c.tc : Thread Cert.FfnDhRefIdeal.nD Cert.FfnDhRefIdeal.τ).loc Cert.FfnDhRefIdeal.main_arg4) = m' ((c.tc : Thread Cert.FfnDhRefIdeal.nD Cert.FfnDhRefIdeal.τ).loc Cert.FfnDhRefIdeal.main_arg4))

def preserves_HgrnDx_HgrnDxIdeal : Prop :=
  True

def algebraic_HgrnDxIdeal_HgrnDxRefIdeal [hHgrnDxIdeal : Cert.HgrnDxIdeal.Facts] [hHgrnDxRefIdeal : Cert.HgrnDxRefIdeal.Facts] : Prop :=
  ∀ (m : (ℓ : Loc Cert.HgrnDxIdeal.nD Cert.HgrnDxIdeal.τ Cert.HgrnDxIdeal.sig) → Buf (Elt Ideal) ℓ) (g : Dev Cert.HgrnDxIdeal.nD → PrngReg)
    (m' : (ℓ : Loc Cert.HgrnDxRefIdeal.nD Cert.HgrnDxRefIdeal.τ Cert.HgrnDxRefIdeal.sig) → Buf (Elt Ideal) ℓ) (g' : Dev Cert.HgrnDxRefIdeal.nD → PrngReg), Pre_HgrnDxIdeal m →
    (∀ c : Dev Cert.HgrnDxIdeal.nD,
      m' ((c.tc : Thread Cert.HgrnDxRefIdeal.nD Cert.HgrnDxRefIdeal.τ).loc Cert.HgrnDxRefIdeal.main_arg0) = m ((c.tc : Thread Cert.HgrnDxIdeal.nD Cert.HgrnDxIdeal.τ).loc Cert.HgrnDxIdeal.main_arg0)
      ∧ m' ((c.tc : Thread Cert.HgrnDxRefIdeal.nD Cert.HgrnDxRefIdeal.τ).loc Cert.HgrnDxRefIdeal.main_arg1) = m ((c.tc : Thread Cert.HgrnDxIdeal.nD Cert.HgrnDxIdeal.τ).loc Cert.HgrnDxIdeal.main_arg1)
      ∧ m' ((c.tc : Thread Cert.HgrnDxRefIdeal.nD Cert.HgrnDxRefIdeal.τ).loc Cert.HgrnDxRefIdeal.main_arg2) = m ((c.tc : Thread Cert.HgrnDxIdeal.nD Cert.HgrnDxIdeal.τ).loc Cert.HgrnDxIdeal.main_arg2)
      ∧ m' ((c.tc : Thread Cert.HgrnDxRefIdeal.nD Cert.HgrnDxRefIdeal.τ).loc Cert.HgrnDxRefIdeal.main_arg3) = m ((c.tc : Thread Cert.HgrnDxIdeal.nD Cert.HgrnDxIdeal.τ).loc Cert.HgrnDxIdeal.main_arg3)
      ∧ m' ((c.tc : Thread Cert.HgrnDxRefIdeal.nD Cert.HgrnDxRefIdeal.τ).loc Cert.HgrnDxRefIdeal.main_arg4) = m ((c.tc : Thread Cert.HgrnDxIdeal.nD Cert.HgrnDxIdeal.τ).loc Cert.HgrnDxIdeal.main_arg4)) →
    ∃ (v0 : (c : Dev Cert.HgrnDxIdeal.nD) → Buf (Elt Ideal) ((c.tc : Thread Cert.HgrnDxIdeal.nD Cert.HgrnDxIdeal.τ).loc Cert.HgrnDxIdeal.main_v8_0)) (v1 : (c : Dev Cert.HgrnDxIdeal.nD) → Buf (Elt Ideal) ((c.tc : Thread Cert.HgrnDxIdeal.nD Cert.HgrnDxIdeal.τ).loc Cert.HgrnDxIdeal.main_v8_1)),
      θ_run (Cert.HgrnDxIdeal.defs (F := Ideal)) (onTc (τ := Cert.HgrnDxIdeal.τ) (Cert.HgrnDxIdeal.main (F := Ideal))) ⟨m, fun _ => 0, g⟩ (fun r => ∀ c : Dev Cert.HgrnDxIdeal.nD,
          r.2.mem ((c.tc : Thread Cert.HgrnDxIdeal.nD Cert.HgrnDxIdeal.τ).loc Cert.HgrnDxIdeal.main_v8_0) = v0 c
          ∧ r.2.mem ((c.tc : Thread Cert.HgrnDxIdeal.nD Cert.HgrnDxIdeal.τ).loc Cert.HgrnDxIdeal.main_v8_1) = v1 c
          ∧ r.2.mem ((c.tc : Thread Cert.HgrnDxIdeal.nD Cert.HgrnDxIdeal.τ).loc Cert.HgrnDxIdeal.main_arg0) = m ((c.tc : Thread Cert.HgrnDxIdeal.nD Cert.HgrnDxIdeal.τ).loc Cert.HgrnDxIdeal.main_arg0)
          ∧ r.2.mem ((c.tc : Thread Cert.HgrnDxIdeal.nD Cert.HgrnDxIdeal.τ).loc Cert.HgrnDxIdeal.main_arg1) = m ((c.tc : Thread Cert.HgrnDxIdeal.nD Cert.HgrnDxIdeal.τ).loc Cert.HgrnDxIdeal.main_arg1)
          ∧ r.2.mem ((c.tc : Thread Cert.HgrnDxIdeal.nD Cert.HgrnDxIdeal.τ).loc Cert.HgrnDxIdeal.main_arg2) = m ((c.tc : Thread Cert.HgrnDxIdeal.nD Cert.HgrnDxIdeal.τ).loc Cert.HgrnDxIdeal.main_arg2)
          ∧ r.2.mem ((c.tc : Thread Cert.HgrnDxIdeal.nD Cert.HgrnDxIdeal.τ).loc Cert.HgrnDxIdeal.main_arg3) = m ((c.tc : Thread Cert.HgrnDxIdeal.nD Cert.HgrnDxIdeal.τ).loc Cert.HgrnDxIdeal.main_arg3)
          ∧ r.2.mem ((c.tc : Thread Cert.HgrnDxIdeal.nD Cert.HgrnDxIdeal.τ).loc Cert.HgrnDxIdeal.main_arg4) = m ((c.tc : Thread Cert.HgrnDxIdeal.nD Cert.HgrnDxIdeal.τ).loc Cert.HgrnDxIdeal.main_arg4))
      ∧ θ_run (Cert.HgrnDxRefIdeal.defs (F := Ideal)) (onTc (τ := Cert.HgrnDxRefIdeal.τ) (Cert.HgrnDxRefIdeal.main (F := Ideal))) ⟨m', fun _ => 0, g'⟩ (fun r => ∀ c : Dev Cert.HgrnDxRefIdeal.nD,
          r.2.mem ((c.tc : Thread Cert.HgrnDxRefIdeal.nD Cert.HgrnDxRefIdeal.τ).loc Cert.HgrnDxRefIdeal.main_v41) = v0 c
          ∧ r.2.mem ((c.tc : Thread Cert.HgrnDxRefIdeal.nD Cert.HgrnDxRefIdeal.τ).loc Cert.HgrnDxRefIdeal.main_v42) = v1 c
          ∧ r.2.mem ((c.tc : Thread Cert.HgrnDxRefIdeal.nD Cert.HgrnDxRefIdeal.τ).loc Cert.HgrnDxRefIdeal.main_arg0) = m' ((c.tc : Thread Cert.HgrnDxRefIdeal.nD Cert.HgrnDxRefIdeal.τ).loc Cert.HgrnDxRefIdeal.main_arg0)
          ∧ r.2.mem ((c.tc : Thread Cert.HgrnDxRefIdeal.nD Cert.HgrnDxRefIdeal.τ).loc Cert.HgrnDxRefIdeal.main_arg1) = m' ((c.tc : Thread Cert.HgrnDxRefIdeal.nD Cert.HgrnDxRefIdeal.τ).loc Cert.HgrnDxRefIdeal.main_arg1)
          ∧ r.2.mem ((c.tc : Thread Cert.HgrnDxRefIdeal.nD Cert.HgrnDxRefIdeal.τ).loc Cert.HgrnDxRefIdeal.main_arg2) = m' ((c.tc : Thread Cert.HgrnDxRefIdeal.nD Cert.HgrnDxRefIdeal.τ).loc Cert.HgrnDxRefIdeal.main_arg2)
          ∧ r.2.mem ((c.tc : Thread Cert.HgrnDxRefIdeal.nD Cert.HgrnDxRefIdeal.τ).loc Cert.HgrnDxRefIdeal.main_arg3) = m' ((c.tc : Thread Cert.HgrnDxRefIdeal.nD Cert.HgrnDxRefIdeal.τ).loc Cert.HgrnDxRefIdeal.main_arg3)
          ∧ r.2.mem ((c.tc : Thread Cert.HgrnDxRefIdeal.nD Cert.HgrnDxRefIdeal.τ).loc Cert.HgrnDxRefIdeal.main_arg4) = m' ((c.tc : Thread Cert.HgrnDxRefIdeal.nD Cert.HgrnDxRefIdeal.τ).loc Cert.HgrnDxRefIdeal.main_arg4))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v2_0)) (v1 : (c : Dev Cert.LossIdeal.nD) → Buf (Elt Ideal) ((c.tc : Thread Cert.LossIdeal.nD Cert.LossIdeal.τ).loc Cert.LossIdeal.main_v2_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v2_0) = v0 c
          ∧ r.2.mem ((c.tc : Thread Cert.LossIdeal.nD Cert.LossIdeal.τ).loc Cert.LossIdeal.main_v2_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v15) = v0 c
          ∧ r.2.mem ((c.tc : Thread Cert.LossRefIdeal.nD Cert.LossRefIdeal.τ).loc Cert.LossRefIdeal.main_v16) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_FfnAct_FfnActIdeal : Prop :=
  True

def algebraic_FfnActIdeal_FfnActRefIdeal_pre_ffn_finite [hFfnActIdeal : Cert.FfnActIdeal.Facts] [hFfnActRefIdeal : Cert.FfnActRefIdeal.Facts] [hPre_ffn_finite : Cert.Pre_ffn_finite.Facts] : Prop :=
  ∀ (m : (ℓ : Loc Cert.FfnActIdeal.nD Cert.FfnActIdeal.τ Cert.FfnActIdeal.sig) → Buf (Elt Ideal) ℓ) (g : Dev Cert.FfnActIdeal.nD → PrngReg)
    (m' : (ℓ : Loc Cert.FfnActRefIdeal.nD Cert.FfnActRefIdeal.τ Cert.FfnActRefIdeal.sig) → Buf (Elt Ideal) ℓ) (g' : Dev Cert.FfnActRefIdeal.nD → PrngReg), Pre_FfnActIdeal_ffn_finite m →
    (∀ c : Dev Cert.FfnActIdeal.nD,
      m' ((c.tc : Thread Cert.FfnActRefIdeal.nD Cert.FfnActRefIdeal.τ).loc Cert.FfnActRefIdeal.main_arg0) = m ((c.tc : Thread Cert.FfnActIdeal.nD Cert.FfnActIdeal.τ).loc Cert.FfnActIdeal.main_arg0)
      ∧ m' ((c.tc : Thread Cert.FfnActRefIdeal.nD Cert.FfnActRefIdeal.τ).loc Cert.FfnActRefIdeal.main_arg1) = m ((c.tc : Thread Cert.FfnActIdeal.nD Cert.FfnActIdeal.τ).loc Cert.FfnActIdeal.main_arg1)
      ∧ m' ((c.tc : Thread Cert.FfnActRefIdeal.nD Cert.FfnActRefIdeal.τ).loc Cert.FfnActRefIdeal.main_arg2) = m ((c.tc : Thread Cert.FfnActIdeal.nD Cert.FfnActIdeal.τ).loc Cert.FfnActIdeal.main_arg2)
      ∧ m' ((c.tc : Thread Cert.FfnActRefIdeal.nD Cert.FfnActRefIdeal.τ).loc Cert.FfnActRefIdeal.main_arg3) = m ((c.tc : Thread Cert.FfnActIdeal.nD Cert.FfnActIdeal.τ).loc Cert.FfnActIdeal.main_arg3)
      ∧ m' ((c.tc : Thread Cert.FfnActRefIdeal.nD Cert.FfnActRefIdeal.τ).loc Cert.FfnActRefIdeal.main_arg4) = m ((c.tc : Thread Cert.FfnActIdeal.nD Cert.FfnActIdeal.τ).loc Cert.FfnActIdeal.main_arg4)) →
    ∃ (v0 : (c : Dev Cert.FfnActIdeal.nD) → Buf (Elt Ideal) ((c.tc : Thread Cert.FfnActIdeal.nD Cert.FfnActIdeal.τ).loc Cert.FfnActIdeal.main_v41_0)) (v1 : (c : Dev Cert.FfnActIdeal.nD) → Buf (Elt Ideal) ((c.tc : Thread Cert.FfnActIdeal.nD Cert.FfnActIdeal.τ).loc Cert.FfnActIdeal.main_v41_1)) (v2 : (c : Dev Cert.FfnActIdeal.nD) → Buf (Elt Ideal) ((c.tc : Thread Cert.FfnActIdeal.nD Cert.FfnActIdeal.τ).loc Cert.FfnActIdeal.main_v41_2)),
      θ_run (Cert.FfnActIdeal.defs (F := Ideal)) (onTc (τ := Cert.FfnActIdeal.τ) (Cert.FfnActIdeal.main (F := Ideal))) ⟨m, fun _ => 0, g⟩ (fun r => ∀ c : Dev Cert.FfnActIdeal.nD,
          r.2.mem ((c.tc : Thread Cert.FfnActIdeal.nD Cert.FfnActIdeal.τ).loc Cert.FfnActIdeal.main_v41_0) = v0 c
          ∧ r.2.mem ((c.tc : Thread Cert.FfnActIdeal.nD Cert.FfnActIdeal.τ).loc Cert.FfnActIdeal.main_v41_1) = v1 c
          ∧ r.2.mem ((c.tc : Thread Cert.FfnActIdeal.nD Cert.FfnActIdeal.τ).loc Cert.FfnActIdeal.main_v41_2) = v2 c
          ∧ r.2.mem ((c.tc : Thread Cert.FfnActIdeal.nD Cert.FfnActIdeal.τ).loc Cert.FfnActIdeal.main_arg0) = m ((c.tc : Thread Cert.FfnActIdeal.nD Cert.FfnActIdeal.τ).loc Cert.FfnActIdeal.main_arg0)
          ∧ r.2.mem ((c.tc : Thread Cert.FfnActIdeal.nD Cert.FfnActIdeal.τ).loc Cert.FfnActIdeal.main_arg1) = m ((c.tc : Thread Cert.FfnActIdeal.nD Cert.FfnActIdeal.τ).loc Cert.FfnActIdeal.main_arg1)
          ∧ r.2.mem ((c.tc : Thread Cert.FfnActIdeal.nD Cert.FfnActIdeal.τ).loc Cert.FfnActIdeal.main_arg2) = m ((c.tc : Thread Cert.FfnActIdeal.nD Cert.FfnActIdeal.τ).loc Cert.FfnActIdeal.main_arg2)
          ∧ r.2.mem ((c.tc : Thread Cert.FfnActIdeal.nD Cert.FfnActIdeal.τ).loc Cert.FfnActIdeal.main_arg3) = m ((c.tc : Thread Cert.FfnActIdeal.nD Cert.FfnActIdeal.τ).loc Cert.FfnActIdeal.main_arg3)
          ∧ r.2.mem ((c.tc : Thread Cert.FfnActIdeal.nD Cert.FfnActIdeal.τ).loc Cert.FfnActIdeal.main_arg4) = m ((c.tc : Thread Cert.FfnActIdeal.nD Cert.FfnActIdeal.τ).loc Cert.FfnActIdeal.main_arg4))
      ∧ θ_run (Cert.FfnActRefIdeal.defs (F := Ideal)) (onTc (τ := Cert.FfnActRefIdeal.τ) (Cert.FfnActRefIdeal.main (F := Ideal))) ⟨m', fun _ => 0, g'⟩ (fun r => ∀ c : Dev Cert.FfnActRefIdeal.nD,
          r.2.mem ((c.tc : Thread Cert.FfnActRefIdeal.nD Cert.FfnActRefIdeal.τ).loc Cert.FfnActRefIdeal.main_v77) = v0 c
          ∧ r.2.mem ((c.tc : Thread Cert.FfnActRefIdeal.nD Cert.FfnActRefIdeal.τ).loc Cert.FfnActRefIdeal.main_v79) = v1 c
          ∧ r.2.mem ((c.tc : Thread Cert.FfnActRefIdeal.nD Cert.FfnActRefIdeal.τ).loc Cert.FfnActRefIdeal.main_v80) = v2 c
          ∧ r.2.mem ((c.tc : Thread Cert.FfnActRefIdeal.nD Cert.FfnActRefIdeal.τ).loc Cert.FfnActRefIdeal.main_arg0) = m' ((c.tc : Thread Cert.FfnActRefIdeal.nD Cert.FfnActRefIdeal.τ).loc Cert.FfnActRefIdeal.main_arg0)
          ∧ r.2.mem ((c.tc : Thread Cert.FfnActRefIdeal.nD Cert.FfnActRefIdeal.τ).loc Cert.FfnActRefIdeal.main_arg1) = m' ((c.tc : Thread Cert.FfnActRefIdeal.nD Cert.FfnActRefIdeal.τ).loc Cert.FfnActRefIdeal.main_arg1)
          ∧ r.2.mem ((c.tc : Thread Cert.FfnActRefIdeal.nD Cert.FfnActRefIdeal.τ).loc Cert.FfnActRefIdeal.main_arg2) = m' ((c.tc : Thread Cert.FfnActRefIdeal.nD Cert.FfnActRefIdeal.τ).loc Cert.FfnActRefIdeal.main_arg2)
          ∧ r.2.mem ((c.tc : Thread Cert.FfnActRefIdeal.nD Cert.FfnActRefIdeal.τ).loc Cert.FfnActRefIdeal.main_arg3) = m' ((c.tc : Thread Cert.FfnActRefIdeal.nD Cert.FfnActRefIdeal.τ).loc Cert.FfnActRefIdeal.main_arg3)
          ∧ r.2.mem ((c.tc : Thread Cert.FfnActRefIdeal.nD Cert.FfnActRefIdeal.τ).loc Cert.FfnActRefIdeal.main_arg4) = m' ((c.tc : Thread Cert.FfnActRefIdeal.nD Cert.FfnActRefIdeal.τ).loc Cert.FfnActRefIdeal.main_arg4))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v2)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v2) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v14) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)
      ∧ m' ((c.tc : Thread Cert.FfnUpRefIdeal.nD Cert.FfnUpRefIdeal.τ).loc Cert.FfnUpRefIdeal.main_arg3) = m ((c.tc : Thread Cert.FfnUpIdeal.nD Cert.FfnUpIdeal.τ).loc Cert.FfnUpIdeal.main_arg3)) →
    ∃ (v0 : (c : Dev Cert.FfnUpIdeal.nD) → Buf (Elt Ideal) ((c.tc : Thread Cert.FfnUpIdeal.nD Cert.FfnUpIdeal.τ).loc Cert.FfnUpIdeal.main_v8_0)) (v1 : (c : Dev Cert.FfnUpIdeal.nD) → Buf (Elt Ideal) ((c.tc : Thread Cert.FfnUpIdeal.nD Cert.FfnUpIdeal.τ).loc Cert.FfnUpIdeal.main_v8_1)) (v2 : (c : Dev Cert.FfnUpIdeal.nD) → Buf (Elt Ideal) ((c.tc : Thread Cert.FfnUpIdeal.nD Cert.FfnUpIdeal.τ).loc Cert.FfnUpIdeal.main_v8_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v8_0) = v0 c
          ∧ r.2.mem ((c.tc : Thread Cert.FfnUpIdeal.nD Cert.FfnUpIdeal.τ).loc Cert.FfnUpIdeal.main_v8_1) = v1 c
          ∧ r.2.mem ((c.tc : Thread Cert.FfnUpIdeal.nD Cert.FfnUpIdeal.τ).loc Cert.FfnUpIdeal.main_v8_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2)
          ∧ r.2.mem ((c.tc : Thread Cert.FfnUpIdeal.nD Cert.FfnUpIdeal.τ).loc Cert.FfnUpIdeal.main_arg3) = m ((c.tc : Thread Cert.FfnUpIdeal.nD Cert.FfnUpIdeal.τ).loc Cert.FfnUpIdeal.main_arg3))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v34) = v0 c
          ∧ r.2.mem ((c.tc : Thread Cert.FfnUpRefIdeal.nD Cert.FfnUpRefIdeal.τ).loc Cert.FfnUpRefIdeal.main_v37) = v1 c
          ∧ r.2.mem ((c.tc : Thread Cert.FfnUpRefIdeal.nD Cert.FfnUpRefIdeal.τ).loc Cert.FfnUpRefIdeal.main_v40) = v2 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2)
          ∧ r.2.mem ((c.tc : Thread Cert.FfnUpRefIdeal.nD Cert.FfnUpRefIdeal.τ).loc Cert.FfnUpRefIdeal.main_arg3) = m' ((c.tc : Thread Cert.FfnUpRefIdeal.nD Cert.FfnUpRefIdeal.τ).loc Cert.FfnUpRefIdeal.main_arg3))

def preserves_HgrnOut_HgrnOutIdeal : Prop :=
  True

def algebraic_HgrnOutIdeal_HgrnOutRefIdeal [hHgrnOutIdeal : Cert.HgrnOutIdeal.Facts] [hHgrnOutRefIdeal : Cert.HgrnOutRefIdeal.Facts] : Prop :=
  ∀ (m : (ℓ : Loc Cert.HgrnOutIdeal.nD Cert.HgrnOutIdeal.τ Cert.HgrnOutIdeal.sig) → Buf (Elt Ideal) ℓ) (g : Dev Cert.HgrnOutIdeal.nD → PrngReg)
    (m' : (ℓ : Loc Cert.HgrnOutRefIdeal.nD Cert.HgrnOutRefIdeal.τ Cert.HgrnOutRefIdeal.sig) → Buf (Elt Ideal) ℓ) (g' : Dev Cert.HgrnOutRefIdeal.nD → PrngReg), Pre_HgrnOutIdeal m →
    (∀ c : Dev Cert.HgrnOutIdeal.nD,
      m' ((c.tc : Thread Cert.HgrnOutRefIdeal.nD Cert.HgrnOutRefIdeal.τ).loc Cert.HgrnOutRefIdeal.main_arg0) = m ((c.tc : Thread Cert.HgrnOutIdeal.nD Cert.HgrnOutIdeal.τ).loc Cert.HgrnOutIdeal.main_arg0)
      ∧ m' ((c.tc : Thread Cert.HgrnOutRefIdeal.nD Cert.HgrnOutRefIdeal.τ).loc Cert.HgrnOutRefIdeal.main_arg1) = m ((c.tc : Thread Cert.HgrnOutIdeal.nD Cert.HgrnOutIdeal.τ).loc Cert.HgrnOutIdeal.main_arg1)
      ∧ m' ((c.tc : Thread Cert.HgrnOutRefIdeal.nD Cert.HgrnOutRefIdeal.τ).loc Cert.HgrnOutRefIdeal.main_arg2) = m ((c.tc : Thread Cert.HgrnOutIdeal.nD Cert.HgrnOutIdeal.τ).loc Cert.HgrnOutIdeal.main_arg2)
      ∧ m' ((c.tc : Thread Cert.HgrnOutRefIdeal.nD Cert.HgrnOutRefIdeal.τ).loc Cert.HgrnOutRefIdeal.main_arg3) = m ((c.tc : Thread Cert.HgrnOutIdeal.nD Cert.HgrnOutIdeal.τ).loc Cert.HgrnOutIdeal.main_arg3)) →
    ∃ (v0 : (c : Dev Cert.HgrnOutIdeal.nD) → Buf (Elt Ideal) ((c.tc : Thread Cert.HgrnOutIdeal.nD Cert.HgrnOutIdeal.τ).loc Cert.HgrnOutIdeal.main_v5_0)) (v1 : (c : Dev Cert.HgrnOutIdeal.nD) → Buf (Elt Ideal) ((c.tc : Thread Cert.HgrnOutIdeal.nD Cert.HgrnOutIdeal.τ).loc Cert.HgrnOutIdeal.main_v5_1)),
      θ_run (Cert.HgrnOutIdeal.defs (F := Ideal)) (onTc (τ := Cert.HgrnOutIdeal.τ) (Cert.HgrnOutIdeal.main (F := Ideal))) ⟨m, fun _ => 0, g⟩ (fun r => ∀ c : Dev Cert.HgrnOutIdeal.nD,
          r.2.mem ((c.tc : Thread Cert.HgrnOutIdeal.nD Cert.HgrnOutIdeal.τ).loc Cert.HgrnOutIdeal.main_v5_0) = v0 c
          ∧ r.2.mem ((c.tc : Thread Cert.HgrnOutIdeal.nD Cert.HgrnOutIdeal.τ).loc Cert.HgrnOutIdeal.main_v5_1) = v1 c
          ∧ r.2.mem ((c.tc : Thread Cert.HgrnOutIdeal.nD Cert.HgrnOutIdeal.τ).loc Cert.HgrnOutIdeal.main_arg0) = m ((c.tc : Thread Cert.HgrnOutIdeal.nD Cert.HgrnOutIdeal.τ).loc Cert.HgrnOutIdeal.main_arg0)
          ∧ r.2.mem ((c.tc : Thread Cert.HgrnOutIdeal.nD Cert.HgrnOutIdeal.τ).loc Cert.HgrnOutIdeal.main_arg1) = m ((c.tc : Thread Cert.HgrnOutIdeal.nD Cert.HgrnOutIdeal.τ).loc Cert.HgrnOutIdeal.main_arg1)
          ∧ r.2.mem ((c.tc : Thread Cert.HgrnOutIdeal.nD Cert.HgrnOutIdeal.τ).loc Cert.HgrnOutIdeal.main_arg2) = m ((c.tc : Thread Cert.HgrnOutIdeal.nD Cert.HgrnOutIdeal.τ).loc Cert.HgrnOutIdeal.main_arg2)
          ∧ r.2.mem ((c.tc : Thread Cert.HgrnOutIdeal.nD Cert.HgrnOutIdeal.τ).loc Cert.HgrnOutIdeal.main_arg3) = m ((c.tc : Thread Cert.HgrnOutIdeal.nD Cert.HgrnOutIdeal.τ).loc Cert.HgrnOutIdeal.main_arg3))
      ∧ θ_run (Cert.HgrnOutRefIdeal.defs (F := Ideal)) (onTc (τ := Cert.HgrnOutRefIdeal.τ) (Cert.HgrnOutRefIdeal.main (F := Ideal))) ⟨m', fun _ => 0, g'⟩ (fun r => ∀ c : Dev Cert.HgrnOutRefIdeal.nD,
          r.2.mem ((c.tc : Thread Cert.HgrnOutRefIdeal.nD Cert.HgrnOutRefIdeal.τ).loc Cert.HgrnOutRefIdeal.main_v3) = v0 c
          ∧ r.2.mem ((c.tc : Thread Cert.HgrnOutRefIdeal.nD Cert.HgrnOutRefIdeal.τ).loc Cert.HgrnOutRefIdeal.main_v17) = v1 c
          ∧ r.2.mem ((c.tc : Thread Cert.HgrnOutRefIdeal.nD Cert.HgrnOutRefIdeal.τ).loc Cert.HgrnOutRefIdeal.main_arg0) = m' ((c.tc : Thread Cert.HgrnOutRefIdeal.nD Cert.HgrnOutRefIdeal.τ).loc Cert.HgrnOutRefIdeal.main_arg0)
          ∧ r.2.mem ((c.tc : Thread Cert.HgrnOutRefIdeal.nD Cert.HgrnOutRefIdeal.τ).loc Cert.HgrnOutRefIdeal.main_arg1) = m' ((c.tc : Thread Cert.HgrnOutRefIdeal.nD Cert.HgrnOutRefIdeal.τ).loc Cert.HgrnOutRefIdeal.main_arg1)
          ∧ r.2.mem ((c.tc : Thread Cert.HgrnOutRefIdeal.nD Cert.HgrnOutRefIdeal.τ).loc Cert.HgrnOutRefIdeal.main_arg2) = m' ((c.tc : Thread Cert.HgrnOutRefIdeal.nD Cert.HgrnOutRefIdeal.τ).loc Cert.HgrnOutRefIdeal.main_arg2)
          ∧ r.2.mem ((c.tc : Thread Cert.HgrnOutRefIdeal.nD Cert.HgrnOutRefIdeal.τ).loc Cert.HgrnOutRefIdeal.main_arg3) = m' ((c.tc : Thread Cert.HgrnOutRefIdeal.nD Cert.HgrnOutRefIdeal.τ).loc Cert.HgrnOutRefIdeal.main_arg3))

def preserves_MlaOut_MlaOutIdeal : Prop :=
  True

def algebraic_MlaOutIdeal_MlaOutRefIdeal [hMlaOutIdeal : Cert.MlaOutIdeal.Facts] [hMlaOutRefIdeal : Cert.MlaOutRefIdeal.Facts] : Prop :=
  ∀ (m : (ℓ : Loc Cert.MlaOutIdeal.nD Cert.MlaOutIdeal.τ Cert.MlaOutIdeal.sig) → Buf (Elt Ideal) ℓ) (g : Dev Cert.MlaOutIdeal.nD → PrngReg)
    (m' : (ℓ : Loc Cert.MlaOutRefIdeal.nD Cert.MlaOutRefIdeal.τ Cert.MlaOutRefIdeal.sig) → Buf (Elt Ideal) ℓ) (g' : Dev Cert.MlaOutRefIdeal.nD → PrngReg), Pre_MlaOutIdeal m →
    (∀ c : Dev Cert.MlaOutIdeal.nD,
      m' ((c.tc : Thread Cert.MlaOutRefIdeal.nD Cert.MlaOutRefIdeal.τ).loc Cert.MlaOutRefIdeal.main_arg0) = m ((c.tc : Thread Cert.MlaOutIdeal.nD Cert.MlaOutIdeal.τ).loc Cert.MlaOutIdeal.main_arg0)
      ∧ m' ((c.tc : Thread Cert.MlaOutRefIdeal.nD Cert.MlaOutRefIdeal.τ).loc Cert.MlaOutRefIdeal.main_arg1) = m ((c.tc : Thread Cert.MlaOutIdeal.nD Cert.MlaOutIdeal.τ).loc Cert.MlaOutIdeal.main_arg1)
      ∧ m' ((c.tc : Thread Cert.MlaOutRefIdeal.nD Cert.MlaOutRefIdeal.τ).loc Cert.MlaOutRefIdeal.main_arg2) = m ((c.tc : Thread Cert.MlaOutIdeal.nD Cert.MlaOutIdeal.τ).loc Cert.MlaOutIdeal.main_arg2)
      ∧ m' ((c.tc : Thread Cert.MlaOutRefIdeal.nD Cert.MlaOutRefIdeal.τ).loc Cert.MlaOutRefIdeal.main_arg3) = m ((c.tc : Thread Cert.MlaOutIdeal.nD Cert.MlaOutIdeal.τ).loc Cert.MlaOutIdeal.main_arg3)) →
    ∃ (v0 : (c : Dev Cert.MlaOutIdeal.nD) → Buf (Elt Ideal) ((c.tc : Thread Cert.MlaOutIdeal.nD Cert.MlaOutIdeal.τ).loc Cert.MlaOutIdeal.main_v7_0)) (v1 : (c : Dev Cert.MlaOutIdeal.nD) → Buf (Elt Ideal) ((c.tc : Thread Cert.MlaOutIdeal.nD Cert.MlaOutIdeal.τ).loc Cert.MlaOutIdeal.main_v7_1)),
      θ_run (Cert.MlaOutIdeal.defs (F := Ideal)) (onTc (τ := Cert.MlaOutIdeal.τ) (Cert.MlaOutIdeal.main (F := Ideal))) ⟨m, fun _ => 0, g⟩ (fun r => ∀ c : Dev Cert.MlaOutIdeal.nD,
          r.2.mem ((c.tc : Thread Cert.MlaOutIdeal.nD Cert.MlaOutIdeal.τ).loc Cert.MlaOutIdeal.main_v7_0) = v0 c
          ∧ r.2.mem ((c.tc : Thread Cert.MlaOutIdeal.nD Cert.MlaOutIdeal.τ).loc Cert.MlaOutIdeal.main_v7_1) = v1 c
          ∧ r.2.mem ((c.tc : Thread Cert.MlaOutIdeal.nD Cert.MlaOutIdeal.τ).loc Cert.MlaOutIdeal.main_arg0) = m ((c.tc : Thread Cert.MlaOutIdeal.nD Cert.MlaOutIdeal.τ).loc Cert.MlaOutIdeal.main_arg0)
          ∧ r.2.mem ((c.tc : Thread Cert.MlaOutIdeal.nD Cert.MlaOutIdeal.τ).loc Cert.MlaOutIdeal.main_arg1) = m ((c.tc : Thread Cert.MlaOutIdeal.nD Cert.MlaOutIdeal.τ).loc Cert.MlaOutIdeal.main_arg1)
          ∧ r.2.mem ((c.tc : Thread Cert.MlaOutIdeal.nD Cert.MlaOutIdeal.τ).loc Cert.MlaOutIdeal.main_arg2) = m ((c.tc : Thread Cert.MlaOutIdeal.nD Cert.MlaOutIdeal.τ).loc Cert.MlaOutIdeal.main_arg2)
          ∧ r.2.mem ((c.tc : Thread Cert.MlaOutIdeal.nD Cert.MlaOutIdeal.τ).loc Cert.MlaOutIdeal.main_arg3) = m ((c.tc : Thread Cert.MlaOutIdeal.nD Cert.MlaOutIdeal.τ).loc Cert.MlaOutIdeal.main_arg3))
      ∧ θ_run (Cert.MlaOutRefIdeal.defs (F := Ideal)) (onTc (τ := Cert.MlaOutRefIdeal.τ) (Cert.MlaOutRefIdeal.main (F := Ideal))) ⟨m', fun _ => 0, g'⟩ (fun r => ∀ c : Dev Cert.MlaOutRefIdeal.nD,
          r.2.mem ((c.tc : Thread Cert.MlaOutRefIdeal.nD Cert.MlaOutRefIdeal.τ).loc Cert.MlaOutRefIdeal.main_v3) = v0 c
          ∧ r.2.mem ((c.tc : Thread Cert.MlaOutRefIdeal.nD Cert.MlaOutRefIdeal.τ).loc Cert.MlaOutRefIdeal.main_v17) = v1 c
          ∧ r.2.mem ((c.tc : Thread Cert.MlaOutRefIdeal.nD Cert.MlaOutRefIdeal.τ).loc Cert.MlaOutRefIdeal.main_arg0) = m' ((c.tc : Thread Cert.MlaOutRefIdeal.nD Cert.MlaOutRefIdeal.τ).loc Cert.MlaOutRefIdeal.main_arg0)
          ∧ r.2.mem ((c.tc : Thread Cert.MlaOutRefIdeal.nD Cert.MlaOutRefIdeal.τ).loc Cert.MlaOutRefIdeal.main_arg1) = m' ((c.tc : Thread Cert.MlaOutRefIdeal.nD Cert.MlaOutRefIdeal.τ).loc Cert.MlaOutRefIdeal.main_arg1)
          ∧ r.2.mem ((c.tc : Thread Cert.MlaOutRefIdeal.nD Cert.MlaOutRefIdeal.τ).loc Cert.MlaOutRefIdeal.main_arg2) = m' ((c.tc : Thread Cert.MlaOutRefIdeal.nD Cert.MlaOutRefIdeal.τ).loc Cert.MlaOutRefIdeal.main_arg2)
          ∧ r.2.mem ((c.tc : Thread Cert.MlaOutRefIdeal.nD Cert.MlaOutRefIdeal.τ).loc Cert.MlaOutRefIdeal.main_arg3) = m' ((c.tc : Thread Cert.MlaOutRefIdeal.nD Cert.MlaOutRefIdeal.τ).loc Cert.MlaOutRefIdeal.main_arg3))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)) →
    ∃ (v0 : (c : Dev Cert.FfnDownIdeal.nD) → Buf (Elt Ideal) ((c.tc : Thread Cert.FfnDownIdeal.nD Cert.FfnDownIdeal.τ).loc Cert.FfnDownIdeal.main_v7_0)) (v1 : (c : Dev Cert.FfnDownIdeal.nD) → Buf (Elt Ideal) ((c.tc : Thread Cert.FfnDownIdeal.nD Cert.FfnDownIdeal.τ).loc Cert.FfnDownIdeal.main_v7_1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v7_0) = v0 c
          ∧ r.2.mem ((c.tc : Thread Cert.FfnDownIdeal.nD Cert.FfnDownIdeal.τ).loc Cert.FfnDownIdeal.main_v7_1) = v1 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v3) = v0 c
          ∧ r.2.mem ((c.tc : Thread Cert.FfnDownRefIdeal.nD Cert.FfnDownRefIdeal.τ).loc Cert.FfnDownRefIdeal.main_v17) = v1 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3))

def Claim : Prop :=
  ∃ (hNormBwd : Cert.NormBwd.Facts) (hNormBwdIdeal : Cert.NormBwdIdeal.Facts) (hNormBwdRefIdeal : Cert.NormBwdRefIdeal.Facts) (hAttn : Cert.Attn.Facts) (hAttnIdeal : Cert.AttnIdeal.Facts) (hAttnRefIdeal : Cert.AttnRefIdeal.Facts) (hFfnDh : Cert.FfnDh.Facts) (hFfnDhIdeal : Cert.FfnDhIdeal.Facts) (hFfnDhRefIdeal : Cert.FfnDhRefIdeal.Facts) (hHgrnDx : Cert.HgrnDx.Facts) (hHgrnDxIdeal : Cert.HgrnDxIdeal.Facts) (hHgrnDxRefIdeal : Cert.HgrnDxRefIdeal.Facts) (hLoss : Cert.Loss.Facts) (hLossIdeal : Cert.LossIdeal.Facts) (hLossRefIdeal : Cert.LossRefIdeal.Facts) (hFfnAct : Cert.FfnAct.Facts) (hFfnActIdeal : Cert.FfnActIdeal.Facts) (hFfnActRefIdeal : Cert.FfnActRefIdeal.Facts) (hNormFwd : Cert.NormFwd.Facts) (hNormFwdIdeal : Cert.NormFwdIdeal.Facts) (hNormFwdRefIdeal : Cert.NormFwdRefIdeal.Facts) (hFfnUp : Cert.FfnUp.Facts) (hFfnUpIdeal : Cert.FfnUpIdeal.Facts) (hFfnUpRefIdeal : Cert.FfnUpRefIdeal.Facts) (hHgrnOut : Cert.HgrnOut.Facts) (hHgrnOutIdeal : Cert.HgrnOutIdeal.Facts) (hHgrnOutRefIdeal : Cert.HgrnOutRefIdeal.Facts) (hMlaOut : Cert.MlaOut.Facts) (hMlaOutIdeal : Cert.MlaOutIdeal.Facts) (hMlaOutRefIdeal : Cert.MlaOutRefIdeal.Facts) (hFfnDown : Cert.FfnDown.Facts) (hFfnDownIdeal : Cert.FfnDownIdeal.Facts) (hFfnDownRefIdeal : Cert.FfnDownRefIdeal.Facts) (hPre_finite : Cert.Pre_finite.Facts) (hPre_ffn_finite : Cert.Pre_ffn_finite.Facts),
    quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_FfnDh (hFfnDh := hFfnDh)
    ∧ quiescent_FfnDhIdeal (hFfnDhIdeal := hFfnDhIdeal)
    ∧ quiescent_FfnDhRefIdeal (hFfnDhRefIdeal := hFfnDhRefIdeal)
    ∧ quiescent_HgrnDx (hHgrnDx := hHgrnDx)
    ∧ quiescent_HgrnDxIdeal (hHgrnDxIdeal := hHgrnDxIdeal)
    ∧ quiescent_HgrnDxRefIdeal (hHgrnDxRefIdeal := hHgrnDxRefIdeal)
    ∧ quiescent_Loss (hLoss := hLoss)
    ∧ quiescent_LossIdeal (hLossIdeal := hLossIdeal)
    ∧ quiescent_LossRefIdeal (hLossRefIdeal := hLossRefIdeal)
    ∧ quiescent_FfnAct (hFfnAct := hFfnAct)
    ∧ quiescent_FfnActIdeal (hFfnActIdeal := hFfnActIdeal)
    ∧ quiescent_FfnActIdeal_pre_ffn_finite (hFfnActIdeal := hFfnActIdeal) (hPre_ffn_finite := hPre_ffn_finite)
    ∧ quiescent_FfnActRefIdeal (hFfnActRefIdeal := hFfnActRefIdeal)
    ∧ quiescent_FfnActRefIdeal_pre_ffn_finite (hFfnActRefIdeal := hFfnActRefIdeal) (hPre_ffn_finite := hPre_ffn_finite)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_HgrnOut (hHgrnOut := hHgrnOut)
    ∧ quiescent_HgrnOutIdeal (hHgrnOutIdeal := hHgrnOutIdeal)
    ∧ quiescent_HgrnOutRefIdeal (hHgrnOutRefIdeal := hHgrnOutRefIdeal)
    ∧ quiescent_MlaOut (hMlaOut := hMlaOut)
    ∧ quiescent_MlaOutIdeal (hMlaOutIdeal := hMlaOutIdeal)
    ∧ quiescent_MlaOutRefIdeal (hMlaOutRefIdeal := hMlaOutRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ preserves_NormBwd_NormBwdIdeal
    ∧ algebraic_NormBwdIdeal_NormBwdRefIdeal (hNormBwdIdeal := hNormBwdIdeal) (hNormBwdRefIdeal := hNormBwdRefIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_FfnDh_FfnDhIdeal
    ∧ algebraic_FfnDhIdeal_FfnDhRefIdeal (hFfnDhIdeal := hFfnDhIdeal) (hFfnDhRefIdeal := hFfnDhRefIdeal)
    ∧ preserves_HgrnDx_HgrnDxIdeal
    ∧ algebraic_HgrnDxIdeal_HgrnDxRefIdeal (hHgrnDxIdeal := hHgrnDxIdeal) (hHgrnDxRefIdeal := hHgrnDxRefIdeal)
    ∧ preserves_Loss_LossIdeal
    ∧ algebraic_LossIdeal_LossRefIdeal (hLossIdeal := hLossIdeal) (hLossRefIdeal := hLossRefIdeal)
    ∧ preserves_FfnAct_FfnActIdeal
    ∧ algebraic_FfnActIdeal_FfnActRefIdeal_pre_ffn_finite (hFfnActIdeal := hFfnActIdeal) (hFfnActRefIdeal := hFfnActRefIdeal) (hPre_ffn_finite := hPre_ffn_finite)
    ∧ preserves_NormFwd_NormFwdIdeal
    ∧ algebraic_NormFwdIdeal_NormFwdRefIdeal (hNormFwdIdeal := hNormFwdIdeal) (hNormFwdRefIdeal := hNormFwdRefIdeal)
    ∧ preserves_FfnUp_FfnUpIdeal
    ∧ algebraic_FfnUpIdeal_FfnUpRefIdeal (hFfnUpIdeal := hFfnUpIdeal) (hFfnUpRefIdeal := hFfnUpRefIdeal)
    ∧ preserves_HgrnOut_HgrnOutIdeal
    ∧ algebraic_HgrnOutIdeal_HgrnOutRefIdeal (hHgrnOutIdeal := hHgrnOutIdeal) (hHgrnOutRefIdeal := hHgrnOutRefIdeal)
    ∧ preserves_MlaOut_MlaOutIdeal
    ∧ algebraic_MlaOutIdeal_MlaOutRefIdeal (hMlaOutIdeal := hMlaOutIdeal) (hMlaOutRefIdeal := hMlaOutRefIdeal)
    ∧ preserves_FfnDown_FfnDownIdeal
    ∧ algebraic_FfnDownIdeal_FfnDownRefIdeal (hFfnDownIdeal := hFfnDownIdeal) (hFfnDownRefIdeal := hFfnDownRefIdeal)
-- ==== Pre_ffn_finite.lean ====
abbrev S1x8192x5632 : Shape := ⟨3, ![1, 8192, 5632]⟩
abbrev S3x5632 : Shape := ⟨2, ![3, 5632]⟩
abbrev S5632 : Shape := ⟨1, ![5632]⟩
abbrev S2816x1024 : Shape := ⟨2, ![2816, 1024]⟩
abbrev S1x8192x1024 : Shape := ⟨3, ![1, 8192, 1024]⟩
abbrev S_ : Shape := ⟨0, ![]⟩

class Facts : Prop where
  bcast_S_S1x8192x5632 : S_.BroadcastsInDim S1x8192x5632 (![] : Fin 0 → Fin S1x8192x5632.rank)
  reducesTo_S1x8192x5632_S_d0_1_2 : S1x8192x5632.ReducesTo [0, 1, 2] S_
  h_S_ : 0 < S_.numel
  bcast_S_S3x5632 : S_.BroadcastsInDim S3x5632 (![] : Fin 0 → Fin S3x5632.rank)
  reducesTo_S3x5632_S_d0_1 : S3x5632.ReducesTo [0, 1] S_
  bcast_S_S5632 : S_.BroadcastsInDim S5632 (![] : Fin 0 → Fin S5632.rank)
  reducesTo_S5632_S_d0 : S5632.ReducesTo [0] S_
  bcast_S_S2816x1024 : S_.BroadcastsInDim S2816x1024 (![] : Fin 0 → Fin S2816x1024.rank)
  reducesTo_S2816x1024_S_d0_1 : S2816x1024.ReducesTo [0, 1] S_
  bcast_S_S1x8192x1024 : S_.BroadcastsInDim S1x8192x1024 (![] : Fin 0 → Fin S1x8192x1024.rank)
  reducesTo_S1x8192x1024_S_d0_1_2 : S1x8192x1024.ReducesTo [0, 1, 2] S_

variable [Facts]

def fn_part1 {F : FTy → Type} [FloatOps F] (main_arg4 : FVec F S1x8192x1024 .f32) (main_v13 : IVec S_ 1) (main_v16 : IVec S2816x1024 1) : IVec S_ 1 :=
  let main_c_5 : IVec S_ 1 := constantI S_ 1 1#1
  let main_v17 : IVec S_ 1 := (fun x v => Host.reduce IntOp.andi x v reducesTo_S2816x1024_S_d0_1 h_S_) main_v16 main_c_5
  let main_v18 : IVec S_ 1 := andi main_v13 main_v17
  let main_v19 : FVec F S1x8192x1024 .f32 := Host.absf main_arg4
  let main_cst_6 : FVec F S_ .f32 := constant S_ .f32 0x7F800000#32
  let main_v20 : FVec F S1x8192x1024 .f32 := broadcastInDim S1x8192x1024 ![] bcast_S_S1x8192x1024 main_cst_6
  let main_v21 : IVec S1x8192x1024 1 := cmpf .olt main_v19 main_v20
  let main_c_7 : IVec S_ 1 := constantI S_ 1 1#1
  let main_v22 : IVec S_ 1 := (fun x v => Host.reduce IntOp.andi x v reducesTo_S1x8192x1024_S_d0_1_2 h_S_) main_v21 main_c_7
  let main_v23 : IVec S_ 1 := andi main_v18 main_v22
  main_v23

def fn {F : FTy → Type} [FloatOps F] (main_arg0 : FVec F S1x8192x5632 .f32) (main_arg1 : FVec F S3x5632 .f32) (main_arg2 : FVec F S5632 .f32) (main_arg3 : FVec F S2816x1024 .f32) (main_arg4 : FVec F S1x8192x1024 .f32) : IVec S_ 1 :=
  let main_v0 : FVec F S1x8192x5632 .f32 := Host.absf main_arg0
  let main_cst : FVec F S_ .f32 := constant S_ .f32 0x7F800000#32
  let main_v1 : FVec F S1x8192x5632 .f32 := broadcastInDim S1x8192x5632 ![] bcast_S_S1x8192x5632 main_cst
  let main_v2 : IVec S1x8192x5632 1 := cmpf .olt main_v0 main_v1
  let main_c : IVec S_ 1 := constantI S_ 1 1#1
  let main_v3 : IVec S_ 1 := (fun x v => Host.reduce IntOp.andi x v reducesTo_S1x8192x5632_S_d0_1_2 h_S_) main_v2 main_c
  let main_v4 : FVec F S3x5632 .f32 := Host.absf main_arg1
  let main_cst_0 : FVec F S_ .f32 := constant S_ .f32 0x7F800000#32
  let main_v5 : FVec F S3x5632 .f32 := broadcastInDim S3x5632 ![] bcast_S_S3x5632 main_cst_0
  let main_v6 : IVec S3x5632 1 := cmpf .olt main_v4 main_v5
  let main_c_1 : IVec S_ 1 := constantI S_ 1 1#1
  let main_v7 : IVec S_ 1 := (fun x v => Host.reduce IntOp.andi x v reducesTo_S3x5632_S_d0_1 h_S_) main_v6 main_c_1
  let main_v8 : IVec S_ 1 := andi main_v3 main_v7
  let main_v9 : FVec F S5632 .f32 := Host.absf main_arg2
  let main_cst_2 : FVec F S_ .f32 := constant S_ .f32 0x7F800000#32
  let main_v10 : FVec F S5632 .f32 := broadcastInDim S5632 ![] bcast_S_S5632 main_cst_2
  let main_v11 : IVec S5632 1 := cmpf .olt main_v9 main_v10
  let main_c_3 : IVec S_ 1 := constantI S_ 1 1#1
  let main_v12 : IVec S_ 1 := (fun x v => Host.reduce IntOp.andi x v reducesTo_S5632_S_d0 h_S_) main_v11 main_c_3
  let main_v13 : IVec S_ 1 := andi main_v8 main_v12
  let main_v14 : FVec F S2816x1024 .f32 := Host.absf main_arg3
  let main_cst_4 : FVec F S_ .f32 := constant S_ .f32 0x7F800000#32
  let main_v15 : FVec F S2816x1024 .f32 := broadcastInDim S2816x1024 ![] bcast_S_S2816x1024 main_cst_4
  let main_v16 : IVec S2816x1024 1 := cmpf .olt main_v14 main_v15
  fn_part1 (F := F) main_arg4 main_v13 main_v16
-- ==== Pre_finite.lean ====
abbrev S1x8192x8x192 : Shape := ⟨4, ![1, 8192, 8, 192]⟩
abbrev S1x8192x8x128 : Shape := ⟨4, ![1, 8192, 8, 128]⟩
abbrev S_ : Shape := ⟨0, ![]⟩

class Facts : Prop where
  bcast_S_S1x8192x8x192 : S_.BroadcastsInDim S1x8192x8x192 (![] : Fin 0 → Fin S1x8192x8x192.rank)
  reducesTo_S1x8192x8x192_S_d0_1_2_3 : S1x8192x8x192.ReducesTo [0, 1, 2, 3] S_
  h_S_ : 0 < S_.numel
  bcast_S_S1x8192x8x128 : S_.BroadcastsInDim S1x8192x8x128 (![] : Fin 0 → Fin S1x8192x8x128.rank)
  reducesTo_S1x8192x8x128_S_d0_1_2_3 : S1x8192x8x128.ReducesTo [0, 1, 2, 3] S_

variable [Facts]

def fn_part1 {F : FTy → Type} [FloatOps F] (main_v13 : IVec S_ 1) (main_v16 : IVec S1x8192x8x128 1) : IVec S_ 1 :=
  let main_c_5 : IVec S_ 1 := constantI S_ 1 1#1
  let main_v17 : IVec S_ 1 := (fun x v => Host.reduce IntOp.andi x v reducesTo_S1x8192x8x128_S_d0_1_2_3 h_S_) main_v16 main_c_5
  let main_v18 : IVec S_ 1 := andi main_v13 main_v17
  main_v18

def fn {F : FTy → Type} [FloatOps F] (main_arg0 : FVec F S1x8192x8x192 .f32) (main_arg1 : FVec F S1x8192x8x192 .f32) (main_arg2 : FVec F S1x8192x8x128 .f32) (main_arg3 : FVec F S1x8192x8x128 .f32) : IVec S_ 1 :=
  let main_v0 : FVec F S1x8192x8x192 .f32 := Host.absf main_arg0
  let main_cst : FVec F S_ .f32 := constant S_ .f32 0x7F800000#32
  let main_v1 : FVec F S1x8192x8x192 .f32 := broadcastInDim S1x8192x8x192 ![] bcast_S_S1x8192x8x192 main_cst
  let main_v2 : IVec S1x8192x8x192 1 := cmpf .olt main_v0 main_v1
  let main_c : IVec S_ 1 := constantI S_ 1 1#1
  let main_v3 : IVec S_ 1 := (fun x v => Host.reduce IntOp.andi x v reducesTo_S1x8192x8x192_S_d0_1_2_3 h_S_) main_v2 main_c
  let main_v4 : FVec F S1x8192x8x192 .f32 := Host.absf main_arg1
  let main_cst_0 : FVec F S_ .f32 := constant S_ .f32 0x7F800000#32
  let main_v5 : FVec F S1x8192x8x192 .f32 := broadcastInDim S1x8192x8x192 ![] bcast_S_S1x8192x8x192 main_cst_0
  let main_v6 : IVec S1x8192x8x192 1 := cmpf .olt main_v4 main_v5
  let main_c_1 : IVec S_ 1 := constantI S_ 1 1#1
  let main_v7 : IVec S_ 1 := (fun x v => Host.reduce IntOp.andi x v reducesTo_S1x8192x8x192_S_d0_1_2_3 h_S_) main_v6 main_c_1
  let main_v8 : IVec S_ 1 := andi main_v3 main_v7
  let main_v9 : FVec F S1x8192x8x128 .f32 := Host.absf main_arg2
  let main_cst_2 : FVec F S_ .f32 := constant S_ .f32 0x7F800000#32
  let main_v10 : FVec F S1x8192x8x128 .f32 := broadcastInDim S1x8192x8x128 ![] bcast_S_S1x8192x8x128 main_cst_2
  let main_v11 : IVec S1x8192x8x128 1 := cmpf .olt main_v9 main_v10
  let main_c_3 : IVec S_ 1 := constantI S_ 1 1#1
  let main_v12 : IVec S_ 1 := (fun x v => Host.reduce IntOp.andi x v reducesTo_S1x8192x8x128_S_d0_1_2_3 h_S_) main_v11 main_c_3
  let main_v13 : IVec S_ 1 := andi main_v8 main_v12
  let main_v14 : FVec F S1x8192x8x128 .f32 := Host.absf main_arg3
  let main_cst_4 : FVec F S_ .f32 := constant S_ .f32 0x7F800000#32
  let main_v15 : FVec F S1x8192x8x128 .f32 := broadcastInDim S1x8192x8x128 ![] bcast_S_S1x8192x8x128 main_cst_4
  let main_v16 : IVec S1x8192x8x128 1 := cmpf .olt main_v14 main_v15
  fn_part1 (F := F) main_v13 main_v16
-- ==== NormBwd.lean ====
abbrev S1x8192x1024 : Shape := ⟨3, ![1, 8192, 1024]⟩
abbrev S1024 : Shape := ⟨1, ![1024]⟩
abbrev S1024x576 : Shape := ⟨2, ![1024, 576]⟩
abbrev S1x8192x576 : Shape := ⟨3, ![1, 8192, 576]⟩
abbrev S8192x576 : Shape := ⟨2, ![8192, 576]⟩
abbrev S_ : Shape := ⟨0, ![]⟩
abbrev S8192x640 : Shape := ⟨2, ![8192, 640]⟩
abbrev S1024x640 : Shape := ⟨2, ![1024, 640]⟩
abbrev S8192x1024 : Shape := ⟨2, ![8192, 1024]⟩
abbrev S1x1024 : Shape := ⟨2, ![1, 1024]⟩
abbrev S512x640 : Shape := ⟨2, ![512, 640]⟩
abbrev S512x1024 : Shape := ⟨2, ![512, 1024]⟩
abbrev S512 : Shape := ⟨1, ![512]⟩
abbrev S512x1 : Shape := ⟨2, ![512, 1]⟩

abbrev nBuf : Space → Nat
  | .hbm => 19
  | .vmem => 11
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x576, .f32⟩
  | .hbm, ⟨3, _⟩ => ⟨S1x8192x576, .f32⟩
  | .hbm, ⟨4, _⟩ => ⟨S1x8192x1024, .f32⟩
  | .hbm, ⟨5, _⟩ => ⟨S8192x576, .f32⟩
  | .hbm, ⟨6, _⟩ => ⟨S_, .i32⟩
  | .hbm, ⟨7, _⟩ => ⟨S_, .f32⟩
  | .hbm, ⟨8, _⟩ => ⟨S8192x640, .f32⟩
  | .hbm, ⟨9, _⟩ => ⟨S8192x640, .bf16⟩
  | .hbm, ⟨10, _⟩ => ⟨S_, .i32⟩
  | .hbm, ⟨11, _⟩ => ⟨S_, .f32⟩
  | .hbm, ⟨12, _⟩ => ⟨S1024x640, .f32⟩
  | .hbm, ⟨13, _⟩ => ⟨S1024x640, .bf16⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S1x1024, .f32⟩
  | .local _ .vmem, ⟨0, _⟩ => ⟨S512x640, .bf16⟩
  | .local _ .vmem, ⟨1, _⟩ => ⟨S512x640, .bf16⟩
  | .local _ .vmem, ⟨2, _⟩ => ⟨S1024x640, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_call1_v0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v24 : BitVec 1 := Scalar.cmpi .eq arg0 c0_i32
  let v25 : BitVec 32 := Scalar.extui v24
  let c0_i32_11 : BitVec 32 := 0#32
  let v26 : BitVec 1 := Scalar.cmpi .ne v25 c0_i32_11
  v26

def k0_cond2 (i : grid0.Coords) : BitVec 1 :=
  let arg0 : BitVec 32 := BitVec.ofNat 32 (i 0).val
  let c0_i32_12 : BitVec 32 := 0#32
  let v27 : BitVec 1 := Scalar.cmpi .sgt arg0 c0_i32_12
  let v28 : BitVec 32 := Scalar.extui v27
  let c0_i32_13 : BitVec 32 := 0#32
  let v29 : BitVec 1 := Scalar.cmpi .ne v28 c0_i32_13
  v29

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S512x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x640 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]
-- ==== NormBwdRefIdeal.lean ====
abbrev S1x8192x1024 : Shape := ⟨3, ![1, 8192, 1024]⟩
abbrev S1024 : Shape := ⟨1, ![1024]⟩
abbrev S1024x576 : Shape := ⟨2, ![1024, 576]⟩
abbrev S1x8192x576 : Shape := ⟨3, ![1, 8192, 576]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x576 : Shape := ⟨2, ![8192, 576]⟩

abbrev nBuf : Space → Nat
  | .hbm => 57
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x576, .f32⟩
  | .hbm, ⟨3, _⟩ => ⟨S1x8192x576, .f32⟩
  | .hbm, ⟨4, _⟩ => ⟨S1x8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x576, .f32⟩
  | .hbm, ⟨27, _⟩ => ⟨S8192x1024, .f32⟩
  | .hbm, ⟨28, _⟩ => ⟨S8192x576, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S1x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Attn.lean ====
abbrev S1x8192x8x192 : Shape := ⟨4, ![1, 8192, 8, 192]⟩
abbrev S1x8192x8x128 : Shape := ⟨4, ![1, 8192, 8, 128]⟩
abbrev S8192x8x192 : Shape := ⟨3, ![8192, 8, 192]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S8x8192x1 : Shape := ⟨3, ![8, 8192, 1]⟩
abbrev S8192x8x128 : Shape := ⟨3, ![8192, 8, 128]⟩
abbrev S8x128x8192 : Shape := ⟨3, ![8, 128, 8192]⟩
abbrev S8x16x1x512 : Shape := ⟨4, ![8, 16, 1, 512]⟩
abbrev S8192x8x256 : Shape := ⟨3, ![8192, 8, 256]⟩
abbrev S8192x2048 : Shape := ⟨2, ![8192, 2048]⟩
abbrev S8192x1024 : Shape := ⟨2, ![8192, 1024]⟩
abbrev S16x512x1024 : Shape := ⟨3, ![16, 512, 1024]⟩
abbrev S16x1024x512 : Shape := ⟨3, ![16, 1024, 512]⟩
abbrev S8192x256 : Shape := ⟨2, ![8192, 256]⟩
abbrev S512x256 : Shape := ⟨2, ![512, 256]⟩
abbrev S512x128 : Shape := ⟨2, ![512, 128]⟩
abbrev S16x128x512 : Shape := ⟨3, ![16, 128, 512]⟩
abbrev S1x16x1x512 : Shape := ⟨4, ![1, 16, 1, 512]⟩
abbrev S1x128x512 : Shape := ⟨3, ![1, 128, 512]⟩
abbrev S128x512 : Shape := ⟨2, ![128, 512]⟩
abbrev S512x512 : Shape := ⟨2, ![512, 512]⟩
abbrev S1x1x1x512 : Shape := ⟨4, ![1, 1, 1, 512]⟩
abbrev S1x512 : Shape := ⟨2, ![1, 512]⟩
abbrev S512 : Shape := ⟨1, ![512]⟩

abbrev nBuf : Space → Nat
  | .hbm => 64
  | .vmem => 20
  | .smem => 0
  | _ => 0

abbrev bufTy : (tb : Table) → Fin (tcTables nBuf tb) → BufTy
  | .hbm, ⟨0, _⟩ => ⟨S1x8192x8x192, .f32⟩
  | .hbm, ⟨1, _⟩ => ⟨S1x8192x8x192, .f32⟩
  | .hbm, ⟨2, _⟩ => ⟨S1x8192x8x128, .f32⟩
  | .hbm, ⟨3, _⟩ => ⟨S1x8192x8x128, .f32⟩
  | .hbm, ⟨4, _⟩ => ⟨S8192x8x192, .f32⟩
  | .hbm, ⟨5, _⟩ => ⟨S8192x8x192, .f32⟩
  | .hbm, ⟨6, _⟩ => ⟨S8x8192x8192, .f32⟩
  | .hbm, ⟨7, _⟩ => ⟨S_, .f32⟩
  | .hbm, ⟨8, _⟩ => ⟨S_, .f32⟩
  | .hbm, ⟨9, _⟩ => ⟨S8x8192x8192, .f32⟩
  | .hbm, ⟨10, _⟩ => ⟨S8x8192x8192, .f32⟩
  | .hbm, ⟨11, _⟩ => ⟨S8192, .i32⟩
  | .hbm, ⟨12, _⟩ => ⟨S1x8192, .i32⟩
  | .hbm, ⟨13, _⟩ => ⟨S8192x1, .i32⟩
  | .hbm, ⟨14, _⟩ => ⟨S8192x8192, .i32⟩
  | .hbm, ⟨15, _⟩ => ⟨S8192x8192, .i32⟩
  | .hbm, ⟨16, _⟩ => ⟨S8192x8192, .i1⟩
  | .hbm, ⟨17, _⟩ => ⟨S_, .f32⟩
  | .hbm, ⟨18, _⟩ => ⟨S_, .f32⟩
  | .hbm, ⟨19, _⟩ => ⟨S8x8192x8192, .i1⟩
  | .hbm, ⟨20, _⟩ => ⟨S8x8192x8192, .f32⟩
  | .hbm, ⟨21, _⟩ => ⟨S8x8192x8192, .f32⟩
  | .hbm, ⟨22, _⟩ => ⟨S_, .f32⟩
  | .hbm, ⟨23, _⟩ => ⟨S8x8192, .f32⟩
  | .hbm, ⟨24, _⟩ => ⟨S8x8192x1, .f32⟩
  | .hbm, ⟨25, _⟩ => ⟨S8x8192x8192, .f32⟩
  | .hbm, ⟨26, _⟩ => ⟨S8x8192x8192, .f32⟩
  | .hbm, ⟨27, _⟩ => ⟨S8x8192x8192, .f32⟩
  | .hbm, ⟨28, _⟩ => ⟨S_, .f32⟩
  | .hbm, ⟨29, _⟩ => ⟨S8x8192, .f32⟩
  | .hbm, ⟨30, _⟩ => ⟨S8x8192x1, .f32⟩
  | .hbm, ⟨31, _⟩ => ⟨S8x8192x8192, .f32⟩
  | .hbm, ⟨32, _⟩ => ⟨S8x8192x8192, .f32⟩
  | .hbm, ⟨33, _⟩ => ⟨S8192x8x128, .f32⟩
  | .hbm, ⟨34, _⟩ => ⟨S8x128x8192, .f32⟩
  | .hbm, ⟨35, _⟩ => ⟨S8192x8x128, .f32⟩
  | .hbm, ⟨36, _⟩ => ⟨S8x8192x1, .f32⟩
  | .hbm, ⟨37, _⟩ => ⟨S8x8192x1, .f32⟩
  | .hbm, ⟨38, _⟩ => ⟨S8x16x1x512, .f32⟩
  | .hbm, ⟨39, _⟩ => ⟨S8192x8x192, .f32⟩
  | .hbm, ⟨40, _⟩ => ⟨S_, .i32⟩
  | .hbm, ⟨41, _⟩ => ⟨S_, .f32⟩
  | .hbm, ⟨42, _⟩ => ⟨S8192x8x256, .f32⟩
  | .hbm, ⟨43, _⟩ => ⟨S8192x2048, .f32⟩
  | .hbm, ⟨44, _⟩ => ⟨S8192x2048, .bf16⟩
  | .hbm, ⟨45, _⟩ => ⟨S8192x8x192, .f32⟩
  | .hbm, ⟨46, _⟩ => ⟨S_, .i32⟩
  | .hbm, ⟨47, _⟩ => ⟨S_, .f32⟩
  | .hbm, ⟨48, _⟩ => ⟨S8192x8x256, .f32⟩
  | .hbm, ⟨49, _⟩ => ⟨S8192x2048, .f32⟩
  | .hbm, ⟨50, _⟩ => ⟨S8192x2048, .bf16⟩
  | .hbm, ⟨51, _⟩ => ⟨S8192x8x128, .f32⟩
  | .hbm, ⟨52, _⟩ => ⟨S8192x1024, .f32⟩
  | .hbm, ⟨53, _⟩ => ⟨S8192x1024, .bf16⟩
  | .hbm, ⟨54, _⟩ => ⟨S16x512x1024, .f32⟩
  | .hbm, ⟨55, _⟩ => ⟨S16x1024x512, .f32⟩
  | .hbm, ⟨56, _⟩ => ⟨S16x1024x512, .bf16⟩
  | .hbm, ⟨57, _⟩ => ⟨S8192x8x128, .f32⟩
  | .hbm, ⟨58, _⟩ => ⟨S16x512x1024, .f32⟩
  | .hbm, ⟨59, _⟩ => ⟨S16x1024x512, .f32⟩
  | .hbm, ⟨60, _⟩ => ⟨S16x1024x512, .bf16⟩
  | .hbm, ⟨61, _⟩ => ⟨S8192x2048, .f32⟩
  | .hbm, ⟨62, _⟩ => ⟨S8192x2048, .f32⟩
  | .hbm, ⟨63, _⟩ => ⟨S8192x1024, .f32⟩
  | .local _ .vmem, ⟨0, _⟩ => ⟨S8192x256, .bf16⟩
  | .local _ .vmem, ⟨1, _⟩ => ⟨S8192x256, .bf16⟩
  | .local _ .vmem, ⟨2, _⟩ => ⟨S512x256, .bf16⟩
  | .local _ .vmem, ⟨3, _⟩ => ⟨S512x256, .bf16⟩
  | .local _ .vmem, ⟨4, _⟩ => ⟨S512x128, .bf16⟩
  | .local _ .vmem, ⟨5, _⟩ => ⟨S512x128, .bf16⟩
  | .local _ .vmem, ⟨6, _⟩ => ⟨S16x128x512, .bf16⟩
  | .local _ .vmem, ⟨7, _⟩ => ⟨S16x128x512, .bf16⟩
  | .local _ .vmem, ⟨8, _⟩ => ⟨S1x16x1x512, .f32⟩
  | .local _ .vmem, ⟨9, _⟩ => ⟨S1x16x1x512, .f32⟩
  | .local _ .vmem, ⟨10, _⟩ => ⟨S16x128x512, .bf16⟩
  | .local _ .vmem, ⟨11, _⟩ => ⟨S16x128x512, .bf16⟩
  | .local _ .vmem, ⟨12, _⟩ => ⟨S8192x256, .f32⟩
  | .local _ .vmem, ⟨13, _⟩ => ⟨S8192x256, .f32⟩
  | .local _ .vmem, ⟨14, _⟩ => ⟨S512x256, .f32⟩
  | .local _ .vmem, ⟨15, _⟩ => ⟨S512x256, .f32⟩
  | .local _ .vmem, ⟨16, _⟩ => ⟨S512x128, .f32⟩
  | .local _ .vmem, ⟨17, _⟩ => ⟨S512x128, .f32⟩
  | .local _ .vmem, ⟨18, _⟩ => ⟨S512x256, .f32⟩
  | .local _ .vmem, ⟨19, _⟩ => ⟨S512x128, .f32⟩
  | _, _ => ⟨S1x8192x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_0 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c : Ref sig .tc := ⟨.hbm, 40, rfl⟩
abbrev main_call1_v0 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_c_3 : Ref sig .tc := ⟨.hbm, 46, rfl⟩
abbrev main_call2_v0 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46_0 : Ref sig .tc := ⟨.hbm, 61, rfl⟩
abbrev main_v46_1 : Ref sig .tc := ⟨.hbm, 62, rfl⟩
abbrev main_v46_2 : Ref sig .tc := ⟨.hbm, 63, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let arg1 : BitVec 32 := BitVec.ofNat 32 (i 1).val
  let c512_i32 : BitVec 32 := 512#32
  let v7 : BitVec 32 := Scalar.muli arg1 c512_i32
  v7
def k0_off1 (i : grid0.Coords) : Fin 2 → Nat :=
  let arg1 : BitVec 32 := BitVec.ofNat 32 (i 1).val
  let c512_i32 : BitVec 32 := 512#32
  let v7 : BitVec 32 := Scalar.muli arg1 c512_i32
  let v8 : BitVec 32 := v7
  let v9 : Index := Scalar.indexCast v8
  let c0_4 : Index := 0#32
  ![v9.toNat, 0]
def k0_off2 (i : grid0.Coords) : Fin 3 → Nat :=
  let arg1 : BitVec 32 := BitVec.ofNat 32 (i 1).val
  let v12 : Index := Scalar.indexCast arg1
  let c0_5 : Index := 0#32
  let c0_6 : Index := 0#32
  ![v12.toNat, 0, 0]
def k0_off3 (i : grid0.Coords) : Fin 4 → Nat :=
  let c0_10 : Index := 0#32
  let arg1 : BitVec 32 := BitVec.ofNat 32 (i 1).val
  let v24 : Index := Scalar.indexCast arg1
  let c0_11 : Index := 0#32
  let c0_12 : Index := 0#32
  ![0, v24.toNat, 0, 0]
@[reducible] def k0_t1_loop (i : grid0.Coords) : Scf.Loop 32 :=
  let c0_i32_32 : BitVec 32 := 0#32
  let c15_i32 : BitVec 32 := 15#32
  let arg1 : BitVec 32 := BitVec.ofNat 32 (i 1).val
  let v60 : BitVec 32 := Scalar.subi c15_i32 arg1
  let c0_i32_26 : BitVec 32 := 0#32
  let v62 : BitVec 1 := Scalar.cmpi .sgt v60 c0_i32_26
  let v63 : BitVec 32 := Scalar.extui v62
  let c0_i32_27 : BitVec 32 := 0#32
  let v64 : BitVec 1 := Scalar.cmpi .slt v60 c0_i32_27
  let v65 : BitVec 32 := Scalar.extui v64
  let v66 : BitVec 32 := Scalar.subi v63 v65
  let c2_i32 : BitVec 32 := 2#32
  let c0_i32_28 : BitVec 32 := 0#32
  let v67 : BitVec 1 := Scalar.cmpi .sgt c2_i32 c0_i32_28
  let v68 : BitVec 32 := Scalar.extui v67
  let c0_i32_29 : BitVec 32 := 0#32
  let v69 : BitVec 1 := Scalar.cmpi .slt c2_i32 c0_i32_29
  let v70 : BitVec 32 := Scalar.extui v69
  let v71 : BitVec 32 := Scalar.subi v68 v70
  let v72 : BitVec 1 := Scalar.cmpi .ne v66 v71
  let v73 : BitVec 32 := Scalar.remsi v60 c2_i32
  let c0_i32_30 : BitVec 32 := 0#32
  let v74 : BitVec 1 := Scalar.cmpi .ne v73 c0_i32_30
  let v75 : BitVec 1 := Scalar.andi v72 v74
  let v61 : BitVec 32 := Scalar.divsi v60 c2_i32
  let c1_i32 : BitVec 32 := 1#32
  let v76 : BitVec 32 := Scalar.subi v61 c1_i32
  let v77 : BitVec 32 := Scalar.select v75 v76 v61
  let v78 : BitVec 32 := Scalar.subi v77 c0_i32_32
  let c1_i32_33 : BitVec 32 := 1#32
  let v80 : BitVec 32 := Scalar.divsi v78 c1_i32_33
  let v81 : BitVec 32 := Scalar.muli v80 c1_i32_33
  let v82 : BitVec 32 := Scalar.addi c0_i32_32 v81
  let c1_i32_34 : BitVec 32 := 1#32
  ⟨c0_i32_32, v82, c1_i32_34⟩
def k0_mult2 (i : grid0.Coords) (k0_t1 : Fin (k0_t1_loop i).trips) : BitVec 32 :=
  let arg1 : BitVec 32 := BitVec.ofNat 32 (i 1).val
  let c1_i32_55 : BitVec 32 := 1#32
  let v105 : BitVec 32 := Scalar.addi arg1 c1_i32_55
  let c2_i32_56 : BitVec 32 := 2#32
  let c0_i32_32 : BitVec 32 := 0#32
  let c1_i32_34 : BitVec 32 := 1#32
  let arg13 : BitVec 32 := Scf.iv c0_i32_32 c1_i32_34 k0_t1
  let v106 : BitVec 32 := Scalar.muli c2_i32_56 arg13
  let v107 : BitVec 32 := Scalar.addi v105 v106
  let c512_i32_57 : BitVec 32 := 512#32
  let v108 : BitVec 32 := Scalar.muli v107 c512_i32_57
  v108
def k0_off4 (i : grid0.Coords) (k0_t1 : Fin (k0_t1_loop i).trips) : Fin 2 → Nat :=
  let arg1 : BitVec 32 := BitVec.ofNat 32 (i 1).val
  let c1_i32_55 : BitVec 32 := 1#32
  let v105 : BitVec 32 := Scalar.addi arg1 c1_i32_55
  let c2_i32_56 : BitVec 32 := 2#32
  let c0_i32_32 : BitVec 32 := 0#32
  let c1_i32_34 : BitVec 32 := 1#32
  let arg13 : BitVec 32 := Scf.iv c0_i32_32 c1_i32_34 k0_t1
  let v106 : BitVec 32 := Scalar.muli c2_i32_56 arg13
  let v107 : BitVec 32 := Scalar.addi v105 v106
  let c512_i32_57 : BitVec 32 := 512#32
  let v108 : BitVec 32 := Scalar.muli v107 c512_i32_57
  let v109 : BitVec 32 := v108
  let v110 : Index := Scalar.indexCast v109
  let c0_58 : Index := 0#32
  ![v110.toNat, 0]
def k0_off5 (i : grid0.Coords) (k0_t1 : Fin (k0_t1_loop i).trips) : Fin 3 → Nat :=
  let arg1 : BitVec 32 := BitVec.ofNat 32 (i 1).val
  let c1_i32_55 : BitVec 32 := 1#32
  let v105 : BitVec 32 := Scalar.addi arg1 c1_i32_55
  let c2_i32_56 : BitVec 32 := 2#32
  let c0_i32_32 : BitVec 32 := 0#32
  let c1_i32_34 : BitVec 32 := 1#32
  let arg13 : BitVec 32 := Scf.iv c0_i32_32 c1_i32_34 k0_t1
  let v106 : BitVec 32 := Scalar.muli c2_i32_56 arg13
  let v107 : BitVec 32 := Scalar.addi v105 v106
  let v113 : Index := Scalar.indexCast v107
  let c0_59 : Index := 0#32
  let c0_60 : Index := 0#32
  ![v113.toNat, 0, 0]
def k0_mult3 (i : grid0.Coords) (k0_t1 : Fin (k0_t1_loop i).trips) : BitVec 32 :=
  let arg1 : BitVec 32 := BitVec.ofNat 32 (i 1).val
  let c1_i32_55 : BitVec 32 := 1#32
  let v105 : BitVec 32 := Scalar.addi arg1 c1_i32_55
  let c2_i32_56 : BitVec 32 := 2#32
  let c0_i32_32 : BitVec 32 := 0#32
  let c1_i32_34 : BitVec 32 := 1#32
  let arg13 : BitVec 32 := Scf.iv c0_i32_32 c1_i32_34 k0_t1
  let v106 : BitVec 32 := Scalar.muli c2_i32_56 arg13
  let v107 : BitVec 32 := Scalar.addi v105 v106
  let c1_i32_63 : BitVec 32 := 1#32
  let v118 : BitVec 32 := Scalar.addi v107 c1_i32_63
  let c512_i32_64 : BitVec 32 := 512#32
  let v119 : BitVec 32 := Scalar.muli v118 c512_i32_64
  v119
def k0_off6 (i : grid0.Coords) (k0_t1 : Fin (k0_t1_loop i).trips) : Fin 2 → Nat :=
  let arg1 : BitVec 32 := BitVec.ofNat 32 (i 1).val
  let c1_i32_55 : BitVec 32 := 1#32
  let v105 : BitVec 32 := Scalar.addi arg1 c1_i32_55
  let c2_i32_56 : BitVec 32 := 2#32
  let c0_i32_32 : BitVec 32 := 0#32
  let c1_i32_34 : BitVec 32 := 1#32
  let arg13 : BitVec 32 := Scf.iv c0_i32_32 c1_i32_34 k0_t1
  let v106 : BitVec 32 := Scalar.muli c2_i32_56 arg13
  let v107 : BitVec 32 := Scalar.addi v105 v106
  let c1_i32_63 : BitVec 32 := 1#32
  let v118 : BitVec 32 := Scalar.addi v107 c1_i32_63
  let c512_i32_64 : BitVec 32 := 512#32
  let v119 : BitVec 32 := Scalar.muli v118 c512_i32_64
  let v120 : BitVec 32 := v119
  let v121 : Index := Scalar.indexCast v120
  let c0_65 : Index := 0#32
  ![v121.toNat, 0]
def k0_off7 (i : grid0.Coords) (k0_t1 : Fin (k0_t1_loop i).trips) : Fin 3 → Nat :=
  let arg1 : BitVec 32 := BitVec.ofNat 32 (i 1).val
  let c1_i32_55 : BitVec 32 := 1#32
  let v105 : BitVec 32 := Scalar.addi arg1 c1_i32_55
  let c2_i32_56 : BitVec 32 := 2#32
  let c0_i32_32 : BitVec 32 := 0#32
  let c1_i32_34 : BitVec 32 := 1#32
  let arg13 : BitVec 32 := Scf.iv c0_i32_32 c1_i32_34 k0_t1
  let v106 : BitVec 32 := Scalar.muli c2_i32_56 arg13
  let v107 : BitVec 32 := Scalar.addi v105 v106
  let c1_i32_63 : BitVec 32 := 1#32
  let v118 : BitVec 32 := Scalar.addi v107 c1_i32_63
  let v124 : Index := Scalar.indexCast v118
  let c0_66 : Index := 0#32
  let c0_67 : Index := 0#32
  ![v124.toNat, 0, 0]
def k0_off8 (i : grid0.Coords) (k0_t1 : Fin (k0_t1_loop i).trips) : Fin 4 → Nat :=
  let c0_71 : Index := 0#32
  let arg1 : BitVec 32 := BitVec.ofNat 32 (i 1).val
  let c1_i32_55 : BitVec 32 := 1#32
  let v105 : BitVec 32 := Scalar.addi arg1 c1_i32_55
  let c2_i32_56 : BitVec 32 := 2#32
  let c0_i32_32 : BitVec 32 := 0#32
  let c1_i32_34 : BitVec 32 := 1#32
  let arg13 : BitVec 32 := Scf.iv c0_i32_32 c1_i32_34 k0_t1
  let v106 : BitVec 32 := Scalar.muli c2_i32_56 arg13
  let v107 : BitVec 32 := Scalar.addi v105 v106
  let v131 : Index := Scalar.indexCast v107
  let c0_72 : Index := 0#32
  let c0_73 : Index := 0#32
  ![0, v131.toNat, 0, 0]
def k0_off9 (i : grid0.Coords) (k0_t1 : Fin (k0_t1_loop i).trips) : Fin 4 → Nat :=
  let c0_84 : Index := 0#32
  let arg1 : BitVec 32 := BitVec.ofNat 32 (i 1).val
  let c1_i32_55 : BitVec 32 := 1#32
  let v105 : BitVec 32 := Scalar.addi arg1 c1_i32_55
  let c2_i32_56 : BitVec 32 := 2#32
  let c0_i32_32 : BitVec 32 := 0#32
  let c1_i32_34 : BitVec 32 := 1#32
  let arg13 : BitVec 32 := Scf.iv c0_i32_32 c1_i32_34 k0_t1
  let v106 : BitVec 32 := Scalar.muli c2_i32_56 arg13
  let v107 : BitVec 32 := Scalar.addi v105 v106
  let c1_i32_63 : BitVec 32 := 1#32
  let v118 : BitVec 32 := Scalar.addi v107 c1_i32_63
  let v163 : Index := Scalar.indexCast v118
  let c0_85 : Index := 0#32
  let c0_86 : Index := 0#32
  ![0, v163.toNat, 0, 0]
@[reducible] def k0_t2_loop (i : grid0.Coords) : Scf.Loop 32 :=
  let c0_i32_32 : BitVec 32 := 0#32
  let c15_i32 : BitVec 32 := 15#32
  let arg1 : BitVec 32 := BitVec.ofNat 32 (i 1).val
  let v60 : BitVec 32 := Scalar.subi c15_i32 arg1
  let c0_i32_26 : BitVec 32 := 0#32
  let v62 : BitVec 1 := Scalar.cmpi .sgt v60 c0_i32_26
  let v63 : BitVec 32 := Scalar.extui v62
  let c0_i32_27 : BitVec 32 := 0#32
  let v64 : BitVec 1 := Scalar.cmpi .slt v60 c0_i32_27
  let v65 : BitVec 32 := Scalar.extui v64
  let v66 : BitVec 32 := Scalar.subi v63 v65
  let c2_i32 : BitVec 32 := 2#32
  let c0_i32_28 : BitVec 32 := 0#32
  let v67 : BitVec 1 := Scalar.cmpi .sgt c2_i32 c0_i32_28
  let v68 : BitVec 32 := Scalar.extui v67
  let c0_i32_29 : BitVec 32 := 0#32
  let v69 : BitVec 1 := Scalar.cmpi .slt c2_i32 c0_i32_29
  let v70 : BitVec 32 := Scalar.extui v69
  let v71 : BitVec 32 := Scalar.subi v68 v70
  let v72 : BitVec 1 := Scalar.cmpi .ne v66 v71
  let v73 : BitVec 32 := Scalar.remsi v60 c2_i32
  let c0_i32_30 : BitVec 32 := 0#32
  let v74 : BitVec 1 := Scalar.cmpi .ne v73 c0_i32_30
  let v75 : BitVec 1 := Scalar.andi v72 v74
  let v61 : BitVec 32 := Scalar.divsi v60 c2_i32
  let c1_i32 : BitVec 32 := 1#32
  let v76 : BitVec 32 := Scalar.subi v61 c1_i32
  let v77 : BitVec 32 := Scalar.select v75 v76 v61
  let v78 : BitVec 32 := Scalar.subi v77 c0_i32_32
  let c1_i32_33 : BitVec 32 := 1#32
  let v80 : BitVec 32 := Scalar.divsi v78 c1_i32_33
  let v81 : BitVec 32 := Scalar.muli v80 c1_i32_33
  let v82 : BitVec 32 := Scalar.addi c0_i32_32 v81
  let v79 : BitVec 32 := Scalar.addi c0_i32_32 v78
  let c1_i32_35 : BitVec 32 := 1#32
  ⟨v82, v79, c1_i32_35⟩
def k0_mult4 (i : grid0.Coords) (k0_t2 : Fin (k0_t2_loop i).trips) : BitVec 32 :=
  let arg1 : BitVec 32 := BitVec.ofNat 32 (i 1).val
  let c1_i32_55 : BitVec 32 := 1#32
  let v105 : BitVec 32 := Scalar.addi arg1 c1_i32_55
  let c2_i32_56 : BitVec 32 := 2#32
  let c0_i32_32 : BitVec 32 := 0#32
  let c15_i32 : BitVec 32 := 15#32
  let v60 : BitVec 32 := Scalar.subi c15_i32 arg1
  let c0_i32_26 : BitVec 32 := 0#32
  let v62 : BitVec 1 := Scalar.cmpi .sgt v60 c0_i32_26
  let v63 : BitVec 32 := Scalar.extui v62
  let c0_i32_27 : BitVec 32 := 0#32
  let v64 : BitVec 1 := Scalar.cmpi .slt v60 c0_i32_27
  let v65 : BitVec 32 := Scalar.extui v64
  let v66 : BitVec 32 := Scalar.subi v63 v65
  let c2_i32 : BitVec 32 := 2#32
  let c0_i32_28 : BitVec 32 := 0#32
  let v67 : BitVec 1 := Scalar.cmpi .sgt c2_i32 c0_i32_28
  let v68 : BitVec 32 := Scalar.extui v67
  let c0_i32_29 : BitVec 32 := 0#32
  let v69 : BitVec 1 := Scalar.cmpi .slt c2_i32 c0_i32_29
  let v70 : BitVec 32 := Scalar.extui v69
  let v71 : BitVec 32 := Scalar.subi v68 v70
  let v72 : BitVec 1 := Scalar.cmpi .ne v66 v71
  let v73 : BitVec 32 := Scalar.remsi v60 c2_i32
  let c0_i32_30 : BitVec 32 := 0#32
  let v74 : BitVec 1 := Scalar.cmpi .ne v73 c0_i32_30
  let v75 : BitVec 1 := Scalar.andi v72 v74
  let v61 : BitVec 32 := Scalar.divsi v60 c2_i32
  let c1_i32 : BitVec 32 := 1#32
  let v76 : BitVec 32 := Scalar.subi v61 c1_i32
  let v77 : BitVec 32 := Scalar.select v75 v76 v61
  let v78 : BitVec 32 := Scalar.subi v77 c0_i32_32
  let c1_i32_33 : BitVec 32 := 1#32
  let v80 : BitVec 32 := Scalar.divsi v78 c1_i32_33
  let v81 : BitVec 32 := Scalar.muli v80 c1_i32_33
  let v82 : BitVec 32 := Scalar.addi c0_i32_32 v81
  let c1_i32_35 : BitVec 32 := 1#32
  let arg13 : BitVec 32 := Scf.iv v82 c1_i32_35 k0_t2
  let v106 : BitVec 32 := Scalar.muli c2_i32_56 arg13
  let v107 : BitVec 32 := Scalar.addi v105 v106
  let c512_i32_57 : BitVec 32 := 512#32
  let v108 : BitVec 32 := Scalar.muli v107 c512_i32_57
  v108
def k0_off10 (i : grid0.Coords) (k0_t2 : Fin (k0_t2_loop i).trips) : Fin 2 → Nat :=
  let arg1 : BitVec 32 := BitVec.ofNat 32 (i 1).val
  let c1_i32_55 : BitVec 32 := 1#32
  let v105 : BitVec 32 := Scalar.addi arg1 c1_i32_55
  let c2_i32_56 : BitVec 32 := 2#32
  let c0_i32_32 : BitVec 32 := 0#32
  let c15_i32 : BitVec 32 := 15#32
  let v60 : BitVec 32 := Scalar.subi c15_i32 arg1
  let c0_i32_26 : BitVec 32 := 0#32
  let v62 : BitVec 1 := Scalar.cmpi .sgt v60 c0_i32_26
  let v63 : BitVec 32 := Scalar.extui v62
  let c0_i32_27 : BitVec 32 := 0#32
  let v64 : BitVec 1 := Scalar.cmpi .slt v60 c0_i32_27
  let v65 : BitVec 32 := Scalar.extui v64
  let v66 : BitVec 32 := Scalar.subi v63 v65
  let c2_i32 : BitVec 32 := 2#32
  let c0_i32_28 : BitVec 32 := 0#32
  let v67 : BitVec 1 := Scalar.cmpi .sgt c2_i32 c0_i32_28
  let v68 : BitVec 32 := Scalar.extui v67
  let c0_i32_29 : BitVec 32 := 0#32
  let v69 : BitVec 1 := Scalar.cmpi .slt c2_i32 c0_i32_29
  let v70 : BitVec 32 := Scalar.extui v69
  let v71 : BitVec 32 := Scalar.subi v68 v70
  let v72 : BitVec 1 := Scalar.cmpi .ne v66 v71
  let v73 : BitVec 32 := Scalar.remsi v60 c2_i32
  let c0_i32_30 : BitVec 32 := 0#32
  let v74 : BitVec 1 := Scalar.cmpi .ne v73 c0_i32_30
  let v75 : BitVec 1 := Scalar.andi v72 v74
  let v61 : BitVec 32 := Scalar.divsi v60 c2_i32
  let c1_i32 : BitVec 32 := 1#32
  let v76 : BitVec 32 := Scalar.subi v61 c1_i32
  let v77 : BitVec 32 := Scalar.select v75 v76 v61
  let v78 : BitVec 32 := Scalar.subi v77 c0_i32_32
  let c1_i32_33 : BitVec 32 := 1#32
  let v80 : BitVec 32 := Scalar.divsi v78 c1_i32_33
  let v81 : BitVec 32 := Scalar.muli v80 c1_i32_33
  let v82 : BitVec 32 := Scalar.addi c0_i32_32 v81
  let c1_i32_35 : BitVec 32 := 1#32
  let arg13 : BitVec 32 := Scf.iv v82 c1_i32_35 k0_t2
  let v106 : BitVec 32 := Scalar.muli c2_i32_56 arg13
  let v107 : BitVec 32 := Scalar.addi v105 v106
  let c512_i32_57 : BitVec 32 := 512#32
  let v108 : BitVec 32 := Scalar.muli v107 c512_i32_57
  let v109 : BitVec 32 := v108
  let v110 : Index := Scalar.indexCast v109
  let c0_58 : Index := 0#32
  ![v110.toNat, 0]
def k0_off11 (i : grid0.Coords) (k0_t2 : Fin (k0_t2_loop i).trips) : Fin 3 → Nat :=
  let arg1 : BitVec 32 := BitVec.ofNat 32 (i 1).val
  let c1_i32_55 : BitVec 32 := 1#32
  let v105 : BitVec 32 := Scalar.addi arg1 c1_i32_55
  let c2_i32_56 : BitVec 32 := 2#32
  let c0_i32_32 : BitVec 32 := 0#32
  let c15_i32 : BitVec 32 := 15#32
  let v60 : BitVec 32 := Scalar.subi c15_i32 arg1
  let c0_i32_26 : BitVec 32 := 0#32
  let v62 : BitVec 1 := Scalar.cmpi .sgt v60 c0_i32_26
  let v63 : BitVec 32 := Scalar.extui v62
  let c0_i32_27 : BitVec 32 := 0#32
  let v64 : BitVec 1 := Scalar.cmpi .slt v60 c0_i32_27
  let v65 : BitVec 32 := Scalar.extui v64
  let v66 : BitVec 32 := Scalar.subi v63 v65
  let c2_i32 : BitVec 32 := 2#32
  let c0_i32_28 : BitVec 32 := 0#32
  let v67 : BitVec 1 := Scalar.cmpi .sgt c2_i32 c0_i32_28
  let v68 : BitVec 32 := Scalar.extui v67
  let c0_i32_29 : BitVec 32 := 0#32
  let v69 : BitVec 1 := Scalar.cmpi .slt c2_i32 c0_i32_29
  let v70 : BitVec 32 := Scalar.extui v69
  let v71 : BitVec 32 := Scalar.subi v68 v70
  let v72 : BitVec 1 := Scalar.cmpi .ne v66 v71
  let v73 : BitVec 32 := Scalar.remsi v60 c2_i32
  let c0_i32_30 : BitVec 32 := 0#32
  let v74 : BitVec 1 := Scalar.cmpi .ne v73 c0_i32_30
  let v75 : BitVec 1 := Scalar.andi v72 v74
  let v61 : BitVec 32 := Scalar.divsi v60 c2_i32
  let c1_i32 : BitVec 32 := 1#32
  let v76 : BitVec 32 := Scalar.subi v61 c1_i32
  let v77 : BitVec 32 := Scalar.select v75 v76 v61
  let v78 : BitVec 32 := Scalar.subi v77 c0_i32_32
  let c1_i32_33 : BitVec 32 := 1#32
  let v80 : BitVec 32 := Scalar.divsi v78 c1_i32_33
  let v81 : BitVec 32 := Scalar.muli v80 c1_i32_33
  let v82 : BitVec 32 := Scalar.addi c0_i32_32 v81
  let c1_i32_35 : BitVec 32 := 1#32
  let arg13 : BitVec 32 := Scf.iv v82 c1_i32_35 k0_t2
  let v106 : BitVec 32 := Scalar.muli c2_i32_56 arg13
  let v107 : BitVec 32 := Scalar.addi v105 v106
  let v113 : Index := Scalar.indexCast v107
  let c0_59 : Index := 0#32
  let c0_60 : Index := 0#32
  ![v113.toNat, 0, 0]
def k0_mult5 (i : grid0.Coords) (k0_t2 : Fin (k0_t2_loop i).trips) : BitVec 32 :=
  let arg1 : BitVec 32 := BitVec.ofNat 32 (i 1).val
  let c1_i32_55 : BitVec 32 := 1#32
  let v105 : BitVec 32 := Scalar.addi arg1 c1_i32_55
  let c2_i32_56 : BitVec 32 := 2#32
  let c0_i32_32 : BitVec 32 := 0#32
  let c15_i32 : BitVec 32 := 15#32
  let v60 : BitVec 32 := Scalar.subi c15_i32 arg1
  let c0_i32_26 : BitVec 32 := 0#32
  let v62 : BitVec 1 := Scalar.cmpi .sgt v60 c0_i32_26
  let v63 : BitVec 32 := Scalar.extui v62
  let c0_i32_27 : BitVec 32 := 0#32
  let v64 : BitVec 1 := Scalar.cmpi .slt v60 c0_i32_27
  let v65 : BitVec 32 := Scalar.extui v64
  let v66 : BitVec 32 := Scalar.subi v63 v65
  let c2_i32 : BitVec 32 := 2#32
  let c0_i32_28 : BitVec 32 := 0#32
  let v67 : BitVec 1 := Scalar.cmpi .sgt c2_i32 c0_i32_28
  let v68 : BitVec 32 := Scalar.extui v67
  let c0_i32_29 : BitVec 32 := 0#32
  let v69 : BitVec 1 := Scalar.cmpi .slt c2_i32 c0_i32_29
  let v70 : BitVec 32 := Scalar.extui v69
  let v71 : BitVec 32 := Scalar.subi v68 v70
  let v72 : BitVec 1 := Scalar.cmpi .ne v66 v71
  let v73 : BitVec 32 := Scalar.remsi v60 c2_i32
  let c0_i32_30 : BitVec 32 := 0#32
  let v74 : BitVec 1 := Scalar.cmpi .ne v73 c0_i32_30
  let v75 : BitVec 1 := Scalar.andi v72 v74
  let v61 : BitVec 32 := Scalar.divsi v60 c2_i32
  let c1_i32 : BitVec 32 := 1#32
  let v76 : BitVec 32 := Scalar.subi v61 c1_i32
  let v77 : BitVec 32 := Scalar.select v75 v76 v61
  let v78 : BitVec 32 := Scalar.subi v77 c0_i32_32
  let c1_i32_33 : BitVec 32 := 1#32
  let v80 : BitVec 32 := Scalar.divsi v78 c1_i32_33
  let v81 : BitVec 32 := Scalar.muli v80 c1_i32_33
  let v82 : BitVec 32 := Scalar.addi c0_i32_32 v81
  let c1_i32_35 : BitVec 32 := 1#32
  let arg13 : BitVec 32 := Scf.iv v82 c1_i32_35 k0_t2
  let v106 : BitVec 32 := Scalar.muli c2_i32_56 arg13
  let v107 : BitVec 32 := Scalar.addi v105 v106
  let c1_i32_63 : BitVec 32 := 1#32
  let v118 : BitVec 32 := Scalar.addi v107 c1_i32_63
  let c512_i32_64 : BitVec 32 := 512#32
  let v119 : BitVec 32 := Scalar.muli v118 c512_i32_64
  v119
def k0_off12 (i : grid0.Coords) (k0_t2 : Fin (k0_t2_loop i).trips) : Fin 2 → Nat :=
  let arg1 : BitVec 32 := BitVec.ofNat 32 (i 1).val
  let c1_i32_55 : BitVec 32 := 1#32
  let v105 : BitVec 32 := Scalar.addi arg1 c1_i32_55
  let c2_i32_56 : BitVec 32 := 2#32
  let c0_i32_32 : BitVec 32 := 0#32
  let c15_i32 : BitVec 32 := 15#32
  let v60 : BitVec 32 := Scalar.subi c15_i32 arg1
  let c0_i32_26 : BitVec 32 := 0#32
  let v62 : BitVec 1 := Scalar.cmpi .sgt v60 c0_i32_26
  let v63 : BitVec 32 := Scalar.extui v62
  let c0_i32_27 : BitVec 32 := 0#32
  let v64 : BitVec 1 := Scalar.cmpi .slt v60 c0_i32_27
  let v65 : BitVec 32 := Scalar.extui v64
  let v66 : BitVec 32 := Scalar.subi v63 v65
  let c2_i32 : BitVec 32 := 2#32
  let c0_i32_28 : BitVec 32 := 0#32
  let v67 : BitVec 1 := Scalar.cmpi .sgt c2_i32 c0_i32_28
  let v68 : BitVec 32 := Scalar.extui v67
  let c0_i32_29 : BitVec 32 := 0#32
  let v69 : BitVec 1 := Scalar.cmpi .slt c2_i32 c0_i32_29
  let v70 : BitVec 32 := Scalar.extui v69
  let v71 : BitVec 32 := Scalar.subi v68 v70
  let v72 : BitVec 1 := Scalar.cmpi .ne v66 v71
  let v73 : BitVec 32 := Scalar.remsi v60 c2_i32
  let c0_i32_30 : BitVec 32 := 0#32
  let v74 : BitVec 1 := Scalar.cmpi .ne v73 c0_i32_30
  let v75 : BitVec 1 := Scalar.andi v72 v74
  let v61 : BitVec 32 := Scalar.divsi v60 c2_i32
  let c1_i32 : BitVec 32 := 1#32
  let v76 : BitVec 32 := Scalar.subi v61 c1_i32
  let v77 : BitVec 32 := Scalar.select v75 v76 v61
  let v78 : BitVec 32 := Scalar.subi v77 c0_i32_32
  let c1_i32_33 : BitVec 32 := 1#32
  let v80 : BitVec 32 := Scalar.divsi v78 c1_i32_33
  let v81 : BitVec 32 := Scalar.muli v80 c1_i32_33
  let v82 : BitVec 32 := Scalar.addi c0_i32_32 v81
  let c1_i32_35 : BitVec 32 := 1#32
  let arg13 : BitVec 32 := Scf.iv v82 c1_i32_35 k0_t2
  let v106 : BitVec 32 := Scalar.muli c2_i32_56 arg13
  let v107 : BitVec 32 := Scalar.addi v105 v106
  let c1_i32_63 : BitVec 32 := 1#32
  let v118 : BitVec 32 := Scalar.addi v107 c1_i32_63
  let c512_i32_64 : BitVec 32 := 512#32
  let v119 : BitVec 32 := Scalar.muli v118 c512_i32_64
  let v120 : BitVec 32 := v119
  let v121 : Index := Scalar.indexCast v120
  let c0_65 : Index := 0#32
  ![v121.toNat, 0]
def k0_off13 (i : grid0.Coords) (k0_t2 : Fin (k0_t2_loop i).trips) : Fin 3 → Nat :=
  let arg1 : BitVec 32 := BitVec.ofNat 32 (i 1).val
  let c1_i32_55 : BitVec 32 := 1#32
  let v105 : BitVec 32 := Scalar.addi arg1 c1_i32_55
  let c2_i32_56 : BitVec 32 := 2#32
  let c0_i32_32 : BitVec 32 := 0#32
  let c15_i32 : BitVec 32 := 15#32
  let v60 : BitVec 32 := Scalar.subi c15_i32 arg1
  let c0_i32_26 : BitVec 32 := 0#32
  let v62 : BitVec 1 := Scalar.cmpi .sgt v60 c0_i32_26
  let v63 : BitVec 32 := Scalar.extui v62
  let c0_i32_27 : BitVec 32 := 0#32
  let v64 : BitVec 1 := Scalar.cmpi .slt v60 c0_i32_27
  let v65 : BitVec 32 := Scalar.extui v64
  let v66 : BitVec 32 := Scalar.subi v63 v65
  let c2_i32 : BitVec 32 := 2#32
  let c0_i32_28 : BitVec 32 := 0#32
  let v67 : BitVec 1 := Scalar.cmpi .sgt c2_i32 c0_i32_28
  let v68 : BitVec 32 := Scalar.extui v67
  let c0_i32_29 : BitVec 32 := 0#32
  let v69 : BitVec 1 := Scalar.cmpi .slt c2_i32 c0_i32_29
  let v70 : BitVec 32 := Scalar.extui v69
  let v71 : BitVec 32 := Scalar.subi v68 v70
  let v72 : BitVec 1 := Scalar.cmpi .ne v66 v71
  let v73 : BitVec 32 := Scalar.remsi v60 c2_i32
  let c0_i32_30 : BitVec 32 := 0#32
  let v74 : BitVec 1 := Scalar.cmpi .ne v73 c0_i32_30
  let v75 : BitVec 1 := Scalar.andi v72 v74
  let v61 : BitVec 32 := Scalar.divsi v60 c2_i32
  let c1_i32 : BitVec 32 := 1#32
  let v76 : BitVec 32 := Scalar.subi v61 c1_i32
  let v77 : BitVec 32 := Scalar.select v75 v76 v61
  let v78 : BitVec 32 := Scalar.subi v77 c0_i32_32
  let c1_i32_33 : BitVec 32 := 1#32
  let v80 : BitVec 32 := Scalar.divsi v78 c1_i32_33
  let v81 : BitVec 32 := Scalar.muli v80 c1_i32_33
  let v82 : BitVec 32 := Scalar.addi c0_i32_32 v81
  let c1_i32_35 : BitVec 32 := 1#32
  let arg13 : BitVec 32 := Scf.iv v82 c1_i32_35 k0_t2
  let v106 : BitVec 32 := Scalar.muli c2_i32_56 arg13
  let v107 : BitVec 32 := Scalar.addi v105 v106
  let c1_i32_63 : BitVec 32 := 1#32
  let v118 : BitVec 32 := Scalar.addi v107 c1_i32_63
  let v124 : Index := Scalar.indexCast v118
  let c0_66 : Index := 0#32
  let c0_67 : Index := 0#32
  ![v124.toNat, 0, 0]
def k0_off14 (i : grid0.Coords) (k0_t2 : Fin (k0_t2_loop i).trips) : Fin 4 → Nat :=
  let c0_71 : Index := 0#32
  let arg1 : BitVec 32 := BitVec.ofNat 32 (i 1).val
  let c1_i32_55 : BitVec 32 := 1#32
  let v105 : BitVec 32 := Scalar.addi arg1 c1_i32_55
  let c2_i32_56 : BitVec 32 := 2#32
  let c0_i32_32 : BitVec 32 := 0#32
  let c15_i32 : BitVec 32 := 15#32
  let v60 : BitVec 32 := Scalar.subi c15_i32 arg1
  let c0_i32_26 : BitVec 32 := 0#32
  let v62 : BitVec 1 := Scalar.cmpi .sgt v60 c0_i32_26
  let v63 : BitVec 32 := Scalar.extui v62
  let c0_i32_27 : BitVec 32 := 0#32
  let v64 : BitVec 1 := Scalar.cmpi .slt v60 c0_i32_27
  let v65 : BitVec 32 := Scalar.extui v64
  let v66 : BitVec 32 := Scalar.subi v63 v65
  let c2_i32 : BitVec 32 := 2#32
  let c0_i32_28 : BitVec 32 := 0#32
  let v67 : BitVec 1 := Scalar.cmpi .sgt c2_i32 c0_i32_28
  let v68 : BitVec 32 := Scalar.extui v67
  let c0_i32_29 : BitVec 32 := 0#32
  let v69 : BitVec 1 := Scalar.cmpi .slt c2_i32 c0_i32_29
  let v70 : BitVec 32 := Scalar.extui v69
  let v71 : BitVec 32 := Scalar.subi v68 v70
  let v72 : BitVec 1 := Scalar.cmpi .ne v66 v71
  let v73 : BitVec 32 := Scalar.remsi v60 c2_i32
  let c0_i32_30 : BitVec 32 := 0#32
  let v74 : BitVec 1 := Scalar.cmpi .ne v73 c0_i32_30
  let v75 : BitVec 1 := Scalar.andi v72 v74
  let v61 : BitVec 32 := Scalar.divsi v60 c2_i32
  let c1_i32 : BitVec 32 := 1#32
  let v76 : BitVec 32 := Scalar.subi v61 c1_i32
  let v77 : BitVec 32 := Scalar.select v75 v76 v61
  let v78 : BitVec 32 := Scalar.subi v77 c0_i32_32
  let c1_i32_33 : BitVec 32 := 1#32
  let v80 : BitVec 32 := Scalar.divsi v78 c1_i32_33
  let v81 : BitVec 32 := Scalar.muli v80 c1_i32_33
  let v82 : BitVec 32 := Scalar.addi c0_i32_32 v81
  let c1_i32_35 : BitVec 32 := 1#32
  let arg13 : BitVec 32 := Scf.iv v82 c1_i32_35 k0_t2
  let v106 : BitVec 32 := Scalar.muli c2_i32_56 arg13
  let v107 : BitVec 32 := Scalar.addi v105 v106
  let v131 : Index := Scalar.indexCast v107
  let c0_72 : Index := 0#32
  let c0_73 : Index := 0#32
  ![0, v131.toNat, 0, 0]
def k0_off15 (i : grid0.Coords) (k0_t2 : Fin (k0_t2_loop i).trips) : Fin 4 → Nat :=
  let c0_84 : Index := 0#32
  let arg1 : BitVec 32 := BitVec.ofNat 32 (i 1).val
  let c1_i32_55 : BitVec 32 := 1#32
  let v105 : BitVec 32 := Scalar.addi arg1 c1_i32_55
  let c2_i32_56 : BitVec 32 := 2#32
  let c0_i32_32 : BitVec 32 := 0#32
  let c15_i32 : BitVec 32 := 15#32
  let v60 : BitVec 32 := Scalar.subi c15_i32 arg1
  let c0_i32_26 : BitVec 32 := 0#32
  let v62 : BitVec 1 := Scalar.cmpi .sgt v60 c0_i32_26
  let v63 : BitVec 32 := Scalar.extui v62
  let c0_i32_27 : BitVec 32 := 0#32
  let v64 : BitVec 1 := Scalar.cmpi .slt v60 c0_i32_27
  let v65 : BitVec 32 := Scalar.extui v64
  let v66 : BitVec 32 := Scalar.subi v63 v65
  let c2_i32 : BitVec 32 := 2#32
  let c0_i32_28 : BitVec 32 := 0#32
  let v67 : BitVec 1 := Scalar.cmpi .sgt c2_i32 c0_i32_28
  let v68 : BitVec 32 := Scalar.extui v67
  let c0_i32_29 : BitVec 32 := 0#32
  let v69 : BitVec 1 := Scalar.cmpi .slt c2_i32 c0_i32_29
  let v70 : BitVec 32 := Scalar.extui v69
  let v71 : BitVec 32 := Scalar.subi v68 v70
  let v72 : BitVec 1 := Scalar.cmpi .ne v66 v71
  let v73 : BitVec 32 := Scalar.remsi v60 c2_i32
  let c0_i32_30 : BitVec 32 := 0#32
  let v74 : BitVec 1 := Scalar.cmpi .ne v73 c0_i32_30
  let v75 : BitVec 1 := Scalar.andi v72 v74
  let v61 : BitVec 32 := Scalar.divsi v60 c2_i32
  let c1_i32 : BitVec 32 := 1#32
  let v76 : BitVec 32 := Scalar.subi v61 c1_i32
  let v77 : BitVec 32 := Scalar.select v75 v76 v61
  let v78 : BitVec 32 := Scalar.subi v77 c0_i32_32
  let c1_i32_33 : BitVec 32 := 1#32
  let v80 : BitVec 32 := Scalar.divsi v78 c1_i32_33
  let v81 : BitVec 32 := Scalar.muli v80 c1_i32_33
  let v82 : BitVec 32 := Scalar.addi c0_i32_32 v81
  let c1_i32_35 : BitVec 32 := 1#32
  let arg13 : BitVec 32 := Scf.iv v82 c1_i32_35 k0_t2
  let v106 : BitVec 32 := Scalar.muli c2_i32_56 arg13
  let v107 : BitVec 32 := Scalar.addi v105 v106
  let c1_i32_63 : BitVec 32 := 1#32
  let v118 : BitVec 32 := Scalar.addi v107 c1_i32_63
  let v163 : Index := Scalar.indexCast v118
  let c0_85 : Index := 0#32
  let c0_86 : Index := 0#32
  ![0, v163.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x16x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S16x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8192x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AttnIdeal.lean ====
variable {F : FTy → Type} [FloatOps F] [Named F]
def κ : String → Option EReal := fun
  | "log2e" => some (((Real.log 2)⁻¹ : ℝ) : EReal)
  | "mask" => some ⊥
  | "scale" => some (((Real.sqrt 192)⁻¹ : ℝ) : EReal)
  | "scale_log2e" => some (((Real.sqrt 192)⁻¹ * (Real.log 2)⁻¹ : ℝ) : EReal)
  | _ => none
-- ==== AttnRefIdeal.lean ====
abbrev S1x8192x8x192 : Shape := ⟨4, ![1, 8192, 8, 192]⟩
abbrev S1x8192x8x128 : Shape := ⟨4, ![1, 8192, 8, 128]⟩
abbrev S8192x8x192 : Shape := ⟨3, ![8192, 8, 192]⟩
abbrev S8192x8x128 : Shape := ⟨3, ![8192, 8, 128]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x8192 : Shape := ⟨2, ![8, 8192]⟩
abbrev S8x8192x1 : Shape := ⟨3, ![8, 8192, 1]⟩
abbrev S8x128x8192 : Shape := ⟨3, ![8, 128, 8192]⟩
abbrev S8x8192x192 : Shape := ⟨3, ![8, 8192, 192]⟩
abbrev S8192x8x256 : Shape := ⟨3, ![8192, 8, 256]⟩
abbrev S8192x2048 : Shape := ⟨2, ![8192, 2048]⟩
abbrev S8192x1024 : Shape := ⟨2, ![8192, 1024]⟩

abbrev nBuf : Space → Nat
  | .hbm => 102
  | .vmem => 0
  | .smem => 0
  | _ => 0

abbrev bufTy : (tb : Table) → Fin (tcTables nBuf tb) → BufTy
  | .hbm, ⟨0, _⟩ => ⟨S1x8192x8x192, .f32⟩
  | .hbm, ⟨1, _⟩ => ⟨S1x8192x8x192, .f32⟩
  | .hbm, ⟨2, _⟩ => ⟨S1x8192x8x128, .f32⟩
  | .hbm, ⟨3, _⟩ => ⟨S1x8192x8x128, .f32⟩
  | .hbm, ⟨4, _⟩ => ⟨S8192x8x192, .f32⟩
  | .hbm, ⟨5, _⟩ => ⟨S8192x8x192, .f32⟩
  | .hbm, ⟨6, _⟩ => ⟨S8192x8x128, .f32⟩
  | .hbm, ⟨7, _⟩ => ⟨S8x8192x8192, .f32⟩
  | .hbm, ⟨8, _⟩ => ⟨S_, .f32⟩
  | .hbm, ⟨9, _⟩ => ⟨S_, .f32⟩
  | .hbm, ⟨10, _⟩ => ⟨S8x8192x8192, .f32⟩
  | .hbm, ⟨11, _⟩ => ⟨S8x8192x8192, .f32⟩
  | .hbm, ⟨12, _⟩ => ⟨S8192, .i32⟩
  | .hbm, ⟨13, _⟩ => ⟨S1x8192, .i32⟩
  | .hbm, ⟨14, _⟩ => ⟨S8192x1, .i32⟩
  | .hbm, ⟨15, _⟩ => ⟨S8192x8192, .i32⟩
  | .hbm, ⟨16, _⟩ => ⟨S8192x8192, .i32⟩
  | .hbm, ⟨17, _⟩ => ⟨S8192x8192, .i1⟩
  | .hbm, ⟨18, _⟩ => ⟨S_, .f32⟩
  | .hbm, ⟨19, _⟩ => ⟨S_, .f32⟩
  | .hbm, ⟨20, _⟩ => ⟨S8x8192x8192, .i1⟩
  | .hbm, ⟨21, _⟩ => ⟨S8x8192x8192, .f32⟩
  | .hbm, ⟨22, _⟩ => ⟨S8x8192x8192, .f32⟩
  | .hbm, ⟨23, _⟩ => ⟨S_, .f32⟩
  | .hbm, ⟨24, _⟩ => ⟨S8x8192x8192, .f32⟩
  | .hbm, ⟨25, _⟩ => ⟨S_, .f32⟩
  | .hbm, ⟨26, _⟩ => ⟨S8x8192, .f32⟩
  | .hbm, ⟨27, _⟩ => ⟨S8x8192x1, .f32⟩
  | .hbm, ⟨28, _⟩ => ⟨S8x8192x8192, .f32⟩
  | .hbm, ⟨29, _⟩ => ⟨S8x8192x8192, .i1⟩
  | .hbm, ⟨30, _⟩ => ⟨S8x8192x8192, .f32⟩
  | .hbm, ⟨31, _⟩ => ⟨S_, .f32⟩
  | .hbm, ⟨32, _⟩ => ⟨S8x8192, .f32⟩
  | .hbm, ⟨33, _⟩ => ⟨S_, .f32⟩
  | .hbm, ⟨34, _⟩ => ⟨S8x8192, .f32⟩
  | .hbm, ⟨35, _⟩ => ⟨S8x8192, .f32⟩
  | .hbm, ⟨36, _⟩ => ⟨S_, .f32⟩
  | .hbm, ⟨37, _⟩ => ⟨S8x8192, .f32⟩
  | .hbm, ⟨38, _⟩ => ⟨S8x8192, .i1⟩
  | .hbm, ⟨39, _⟩ => ⟨S_, .f32⟩
  | .hbm, ⟨40, _⟩ => ⟨S8x8192, .f32⟩
  | .hbm, ⟨41, _⟩ => ⟨S8x8192, .i1⟩
  | .hbm, ⟨42, _⟩ => ⟨S_, .f32⟩
  | .hbm, ⟨43, _⟩ => ⟨S8x8192, .f32⟩
  | .hbm, ⟨44, _⟩ => ⟨S_, .f32⟩
  | .hbm, ⟨45, _⟩ => ⟨S8x8192, .f32⟩
  | .hbm, ⟨46, _⟩ => ⟨S_, .f32⟩
  | .hbm, ⟨47, _⟩ => ⟨S8x8192, .f32⟩
  | .hbm, ⟨48, _⟩ => ⟨S8x8192, .f32⟩
  | .hbm, ⟨49, _⟩ => ⟨S8x8192, .f32⟩
  | .hbm, ⟨50, _⟩ => ⟨S8x8192x1, .f32⟩
  | .hbm, ⟨51, _⟩ => ⟨S8x8192x8192, .f32⟩
  | .hbm, ⟨52, _⟩ => ⟨S8x8192x8192, .f32⟩
  | .hbm, ⟨53, _⟩ => ⟨S8x8192x8192, .f32⟩
  | .hbm, ⟨54, _⟩ => ⟨S_, .f32⟩
  | .hbm, ⟨55, _⟩ => ⟨S8x8192, .f32⟩
  | .hbm, ⟨56, _⟩ => ⟨S8x8192x1, .f32⟩
  | .hbm, ⟨57, _⟩ => ⟨S8x8192x8192, .f32⟩
  | .hbm, ⟨58, _⟩ => ⟨S8x8192x8192, .f32⟩
  | .hbm, ⟨59, _⟩ => ⟨S8x8192x1, .f32⟩
  | .hbm, ⟨60, _⟩ => ⟨S_, .f32⟩
  | .hbm, ⟨61, _⟩ => ⟨S8x8192x1, .f32⟩
  | .hbm, ⟨62, _⟩ => ⟨S8x8192x1, .f32⟩
  | .hbm, ⟨63, _⟩ => ⟨S8x128x8192, .f32⟩
  | .hbm, ⟨64, _⟩ => ⟨S8192x8x128, .f32⟩
  | .hbm, ⟨65, _⟩ => ⟨S8192x8x128, .f32⟩
  | .hbm, ⟨66, _⟩ => ⟨S8x128x8192, .f32⟩
  | .hbm, ⟨67, _⟩ => ⟨S8x8192x8192, .f32⟩
  | .hbm, ⟨68, _⟩ => ⟨S8x128x8192, .f32⟩
  | .hbm, ⟨69, _⟩ => ⟨S8192x8x128, .f32⟩
  | .hbm, ⟨70, _⟩ => ⟨S8x8192x8192, .f32⟩
  | .hbm, ⟨71, _⟩ => ⟨S8x8192x8192, .f32⟩
  | .hbm, ⟨72, _⟩ => ⟨S8x8192x8192, .f32⟩
  | .hbm, ⟨73, _⟩ => ⟨S_, .f32⟩
  | .hbm, ⟨74, _⟩ => ⟨S8x8192, .f32⟩
  | .hbm, ⟨75, _⟩ => ⟨S8x8192x1, .f32⟩
  | .hbm, ⟨76, _⟩ => ⟨S8x8192x1, .f32⟩
  | .hbm, ⟨77, _⟩ => ⟨S8x8192x8192, .f32⟩
  | .hbm, ⟨78, _⟩ => ⟨S8x8192x8192, .f32⟩
  | .hbm, ⟨79, _⟩ => ⟨S_, .f32⟩
  | .hbm, ⟨80, _⟩ => ⟨S8x8192, .f32⟩
  | .hbm, ⟨81, _⟩ => ⟨S8x8192x8192, .f32⟩
  | .hbm, ⟨82, _⟩ => ⟨S8x8192x8192, .f32⟩
  | .hbm, ⟨83, _⟩ => ⟨S8x8192x8192, .f32⟩
  | .hbm, ⟨84, _⟩ => ⟨S_, .f32⟩
  | .hbm, ⟨85, _⟩ => ⟨S8x8192x8192, .f32⟩
  | .hbm, ⟨86, _⟩ => ⟨S8x8192x8192, .f32⟩
  | .hbm, ⟨87, _⟩ => ⟨S8x8192x8192, .f32⟩
  | .hbm, ⟨88, _⟩ => ⟨S8x8192x8192, .f32⟩
  | .hbm, ⟨89, _⟩ => ⟨S8x8192x192, .f32⟩
  | .hbm, ⟨90, _⟩ => ⟨S8192x8x192, .f32⟩
  | .hbm, ⟨91, _⟩ => ⟨S8x8192x192, .f32⟩
  | .hbm, ⟨92, _⟩ => ⟨S8192x8x192, .f32⟩
  | .hbm, ⟨93, _⟩ => ⟨S_, .i32⟩
  | .hbm, ⟨94, _⟩ => ⟨S_, .f32⟩
  | .hbm, ⟨95, _⟩ => ⟨S8192x8x256, .f32⟩
  | .hbm, ⟨96, _⟩ => ⟨S8192x2048, .f32⟩
  | .hbm, ⟨97, _⟩ => ⟨S_, .i32⟩
  | .hbm, ⟨98, _⟩ => ⟨S_, .f32⟩
  | .hbm, ⟨99, _⟩ => ⟨S8192x8x256, .f32⟩
  | .hbm, ⟨100, _⟩ => ⟨S8192x2048, .f32⟩
  | .hbm, ⟨101, _⟩ => ⟨S8192x1024, .f32⟩
  | _, _ => ⟨S1x8192x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_call0_v0 : Ref sig .tc := ⟨.hbm, 19, rfl⟩
abbrev main_v13_1 : Ref sig .tc := ⟨.hbm, 20, rfl⟩
abbrev main_call0_v2 : Ref sig .tc := ⟨.hbm, 21, rfl⟩
abbrev main_v13_0 : Ref sig .tc := ⟨.hbm, 22, rfl⟩
abbrev main_call0_cst : Ref sig .tc := ⟨.hbm, 23, rfl⟩
abbrev main_v13_2 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_cst_5 : Ref sig .tc := ⟨.hbm, 39, rfl⟩
abbrev main_v24 : Ref sig .tc := ⟨.hbm, 40, rfl⟩
abbrev main_v25 : Ref sig .tc := ⟨.hbm, 41, rfl⟩
abbrev main_cst_6 : Ref sig .tc := ⟨.hbm, 42, rfl⟩
abbrev main_v26 : Ref sig .tc := ⟨.hbm, 43, rfl⟩
abbrev main_cst_7 : Ref sig .tc := ⟨.hbm, 44, rfl⟩
abbrev main_v27 : Ref sig .tc := ⟨.hbm, 45, rfl⟩
abbrev main_cst_8 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_9 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_10 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_11 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_12 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_call1_cst : Ref sig .tc := ⟨.hbm, 84, rfl⟩
abbrev main_call1_v0 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c : Ref sig .tc := ⟨.hbm, 93, rfl⟩
abbrev main_call2_v0 : Ref sig .tc := ⟨.hbm, 94, rfl⟩
abbrev main_v68 : Ref sig .tc := ⟨.hbm, 95, rfl⟩
abbrev main_v69 : Ref sig .tc := ⟨.hbm, 96, rfl⟩
abbrev main_c_13 : Ref sig .tc := ⟨.hbm, 97, rfl⟩
abbrev main_call3_v0 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩

abbrev nD : Nat := 1
abbrev τ : Topo := Topo.v7x

variable {F : FTy → Type} [FloatOps F]
-- ==== FfnDh.lean ====
abbrev S1x8192x1024 : Shape := ⟨3, ![1, 8192, 1024]⟩
abbrev S1024 : Shape := ⟨1, ![1024]⟩
abbrev S1024x5632 : Shape := ⟨2, ![1024, 5632]⟩
abbrev S1x8192x5632 : Shape := ⟨3, ![1, 8192, 5632]⟩
abbrev S8192x5632 : Shape := ⟨2, ![8192, 5632]⟩
abbrev S8192x8x704 : Shape := ⟨3, ![8192, 8, 704]⟩
abbrev S8x8192x704 : Shape := ⟨3, ![8, 8192, 704]⟩
abbrev S1024x8x704 : Shape := ⟨3, ![1024, 8, 704]⟩
abbrev S8x1024x704 : Shape := ⟨3, ![8, 1024, 704]⟩
abbrev S8192x1024 : Shape := ⟨2, ![8192, 1024]⟩
abbrev S1x1024 : Shape := ⟨2, ![1, 1024]⟩
abbrev S1x1024x704 : Shape := ⟨3, ![1, 1024, 704]⟩
abbrev S1024x1024 : Shape := ⟨2, ![1024, 1024]⟩
abbrev S1024x704 : Shape := ⟨2, ![1024, 704]⟩
abbrev S1024x1 : Shape := ⟨2, ![1024, 1]⟩

abbrev nBuf : Space → Nat
  | .hbm => 17
  | .vmem => 13
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x5632, .f32⟩
  | .hbm, ⟨3, _⟩ => ⟨S1x8192x5632, .f32⟩
  | .hbm, ⟨4, _⟩ => ⟨S1x8192x1024, .f32⟩
  | .hbm, ⟨5, _⟩ => ⟨S8192x5632, .f32⟩
  | .hbm, ⟨6, _⟩ => ⟨S8192x8x704, .f32⟩
  | .hbm, ⟨7, _⟩ => ⟨S8x8192x704, .f32⟩
  | .hbm, ⟨8, _⟩ => ⟨S8x8192x704, .bf16⟩
  | .hbm, ⟨9, _⟩ => ⟨S1024x8x704, .f32⟩
  | .hbm, ⟨10, _⟩ => ⟨S8x1024x704, .f32⟩
  | .hbm, ⟨11, _⟩ => ⟨S8x1024x704, .bf16⟩
  | .hbm, ⟨12, _⟩ => ⟨S8192x1024, .f32⟩
  | .hbm, ⟨13, _⟩ => ⟨S8192x1024, .f32⟩
  | .hbm, ⟨14, _⟩ => ⟨S1x1024, .f32⟩
  | .hbm, ⟨15, _⟩ => ⟨S8192x1024, .f32⟩
  | .hbm, ⟨16, _⟩ => ⟨S1x1024, .f32⟩
  | .local _ .vmem, ⟨0, _⟩ => ⟨S1x1024x704, .bf16⟩
  | .local _ .vmem, ⟨1, _⟩ => ⟨S1x1024x704, .bf16⟩
  | .local _ .vmem, ⟨2, _⟩ => ⟨S1x1024x704, .bf16⟩
  | .local _ .vmem, ⟨3, _⟩ => ⟨S1x1024x704, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10_0 : Ref sig .tc := ⟨.hbm, 15, rfl⟩
abbrev main_v10_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![8, 1, 8], ![false, false, false]⟩

def k0_cond3 (i : grid0.Coords) : BitVec 1 :=
  let arg2 : BitVec 32 := BitVec.ofNat 32 (i 2).val
  let c7_i32_8 : BitVec 32 := 7#32
  let v13 : BitVec 1 := Scalar.cmpi .eq arg2 c7_i32_8
  let v14 : BitVec 32 := Scalar.extui v13
  let c0_i32_9 : BitVec 32 := 0#32
  let v15 : BitVec 1 := Scalar.cmpi .ne v14 c0_i32_9
  v15

def k0_cond4 (i : grid0.Coords) : BitVec 1 :=
  let arg0 : BitVec 32 := BitVec.ofNat 32 (i 0).val
  let c0_i32_20 : BitVec 32 := 0#32
  let v37 : BitVec 1 := Scalar.cmpi .eq arg0 c0_i32_20
  let v38 : BitVec 32 := Scalar.extui v37
  let c0_i32_21 : BitVec 32 := 0#32
  let v39 : BitVec 1 := Scalar.cmpi .ne v38 c0_i32_21
  v39

def k0_cond5 (i : grid0.Coords) : BitVec 1 :=
  let arg0 : BitVec 32 := BitVec.ofNat 32 (i 0).val
  let c0_i32_22 : BitVec 32 := 0#32
  let v40 : BitVec 1 := Scalar.cmpi .sgt arg0 c0_i32_22
  let v41 : BitVec 32 := Scalar.extui v40
  let c0_i32_23 : BitVec 32 := 0#32
  let v42 : BitVec 1 := Scalar.cmpi .ne v41 c0_i32_23
  v42

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]
-- ==== FfnDhRefIdeal.lean ====
abbrev S1x8192x1024 : Shape := ⟨3, ![1, 8192, 1024]⟩
abbrev S1024 : Shape := ⟨1, ![1024]⟩
abbrev S1024x5632 : Shape := ⟨2, ![1024, 5632]⟩
abbrev S1x8192x5632 : Shape := ⟨3, ![1, 8192, 5632]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩

abbrev nBuf : Space → Nat
  | .hbm => 57
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x5632, .f32⟩
  | .hbm, ⟨3, _⟩ => ⟨S1x8192x5632, .f32⟩
  | .hbm, ⟨4, _⟩ => ⟨S1x8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x5632, .f32⟩
  | .hbm, ⟨27, _⟩ => ⟨S8192x1024, .f32⟩
  | .hbm, ⟨28, _⟩ => ⟨S8192x5632, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S1x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== HgrnDx.lean ====
abbrev S1x8192x1024 : Shape := ⟨3, ![1, 8192, 1024]⟩
abbrev S1024 : Shape := ⟨1, ![1024]⟩
abbrev S1024x4096 : Shape := ⟨2, ![1024, 4096]⟩
abbrev S1x8192x4096 : Shape := ⟨3, ![1, 8192, 4096]⟩
abbrev S1024x8x512 : Shape := ⟨3, ![1024, 8, 512]⟩
abbrev S8x1024x512 : Shape := ⟨3, ![8, 1024, 512]⟩
abbrev S8192x4096 : Shape := ⟨2, ![8192, 4096]⟩
abbrev S8192x1024 : Shape := ⟨2, ![8192, 1024]⟩
abbrev S1x1024 : Shape := ⟨2, ![1, 1024]⟩
abbrev S1024x512 : Shape := ⟨2, ![1024, 512]⟩
abbrev S1x1024x512 : Shape := ⟨3, ![1, 1024, 512]⟩
abbrev S1024x1024 : Shape := ⟨2, ![1024, 1024]⟩
abbrev S1024x1 : Shape := ⟨2, ![1024, 1]⟩

abbrev nBuf : Space → Nat
  | .hbm => 15
  | .vmem => 13
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x4096, .f32⟩
  | .hbm, ⟨3, _⟩ => ⟨S1x8192x4096, .f32⟩
  | .hbm, ⟨4, _⟩ => ⟨S1x8192x1024, .f32⟩
  | .hbm, ⟨5, _⟩ => ⟨S1024x8x512, .f32⟩
  | .hbm, ⟨6, _⟩ => ⟨S8x1024x512, .f32⟩
  | .hbm, ⟨7, _⟩ => ⟨S8x1024x512, .bf16⟩
  | .hbm, ⟨8, _⟩ => ⟨S8192x4096, .f32⟩
  | .hbm, ⟨9, _⟩ => ⟨S8192x4096, .bf16⟩
  | .hbm, ⟨10, _⟩ => ⟨S8192x1024, .f32⟩
  | .hbm, ⟨11, _⟩ => ⟨S8192x1024, .f32⟩
  | .hbm, ⟨12, _⟩ => ⟨S1x1024, .f32⟩
  | .hbm, ⟨13, _⟩ => ⟨S8192x1024, .f32⟩
  | .hbm, ⟨14, _⟩ => ⟨S1x1024, .f32⟩
  | .local _ .vmem, ⟨0, _⟩ => ⟨S1024x512, .bf16⟩
  | .local _ .vmem, ⟨1, _⟩ => ⟨S1024x512, .bf16⟩
  | .local _ .vmem, ⟨2, _⟩ => ⟨S1x1024x512, .bf16⟩
  | .local _ .vmem, ⟨3, _⟩ => ⟨S1x1024x512, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1024x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨3, ![8, 1, 8], ![false, false, false]⟩

def k0_cond3 (i : grid0.Coords) : BitVec 1 :=
  let arg2 : BitVec 32 := BitVec.ofNat 32 (i 2).val
  let c7_i32_7 : BitVec 32 := 7#32
  let v13 : BitVec 1 := Scalar.cmpi .eq arg2 c7_i32_7
  let v14 : BitVec 32 := Scalar.extui v13
  let c0_i32_8 : BitVec 32 := 0#32
  let v15 : BitVec 1 := Scalar.cmpi .ne v14 c0_i32_8
  v15

def k0_cond4 (i : grid0.Coords) : BitVec 1 :=
  let arg0 : BitVec 32 := BitVec.ofNat 32 (i 0).val
  let c0_i32_19 : BitVec 32 := 0#32
  let v37 : BitVec 1 := Scalar.cmpi .eq arg0 c0_i32_19
  let v38 : BitVec 32 := Scalar.extui v37
  let c0_i32_20 : BitVec 32 := 0#32
  let v39 : BitVec 1 := Scalar.cmpi .ne v38 c0_i32_20
  v39

def k0_cond5 (i : grid0.Coords) : BitVec 1 :=
  let arg0 : BitVec 32 := BitVec.ofNat 32 (i 0).val
  let c0_i32_21 : BitVec 32 := 0#32
  let v40 : BitVec 1 := Scalar.cmpi .sgt arg0 c0_i32_21
  let v41 : BitVec 32 := Scalar.extui v40
  let c0_i32_22 : BitVec 32 := 0#32
  let v42 : BitVec 1 := Scalar.cmpi .ne v41 c0_i32_22
  v42

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg1.toNat, v26.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true, false]
-- ==== HgrnDxRefIdeal.lean ====
abbrev S1x8192x1024 : Shape := ⟨3, ![1, 8192, 1024]⟩
abbrev S1024 : Shape := ⟨1, ![1024]⟩
abbrev S1024x4096 : Shape := ⟨2, ![1024, 4096]⟩
abbrev S1x8192x4096 : Shape := ⟨3, ![1, 8192, 4096]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩

abbrev nBuf : Space → Nat
  | .hbm => 57
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x4096, .f32⟩
  | .hbm, ⟨3, _⟩ => ⟨S1x8192x4096, .f32⟩
  | .hbm, ⟨4, _⟩ => ⟨S1x8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x4096, .f32⟩
  | .hbm, ⟨27, _⟩ => ⟨S8192x1024, .f32⟩
  | .hbm, ⟨28, _⟩ => ⟨S8192x4096, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S1024, .f32⟩
  | .hbm, ⟨38, _⟩ => ⟨S8192x1024, .f32⟩
  | .hbm, ⟨39, _⟩ => ⟨S_, .f32⟩
  | .hbm, ⟨40, _⟩ => ⟨S8192, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S1x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩

abbrev nD : Nat := 1
abbrev τ : Topo := Topo.v7x

variable {F : FTy → Type} [FloatOps F]
-- ==== Loss.lean ====
abbrev S1x8192x1024 : Shape := ⟨3, ![1, 8192, 1024]⟩
abbrev S8192x1024 : Shape := ⟨2, ![8192, 1024]⟩
abbrev S1x128 : Shape := ⟨2, ![1, 128]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩

abbrev nBuf : Space → Nat
  | .hbm => 6
  | .vmem => 7
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x128, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v19 : BitVec 1 := Scalar.cmpi .eq arg0 c0_i32
  let v20 : BitVec 32 := Scalar.extui v19
  let c0_i32_9 : BitVec 32 := 0#32
  let v21 : BitVec 1 := Scalar.cmpi .ne v20 c0_i32_9
  v21

def k0_cond2 (i : grid0.Coords) : BitVec 1 :=
  let arg0 : BitVec 32 := BitVec.ofNat 32 (i 0).val
  let c0_i32_10 : BitVec 32 := 0#32
  let v22 : BitVec 1 := Scalar.cmpi .sgt arg0 c0_i32_10
  let v23 : BitVec 32 := Scalar.extui v22
  let c0_i32_11 : BitVec 32 := 0#32
  let v24 : BitVec 1 := Scalar.cmpi .ne v23 c0_i32_11
  v24

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== LossRefIdeal.lean ====
abbrev S1x8192x1024 : Shape := ⟨3, ![1, 8192, 1024]⟩
abbrev S_ : Shape := ⟨0, ![]⟩
abbrev S1x8192 : Shape := ⟨2, ![1, 8192]⟩
abbrev S8192x1024 : Shape := ⟨2, ![8192, 1024]⟩
abbrev S1x128 : Shape := ⟨2, ![1, 128]⟩

abbrev nBuf : Space → Nat
  | .hbm => 27
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x8192x1024, .f32⟩
  | .hbm, ⟨3, _⟩ => ⟨S1x8192x1024, .f32⟩
  | .hbm, ⟨4, _⟩ => ⟨S_, .f32⟩
  | .hbm, ⟨5, _⟩ => ⟨S1x8192x1024, .f32⟩
  | .hbm, ⟨6, _⟩ => ⟨S1x8192x1024, .f32⟩
  | .hbm, ⟨7, _⟩ => ⟨S_, .f32⟩
  | .hbm, ⟨8, _⟩ => ⟨S1x8192, .f32⟩
  | .hbm, ⟨9, _⟩ => ⟨S_, .f32⟩
  | .hbm, ⟨10, _⟩ => ⟨S1x8192, .f32⟩
  | .hbm, ⟨11, _⟩ => ⟨S1x8192, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S1x8192, .f32⟩
  | .hbm, ⟨20, _⟩ => ⟨S_, .f32⟩
  | .hbm, ⟨21, _⟩ => ⟨S1x8192, .f32⟩
  | .hbm, ⟨22, _⟩ => ⟨S1x8192, .f32⟩
  | .hbm, ⟨23, _⟩ => ⟨S1x8192x1024, .f32⟩
  | .hbm, ⟨24, _⟩ => ⟨S1x8192x1024, .f32⟩
  | .hbm, ⟨25, _⟩ => ⟨S8192x1024, .f32⟩
  | .hbm, ⟨26, _⟩ => ⟨S1x128, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩

abbrev nD : Nat := 1
abbrev τ : Topo := Topo.v7x

variable {F : FTy → Type} [FloatOps F]
-- ==== FfnAct.lean ====
abbrev S1x8192x5632 : Shape := ⟨3, ![1, 8192, 5632]⟩
abbrev S3x5632 : Shape := ⟨2, ![3, 5632]⟩
abbrev S5632 : Shape := ⟨1, ![5632]⟩
abbrev S2816x1024 : Shape := ⟨2, ![2816, 1024]⟩
abbrev S1x8192x1024 : Shape := ⟨3, ![1, 8192, 1024]⟩
abbrev S1x2x5632 : Shape := ⟨3, ![1, 2, 5632]⟩
abbrev S2x5632 : Shape := ⟨2, ![2, 5632]⟩
abbrev S_ : Shape := ⟨0, ![]⟩
abbrev S8192x5632 : Shape := ⟨2, ![8192, 5632]⟩
abbrev S8194x5632 : Shape := ⟨2, ![8194, 5632]⟩
abbrev S1x5632 : Shape := ⟨2, ![1, 5632]⟩
abbrev S8192x1024 : Shape := ⟨2, ![8192, 1024]⟩
abbrev S8192x8x704 : Shape := ⟨3, ![8192, 8, 704]⟩
abbrev S8x8192x704 : Shape := ⟨3, ![8, 8192, 704]⟩
abbrev S2x4x8192x704 : Shape := ⟨4, ![2, 4, 8192, 704]⟩
abbrev S3x8x704 : Shape := ⟨3, ![3, 8, 704]⟩
abbrev S8x3x704 : Shape := ⟨3, ![8, 3, 704]⟩
abbrev S2x4x3x704 : Shape := ⟨4, ![2, 4, 3, 704]⟩
abbrev S2x4x1x704 : Shape := ⟨4, ![2, 4, 1, 704]⟩
abbrev S512x1024 : Shape := ⟨2, ![512, 1024]⟩
abbrev S704x1024 : Shape := ⟨2, ![704, 1024]⟩
abbrev S2x1x512x704 : Shape := ⟨4, ![2, 1, 512, 704]⟩
abbrev S1x3x704 : Shape := ⟨3, ![1, 3, 704]⟩
abbrev S2x1x3x704 : Shape := ⟨4, ![2, 1, 3, 704]⟩
abbrev S2x1x1x704 : Shape := ⟨4, ![2, 1, 1, 704]⟩
abbrev S8x704 : Shape := ⟨2, ![8, 704]⟩
abbrev S2x3x704 : Shape := ⟨3, ![2, 3, 704]⟩
abbrev S2x1x704 : Shape := ⟨3, ![2, 1, 704]⟩
abbrev S512x704 : Shape := ⟨2, ![512, 704]⟩
abbrev S1x1x512x704 : Shape := ⟨4, ![1, 1, 512, 704]⟩
abbrev S1x704 : Shape := ⟨2, ![1, 704]⟩
abbrev S512x1 : Shape := ⟨2, ![512, 1]⟩
abbrev S1x1x1x704 : Shape := ⟨4, ![1, 1, 1, 704]⟩
abbrev S704 : Shape := ⟨1, ![704]⟩
abbrev S1x1x704 : Shape := ⟨3, ![1, 1, 704]⟩

abbrev nBuf : Space → Nat
  | .hbm => 50
  | .vmem => 20
  | .smem => 0
  | _ => 0

abbrev bufTy : (tb : Table) → Fin (tcTables nBuf tb) → BufTy
  | .hbm, ⟨0, _⟩ => ⟨S1x8192x5632, .f32⟩
  | .hbm, ⟨1, _⟩ => ⟨S3x5632, .f32⟩
  | .hbm, ⟨2, _⟩ => ⟨S5632, .f32⟩
  | .hbm, ⟨3, _⟩ => ⟨S2816x1024, .f32⟩
  | .hbm, ⟨4, _⟩ => ⟨S1x8192x1024, .f32⟩
  | .hbm, ⟨5, _⟩ => ⟨S1x2x5632, .f32⟩
  | .hbm, ⟨6, _⟩ => ⟨S2x5632, .f32⟩
  | .hbm, ⟨7, _⟩ => ⟨S_, .f32⟩
  | .hbm, ⟨8, _⟩ => ⟨S2x5632, .f32⟩
  | .hbm, ⟨9, _⟩ => ⟨S8192x5632, .f32⟩
  | .hbm, ⟨10, _⟩ => ⟨S8194x5632, .f32⟩
  | .hbm, ⟨11, _⟩ => ⟨S8192x5632, .f32⟩
  | .hbm, ⟨12, _⟩ => ⟨S1x5632, .f32⟩
  | .hbm, ⟨13, _⟩ => ⟨S5632, .f32⟩
  | .hbm, ⟨14, _⟩ => ⟨S1x5632, .f32⟩
  | .hbm, ⟨15, _⟩ => ⟨S8192x5632, .f32⟩
  | .hbm, ⟨16, _⟩ => ⟨S8192x5632, .f32⟩
  | .hbm, ⟨17, _⟩ => ⟨S1x5632, .f32⟩
  | .hbm, ⟨18, _⟩ => ⟨S8192x5632, .f32⟩
  | .hbm, ⟨19, _⟩ => ⟨S8192x5632, .f32⟩
  | .hbm, ⟨20, _⟩ => ⟨S8192x5632, .f32⟩
  | .hbm, ⟨21, _⟩ => ⟨S1x5632, .f32⟩
  | .hbm, ⟨22, _⟩ => ⟨S5632, .f32⟩
  | .hbm, ⟨23, _⟩ => ⟨S1x5632, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S1x5632, .f32⟩
  | .hbm, ⟨29, _⟩ => ⟨S5632, .f32⟩
  | .hbm, ⟨30, _⟩ => ⟨S1x5632, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S8192x1024, .f32⟩
  | .hbm, ⟨35, _⟩ => ⟨S2816x1024, .bf16⟩
  | .hbm, ⟨36, _⟩ => ⟨S8192x5632, .f32⟩
  | .hbm, ⟨37, _⟩ => ⟨S8192x8x704, .f32⟩
  | .hbm, ⟨38, _⟩ => ⟨S8x8192x704, .f32⟩
  | .hbm, ⟨39, _⟩ => ⟨S8x8192x704, .bf16⟩
  | .hbm, ⟨40, _⟩ => ⟨S2x4x8192x704, .bf16⟩
  | .hbm, ⟨41, _⟩ => ⟨S8192x8x704, .f32⟩
  | .hbm, ⟨42, _⟩ => ⟨S8x8192x704, .f32⟩
  | .hbm, ⟨43, _⟩ => ⟨S8x8192x704, .bf16⟩
  | .hbm, ⟨44, _⟩ => ⟨S2x4x8192x704, .bf16⟩
  | .hbm, ⟨45, _⟩ => ⟨S3x8x704, .f32⟩
  | .hbm, ⟨46, _⟩ => ⟨S8x3x704, .f32⟩
  | .hbm, ⟨47, _⟩ => ⟨S2x4x8192x704, .bf16⟩
  | .hbm, ⟨48, _⟩ => ⟨S2x4x3x704, .f32⟩
  | .hbm, ⟨49, _⟩ => ⟨S2x4x1x704, .f32⟩
  | .local _ .vmem, ⟨0, _⟩ => ⟨S512x1024, .f32⟩
  | .local _ .vmem, ⟨1, _⟩ => ⟨S512x1024, .f32⟩
  | .local _ .vmem, ⟨2, _⟩ => ⟨S704x1024, .bf16⟩
  | .local _ .vmem, ⟨3, _⟩ => ⟨S704x1024, .bf16⟩
  | .local _ .vmem, ⟨4, _⟩ => ⟨S2x1x512x704, .bf16⟩
  | .local _ .vmem, ⟨5, _⟩ => ⟨S2x1x512x704, .bf16⟩
  | .local _ .vmem, ⟨6, _⟩ => ⟨S2x1x512x704, .bf16⟩
  | .local _ .vmem, ⟨7, _⟩ => ⟨S2x1x512x704, .bf16⟩
  | .local _ .vmem, ⟨8, _⟩ => ⟨S1x3x704, .f32⟩
  | .local _ .vmem, ⟨9, _⟩ => ⟨S1x3x704, .f32⟩
  | .local _ .vmem, ⟨10, _⟩ => ⟨S1x3x704, .f32⟩
  | .local _ .vmem, ⟨11, _⟩ => ⟨S1x3x704, .f32⟩
  | .local _ .vmem, ⟨12, _⟩ => ⟨S2x1x512x704, .bf16⟩
  | .local _ .vmem, ⟨13, _⟩ => ⟨S2x1x512x704, .bf16⟩
  | .local _ .vmem, ⟨14, _⟩ => ⟨S2x1x3x704, .f32⟩
  | .local _ .vmem, ⟨15, _⟩ => ⟨S2x1x3x704, .f32⟩
  | .local _ .vmem, ⟨16, _⟩ => ⟨S2x1x1x704, .f32⟩
  | .local _ .vmem, ⟨17, _⟩ => ⟨S2x1x1x704, .f32⟩
  | .local _ .vmem, ⟨18, _⟩ => ⟨S8x704, .f32⟩
  | .local _ .vmem, ⟨19, _⟩ => ⟨S8x704, .f32⟩
  | _, _ => ⟨S1x8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41_0 : Ref sig .tc := ⟨.hbm, 47, rfl⟩
abbrev main_v41_1 : Ref sig .tc := ⟨.hbm, 48, rfl⟩
abbrev main_v41_2 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  ![c0_i32.toNat, arg0.toNat, v0.toNat, c0_i32_0.toNat]

def cc0_transform_3 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  ![c0_i32.toNat, arg0.toNat, v0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  ![c0_i32.toNat, arg0.toNat, v0.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2x1x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1x512x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x3x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x3x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S2x1x512x704 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x1x3x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2x1x1x704 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== FfnActRefIdeal.lean ====
abbrev S1x8192x5632 : Shape := ⟨3, ![1, 8192, 5632]⟩
abbrev S3x5632 : Shape := ⟨2, ![3, 5632]⟩
abbrev S5632 : Shape := ⟨1, ![5632]⟩
abbrev S2816x1024 : Shape := ⟨2, ![2816, 1024]⟩
abbrev S1x8192x1024 : Shape := ⟨3, ![1, 8192, 1024]⟩
abbrev S8192x5632 : Shape := ⟨2, ![8192, 5632]⟩
abbrev S2x5632 : Shape := ⟨2, ![2, 5632]⟩
abbrev S_ : Shape := ⟨0, ![]⟩
abbrev S8194x5632 : Shape := ⟨2, ![8194, 5632]⟩
abbrev S1x5632 : Shape := ⟨2, ![1, 5632]⟩
abbrev S8192x2816 : Shape := ⟨2, ![8192, 2816]⟩
abbrev S8192x1024 : Shape := ⟨2, ![8192, 1024]⟩
abbrev S8192x2x4x704 : Shape := ⟨4, ![8192, 2, 4, 704]⟩
abbrev S2x4x8192x704 : Shape := ⟨4, ![2, 4, 8192, 704]⟩
abbrev S3x2x4x704 : Shape := ⟨4, ![3, 2, 4, 704]⟩
abbrev S2x4x3x704 : Shape := ⟨4, ![2, 4, 3, 704]⟩
abbrev S2x4x1x704 : Shape := ⟨4, ![2, 4, 1, 704]⟩

abbrev nBuf : Space → Nat
  | .hbm => 117
  | .vmem => 0
  | .smem => 0
  | _ => 0

abbrev bufTy : (tb : Table) → Fin (tcTables nBuf tb) → BufTy
  | .hbm, ⟨0, _⟩ => ⟨S1x8192x5632, .f32⟩
  | .hbm, ⟨1, _⟩ => ⟨S3x5632, .f32⟩
  | .hbm, ⟨2, _⟩ => ⟨S5632, .f32⟩
  | .hbm, ⟨3, _⟩ => ⟨S2816x1024, .f32⟩
  | .hbm, ⟨4, _⟩ => ⟨S1x8192x1024, .f32⟩
  | .hbm, ⟨5, _⟩ => ⟨S8192x5632, .f32⟩
  | .hbm, ⟨6, _⟩ => ⟨S2x5632, .f32⟩
  | .hbm, ⟨7, _⟩ => ⟨S_, .f32⟩
  | .hbm, ⟨8, _⟩ => ⟨S2x5632, .f32⟩
  | .hbm, ⟨9, _⟩ => ⟨S8194x5632, .f32⟩
  | .hbm, ⟨10, _⟩ => ⟨S_, .f32⟩
  | .hbm, ⟨11, _⟩ => ⟨S2x5632, .f32⟩
  | .hbm, ⟨12, _⟩ => ⟨S8192x5632, .f32⟩
  | .hbm, ⟨13, _⟩ => ⟨S1x5632, .f32⟩
  | .hbm, ⟨14, _⟩ => ⟨S5632, .f32⟩
  | .hbm, ⟨15, _⟩ => ⟨S1x5632, .f32⟩
  | .hbm, ⟨16, _⟩ => ⟨S8192x5632, .f32⟩
  | .hbm, ⟨17, _⟩ => ⟨S8192x5632, .f32⟩
  | .hbm, ⟨18, _⟩ => ⟨S1x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S1x5632, .f32⟩
  | .hbm, ⟨23, _⟩ => ⟨S5632, .f32⟩
  | .hbm, ⟨24, _⟩ => ⟨S1x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S1x5632, .f32⟩
  | .hbm, ⟨30, _⟩ => ⟨S5632, .f32⟩
  | .hbm, ⟨31, _⟩ => ⟨S1x5632, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S8192x2816, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S_, .f32⟩
  | .hbm, ⟨40, _⟩ => ⟨S8192x2816, .f32⟩
  | .hbm, ⟨41, _⟩ => ⟨S8192x2816, .f32⟩
  | .hbm, ⟨42, _⟩ => ⟨S_, .f32⟩
  | .hbm, ⟨43, _⟩ => ⟨S8192x2816, .f32⟩
  | .hbm, ⟨44, _⟩ => ⟨S8192x2816, .f32⟩
  | .hbm, ⟨45, _⟩ => ⟨S_, .f32⟩
  | .hbm, ⟨46, _⟩ => ⟨S8192x2816, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x1024, .f32⟩
  | .hbm, ⟨52, _⟩ => ⟨S8192x1024, .f32⟩
  | .hbm, ⟨53, _⟩ => ⟨S8192x2816, .f32⟩
  | .hbm, ⟨54, _⟩ => ⟨S8192x2816, .f32⟩
  | .hbm, ⟨55, _⟩ => ⟨S8192x2816, .f32⟩
  | .hbm, ⟨56, _⟩ => ⟨S8192x2816, .f32⟩
  | .hbm, ⟨57, _⟩ => ⟨S8192x2816, .f32⟩
  | .hbm, ⟨58, _⟩ => ⟨S8192x2816, .f32⟩
  | .hbm, ⟨59, _⟩ => ⟨S8192x2816, .f32⟩
  | .hbm, ⟨60, _⟩ => ⟨S8192x5632, .f32⟩
  | .hbm, ⟨61, _⟩ => ⟨S8192x5632, .f32⟩
  | .hbm, ⟨62, _⟩ => ⟨S_, .f32⟩
  | .hbm, ⟨63, _⟩ => ⟨S5632, .f32⟩
  | .hbm, ⟨64, _⟩ => ⟨S1x5632, .f32⟩
  | .hbm, ⟨65, _⟩ => ⟨S8192x5632, .f32⟩
  | .hbm, ⟨66, _⟩ => ⟨S8192x5632, .f32⟩
  | .hbm, ⟨67, _⟩ => ⟨S_, .f32⟩
  | .hbm, ⟨68, _⟩ => ⟨S5632, .f32⟩
  | .hbm, ⟨69, _⟩ => ⟨S1x5632, .f32⟩
  | .hbm, ⟨70, _⟩ => ⟨S_, .f32⟩
  | .hbm, ⟨71, _⟩ => ⟨S3x5632, .f32⟩
  | .hbm, ⟨72, _⟩ => ⟨S_, .f32⟩
  | .hbm, ⟨73, _⟩ => ⟨S8194x5632, .f32⟩
  | .hbm, ⟨74, _⟩ => ⟨S8192x5632, .f32⟩
  | .hbm, ⟨75, _⟩ => ⟨S_, .f32⟩
  | .hbm, ⟨76, _⟩ => ⟨S5632, .f32⟩
  | .hbm, ⟨77, _⟩ => ⟨S1x5632, .f32⟩
  | .hbm, ⟨78, _⟩ => ⟨S8192x5632, .f32⟩
  | .hbm, ⟨79, _⟩ => ⟨S8192x5632, .f32⟩
  | .hbm, ⟨80, _⟩ => ⟨S_, .f32⟩
  | .hbm, ⟨81, _⟩ => ⟨S5632, .f32⟩
  | .hbm, ⟨82, _⟩ => ⟨S1x5632, .f32⟩
  | .hbm, ⟨83, _⟩ => ⟨S_, .f32⟩
  | .hbm, ⟨84, _⟩ => ⟨S3x5632, .f32⟩
  | .hbm, ⟨85, _⟩ => ⟨S3x5632, .f32⟩
  | .hbm, ⟨86, _⟩ => ⟨S_, .f32⟩
  | .hbm, ⟨87, _⟩ => ⟨S8194x5632, .f32⟩
  | .hbm, ⟨88, _⟩ => ⟨S8194x5632, .f32⟩
  | .hbm, ⟨89, _⟩ => ⟨S_, .f32⟩
  | .hbm, ⟨90, _⟩ => ⟨S5632, .f32⟩
  | .hbm, ⟨91, _⟩ => ⟨S1x5632, .f32⟩
  | .hbm, ⟨92, _⟩ => ⟨S_, .f32⟩
  | .hbm, ⟨93, _⟩ => ⟨S5632, .f32⟩
  | .hbm, ⟨94, _⟩ => ⟨S8192x5632, .f32⟩
  | .hbm, ⟨95, _⟩ => ⟨S_, .f32⟩
  | .hbm, ⟨96, _⟩ => ⟨S5632, .f32⟩
  | .hbm, ⟨97, _⟩ => ⟨S1x5632, .f32⟩
  | .hbm, ⟨98, _⟩ => ⟨S8192x5632, .f32⟩
  | .hbm, ⟨99, _⟩ => ⟨S8192x5632, .f32⟩
  | .hbm, ⟨100, _⟩ => ⟨S_, .f32⟩
  | .hbm, ⟨101, _⟩ => ⟨S5632, .f32⟩
  | .hbm, ⟨102, _⟩ => ⟨S1x5632, .f32⟩
  | .hbm, ⟨103, _⟩ => ⟨S_, .f32⟩
  | .hbm, ⟨104, _⟩ => ⟨S3x5632, .f32⟩
  | .hbm, ⟨105, _⟩ => ⟨S3x5632, .f32⟩
  | .hbm, ⟨106, _⟩ => ⟨S_, .f32⟩
  | .hbm, ⟨107, _⟩ => ⟨S8194x5632, .f32⟩
  | .hbm, ⟨108, _⟩ => ⟨S8194x5632, .f32⟩
  | .hbm, ⟨109, _⟩ => ⟨S2x5632, .f32⟩
  | .hbm, ⟨110, _⟩ => ⟨S8192x5632, .f32⟩
  | .hbm, ⟨111, _⟩ => ⟨S8192x2x4x704, .f32⟩
  | .hbm, ⟨112, _⟩ => ⟨S2x4x8192x704, .f32⟩
  | .hbm, ⟨113, _⟩ => ⟨S2x4x8192x704, .bf16⟩
  | .hbm, ⟨114, _⟩ => ⟨S3x2x4x704, .f32⟩
  | .hbm, ⟨115, _⟩ => ⟨S2x4x3x704, .f32⟩
  | .hbm, ⟨116, _⟩ => ⟨S2x4x1x704, .f32⟩
  | _, _ => ⟨S1x8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_v30_2 : Ref sig .tc := ⟨.hbm, 44, rfl⟩
abbrev main_call0_cst_1 : Ref sig .tc := ⟨.hbm, 45, rfl⟩
abbrev main_call0_v6 : Ref sig .tc := ⟨.hbm, 46, rfl⟩
abbrev main_call0_v7 : Ref sig .tc := ⟨.hbm, 47, rfl⟩
abbrev main_v30_1 : Ref sig .tc := ⟨.hbm, 48, rfl⟩
abbrev main_v30_0 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_1 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_2 : Ref sig .tc := ⟨.hbm, 67, rfl⟩
abbrev main_v44 : Ref sig .tc := ⟨.hbm, 68, rfl⟩
abbrev main_v45 : Ref sig .tc := ⟨.hbm, 69, rfl⟩
abbrev main_cst_3 : Ref sig .tc := ⟨.hbm, 70, rfl⟩
abbrev main_v46 : Ref sig .tc := ⟨.hbm, 71, rfl⟩
abbrev main_cst_4 : Ref sig .tc := ⟨.hbm, 72, rfl⟩
abbrev main_v47 : Ref sig .tc := ⟨.hbm, 73, rfl⟩
abbrev main_v48 : Ref sig .tc := ⟨.hbm, 74, rfl⟩
abbrev main_cst_5 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_6 : Ref sig .tc := ⟨.hbm, 80, rfl⟩
abbrev main_v53 : Ref sig .tc := ⟨.hbm, 81, rfl⟩
abbrev main_v54 : Ref sig .tc := ⟨.hbm, 82, rfl⟩
abbrev main_cst_7 : Ref sig .tc := ⟨.hbm, 83, rfl⟩
abbrev main_v55 : Ref sig .tc := ⟨.hbm, 84, rfl⟩
abbrev main_v56 : Ref sig .tc := ⟨.hbm, 85, rfl⟩
abbrev main_cst_8 : Ref sig .tc := ⟨.hbm, 86, rfl⟩
abbrev main_v57 : Ref sig .tc := ⟨.hbm, 87, rfl⟩
abbrev main_v58 : Ref sig .tc := ⟨.hbm, 88, rfl⟩
abbrev main_cst_9 : Ref sig .tc := ⟨.hbm, 89, rfl⟩
abbrev main_v59 : Ref sig .tc := ⟨.hbm, 90, rfl⟩
abbrev main_v60 : Ref sig .tc := ⟨.hbm, 91, rfl⟩
abbrev main_cst_10 : Ref sig .tc := ⟨.hbm, 92, rfl⟩
abbrev main_v61 : Ref sig .tc := ⟨.hbm, 93, rfl⟩
abbrev main_v62 : Ref sig .tc := ⟨.hbm, 94, rfl⟩
abbrev main_cst_11 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_cst_12 : Ref sig .tc := ⟨.hbm, 100, rfl⟩
abbrev main_v67 : Ref sig .tc := ⟨.hbm, 101, rfl⟩
abbrev main_v68 : Ref sig .tc := ⟨.hbm, 102, rfl⟩
abbrev main_cst_13 : Ref sig .tc := ⟨.hbm, 103, rfl⟩
abbrev main_v69 : Ref sig .tc := ⟨.hbm, 104, rfl⟩
abbrev main_v70 : Ref sig .tc := ⟨.hbm, 105, rfl⟩
abbrev main_cst_14 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩

abbrev nD : Nat := 1
abbrev τ : Topo := Topo.v7x

variable {F : FTy → Type} [FloatOps F]
-- ==== NormFwd.lean ====
abbrev S1x8192x1024 : Shape := ⟨3, ![1, 8192, 1024]⟩
abbrev S1024 : Shape := ⟨1, ![1024]⟩
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 5
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .bf16⟩
  | .local _ .vmem, ⟨4, _⟩ => ⟨S512x1024, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S1x8192x1024 : Shape := ⟨3, ![1, 8192, 1024]⟩
abbrev S1024 : Shape := ⟨1, ![1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== FfnUp.lean ====
abbrev S1x8192x1024 : Shape := ⟨3, ![1, 8192, 1024]⟩
abbrev S1024x5632 : Shape := ⟨2, ![1024, 5632]⟩
abbrev S3x5632 : Shape := ⟨2, ![3, 5632]⟩
abbrev S5632 : Shape := ⟨1, ![5632]⟩
abbrev S8192x1024 : Shape := ⟨2, ![8192, 1024]⟩
abbrev S1024x8x704 : Shape := ⟨3, ![1024, 8, 704]⟩
abbrev S8x1024x704 : Shape := ⟨3, ![8, 1024, 704]⟩
abbrev S3x8x704 : Shape := ⟨3, ![3, 8, 704]⟩
abbrev S8x3x704 : Shape := ⟨3, ![8, 3, 704]⟩
abbrev S8x1x704 : Shape := ⟨3, ![8, 1, 704]⟩
abbrev S4x8192x704 : Shape := ⟨3, ![4, 8192, 704]⟩
abbrev S2x4x8192x704 : Shape := ⟨4, ![2, 4, 8192, 704]⟩
abbrev S512x1024 : Shape := ⟨2, ![512, 1024]⟩
abbrev S1x1024x704 : Shape := ⟨3, ![1, 1024, 704]⟩
abbrev S1x3x704 : Shape := ⟨3, ![1, 3, 704]⟩
abbrev S1x1x704 : Shape := ⟨3, ![1, 1, 704]⟩
abbrev S1x512x704 : Shape := ⟨3, ![1, 512, 704]⟩
abbrev S2x1x512x704 : Shape := ⟨4, ![2, 1, 512, 704]⟩
abbrev S8x704 : Shape := ⟨2, ![8, 704]⟩
abbrev S1024x704 : Shape := ⟨2, ![1024, 704]⟩
abbrev S512x704 : Shape := ⟨2, ![512, 704]⟩
abbrev S1x1x512x704 : Shape := ⟨4, ![1, 1, 512, 704]⟩
abbrev S1x704 : Shape := ⟨2, ![1, 704]⟩
abbrev S512x1 : Shape := ⟨2, ![512, 1]⟩

abbrev nBuf : Space → Nat
  | .hbm => 15
  | .vmem => 22
  | .smem => 0
  | _ => 0

abbrev bufTy : (tb : Table) → Fin (tcTables nBuf tb) → BufTy
  | .hbm, ⟨0, _⟩ => ⟨S1x8192x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S8192x1024, .f32⟩
  | .hbm, ⟨5, _⟩ => ⟨S8192x1024, .bf16⟩
  | .hbm, ⟨6, _⟩ => ⟨S1024x8x704, .f32⟩
  | .hbm, ⟨7, _⟩ => ⟨S8x1024x704, .f32⟩
  | .hbm, ⟨8, _⟩ => ⟨S8x1024x704, .bf16⟩
  | .hbm, ⟨9, _⟩ => ⟨S3x8x704, .f32⟩
  | .hbm, ⟨10, _⟩ => ⟨S8x3x704, .f32⟩
  | .hbm, ⟨11, _⟩ => ⟨S8x1x704, .f32⟩
  | .hbm, ⟨12, _⟩ => ⟨S4x8192x704, .bf16⟩
  | .hbm, ⟨13, _⟩ => ⟨S2x4x8192x704, .bf16⟩
  | .hbm, ⟨14, _⟩ => ⟨S2x4x8192x704, .bf16⟩
  | .local _ .vmem, ⟨0, _⟩ => ⟨S512x1024, .bf16⟩
  | .local _ .vmem, ⟨1, _⟩ => ⟨S512x1024, .bf16⟩
  | .local _ .vmem, ⟨2, _⟩ => ⟨S1x1024x704, .bf16⟩
  | .local _ .vmem, ⟨3, _⟩ => ⟨S1x1024x704, .bf16⟩
  | .local _ .vmem, ⟨4, _⟩ => ⟨S1x1024x704, .bf16⟩
  | .local _ .vmem, ⟨5, _⟩ => ⟨S1x1024x704, .bf16⟩
  | .local _ .vmem, ⟨6, _⟩ => ⟨S1x3x704, .f32⟩
  | .local _ .vmem, ⟨7, _⟩ => ⟨S1x3x704, .f32⟩
  | .local _ .vmem, ⟨8, _⟩ => ⟨S1x3x704, .f32⟩
  | .local _ .vmem, ⟨9, _⟩ => ⟨S1x3x704, .f32⟩
  | .local _ .vmem, ⟨10, _⟩ => ⟨S1x1x704, .f32⟩
  | .local _ .vmem, ⟨11, _⟩ => ⟨S1x1x704, .f32⟩
  | .local _ .vmem, ⟨12, _⟩ => ⟨S1x1x704, .f32⟩
  | .local _ .vmem, ⟨13, _⟩ => ⟨S1x1x704, .f32⟩
  | .local _ .vmem, ⟨14, _⟩ => ⟨S1x512x704, .bf16⟩
  | .local _ .vmem, ⟨15, _⟩ => ⟨S1x512x704, .bf16⟩
  | .local _ .vmem, ⟨16, _⟩ => ⟨S2x1x512x704, .bf16⟩
  | .local _ .vmem, ⟨17, _⟩ => ⟨S2x1x512x704, .bf16⟩
  | .local _ .vmem, ⟨18, _⟩ => ⟨S2x1x512x704, .bf16⟩
  | .local _ .vmem, ⟨19, _⟩ => ⟨S2x1x512x704, .bf16⟩
  | .local _ .vmem, ⟨20, _⟩ => ⟨S8x704, .f32⟩
  | .local _ .vmem, ⟨21, _⟩ => ⟨S8x704, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![v0.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi arg0 c4_i32
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x704 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x3x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x3x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x704 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x704 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x704 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x1x512x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2x1x512x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== FfnUpRefIdeal.lean ====
abbrev S1x8192x1024 : Shape := ⟨3, ![1, 8192, 1024]⟩
abbrev S1024x5632 : Shape := ⟨2, ![1024, 5632]⟩
abbrev S3x5632 : Shape := ⟨2, ![3, 5632]⟩
abbrev S5632 : Shape := ⟨1, ![5632]⟩
abbrev S8192x1024 : Shape := ⟨2, ![8192, 1024]⟩
abbrev S8192x5632 : Shape := ⟨2, ![8192, 5632]⟩
abbrev S2x5632 : Shape := ⟨2, ![2, 5632]⟩
abbrev S_ : Shape := ⟨0, ![]⟩
abbrev S8194x5632 : Shape := ⟨2, ![8194, 5632]⟩
abbrev S1x5632 : Shape := ⟨2, ![1, 5632]⟩
abbrev S8192x2816 : Shape := ⟨2, ![8192, 2816]⟩
abbrev S8192x4x704 : Shape := ⟨3, ![8192, 4, 704]⟩
abbrev S4x8192x704 : Shape := ⟨3, ![4, 8192, 704]⟩
abbrev S8192x2x4x704 : Shape := ⟨4, ![8192, 2, 4, 704]⟩
abbrev S2x4x8192x704 : Shape := ⟨4, ![2, 4, 8192, 704]⟩

abbrev nBuf : Space → Nat
  | .hbm => 54
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024x5632, .f32⟩
  | .hbm, ⟨2, _⟩ => ⟨S3x5632, .f32⟩
  | .hbm, ⟨3, _⟩ => ⟨S5632, .f32⟩
  | .hbm, ⟨4, _⟩ => ⟨S8192x1024, .f32⟩
  | .hbm, ⟨5, _⟩ => ⟨S8192x5632, .f32⟩
  | .hbm, ⟨6, _⟩ => ⟨S2x5632, .f32⟩
  | .hbm, ⟨7, _⟩ => ⟨S_, .f32⟩
  | .hbm, ⟨8, _⟩ => ⟨S2x5632, .f32⟩
  | .hbm, ⟨9, _⟩ => ⟨S8194x5632, .f32⟩
  | .hbm, ⟨10, _⟩ => ⟨S8192x5632, .f32⟩
  | .hbm, ⟨11, _⟩ => ⟨S1x5632, .f32⟩
  | .hbm, ⟨12, _⟩ => ⟨S5632, .f32⟩
  | .hbm, ⟨13, _⟩ => ⟨S1x5632, .f32⟩
  | .hbm, ⟨14, _⟩ => ⟨S8192x5632, .f32⟩
  | .hbm, ⟨15, _⟩ => ⟨S8192x5632, .f32⟩
  | .hbm, ⟨16, _⟩ => ⟨S1x5632, .f32⟩
  | .hbm, ⟨17, _⟩ => ⟨S8192x5632, .f32⟩
  | .hbm, ⟨18, _⟩ => ⟨S8192x5632, .f32⟩
  | .hbm, ⟨19, _⟩ => ⟨S8192x5632, .f32⟩
  | .hbm, ⟨20, _⟩ => ⟨S1x5632, .f32⟩
  | .hbm, ⟨21, _⟩ => ⟨S5632, .f32⟩
  | .hbm, ⟨22, _⟩ => ⟨S1x5632, .f32⟩
  | .hbm, ⟨23, _⟩ => ⟨S8192x5632, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S1x5632, .f32⟩
  | .hbm, ⟨28, _⟩ => ⟨S5632, .f32⟩
  | .hbm, ⟨29, _⟩ => ⟨S1x5632, .f32⟩
  | .hbm, ⟨30, _⟩ => ⟨S8192x5632, .f32⟩
  | .hbm, ⟨31, _⟩ => ⟨S8192x5632, .f32⟩
  | .hbm, ⟨32, _⟩ => ⟨S8192x5632, .f32⟩
  | .hbm, ⟨33, _⟩ => ⟨S8192x2816, .f32⟩
  | .hbm, ⟨34, _⟩ => ⟨S8192x2816, .f32⟩
  | .hbm, ⟨35, _⟩ => ⟨S8192x2816, .f32⟩
  | .hbm, ⟨36, _⟩ => ⟨S8192x2816, .f32⟩
  | .hbm, ⟨37, _⟩ => ⟨S_, .f32⟩
  | .hbm, ⟨38, _⟩ => ⟨S8192x2816, .f32⟩
  | .hbm, ⟨39, _⟩ => ⟨S8192x2816, .f32⟩
  | .hbm, ⟨40, _⟩ => ⟨S_, .f32⟩
  | .hbm, ⟨41, _⟩ => ⟨S8192x2816, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x4x704, .f32⟩
  | .hbm, ⟨46, _⟩ => ⟨S4x8192x704, .f32⟩
  | .hbm, ⟨47, _⟩ => ⟨S4x8192x704, .bf16⟩
  | .hbm, ⟨48, _⟩ => ⟨S8192x2x4x704, .f32⟩
  | .hbm, ⟨49, _⟩ => ⟨S2x4x8192x704, .f32⟩
  | .hbm, ⟨50, _⟩ => ⟨S2x4x8192x704, .bf16⟩
  | .hbm, ⟨51, _⟩ => ⟨S8192x2x4x704, .f32⟩
  | .hbm, ⟨52, _⟩ => ⟨S2x4x8192x704, .f32⟩
  | .hbm, ⟨53, _⟩ => ⟨S2x4x8192x704, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== HgrnOut.lean ====
abbrev S1x8192x1024 : Shape := ⟨3, ![1, 8192, 1024]⟩
abbrev S1024 : Shape := ⟨1, ![1024]⟩
abbrev S1024x1024 : Shape := ⟨2, ![1024, 1024]⟩
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 10
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x1024, .f32⟩
  | .hbm, ⟨3, _⟩ => ⟨S1x8192x1024, .f32⟩
  | .hbm, ⟨4, _⟩ => ⟨S8192x1024, .f32⟩
  | .hbm, ⟨5, _⟩ => ⟨S8192x1024, .bf16⟩
  | .hbm, ⟨6, _⟩ => ⟨S1024x1024, .bf16⟩
  | .hbm, ⟨7, _⟩ => ⟨S8192x1024, .f32⟩
  | .hbm, ⟨8, _⟩ => ⟨S1x1024, .f32⟩
  | .hbm, ⟨9, _⟩ => ⟨S8192x1024, .f32⟩
  | .hbm, ⟨10, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5_0 : Ref sig .tc := ⟨.hbm, 9, rfl⟩
abbrev main_v5_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== HgrnOutRefIdeal.lean ====
abbrev S1x8192x1024 : Shape := ⟨3, ![1, 8192, 1024]⟩
abbrev S1024 : Shape := ⟨1, ![1024]⟩
abbrev S1024x1024 : Shape := ⟨2, ![1024, 1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x1024, .f32⟩
  | .hbm, ⟨3, _⟩ => ⟨S1x8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== MlaOut.lean ====
abbrev S1x8192x1024 : Shape := ⟨3, ![1, 8192, 1024]⟩
abbrev S1024 : Shape := ⟨1, ![1024]⟩
abbrev S1024x1024 : Shape := ⟨2, ![1024, 1024]⟩
abbrev S8192x1024 : Shape := ⟨2, ![8192, 1024]⟩
abbrev S16x512x1024 : Shape := ⟨3, ![16, 512, 1024]⟩
abbrev S16x1024x512 : Shape := ⟨3, ![16, 1024, 512]⟩
abbrev S1x1024 : Shape := ⟨2, ![1, 1024]⟩
abbrev S1x1024x512 : Shape := ⟨3, ![1, 1024, 512]⟩
abbrev S512x1024 : Shape := ⟨2, ![512, 1024]⟩
abbrev S1024x512 : Shape := ⟨2, ![1024, 512]⟩
abbrev S512 : Shape := ⟨1, ![512]⟩
abbrev S512x1 : Shape := ⟨2, ![512, 1]⟩

abbrev nBuf : Space → Nat
  | .hbm => 13
  | .vmem => 10
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x1024, .f32⟩
  | .hbm, ⟨3, _⟩ => ⟨S1x8192x1024, .f32⟩
  | .hbm, ⟨4, _⟩ => ⟨S8192x1024, .f32⟩
  | .hbm, ⟨5, _⟩ => ⟨S16x512x1024, .f32⟩
  | .hbm, ⟨6, _⟩ => ⟨S16x1024x512, .f32⟩
  | .hbm, ⟨7, _⟩ => ⟨S16x1024x512, .bf16⟩
  | .hbm, ⟨8, _⟩ => ⟨S1024x1024, .bf16⟩
  | .hbm, ⟨9, _⟩ => ⟨S8192x1024, .f32⟩
  | .hbm, ⟨10, _⟩ => ⟨S1x1024, .f32⟩
  | .hbm, ⟨11, _⟩ => ⟨S8192x1024, .f32⟩
  | .hbm, ⟨12, _⟩ => ⟨S8192x1024, .bf16⟩
  | .local _ .vmem, ⟨0, _⟩ => ⟨S1x1024x512, .bf16⟩
  | .local _ .vmem, ⟨1, _⟩ => ⟨S1x1024x512, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== MlaOutRefIdeal.lean ====
abbrev S1x8192x1024 : Shape := ⟨3, ![1, 8192, 1024]⟩
abbrev S1024 : Shape := ⟨1, ![1024]⟩
abbrev S1024x1024 : Shape := ⟨2, ![1024, 1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x1024, .f32⟩
  | .hbm, ⟨3, _⟩ => ⟨S1x8192x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== FfnDown.lean ====
abbrev S1x8192x1024 : Shape := ⟨3, ![1, 8192, 1024]⟩
abbrev S1024 : Shape := ⟨1, ![1024]⟩
abbrev S2816x1024 : Shape := ⟨2, ![2816, 1024]⟩
abbrev S1x8192x2816 : Shape := ⟨3, ![1, 8192, 2816]⟩
abbrev S8192x2816 : Shape := ⟨2, ![8192, 2816]⟩
abbrev S8192x4x704 : Shape := ⟨3, ![8192, 4, 704]⟩
abbrev S4x8192x704 : Shape := ⟨3, ![4, 8192, 704]⟩
abbrev S8192x1024 : Shape := ⟨2, ![8192, 1024]⟩
abbrev S1x1024 : Shape := ⟨2, ![1, 1024]⟩
abbrev S1x1024x704 : Shape := ⟨3, ![1, 1024, 704]⟩
abbrev S704x1024 : Shape := ⟨2, ![704, 1024]⟩
abbrev S1024x1024 : Shape := ⟨2, ![1024, 1024]⟩
abbrev S1024x704 : Shape := ⟨2, ![1024, 704]⟩
abbrev S1024x1 : Shape := ⟨2, ![1024, 1]⟩

abbrev nBuf : Space → Nat
  | .hbm => 13
  | .vmem => 12
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S2816x1024, .f32⟩
  | .hbm, ⟨3, _⟩ => ⟨S1x8192x2816, .f32⟩
  | .hbm, ⟨4, _⟩ => ⟨S8192x2816, .f32⟩
  | .hbm, ⟨5, _⟩ => ⟨S8192x4x704, .f32⟩
  | .hbm, ⟨6, _⟩ => ⟨S4x8192x704, .f32⟩
  | .hbm, ⟨7, _⟩ => ⟨S4x8192x704, .bf16⟩
  | .hbm, ⟨8, _⟩ => ⟨S2816x1024, .bf16⟩
  | .hbm, ⟨9, _⟩ => ⟨S8192x1024, .f32⟩
  | .hbm, ⟨10, _⟩ => ⟨S1x1024, .f32⟩
  | .hbm, ⟨11, _⟩ => ⟨S8192x1024, .f32⟩
  | .hbm, ⟨12, _⟩ => ⟨S8192x1024, .bf16⟩
  | .local _ .vmem, ⟨0, _⟩ => ⟨S1x1024x704, .bf16⟩
  | .local _ .vmem, ⟨1, _⟩ => ⟨S1x1024x704, .bf16⟩
  | .local _ .vmem, ⟨2, _⟩ => ⟨S704x1024, .bf16⟩
  | .local _ .vmem, ⟨3, _⟩ => ⟨S704x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .bf16⟩
  | .local _ .vmem, ⟨10, _⟩ => ⟨S1024x1024, .bf16⟩
  | .local _ .vmem, ⟨11, _⟩ => ⟨S1024x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 1, 4], ![false, false, false]⟩

def k0_cond3 (i : grid0.Coords) : BitVec 1 :=
  let arg2 : BitVec 32 := BitVec.ofNat 32 (i 2).val
  let c3_i32_7 : BitVec 32 := 3#32
  let v13 : BitVec 1 := Scalar.cmpi .eq arg2 c3_i32_7
  let v14 : BitVec 32 := Scalar.extui v13
  let c0_i32_8 : BitVec 32 := 0#32
  let v15 : BitVec 1 := Scalar.cmpi .ne v14 c0_i32_8
  v15

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg2 c1_i32
  let c0_i32 : BitVec 32 := 0#32
  let v1 : BitVec 1 := Scalar.cmpi .sgt arg2 c0_i32
  let v2 : BitVec 32 := Scalar.extui v1
  let c0_i32_0 : BitVec 32 := 0#32
  let v3 : BitVec 1 := Scalar.cmpi .slt arg2 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg2 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg2 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x1024x704 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S704x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== FfnDownRefIdeal.lean ====
abbrev S1x8192x1024 : Shape := ⟨3, ![1, 8192, 1024]⟩
abbrev S1024 : Shape := ⟨1, ![1024]⟩
abbrev S2816x1024 : Shape := ⟨2, ![2816, 1024]⟩
abbrev S1x8192x2816 : Shape := ⟨3, ![1, 8192, 2816]⟩
abbrev S8192x1024 : Shape := ⟨2, ![8192, 1024]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 25
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S2816x1024, .f32⟩
  | .hbm, ⟨3, _⟩ => ⟨S1x8192x2816, .f32⟩
  | .hbm, ⟨4, _⟩ => ⟨S8192x1024, .f32⟩
  | .hbm, ⟨5, _⟩ => ⟨S8192x2816, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Proof.NormMath.lean ====
module

public import Idealize.ShloMosaic.PureOps.Ideal
public import Idealize.ShloMosaic.PureOps.Ideal.Laws

@[expose] public section

/-! The scalar mathematics of the root-mean-square norm's backward pass over the extended reals: the kernel's form of
one entry of the input gradient equals the form reverse-mode differentiation gives, for every input, finite or not. -/

noncomputable section

open Idealize.ShloMosaic

namespace Cert.NormMath

/-- The word `0x44800000` is the number 1024. -/
theorem w1024 : Ideal.ofBits .f32 1149239296#32 = ((1024 : ℝ) : EReal) := by
  simp [Ideal.ofBits, Ideal.ieee, -EReal.coe_mul]; norm_num

/-- The word `0xBF000000` is the number -1/2. -/
theorem wNegHalf : Ideal.ofBits .f32 3204448256#32 = ((-(1 / 2) : ℝ) : EReal) := by
  simp [Ideal.ofBits, Ideal.ieee, -EReal.coe_mul]; norm_num

/-- The norm's stabiliser `0x358637BD` as a real number: `8796093 / 2 ^ 43`. -/
def eps : ℝ := 8796093 / 8796093022208

theorem eps_pos : 0 < eps := by norm_num [eps]

theorem wEps : Ideal.ofBits .f32 897988541#32 = ((eps : ℝ) : EReal) := by
  simp [Ideal.ofBits, Ideal.ieee, -EReal.coe_mul, eps]; norm_num

/-- A nonnegative real factor goes into a finite sum of extended reals. -/
theorem coe_mul_sum {ι : Type} (s : Finset ι) (f : ι → EReal) {r : ℝ} (hr : 0 ≤ r) :
    (r : EReal) * ∑ k ∈ s, f k = ∑ k ∈ s, (r : EReal) * f k := by
  classical
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]

/-- The inclusion of the real numbers carries finite sums. -/
theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Two copies of a real multiple of an extended real are twice it. -/
theorem coe_mul_add_self (r : ℝ) (S : EReal) : (r : EReal) * S + (r : EReal) * S = ((2 * r : ℝ) : EReal) * S := by
  rcases lt_trichotomy r 0 with h | rfl | h
  · have h2 : (2 * r) < 0 := by linarith
    induction S with
    | bot => rw [EReal.coe_mul_bot_of_neg h, EReal.coe_mul_bot_of_neg h2]; rfl
    | top => rw [EReal.coe_mul_top_of_neg h, EReal.coe_mul_top_of_neg h2]; rfl
    | coe s => norm_cast; ring
  · simp
  · have h2 : 0 < (2 * r) := by linarith
    induction S with
    | bot => rw [EReal.coe_mul_bot_of_pos h, EReal.coe_mul_bot_of_pos h2]; rfl
    | top => rw [EReal.coe_mul_top_of_pos h, EReal.coe_mul_top_of_pos h2]; rfl
    | coe s => norm_cast; ring

/-- A square is never negative, of an infinity either. -/
theorem sq_nonneg' (x : EReal) : 0 ≤ x * x := by
  induction x with
  | bot => simp
  | top => simp
  | coe r => exact_mod_cast mul_self_nonneg r

/-- Terms of a nonnegative sum that is not infinite are not infinite. -/
theorem ne_top_of_sum {ι : Type} (s : Finset ι) (f : ι → EReal) (h0 : ∀ k, 0 ≤ f k) (h : ∑ k ∈ s, f k ≠ ⊤) :
    ∀ k ∈ s, f k ≠ ⊤ := fun k hk hf =>
  h (top_le_iff.mp (hf ▸ Finset.single_le_sum (fun i _ => h0 i) hk))

/-- A number whose square is not infinite is a real number. -/
theorem real_of_sq {x : EReal} (h : x * x ≠ ⊤) : ∃ r : ℝ, x = (r : EReal) := by
  induction x with
  | bot => simp at h
  | top => simp at h
  | coe r => exact ⟨r, rfl⟩

variable {n : ℕ} (x d : Fin n → EReal)

/-- The reciprocal root of the mean square of a row plus the stabiliser. -/
def rms (x : Fin n → EReal) (c e : ℝ) : EReal := Ideal.rsqrt (Ideal.div (∑ k, x k * x k) (c : EReal) + (e : EReal))

/-- Either the row is of real numbers and its reciprocal root mean square a positive real number — one over the root of the
    mean square plus the stabiliser —, or both the mean square is infinite and its reciprocal root is zero. -/
theorem rms_cases {c e : ℝ} (hc : 0 < c) (he : 0 < e) :
    (∃ (y : Fin n → ℝ), (∀ k, x k = (y k : EReal)) ∧
      Ideal.div (∑ k, x k * x k) (c : EReal) + (e : EReal) = (((∑ k, y k * y k) / c + e : ℝ) : EReal) ∧
      rms x c e = (((Real.sqrt ((∑ k, y k * y k) / c + e))⁻¹ : ℝ) : EReal) ∧ 0 < (∑ k, y k * y k) / c + e)
    ∨ (Ideal.div (∑ k, x k * x k) (c : EReal) + (e : EReal) = ⊤ ∧ rms x c e = 0) := by
  by_cases h : ∑ k, x k * x k = ⊤
  · right
    have h1 : Ideal.div (∑ k, x k * x k) (c : EReal) + (e : EReal) = ⊤ := by
      rw [h, Ideal.div_coe hc.ne', EReal.top_mul_coe_of_pos (by positivity)]; rfl
    exact ⟨h1, by rw [rms, h1]; rfl⟩
  · left
    have hx := fun k => real_of_sq (ne_top_of_sum Finset.univ _ (fun k => sq_nonneg' (x k)) h k (Finset.mem_univ k))
    choose y hy using hx
    have hs : ∑ k, x k * x k = ((∑ k, y k * y k : ℝ) : EReal) := by
      rw [coe_sum]; exact Finset.sum_congr rfl fun k _ => by rw [hy k, EReal.coe_mul]
    have hm : Ideal.div (∑ k, x k * x k) (c : EReal) + (e : EReal) = (((∑ k, y k * y k) / c + e : ℝ) : EReal) := by
      rw [hs, Ideal.div_coe hc.ne', ← EReal.coe_mul, ← EReal.coe_add]; congr 2; ring
    have hp : 0 < (∑ k, y k * y k) / c + e :=
      add_pos_of_nonneg_of_pos (div_nonneg (Finset.sum_nonneg fun k _ => mul_self_nonneg _) hc.le) he
    refine ⟨y, hy, hm, ?_, hp⟩
    rw [rms, hm, Ideal.rsqrt_coe, if_neg hp.not_gt, if_neg hp.ne']

/-- ONE ENTRY of the input gradient: the kernel's `a + r (d - n · mean(d n))`, `n = x r`, against the differentiated form
    `a + d r + x T + T x`, `T` the mean's share of the derivative of the reciprocal root. -/
theorem grad_entry {c e : ℝ} (hc : 0 < c) (he : 0 < e) (a : EReal) (j : Fin n) :
    a + rms x c e * (d j - x j * rms x c e * Ideal.div (∑ k, d k * (x k * rms x c e)) (c : EReal))
      = a + d j * rms x c e
        + x j * Ideal.div ((∑ k, x k * d k) * (((-(1 / 2) : ℝ) : EReal)
            * Ideal.div (rms x c e) (Ideal.div (∑ k, x k * x k) (c : EReal) + (e : EReal)))) (c : EReal)
        + Ideal.div ((∑ k, x k * d k) * (((-(1 / 2) : ℝ) : EReal)
            * Ideal.div (rms x c e) (Ideal.div (∑ k, x k * x k) (c : EReal) + (e : EReal)))) (c : EReal) * x j := by
  rcases rms_cases x hc he with ⟨y, hy, hm, hr, hp⟩ | ⟨hm, hr⟩
  · rw [hm, hr]
    set M := (∑ k, y k * y k) / c + e
    set ρ := (Real.sqrt M)⁻¹
    have hρ : 0 < ρ := inv_pos.mpr (Real.sqrt_pos.mpr hp)
    have hρ2 : ρ * ρ = 1 / M := by
      rw [← mul_inv, Real.mul_self_sqrt hp.le, one_div]
    have hS : ∑ k, d k * (x k * (ρ : EReal)) = (ρ : EReal) * ∑ k, x k * d k := by
      rw [coe_mul_sum _ _ hρ.le]; exact Finset.sum_congr rfl fun k _ => by ac_rfl
    rw [hS, hy j, Ideal.div_coe hc.ne', Ideal.div_coe hp.ne', Ideal.div_coe hc.ne']
    generalize ∑ k, x k * d k = S
    rw [sub_eq_add_neg, EReal.left_distrib_of_nonneg_of_ne_top (EReal.coe_nonneg.mpr hρ.le) (EReal.coe_ne_top ρ)]
    have e1 : (ρ : EReal) * -((y j : EReal) * (ρ : EReal) * ((ρ : EReal) * S * ((1 / c : ℝ) : EReal)))
        = ((2 * (y j * (-(1 / 2) * (ρ * (1 / M)) * (1 / c))) : ℝ) : EReal) * S := by
      have : (2 * (y j * (-(1 / 2) * (ρ * (1 / M)) * (1 / c))) : ℝ) = -(ρ * y j * ρ * ρ * (1 / c)) := by
        rw [← hρ2]; ring
      rw [this, EReal.coe_neg, neg_mul, mul_neg]
      simp only [EReal.coe_mul]
      congr 1; ac_rfl
    have e2 : (y j : EReal) * (S * (((-(1 / 2) : ℝ) : EReal) * ((ρ : EReal) * ((1 / M : ℝ) : EReal))) * ((1 / c : ℝ) : EReal))
        = ((y j * (-(1 / 2) * (ρ * (1 / M)) * (1 / c)) : ℝ) : EReal) * S := by
      simp only [EReal.coe_mul]; ac_rfl
    rw [e1, mul_comm (S * _ * _) (y j : EReal), e2, ← coe_mul_add_self, mul_comm (ρ : EReal) (d j)]
    simp only [add_assoc]
  · rw [hm, hr]
    have h0 : Ideal.div (0 : EReal) ⊤ = 0 := by simp [Ideal.div]
    have h1 : Ideal.div (0 : EReal) (c : EReal) = 0 := by rw [Ideal.div_coe hc.ne', zero_mul]
    simp [h0, h1]

end Cert.NormMath

end
-- ==== Proof.NormBwd.lean ====
module

public import proofs.«01_k».proof.Proof.Gen.NormBwdIdeal.Value
public import proofs.«01_k».proof.Proof.Gen.NormBwdRefIdeal.Read
public import proofs.«01_k».proof.Proof.NormMath
public import Idealize.ShloMosaic.Lib.Pipeline.ValueKit

@[expose] public section

set_option maxRecDepth 16384

/-! The backward pass of the pre-mixer norm (the product with the projection's weights, the norm's input gradient with the
residual's added, the gain's gradient): what the kernel leaves in its two result arrays is what the differentiated
reference computes. -/

noncomputable section

open Idealize.ShloMosaic Idealize.ShloMosaic.TcCoe Idealize.SL.Sem
open Idealize.ShloMosaic.Pipeline (Dat)

namespace Cert.NormBwdIdeal.Norm

open Cert.NormBwdIdeal Cert.NormBwdIdeal.Gen
open Cert.NormBwdRefIdeal.Read

variable (m : (ℓ : Loc nD τ sig) → Buf (Elt Ideal) ℓ)

/-- Which block of each array a grid point works on. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ win0_6.index t = ![0, 0] :=
  (by decide +kernel : ∀ t : Fin grid0.N, _)

/-! ## The arrays the host prepares -/

/-- The incoming gradient, padded with 64 zero columns. -/
def opA (D : FVec Ideal S1x8192x576 .f32) : FVec Ideal S8192x640 .bf16 :=
  truncf .bf16 (pad S8192x640 ![0, 0] ![0, 64] ![0, 0] (shapeCast S8192x576 D shapeCasts_S1x8192x576_S8192x576)
    (sitofp .f32 (constantI S_ 32 0#32)) pads_S8192x576_S8192x640_000_0640 h_S_) bitsLt_bf16_f32

/-- The weights, padded with 64 zero columns. -/
def opB (W : FVec Ideal S1024x576 .f32) : FVec Ideal S1024x640 .bf16 :=
  truncf .bf16 (pad S1024x640 ![0, 0] ![0, 64] ![0, 0] W (sitofp .f32 (constantI S_ 32 0#32))
    pads_S1024x576_S1024x640_000_0640 h_S_) bitsLt_bf16_f32

theorem V_v2 (c : Dev nD) : (V m c main_v2 : FVec Ideal S8192x640 .bf16) = opA (m ((c : Thread nD τ).loc main_arg3)) := by
  unfold V
  simp only [List.flatten_cons, List.flatten_nil, List.cons_append, List.nil_append, List.append_nil]
  after_results_simp
  rfl

theorem V_v4 (c : Dev nD) : (V m c main_v4 : FVec Ideal S1024x640 .bf16) = opB (m ((c : Thread nD τ).loc main_arg2)) := by
  unfold V
  simp only [List.flatten_cons, List.flatten_nil, List.cons_append, List.nil_append, List.append_nil]
  after_results_simp
  rfl

theorem V_v5 (c : Dev nD) : (V m c main_v5 : FVec Ideal S8192x1024 .f32)
    = shapeCast S8192x1024 (m ((c : Thread nD τ).loc main_arg0) : FVec Ideal S1x8192x1024 .f32)
        shapeCasts_S1x8192x1024_S8192x1024 := by
  unfold V
  simp only [List.flatten_cons, List.flatten_nil, List.cons_append, List.nil_append, List.append_nil]
  after_results_simp
  try rfl

theorem V_v6 (c : Dev nD) : (V m c main_v6 : FVec Ideal S8192x1024 .f32)
    = shapeCast S8192x1024 (m ((c : Thread nD τ).loc main_arg4) : FVec Ideal S1x8192x1024 .f32)
        shapeCasts_S1x8192x1024_S8192x1024 := by
  unfold V
  simp only [List.flatten_cons, List.flatten_nil, List.cons_append, List.nil_append, List.append_nil]
  after_results_simp
  try rfl

theorem V_v7 (c : Dev nD) : (V m c main_v7 : FVec Ideal S1x1024 .f32)
    = shapeCast S1x1024 (m ((c : Thread nD τ).loc main_arg1) : FVec Ideal S1024 .f32) shapeCasts_S1024_S1x1024 := by
  unfold V
  simp only [List.flatten_cons, List.flatten_nil, List.cons_append, List.nil_append, List.append_nil]
  after_results_simp
  try rfl

/-- The padding is with zeros. -/
theorem fill0 : (FloatOps.sitofp (F := Ideal) FTy.f32 (0#32) : EReal) = 0 := by
  show (((0#32 : BitVec 32).toInt : ℝ) : EReal) = 0
  simp

theorem opA_apply (D : FVec Ideal S1x8192x576 .f32) (r : Fin 8192) (k : Fin 640) :
    opA D (ix2 r k) = if h : k.val < 576 then D (ix3 0 r ⟨k.val, h⟩) else 0 := by
  pointwise [opA]
  split_ifs
  · rfl
  · exact fill0

theorem opB_apply (W : FVec Ideal S1024x576 .f32) (j : Fin 1024) (k : Fin 640) :
    opB W (ix2 j k) = if h : k.val < 576 then W (ix2 j ⟨k.val, h⟩) else 0 := by
  pointwise [opB]
  split_ifs
  · rfl
  · exact fill0

/-- The padded product is the product: the 64 further terms are zero. -/
theorem prod_pad (D : FVec Ideal S1x8192x576 .f32) (W : FVec Ideal S1024x576 .f32) (r : Fin 8192) (j : Fin 1024) :
    ∑ k : Fin 640, opA D (ix2 r k) * opB W (ix2 j k) = ∑ k : Fin 576, D (ix3 0 r k) * W (ix2 j k) := by
  have h := Fin.sum_univ_add (M := EReal) (a := 576) (b := 64) fun k => opA D (ix2 r k) * opB W (ix2 j k)
  refine h.trans ?_
  rw [Finset.sum_eq_zero (s := Finset.univ (α := Fin 64)) (f := fun k => _), add_zero]
  · exact Finset.sum_congr rfl fun k _ => by
      rw [opA_apply, opB_apply, dif_pos (show (Fin.castAdd 64 k).val < 576 from k.isLt), dif_pos (show (Fin.castAdd 64 k).val < 576 from k.isLt)]; rfl
  · intro k _
    rw [opA_apply, opB_apply, dif_neg (by simp), dif_neg (by simp), zero_mul]

/-! ## One entry of each result -/

/-- Row `r` of the incoming gradient times the weights: the gradient of the normed row, entry `j`. -/
def dnorm (W : FVec Ideal S1024x576 .f32) (D : FVec Ideal S1x8192x576 .f32) (r : Fin 8192) (j : Fin 1024) : EReal :=
  ∑ k : Fin 576, D (ix3 0 r k) * W (ix2 j k)

/-- Row `r` of the norm's input. -/
def xrow (X : FVec Ideal S1x8192x1024 .f32) (r : Fin 8192) (k : Fin 1024) : EReal := X (ix3 0 r k)

/-- The input gradient's entry `(r, j)` as the kernel computes it. -/
def dxAt (X : FVec Ideal S1x8192x1024 .f32) (G : FVec Ideal S1024 .f32) (W : FVec Ideal S1024x576 .f32)
    (D : FVec Ideal S1x8192x576 .f32) (A : FVec Ideal S1x8192x1024 .f32) (r : Fin 8192) (j : Fin 1024) : EReal :=
  A (ix3 0 r j) + NormMath.rms (xrow X r) 1024 NormMath.eps * (dnorm W D r j * G (ix1 j)
    - X (ix3 0 r j) * NormMath.rms (xrow X r) 1024 NormMath.eps
      * Ideal.div (∑ k, dnorm W D r k * G (ix1 k) * (X (ix3 0 r k) * NormMath.rms (xrow X r) 1024 NormMath.eps)) ((1024 : ℝ) : EReal))

/-- The reference's input gradient at `(r, j)` is the kernel's form. -/
theorem ref_dx (X : FVec Ideal S1x8192x1024 .f32) (G : FVec Ideal S1024 .f32) (W : FVec Ideal S1024x576 .f32)
    (D : FVec Ideal S1x8192x576 .f32) (A : FVec Ideal S1x8192x1024 .f32) (r : Fin 8192) (j : Fin 1024) :
    Cert.NormBwdRefIdeal.Read.val_main_v41 (F := Ideal) X G W D A (ix2 r j) = dxAt X G W D A r j := by
  pointwise [val_main_v0, val_main_v1, val_main_cst, val_main_v2, val_main_v3, val_main_cst_0, val_main_v4, val_main_v5,
    val_main_cst_1, val_main_v6, val_main_v7, val_main_v8, val_main_v9, val_main_cst_2, val_main_v10, val_main_v11,
    val_main_v14, val_main_v18, val_main_v19, val_main_v20, val_main_v24, val_main_v25, val_main_v27, val_main_cst_5,
    val_main_v28, val_main_v29, val_main_v30, val_main_v31, val_main_v32, val_main_v33, val_main_cst_6, val_main_v34,
    val_main_v35, val_main_cst_7, val_main_v36, val_main_v37, val_main_v38, val_main_v39, val_main_v40, val_main_v41]
  simp only [NormMath.w1024, NormMath.wNegHalf, NormMath.wEps, Fin.sum_univ_one]
  exact (NormMath.grad_entry (xrow X r) (fun k => dnorm W D r k * G (ix1 k)) (by norm_num) NormMath.eps_pos (A (ix3 0 r j)) j).symm

/-- The reference's gain gradient at `j`: the sum over the rows. -/
theorem ref_dg (X : FVec Ideal S1x8192x1024 .f32) (W : FVec Ideal S1024x576 .f32)
    (D : FVec Ideal S1x8192x576 .f32) (z : Fin 1) (j : Fin 1024) :
    Cert.NormBwdRefIdeal.Read.val_main_v42 (F := Ideal) X W D (ix2 z j)
      = ∑ r : Fin 8192, dnorm W D r j * (X (ix3 0 r j) * NormMath.rms (xrow X r) 1024 NormMath.eps) := by
  pointwise [val_main_v0, val_main_v1, val_main_cst, val_main_v2, val_main_v3, val_main_cst_0, val_main_v4, val_main_v5,
    val_main_cst_1, val_main_v6, val_main_v7, val_main_v8, val_main_v12, val_main_v13, val_main_v19, val_main_v20,
    val_main_v21, val_main_cst_3, val_main_v22, val_main_v23, val_main_cst_4, val_main_v26, val_main_v42]
  simp only [NormMath.w1024, NormMath.wNegHalf, NormMath.wEps, Fin.sum_univ_one]
  exact Finset.sum_congr rfl fun r _ => mul_comm _ _

/-- What the body stores as the input gradient, over the blocks. -/
theorem pay_dx (x0 : Vec Ideal S512x640 .bf16) (x1 : Vec Ideal S1024x640 .bf16) (x2 : Vec Ideal S512x1024 .f32)
    (x3 : Vec Ideal S1x1024 .f32) (x4 : Vec Ideal S512x1024 .f32) (r : Fin 512) (j : Fin 1024) :
    k0_pay1 (F := Ideal) (k0_pay4 x2) (k0_pay5 x2) (k0_pay6 x0 x1 x3) (k0_pay9 x4) (k0_pay10 x0 x1 x2 x3) (ix2 r j)
      = (x4 (ix2 r j) : EReal) + NormMath.rms (fun k => x2 (ix2 r k)) 1024 NormMath.eps
        * ((∑ k : Fin 640, (x0 (ix2 r k) : EReal) * x1 (ix2 j k)) * x3 (ix2 0 j)
          - x2 (ix2 r j) * NormMath.rms (fun k => x2 (ix2 r k)) 1024 NormMath.eps
            * Ideal.div (∑ l : Fin 1024, (∑ k : Fin 640, (x0 (ix2 r k) : EReal) * x1 (ix2 l k)) * x3 (ix2 0 l)
                * (x2 (ix2 r l) * NormMath.rms (fun k => x2 (ix2 r k)) 1024 NormMath.eps)) ((1024 : ℝ) : EReal)) := by
  pointwise [k0_pay1, k0_pay2, k0_pay3, k0_pay4, k0_pay5, k0_pay6, k0_pay9, k0_pay10]
  simp only [NormMath.w1024, NormMath.wEps, NormMath.rms]

/-- What the body stores as the gain's gradient at the first point. -/
theorem pay_dg0 (x0 : Vec Ideal S512x640 .bf16) (x1 : Vec Ideal S1024x640 .bf16) (x2 : Vec Ideal S512x1024 .f32)
    (z : Fin 1) (j : Fin 1024) :
    k0_pay7 (F := Ideal) x0 x1 x2 (ix2 z j) = ∑ r : Fin 512, (∑ k : Fin 640, (x0 (ix2 r k) : EReal) * x1 (ix2 j k))
      * (x2 (ix2 r j) * NormMath.rms (fun k => x2 (ix2 r k)) 1024 NormMath.eps) := by
  pointwise [k0_pay7, k0_pay2, k0_pay3, k0_pay4, k0_pay5]
  simp only [NormMath.w1024, NormMath.wEps, NormMath.rms]

/-- What the body stores as the gain's gradient at a later point: what was there plus the point's part. -/
theorem pay_dg (x0 : Vec Ideal S512x640 .bf16) (x1 : Vec Ideal S1024x640 .bf16) (x2 : Vec Ideal S512x1024 .f32)
    (p : Vec Ideal S1x1024 .f32) (z : Fin 1) (j : Fin 1024) :
    k0_pay8 (F := Ideal) x0 x1 x2 p (ix2 z j) = (p (ix2 z j) : EReal) + k0_pay7 (F := Ideal) x0 x1 x2 (ix2 z j) := by
  pointwise [k0_pay8, k0_pay7, k0_pay2, k0_pay3, k0_pay4, k0_pay5]

/-! ## The blocks as parts of the arrays -/

/-- The rows of an array with one leading axis of extent 1. -/
theorem flat_apply (X : FVec Ideal S1x8192x1024 .f32) (r : Fin 8192) (k : Fin 1024) :
    shapeCast S8192x1024 X shapeCasts_S1x8192x1024_S8192x1024 (ix2 r k) = X (ix3 0 r k) := by pointwise

/-- A vector as an array of one row. -/
theorem gain_apply (X : FVec Ideal S1024 .f32) (z : Fin 1) (k : Fin 1024) :
    shapeCast S1x1024 X shapeCasts_S1024_S1x1024 (ix2 z k) = X (ix1 k) := by pointwise

variable (c : Dev nD) (t : Fin cfg0.N)

/-- The arguments: the norm's input, its gain, the projection's weights, the incoming gradient, the residual's gradient. -/
def aX : FVec Ideal S1x8192x1024 .f32 := m ((c : Thread nD τ).loc main_arg0)
@[inherit_doc aX] def aG : FVec Ideal S1024 .f32 := m ((c : Thread nD τ).loc main_arg1)
@[inherit_doc aX] def aW : FVec Ideal S1024x576 .f32 := m ((c : Thread nD τ).loc main_arg2)
@[inherit_doc aX] def aD : FVec Ideal S1x8192x576 .f32 := m ((c : Thread nD τ).loc main_arg3)
@[inherit_doc aX] def aA : FVec Ideal S1x8192x1024 .f32 := m ((c : Thread nD τ).loc main_arg4)

/-- The blocks a point reads. -/
def b0 : Vec Ideal S512x640 .bf16 := iblk m c 0 t
@[inherit_doc b0] def b1 : Vec Ideal S1024x640 .bf16 := iblk m c 1 t
@[inherit_doc b0] def b2 : Vec Ideal S512x1024 .f32 := iblk m c 2 t
@[inherit_doc b0] def b3 : Vec Ideal S1x1024 .f32 := iblk m c 3 t
@[inherit_doc b0] def b4 : Vec Ideal S512x1024 .f32 := iblk m c 4 t

/-- Row `r` of point `t`'s tile is row `512 t + r` of the array. -/
def row (r : Fin 512) : Fin 8192 := ⟨t.val * 512 + r.val, by have h : t.val < 16 := t.isLt; omega⟩

theorem blk0 (r : Fin 512) (k : Fin 640) : b0 m c t (ix2 r k) = opA (aD m c) (ix2 (row t r) k) := by
  unfold aD b0 row
  rw [← V_v2 m c]
  blk_ext [iblk, idx t]

theorem blk1 (j : Fin 1024) (k : Fin 640) : b1 m c t (ix2 j k) = opB (aW m c) (ix2 j k) := by
  unfold aW b1
  rw [← V_v4 m c]
  blk_ext [iblk, idx t]

theorem blk2 (r : Fin 512) (k : Fin 1024) : b2 m c t (ix2 r k) = aX m c (ix3 0 (row t r) k) := by
  refine Eq.trans ?_ (flat_apply (aX m c) (row t r) k)
  unfold aX b2 row
  rw [← V_v5 m c]
  blk_ext [iblk, idx t]

theorem blk3 (z : Fin 1) (k : Fin 1024) : b3 m c t (ix2 z k) = aG m c (ix1 k) := by
  refine Eq.trans ?_ (gain_apply (aG m c) z k)
  unfold aG b3
  rw [← V_v7 m c]
  blk_ext [iblk, idx t]

theorem blk4 (r : Fin 512) (k : Fin 1024) : b4 m c t (ix2 r k) = aA m c (ix3 0 (row t r) k) := by
  refine Eq.trans ?_ (flat_apply (aA m c) (row t r) k)
  unfold aA b4 row
  rw [← V_v6 m c]
  blk_ext [iblk, idx t]

/-- One term of the gain's gradient: row `r`'s. -/
def dgTerm (j : Fin 1024) (r : Fin 8192) : EReal :=
  dnorm (aW m c) (aD m c) r j * (aX m c (ix3 0 r j) * NormMath.rms (xrow (aX m c) r) 1024 NormMath.eps)

theorem prod_blk (r : Fin 512) (j : Fin 1024) :
    (∑ k : Fin 640, (b0 m c t (ix2 r k) : EReal) * b1 m c t (ix2 j k)) = dnorm (aW m c) (aD m c) (row t r) j := by
  rw [dnorm, ← prod_pad]
  exact Finset.sum_congr rfl fun k _ => by rw [blk0, blk1]

theorem rms_blk (r : Fin 512) : NormMath.rms (fun k : Fin 1024 => (b2 m c t (ix2 r k) : EReal)) 1024 NormMath.eps
    = NormMath.rms (xrow (aX m c) (row t r)) 1024 NormMath.eps :=
  congrArg (fun f => NormMath.rms f 1024 NormMath.eps) (funext fun k => blk2 m c t r k)

theorem dg_blk (z : Fin 1) (j : Fin 1024) :
    k0_pay7 (F := Ideal) (b0 m c t) (b1 m c t) (b2 m c t) (ix2 z j) = ∑ r : Fin 512, dgTerm m c j (row t r) := by
  refine (pay_dg0 _ _ _ z j).trans (Finset.sum_congr rfl fun r _ => ?_)
  rw [prod_blk, rms_blk, blk2, dgTerm]

/-- The entry's form respects equal parts. -/
theorem entry_congr {a a' r r' d d' g g' x x' : EReal} {f f' : Fin 1024 → EReal} (ha : a = a') (hr : r = r') (hd : d = d')
    (hg : g = g') (hx : x = x') (hf : ∀ k, f k = f' k) :
    a + r * (d * g - x * r * Ideal.div (∑ k, f k) ((1024 : ℝ) : EReal))
      = a' + r' * (d' * g' - x' * r' * Ideal.div (∑ k, f' k) ((1024 : ℝ) : EReal)) := by
  rw [ha, hr, hd, hg, hx, Finset.sum_congr rfl fun k _ => hf k]

/-- The input gradient's tile at a point. -/
theorem dx_blk (r : Fin 512) (j : Fin 1024) :
    k0_pay1 (F := Ideal) (k0_pay4 (b2 m c t)) (k0_pay5 (b2 m c t)) (k0_pay6 (b0 m c t) (b1 m c t) (b3 m c t))
      (k0_pay9 (b4 m c t)) (k0_pay10 (b0 m c t) (b1 m c t) (b2 m c t) (b3 m c t)) (ix2 r j)
      = dxAt (aX m c) (aG m c) (aW m c) (aD m c) (aA m c) (row t r) j := by
  refine (pay_dx _ _ _ _ _ r j).trans ?_
  exact entry_congr (blk4 m c t r j) (rms_blk m c t r) (prod_blk m c t r j) (blk3 m c t 0 j) (blk2 m c t r j)
    fun k => by rw [rms_blk, prod_blk, blk3, blk2]

/-- What a point leaves in the input gradient's block. -/
theorem out5 (y : S512x1024.Idx) :
    (outsAt0 m c t.val t.isLt).1 y = dxAt (aX m c) (aG m c) (aW m c) (aD m c) (aA m c) (row t (y 0)) (y 1) := by
  have hy : y = ix2 (y 0) (y 1) := by blk_ext
  by_cases h0 : t.val % 16 = 0
  · rw [outsAt0_A m c t h0 (by have h : t.val < 16 := t.isLt; omega)]
    frame_out
    exact (congrArg _ hy).trans (dx_blk m c t (y 0) (y 1))
  · rw [outsAt0_B m c t h0 (by omega)]
    frame_out
    exact (congrArg _ hy).trans (dx_blk m c t (y 0) (y 1))

/-- The input gradient's array after the run. -/
theorem final5 : (dats m 0 c).arrAt 5 (cfgs 0).N = (Cert.NormBwdRefIdeal.Read.val_main_v41 (F := Ideal)
    (aX m c) (aG m c) (aW m c) (aD m c) (aA m c) : Vec Ideal S8192x1024 .f32) := by
  refine (dats m 0 c).arrAt_eq_of_covers 5 _ (by decide +kernel) fun t hf y => ?_
  blk_simp
  rw [after0_5]
  refine (out5 m c t y).trans ((ref_dx _ _ _ _ _ _ _).symm.trans (congrArg _ ?_))
  unfold row
  blk_ext [idx t]

/-- The gain's gradient's array after the run. -/
theorem final6 : (dats m 0 c).arrAt 6 (cfgs 0).N = (Cert.NormBwdRefIdeal.Read.val_main_v42 (F := Ideal)
    (aX m c) (aW m c) (aD m c) : Vec Ideal S1x1024 .f32) := by
  refine (dats m 0 c).arrAt_eq_of_covers 6 _ (by decide +kernel) fun t hf y => ?_
  blk_simp
  rw [after0_6]
  have hs := Pipeline.eq_sum_fin_of_reset_step_apply_of_flush (fun n h => (outsAt0 m c n h).2) 16 (fun _ => 0)
    (fun s (y : S1x1024.Idx) => ∑ r : Fin 512, dgTerm m c (y 1) (row s r))
    (fun t h0 y => by
      rw [outsAt0_A m c t h0 (by have h : t.val < 16 := t.isLt; omega), zero_add]
      frame_out
      exact (congrArg _ (show y = ix2 (y 0) (y 1) by blk_ext)).trans (dg_blk m c t (y 0) (y 1)))
    (fun t h0 y => by
      rw [outsAt0_B m c t h0 (by omega)]
      frame_out
      have hy : y = ix2 (y 0) (y 1) := by blk_ext
      refine (congrArg _ hy).trans ((pay_dg _ _ _ _ (y 0) (y 1)).trans ?_)
      refine congrArg₂ (· + ·) (congrArg _ hy.symm) (dg_blk m c t (y 0) (y 1))) t ((flush0_6 t).mp hf) y
  refine hs.trans ?_
  refine Eq.trans ?_ ((ref_dg (aX m c) (aW m c) (aD m c) (y 0) (y 1)).symm.trans (congrArg _ ?_))
  · rw [zero_add]
    refine Fin.sum_mul_add_congr fun s k hl => ?_
    have h : t.val / 16 = 0 := by have h : t.val < 16 := t.isLt; omega
    exact congrArg (dgTerm m c (y 1)) (Fin.ext (by simp [row, h]))
  · blk_ext [idx t]

end Cert.NormBwdIdeal.Norm

end
-- ==== Proof.NormFwd.lean ====
module

public import proofs.«01_k».proof.Proof.Gen.NormFwdIdeal.Value
public import proofs.«01_k».proof.Proof.Gen.NormFwdRefIdeal.Read
public import proofs.«01_k».proof.Proof.NormMath
public import Idealize.ShloMosaic.Lib.Pipeline.ValueKit

@[expose] public section

set_option maxRecDepth 16384

/-! The norm before the first layer: a row times the reciprocal root of its mean square, times the gain. -/

noncomputable section

open Idealize.ShloMosaic Idealize.ShloMosaic.TcCoe Idealize.SL.Sem
open Idealize.ShloMosaic.Pipeline (Dat)

namespace Cert.NormFwdIdeal.Rows

open Cert.NormFwdIdeal Cert.NormFwdIdeal.Gen
open Cert.NormFwdRefIdeal.Read

variable (m : (ℓ : Loc nD τ sig) → Buf (Elt Ideal) ℓ)

/-- Which block of each array a grid point works on. -/
theorem idx : ∀ t : Fin cfg0.N, win0_0.index t = ![t.val, 0] ∧ win0_1.index t = ![0, 0] ∧ win0_2.index t = ![t.val, 0] :=
  (by decide +kernel : ∀ t : Fin grid0.N, _)

variable (c : Dev nD) (t : Fin cfg0.N)

/-- The arguments: the activations and the gain. -/
def aX : FVec Ideal S1x8192x1024 .f32 := m ((c : Thread nD τ).loc main_arg0)
@[inherit_doc aX] def aG : FVec Ideal S1024 .f32 := m ((c : Thread nD τ).loc main_arg1)

theorem V_v0 : (V m c main_v0 : FVec Ideal S8192x1024 .f32)
    = shapeCast S8192x1024 (aX m c) shapeCasts_S1x8192x1024_S8192x1024 := by
  unfold V aX
  after_results_simp
  try rfl

theorem V_v1 : (V m c main_v1 : FVec Ideal S1x1024 .f32) = shapeCast S1x1024 (aG m c) shapeCasts_S1024_S1x1024 := by
  unfold V aG
  after_results_simp
  try rfl

/-- A normalised entry. -/
def entry (x : Fin 1024 → EReal) (g : EReal) (j : Fin 1024) : EReal :=
  x j * Ideal.rsqrt (Ideal.div (∑ k : Fin 1024, x k * x k) ((1024 : ℝ) : EReal) + ((NormMath.eps : ℝ) : EReal)) * g

theorem ref_entry (X : FVec Ideal S1x8192x1024 .f32) (G : FVec Ideal S1024 .f32) (r : Fin 8192) (j : Fin 1024) :
    val_main_v14 (F := Ideal) X G (ix2 r j) = entry (fun k => X (ix3 0 r k)) (G (ix1 j)) j := by
  pointwise [val_main_v14, val_main_v13, val_main_v12, val_main_v11, val_main_v10, val_main_v9, val_main_v8, val_main_v7,
    val_main_v6, val_main_cst_1, val_main_v5, val_main_v4, val_main_cst_0, val_main_v3, val_main_v2, val_main_cst,
    val_main_v1, val_main_v0]
  simp only [NormMath.w1024, NormMath.wEps, entry]

theorem tile_entry (x0 : Vec Ideal S512x1024 .f32) (x1 : Vec Ideal S1x1024 .f32) (r : Fin 512) (j : Fin 1024) :
    k0_pay1 (F := Ideal) x0 x1 (ix2 r j) = entry (fun k => x0 (ix2 r k)) (x1 (ix2 0 j)) j := by
  pointwise [k0_pay1]
  simp only [NormMath.w1024, NormMath.wEps, entry]

/-- The tiles a point reads. -/
def b0 : Vec Ideal S512x1024 .f32 := iblk m c 0 t
@[inherit_doc b0] def b1 : Vec Ideal S1x1024 .f32 := iblk m c 1 t

/-- Row `r` of point `t`'s tile. -/
def row (r : Fin 512) : Fin 8192 := ⟨t.val * 512 + r.val, by have h : t.val < 16 := t.isLt; omega⟩

theorem flat_apply (X : FVec Ideal S1x8192x1024 .f32) (r : Fin 8192) (k : Fin 1024) :
    shapeCast S8192x1024 X shapeCasts_S1x8192x1024_S8192x1024 (ix2 r k) = X (ix3 0 r k) := by pointwise

theorem gain_apply (G : FVec Ideal S1024 .f32) (j : Fin 1024) :
    shapeCast S1x1024 G shapeCasts_S1024_S1x1024 (ix2 0 j) = G (ix1 j) := by pointwise

theorem blk0 (r : Fin 512) (k : Fin 1024) : b0 m c t (ix2 r k) = aX m c (ix3 0 (row t r) k) := by
  refine Eq.trans ?_ (flat_apply (aX m c) (row t r) k)
  unfold b0 row
  rw [← V_v0 m c]
  blk_ext [iblk, idx t]

theorem blk1 (j : Fin 1024) : b1 m c t (ix2 0 j) = aG m c (ix1 j) := by
  refine Eq.trans ?_ (gain_apply (aG m c) j)
  unfold b1
  rw [← V_v1 m c]
  blk_ext [iblk, idx t]

/-- A point's stored entry is the reference's. -/
theorem stored (r : Fin 512) (j : Fin 1024) :
    k0_pay1 (F := Ideal) (b0 m c t) (b1 m c t) (ix2 r j) = val_main_v14 (F := Ideal) (aX m c) (aG m c) (ix2 (row t r) j) := by
  rw [tile_entry, ref_entry, blk1]
  exact congrArg (fun x => entry x (aG m c (ix1 j)) j) (funext fun k => blk0 m c t r k)

/-- The result after the run. -/
theorem final2 : (dats m 0 c).arrAt 2 (cfgs 0).N = (val_main_v14 (F := Ideal) (aX m c) (aG m c) : Vec Ideal S8192x1024 .bf16) := by
  refine (dats m 0 c).arrAt_eq_of_covers 2 _ (by decide +kernel) fun t hf y => ?_
  blk_simp
  rw [after0_2]
  frame_out
  refine (congrArg _ (show y = ix2 (y 0) (y 1) by blk_ext)).trans ((stored m c t (y 0) (y 1)).trans ?_)
  refine congrArg (val_main_v14 (F := Ideal) (aX m c) (aG m c)) ?_
  unfold row
  blk_ext [idx t]

end Cert.NormFwdIdeal.Rows

end
-- ==== Proof.HgrnOut.lean ====
module

public import proofs.«01_k».proof.Proof.Gen.HgrnOutIdeal.Value
public import proofs.«01_k».proof.Proof.Gen.HgrnOutRefIdeal.Read
public import proofs.«01_k».proof.Proof.NormFwd

@[expose] public section

set_option maxRecDepth 16384

/-! The recurrence's output projection: the product with the weights, the residual added, and the norm of the sum. -/

noncomputable section

open Idealize.ShloMosaic Idealize.ShloMosaic.TcCoe Idealize.SL.Sem
open Idealize.ShloMosaic.Pipeline (Dat)

namespace Cert.HgrnOutIdeal.Rows

open Cert.HgrnOutIdeal Cert.HgrnOutIdeal.Gen
open Cert.HgrnOutRefIdeal.Read
open Cert.NormFwdIdeal.Rows (entry)

variable (m : (ℓ : Loc nD τ sig) → Buf (Elt Ideal) ℓ)

/-- Which block of each array a grid point works on. -/
theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

variable (c : Dev nD) (t : Fin cfg0.N)

/-- The arguments: the residual stream, the gain, the weights, the mixer's output. -/
def aX : FVec Ideal S1x8192x1024 .f32 := m ((c : Thread nD τ).loc main_arg0)
@[inherit_doc aX] def aG : FVec Ideal S1024 .f32 := m ((c : Thread nD τ).loc main_arg1)
@[inherit_doc aX] def aW : FVec Ideal S1024x1024 .f32 := m ((c : Thread nD τ).loc main_arg2)
@[inherit_doc aX] def aY : FVec Ideal S1x8192x1024 .f32 := m ((c : Thread nD τ).loc main_arg3)

/-- The arrays the host hands to the kernel: the mixer's output and the weights, rounded. -/
def opY (Y : FVec Ideal S1x8192x1024 .f32) : FVec Ideal S8192x1024 .bf16 :=
  truncf .bf16 (shapeCast S8192x1024 Y shapeCasts_S1x8192x1024_S8192x1024) bitsLt_bf16_f32
@[inherit_doc opY] def opW (W : FVec Ideal S1024x1024 .f32) : FVec Ideal S1024x1024 .bf16 := truncf .bf16 W bitsLt_bf16_f32

theorem V_y : (V m c main_v1 : FVec Ideal S8192x1024 .bf16) = opY (aY m c) := by
  unfold V aY
  after_results_simp
  rfl

theorem V_w : (V m c main_v2 : FVec Ideal S1024x1024 .bf16) = opW (aW m c) := by
  unfold V aW
  after_results_simp
  rfl

theorem V_x : (V m c main_v3 : FVec Ideal S8192x1024 .f32)
    = shapeCast S8192x1024 (aX m c) shapeCasts_S1x8192x1024_S8192x1024 := by
  unfold V aX
  after_results_simp
  try rfl

theorem V_g : (V m c main_v4 : FVec Ideal S1x1024 .f32) = shapeCast S1x1024 (aG m c) shapeCasts_S1024_S1x1024 := by
  unfold V aG
  after_results_simp
  try rfl

/-! ## One entry of each result -/

/-- Entry `(r, j)` of the new residual stream: the product's plus the old one's. -/
def mid (X : FVec Ideal S1x8192x1024 .f32) (W : FVec Ideal S1024x1024 .f32) (Y : FVec Ideal S1x8192x1024 .f32)
    (r : Fin 8192) (j : Fin 1024) : EReal :=
  (∑ k : Fin 1024, Y (ix3 0 r k) * W (ix2 k j)) + X (ix3 0 r j)

theorem ref_mid (X : FVec Ideal S1x8192x1024 .f32) (W : FVec Ideal S1024x1024 .f32) (Y : FVec Ideal S1x8192x1024 .f32)
    (r : Fin 8192) (j : Fin 1024) : val_main_v3 (F := Ideal) X W Y (ix2 r j) = mid X W Y r j := by
  pointwise [val_main_v3, val_main_v2, val_main_v1, val_main_v0]
  exact add_comm _ _

theorem ref_entry (X : FVec Ideal S1x8192x1024 .f32) (G : FVec Ideal S1024 .f32) (W : FVec Ideal S1024x1024 .f32)
    (Y : FVec Ideal S1x8192x1024 .f32) (r : Fin 8192) (j : Fin 1024) :
    val_main_v17 (F := Ideal) X G W Y (ix2 r j) = entry (fun k => mid X W Y r k) (G (ix1 j)) j := by
  pointwise [val_main_v17, val_main_v16, val_main_v15, val_main_v14, val_main_v13, val_main_v12, val_main_v11, val_main_v10,
    val_main_v9, val_main_cst_1, val_main_v8, val_main_v7, val_main_cst_0, val_main_v6, val_main_v5, val_main_cst, val_main_v4]
  simp only [ref_mid, NormMath.w1024, NormMath.wEps, entry]

theorem tile_mid (x0 : Vec Ideal S512x1024 .bf16) (x1 : Vec Ideal S1024x1024 .bf16) (x2 : Vec Ideal S512x1024 .f32)
    (r : Fin 512) (j : Fin 1024) :
    k0_pay1 (F := Ideal) x0 x1 x2 (ix2 r j) = (∑ k : Fin 1024, (x0 (ix2 r k) : EReal) * x1 (ix2 k j)) + x2 (ix2 r j) := by
  pointwise [k0_pay1]

theorem tile_entry (x0 : Vec Ideal S512x1024 .bf16) (x1 : Vec Ideal S1024x1024 .bf16) (x2 : Vec Ideal S512x1024 .f32)
    (x3 : Vec Ideal S1x1024 .f32) (r : Fin 512) (j : Fin 1024) :
    k0_pay2 (F := Ideal) x0 x1 x2 x3 (ix2 r j) = entry (fun k => k0_pay1 (F := Ideal) x0 x1 x2 (ix2 r k)) (x3 (ix2 0 j)) j := by
  pointwise [k0_pay2]
  simp only [NormMath.w1024, NormMath.wEps, entry]

/-! ## The tiles as parts of the arrays -/

/-- The tiles a point reads. -/
def b0 : Vec Ideal S512x1024 .bf16 := iblk m c 0 t
@[inherit_doc b0] def b1 : Vec Ideal S1024x1024 .bf16 := iblk m c 1 t
@[inherit_doc b0] def b2 : Vec Ideal S512x1024 .f32 := iblk m c 2 t
@[inherit_doc b0] def b3 : Vec Ideal S1x1024 .f32 := iblk m c 3 t

/-- Row `r` of point `t`'s tile. -/
def row (r : Fin 512) : Fin 8192 := ⟨t.val * 512 + r.val, by have h : t.val < 16 := t.isLt; omega⟩

theorem opY_apply (Y : FVec Ideal S1x8192x1024 .f32) (r : Fin 8192) (k : Fin 1024) : opY Y (ix2 r k) = Y (ix3 0 r k) := by
  pointwise [opY]

theorem opW_apply (W : FVec Ideal S1024x1024 .f32) (k j : Fin 1024) : opW W (ix2 k j) = W (ix2 k j) := by
  pointwise [opW]

theorem flat_apply (X : FVec Ideal S1x8192x1024 .f32) (r : Fin 8192) (k : Fin 1024) :
    shapeCast S8192x1024 X shapeCasts_S1x8192x1024_S8192x1024 (ix2 r k) = X (ix3 0 r k) := by pointwise

theorem gain_apply (G : FVec Ideal S1024 .f32) (j : Fin 1024) :
    shapeCast S1x1024 G shapeCasts_S1024_S1x1024 (ix2 0 j) = G (ix1 j) := by pointwise

theorem blk0 (r : Fin 512) (k : Fin 1024) : b0 m c t (ix2 r k) = aY m c (ix3 0 (row t r) k) := by
  refine Eq.trans ?_ (opY_apply (aY m c) (row t r) k)
  unfold b0 row
  rw [← V_y m c]
  blk_ext [iblk, idx t]

theorem blk1 (k j : Fin 1024) : b1 m c t (ix2 k j) = aW m c (ix2 k j) := by
  refine Eq.trans ?_ (opW_apply (aW m c) k j)
  unfold b1
  rw [← V_w m c]
  blk_ext [iblk, idx t]

theorem blk2 (r : Fin 512) (k : Fin 1024) : b2 m c t (ix2 r k) = aX m c (ix3 0 (row t r) k) := by
  refine Eq.trans ?_ (flat_apply (aX m c) (row t r) k)
  unfold b2 row
  rw [← V_x m c]
  blk_ext [iblk, idx t]

theorem blk3 (j : Fin 1024) : b3 m c t (ix2 0 j) = aG m c (ix1 j) := by
  refine Eq.trans ?_ (gain_apply (aG m c) j)
  unfold b3
  rw [← V_g m c]
  blk_ext [iblk, idx t]

/-- A point's entry of the new residual stream. -/
theorem mid_blk (r : Fin 512) (j : Fin 1024) :
    k0_pay1 (F := Ideal) (b0 m c t) (b1 m c t) (b2 m c t) (ix2 r j) = mid (aX m c) (aW m c) (aY m c) (row t r) j := by
  rw [tile_mid, blk2, mid]
  exact congrArg (· + _) (Finset.sum_congr rfl fun k _ => by rw [blk0, blk1])

/-- A point's entry of the normalised stream. -/
theorem entry_blk (r : Fin 512) (j : Fin 1024) :
    k0_pay2 (F := Ideal) (b0 m c t) (b1 m c t) (b2 m c t) (b3 m c t) (ix2 r j)
      = val_main_v17 (F := Ideal) (aX m c) (aG m c) (aW m c) (aY m c) (ix2 (row t r) j) := by
  rw [tile_entry, ref_entry, blk3]
  exact congrArg (fun x => entry x (aG m c (ix1 j)) j) (funext fun k => mid_blk m c t r k)

/-- The new residual stream after the run. -/
theorem final4 : (dats m 0 c).arrAt 4 (cfgs 0).N
    = (val_main_v3 (F := Ideal) (aX m c) (aW m c) (aY m c) : Vec Ideal S8192x1024 .f32) := by
  refine (dats m 0 c).arrAt_eq_of_covers 4 _ (by decide +kernel) fun t hf y => ?_
  blk_simp
  rw [after0_4]
  frame_out
  refine (congrArg _ (show y = ix2 (y 0) (y 1) by blk_ext)).trans
    ((mid_blk m c t (y 0) (y 1)).trans ((ref_mid _ _ _ _ _).symm.trans ?_))
  refine congrArg (val_main_v3 (F := Ideal) (aX m c) (aW m c) (aY m c)) ?_
  unfold row
  blk_ext [idx t]

/-- The normalised stream after the run. -/
theorem final5 : (dats m 0 c).arrAt 5 (cfgs 0).N
    = (val_main_v17 (F := Ideal) (aX m c) (aG m c) (aW m c) (aY m c) : Vec Ideal S8192x1024 .bf16) := by
  refine (dats m 0 c).arrAt_eq_of_covers 5 _ (by decide +kernel) fun t hf y => ?_
  blk_simp
  rw [after0_5]
  frame_out
  refine (congrArg _ (show y = ix2 (y 0) (y 1) by blk_ext)).trans ((entry_blk m c t (y 0) (y 1)).trans ?_)
  refine congrArg (val_main_v17 (F := Ideal) (aX m c) (aG m c) (aW m c) (aY m c)) ?_
  unfold row
  blk_ext [idx t]

end Cert.HgrnOutIdeal.Rows

end
-- ==== Proof.MlaOut.lean ====
module

public import proofs.«01_k».proof.Proof.Gen.MlaOutIdeal.Value
public import proofs.«01_k».proof.Proof.Gen.MlaOutRefIdeal.Read
public import proofs.«01_k».proof.Proof.NormFwd

@[expose] public section

set_option maxRecDepth 16384

/-! The attention's output projection: the attention's output comes in turned blocks of 512 positions; the product with the
weights, the residual added, and the norm of the sum. -/

noncomputable section

open Idealize.ShloMosaic Idealize.ShloMosaic.TcCoe Idealize.SL.Sem
open Idealize.ShloMosaic.Pipeline (Dat)

namespace Cert.MlaOutIdeal.Rows

open Cert.MlaOutIdeal Cert.MlaOutIdeal.Gen
open Cert.MlaOutRefIdeal.Read
open Cert.NormFwdIdeal.Rows (entry)

variable (m : (ℓ : Loc nD τ sig) → Buf (Elt Ideal) ℓ)

/-- Which block of each array a grid point works on. -/
theorem idx : ∀ t : Fin cfg0.N, win0_0.index t = ![t.val, 0, 0] ∧ win0_1.index t = ![0, 0] ∧ win0_2.index t = ![t.val, 0]
    ∧ win0_3.index t = ![0, 0] ∧ win0_4.index t = ![t.val, 0] ∧ win0_5.index t = ![t.val, 0] :=
  (by decide +kernel : ∀ t : Fin grid0.N, _)

variable (c : Dev nD) (t : Fin cfg0.N)

/-- The arguments: the residual stream, the gain, the weights, the mixer's output. -/
def aX : FVec Ideal S1x8192x1024 .f32 := m ((c : Thread nD τ).loc main_arg0)
@[inherit_doc aX] def aG : FVec Ideal S1024 .f32 := m ((c : Thread nD τ).loc main_arg1)
@[inherit_doc aX] def aW : FVec Ideal S1024x1024 .f32 := m ((c : Thread nD τ).loc main_arg2)
@[inherit_doc aX] def aY : FVec Ideal S1x8192x1024 .f32 := m ((c : Thread nD τ).loc main_arg3)

/-- The arrays the host hands to the kernel: the mixer's output, in turned blocks, and the weights, rounded. -/
def opY (Y : FVec Ideal S1x8192x1024 .f32) : FVec Ideal S16x1024x512 .bf16 :=
  truncf .bf16 (transpose S16x1024x512 [0, 2, 1] (shapeCast S16x512x1024
    (shapeCast S8192x1024 Y shapeCasts_S1x8192x1024_S8192x1024) shapeCasts_S8192x1024_S16x512x1024)
    transposes_S16x512x1024_S16x1024x512_0_2_1) bitsLt_bf16_f32
@[inherit_doc opY] def opW (W : FVec Ideal S1024x1024 .f32) : FVec Ideal S1024x1024 .bf16 := truncf .bf16 W bitsLt_bf16_f32

theorem V_y : (V m c main_v3 : FVec Ideal S16x1024x512 .bf16) = opY (aY m c) := by
  unfold V aY
  after_results_simp
  rfl

theorem V_w : (V m c main_v4 : FVec Ideal S1024x1024 .bf16) = opW (aW m c) := by
  unfold V aW
  after_results_simp
  rfl

theorem V_x : (V m c main_v5 : FVec Ideal S8192x1024 .f32)
    = shapeCast S8192x1024 (aX m c) shapeCasts_S1x8192x1024_S8192x1024 := by
  unfold V aX
  after_results_simp
  try rfl

theorem V_g : (V m c main_v6 : FVec Ideal S1x1024 .f32) = shapeCast S1x1024 (aG m c) shapeCasts_S1024_S1x1024 := by
  unfold V aG
  after_results_simp
  try rfl

/-! ## One entry of each result -/

/-- Entry `(r, j)` of the new residual stream: the product's plus the old one's. -/
def mid (X : FVec Ideal S1x8192x1024 .f32) (W : FVec Ideal S1024x1024 .f32) (Y : FVec Ideal S1x8192x1024 .f32)
    (r : Fin 8192) (j : Fin 1024) : EReal :=
  (∑ k : Fin 1024, Y (ix3 0 r k) * W (ix2 k j)) + X (ix3 0 r j)

theorem ref_mid (X : FVec Ideal S1x8192x1024 .f32) (W : FVec Ideal S1024x1024 .f32) (Y : FVec Ideal S1x8192x1024 .f32)
    (r : Fin 8192) (j : Fin 1024) : val_main_v3 (F := Ideal) X W Y (ix2 r j) = mid X W Y r j := by
  pointwise [val_main_v3, val_main_v2, val_main_v1, val_main_v0]
  exact add_comm _ _

theorem ref_entry (X : FVec Ideal S1x8192x1024 .f32) (G : FVec Ideal S1024 .f32) (W : FVec Ideal S1024x1024 .f32)
    (Y : FVec Ideal S1x8192x1024 .f32) (r : Fin 8192) (j : Fin 1024) :
    val_main_v17 (F := Ideal) X G W Y (ix2 r j) = entry (fun k => mid X W Y r k) (G (ix1 j)) j := by
  pointwise [val_main_v17, val_main_v16, val_main_v15, val_main_v14, val_main_v13, val_main_v12, val_main_v11, val_main_v10,
    val_main_v9, val_main_cst_1, val_main_v8, val_main_v7, val_main_cst_0, val_main_v6, val_main_v5, val_main_cst, val_main_v4]
  simp only [ref_mid, NormMath.w1024, NormMath.wEps, entry]

theorem tile_mid (x0 : Vec Ideal S1x1024x512 .bf16) (x1 : Vec Ideal S1024x1024 .bf16) (x2 : Vec Ideal S512x1024 .f32)
    (r : Fin 512) (j : Fin 1024) :
    k0_pay1 (F := Ideal) x0 x1 x2 (ix2 r j) = (∑ k : Fin 1024, (x0 (ix3 0 k r) : EReal) * x1 (ix2 k j)) + x2 (ix2 r j) := by
  pointwise [k0_pay1]

theorem tile_entry (x0 : Vec Ideal S1x1024x512 .bf16) (x1 : Vec Ideal S1024x1024 .bf16) (x2 : Vec Ideal S512x1024 .f32)
    (x3 : Vec Ideal S1x1024 .f32) (r : Fin 512) (j : Fin 1024) :
    k0_pay2 (F := Ideal) x0 x1 x2 x3 (ix2 r j) = entry (fun k => k0_pay1 (F := Ideal) x0 x1 x2 (ix2 r k)) (x3 (ix2 0 j)) j := by
  pointwise [k0_pay2]
  simp only [NormMath.w1024, NormMath.wEps, entry]

/-! ## The tiles as parts of the arrays -/

/-- The tiles a point reads. -/
def b0 : Vec Ideal S1x1024x512 .bf16 := iblk m c 0 t
@[inherit_doc b0] def b1 : Vec Ideal S1024x1024 .bf16 := iblk m c 1 t
@[inherit_doc b0] def b2 : Vec Ideal S512x1024 .f32 := iblk m c 2 t
@[inherit_doc b0] def b3 : Vec Ideal S1x1024 .f32 := iblk m c 3 t

/-- Row `r` of point `t`'s tile. -/
def row (r : Fin 512) : Fin 8192 := ⟨t.val * 512 + r.val, by have h : t.val < 16 := t.isLt; omega⟩

theorem opY_apply (Y : FVec Ideal S1x8192x1024 .f32) (s : Fin 16) (k : Fin 1024) (r : Fin 512) :
    opY Y (ix3 s k r) = Y (ix3 0 ⟨s.val * 512 + r.val, by omega⟩ k) := by
  pointwise [opY]

theorem opW_apply (W : FVec Ideal S1024x1024 .f32) (k j : Fin 1024) : opW W (ix2 k j) = W (ix2 k j) := by
  pointwise [opW]

theorem flat_apply (X : FVec Ideal S1x8192x1024 .f32) (r : Fin 8192) (k : Fin 1024) :
    shapeCast S8192x1024 X shapeCasts_S1x8192x1024_S8192x1024 (ix2 r k) = X (ix3 0 r k) := by pointwise

theorem gain_apply (G : FVec Ideal S1024 .f32) (j : Fin 1024) :
    shapeCast S1x1024 G shapeCasts_S1024_S1x1024 (ix2 0 j) = G (ix1 j) := by pointwise

/-- The block of positions a point works on. -/
def blkNo : Fin 16 := ⟨t.val, t.isLt⟩

theorem blk0 (r : Fin 512) (k : Fin 1024) : b0 m c t (ix3 0 k r) = aY m c (ix3 0 (row t r) k) := by
  refine Eq.trans ?_ (opY_apply (aY m c) (blkNo t) k r)
  unfold b0 blkNo
  rw [← V_y m c]
  blk_ext [iblk, idx t]

theorem blk1 (k j : Fin 1024) : b1 m c t (ix2 k j) = aW m c (ix2 k j) := by
  refine Eq.trans ?_ (opW_apply (aW m c) k j)
  unfold b1
  rw [← V_w m c]
  blk_ext [iblk, idx t]

theorem blk2 (r : Fin 512) (k : Fin 1024) : b2 m c t (ix2 r k) = aX m c (ix3 0 (row t r) k) := by
  refine Eq.trans ?_ (flat_apply (aX m c) (row t r) k)
  unfold b2 row
  rw [← V_x m c]
  blk_ext [iblk, idx t]

theorem blk3 (j : Fin 1024) : b3 m c t (ix2 0 j) = aG m c (ix1 j) := by
  refine Eq.trans ?_ (gain_apply (aG m c) j)
  unfold b3
  rw [← V_g m c]
  blk_ext [iblk, idx t]

/-- A point's entry of the new residual stream. -/
theorem mid_blk (r : Fin 512) (j : Fin 1024) :
    k0_pay1 (F := Ideal) (b0 m c t) (b1 m c t) (b2 m c t) (ix2 r j) = mid (aX m c) (aW m c) (aY m c) (row t r) j := by
  rw [tile_mid, blk2, mid]
  exact congrArg (· + _) (Finset.sum_congr rfl fun k _ => by rw [blk0, blk1])

/-- A point's entry of the normalised stream. -/
theorem entry_blk (r : Fin 512) (j : Fin 1024) :
    k0_pay2 (F := Ideal) (b0 m c t) (b1 m c t) (b2 m c t) (b3 m c t) (ix2 r j)
      = val_main_v17 (F := Ideal) (aX m c) (aG m c) (aW m c) (aY m c) (ix2 (row t r) j) := by
  rw [tile_entry, ref_entry, blk3]
  exact congrArg (fun x => entry x (aG m c (ix1 j)) j) (funext fun k => mid_blk m c t r k)

/-- The new residual stream after the run. -/
theorem final4 : (dats m 0 c).arrAt 4 (cfgs 0).N
    = (val_main_v3 (F := Ideal) (aX m c) (aW m c) (aY m c) : Vec Ideal S8192x1024 .f32) := by
  refine (dats m 0 c).arrAt_eq_of_covers 4 _ (by decide +kernel) fun t hf y => ?_
  blk_simp
  rw [after0_4]
  frame_out
  refine (congrArg _ (show y = ix2 (y 0) (y 1) by blk_ext)).trans
    ((mid_blk m c t (y 0) (y 1)).trans ((ref_mid _ _ _ _ _).symm.trans ?_))
  refine congrArg (val_main_v3 (F := Ideal) (aX m c) (aW m c) (aY m c)) ?_
  unfold row
  blk_ext [idx t]

/-- The normalised stream after the run. -/
theorem final5 : (dats m 0 c).arrAt 5 (cfgs 0).N
    = (val_main_v17 (F := Ideal) (aX m c) (aG m c) (aW m c) (aY m c) : Vec Ideal S8192x1024 .bf16) := by
  refine (dats m 0 c).arrAt_eq_of_covers 5 _ (by decide +kernel) fun t hf y => ?_
  blk_simp
  rw [after0_5]
  frame_out
  refine (congrArg _ (show y = ix2 (y 0) (y 1) by blk_ext)).trans ((entry_blk m c t (y 0) (y 1)).trans ?_)
  refine congrArg (val_main_v17 (F := Ideal) (aX m c) (aG m c) (aW m c) (aY m c)) ?_
  unfold row
  blk_ext [idx t]

end Cert.MlaOutIdeal.Rows

end
-- ==== Proof.FfnDown.lean ====
module

public import proofs.«01_k».proof.Proof.Gen.FfnDownIdeal.Value
public import proofs.«01_k».proof.Proof.Gen.FfnDownRefIdeal.Read
public import proofs.«01_k».proof.Proof.NormFwd

@[expose] public section

set_option maxRecDepth 16384

/-! The feed-forward layer's down projection: the product, built up over four column blocks in a scratch, the residual added,
and the norm of the sum. -/

noncomputable section

open Idealize.ShloMosaic Idealize.ShloMosaic.TcCoe Idealize.SL.Sem
open Idealize.ShloMosaic.Pipeline (Dat)

namespace Cert.FfnDownIdeal.Rows

open Cert.FfnDownIdeal Cert.FfnDownIdeal.Gen
open Cert.FfnDownRefIdeal.Read
open Cert.NormFwdIdeal.Rows (entry)

variable (m : (ℓ : Loc nD τ sig) → Buf (Elt Ideal) ℓ)

/-- Which block of each array a grid point works on. -/
theorem idx : ∀ t : Fin cfg0.N, win0_0.index t = ![t.val % 4, t.val / 4, 0] ∧ win0_1.index t = ![t.val % 4, 0] ∧ win0_2.index t = ![t.val / 4, 0]
    ∧ win0_3.index t = ![0, 0] ∧ win0_4.index t = ![t.val / 4, 0] ∧ win0_5.index t = ![t.val / 4, 0] :=
  (by decide +kernel : ∀ t : Fin grid0.N, _)

variable (c : Dev nD) (t : Fin cfg0.N)

/-- The arguments: the residual stream, the gain, the weights, the gated array. -/
def aX : FVec Ideal S1x8192x1024 .f32 := m ((c : Thread nD τ).loc main_arg0)
@[inherit_doc aX] def aG : FVec Ideal S1024 .f32 := m ((c : Thread nD τ).loc main_arg1)
@[inherit_doc aX] def aW : FVec Ideal S2816x1024 .f32 := m ((c : Thread nD τ).loc main_arg2)
@[inherit_doc aX] def aY : FVec Ideal S1x8192x2816 .f32 := m ((c : Thread nD τ).loc main_arg3)

/-- The arrays the host hands to the kernel: the gated array, its columns in four blocks, and the weights, rounded. -/
def opY (Y : FVec Ideal S1x8192x2816 .f32) : FVec Ideal S4x8192x704 .bf16 :=
  truncf .bf16 (transpose S4x8192x704 [1, 0, 2] (shapeCast S8192x4x704
    (shapeCast S8192x2816 Y shapeCasts_S1x8192x2816_S8192x2816) shapeCasts_S8192x2816_S8192x4x704)
    transposes_S8192x4x704_S4x8192x704_1_0_2) bitsLt_bf16_f32
@[inherit_doc opY] def opW (W : FVec Ideal S2816x1024 .f32) : FVec Ideal S2816x1024 .bf16 := truncf .bf16 W bitsLt_bf16_f32

theorem V_y : (V m c main_v3 : FVec Ideal S4x8192x704 .bf16) = opY (aY m c) := by
  unfold V aY
  after_results_simp
  rfl

theorem V_w : (V m c main_v4 : FVec Ideal S2816x1024 .bf16) = opW (aW m c) := by
  unfold V aW
  after_results_simp
  rfl

theorem V_x : (V m c main_v5 : FVec Ideal S8192x1024 .f32)
    = shapeCast S8192x1024 (aX m c) shapeCasts_S1x8192x1024_S8192x1024 := by
  unfold V aX
  after_results_simp
  try rfl

theorem V_g : (V m c main_v6 : FVec Ideal S1x1024 .f32) = shapeCast S1x1024 (aG m c) shapeCasts_S1024_S1x1024 := by
  unfold V aG
  after_results_simp
  try rfl

/-! ## One entry of each result -/

/-- Entry `(r, j)` of the new residual stream: the product's plus the old one's. -/
def mid (X : FVec Ideal S1x8192x1024 .f32) (W : FVec Ideal S2816x1024 .f32) (Y : FVec Ideal S1x8192x2816 .f32)
    (r : Fin 8192) (j : Fin 1024) : EReal :=
  (∑ k : Fin 2816, Y (ix3 0 r k) * W (ix2 k j)) + X (ix3 0 r j)

theorem ref_mid (X : FVec Ideal S1x8192x1024 .f32) (W : FVec Ideal S2816x1024 .f32) (Y : FVec Ideal S1x8192x2816 .f32)
    (r : Fin 8192) (j : Fin 1024) : val_main_v3 (F := Ideal) X W Y (ix2 r j) = mid X W Y r j := by
  pointwise [val_main_v3, val_main_v2, val_main_v1, val_main_v0]
  exact add_comm _ _

theorem ref_entry (X : FVec Ideal S1x8192x1024 .f32) (G : FVec Ideal S1024 .f32) (W : FVec Ideal S2816x1024 .f32)
    (Y : FVec Ideal S1x8192x2816 .f32) (r : Fin 8192) (j : Fin 1024) :
    val_main_v17 (F := Ideal) X G W Y (ix2 r j) = entry (fun k => mid X W Y r k) (G (ix1 j)) j := by
  pointwise [val_main_v17, val_main_v16, val_main_v15, val_main_v14, val_main_v13, val_main_v12, val_main_v11, val_main_v10,
    val_main_v9, val_main_cst_1, val_main_v8, val_main_v7, val_main_cst_0, val_main_v6, val_main_v5, val_main_cst, val_main_v4]
  simp only [ref_mid, NormMath.w1024, NormMath.wEps, entry]

theorem pay_part (x0 : Vec Ideal S1x1024x704 .bf16) (x1 : Vec Ideal S704x1024 .bf16) (r j : Fin 1024) :
    k0_pay1 (F := Ideal) x0 x1 (ix2 r j) = ∑ k : Fin 704, (x0 (ix3 0 r k) : EReal) * x1 (ix2 k j) := by
  pointwise [k0_pay1]

theorem pay_set (x0 : Vec Ideal S1x1024x704 .bf16) (x1 : Vec Ideal S704x1024 .bf16) (r j : Fin 1024) :
    k0_pay2 (F := Ideal) x0 x1 (ix2 r j) = k0_pay1 (F := Ideal) x0 x1 (ix2 r j) := by
  pointwise [k0_pay2]

theorem pay_add (x0 : Vec Ideal S1x1024x704 .bf16) (x1 : Vec Ideal S704x1024 .bf16) (p : Vec Ideal S1024x1024 .f32)
    (r j : Fin 1024) :
    k0_pay3 (F := Ideal) x0 x1 p (ix2 r j) = (p (ix2 r j) : EReal) + k0_pay1 (F := Ideal) x0 x1 (ix2 r j) := by
  pointwise [k0_pay3]

theorem pay_mid (x0 : Vec Ideal S1x1024x704 .bf16) (x1 : Vec Ideal S704x1024 .bf16) (p x : Vec Ideal S1024x1024 .f32)
    (r j : Fin 1024) :
    k0_pay4 (F := Ideal) x0 x1 p x (ix2 r j)
      = (p (ix2 r j) : EReal) + k0_pay1 (F := Ideal) x0 x1 (ix2 r j) + x (ix2 r j) := by
  pointwise [k0_pay4]

theorem pay_entry (x0 : Vec Ideal S1x1024x704 .bf16) (x1 : Vec Ideal S704x1024 .bf16) (p x : Vec Ideal S1024x1024 .f32)
    (g : Vec Ideal S1x1024 .f32) (r j : Fin 1024) :
    k0_pay5 (F := Ideal) x0 x1 p x g (ix2 r j)
      = entry (fun k => k0_pay4 (F := Ideal) x0 x1 p x (ix2 r k)) (g (ix2 0 j)) j := by
  pointwise [k0_pay5]
  simp only [NormMath.w1024, NormMath.wEps, entry]

/-! ## The tiles as parts of the arrays -/

/-- The tiles a point reads. -/
def b0 : Vec Ideal S1x1024x704 .bf16 := iblk m c 0 t
@[inherit_doc b0] def b1 : Vec Ideal S704x1024 .bf16 := iblk m c 1 t
@[inherit_doc b0] def b2 : Vec Ideal S1024x1024 .f32 := iblk m c 2 t
@[inherit_doc b0] def b3 : Vec Ideal S1x1024 .f32 := iblk m c 3 t

/-- Row `r` of point `t`'s tile. -/
def row (r : Fin 1024) : Fin 8192 := ⟨t.val / 4 * 1024 + r.val, by have h : t.val < 32 := t.isLt; omega⟩

/-- The column block of point `t`. -/
def blk : Fin 4 := ⟨t.val % 4, Nat.mod_lt _ (by norm_num)⟩

/-- Column `k` of block `s`. -/
def col (s : Fin 4) (k : Fin 704) : Fin 2816 := ⟨s.val * 704 + k.val, by omega⟩

theorem opY_apply (Y : FVec Ideal S1x8192x2816 .f32) (s : Fin 4) (r : Fin 8192) (k : Fin 704) :
    opY Y (ix3 s r k) = Y (ix3 0 r (col s k)) := by
  pointwise [opY]
  rfl

theorem opW_apply (W : FVec Ideal S2816x1024 .f32) (k : Fin 2816) (j : Fin 1024) : opW W (ix2 k j) = W (ix2 k j) := by
  pointwise [opW]

theorem flat_apply (X : FVec Ideal S1x8192x1024 .f32) (r : Fin 8192) (k : Fin 1024) :
    shapeCast S8192x1024 X shapeCasts_S1x8192x1024_S8192x1024 (ix2 r k) = X (ix3 0 r k) := by pointwise

theorem gain_apply (G : FVec Ideal S1024 .f32) (j : Fin 1024) :
    shapeCast S1x1024 G shapeCasts_S1024_S1x1024 (ix2 0 j) = G (ix1 j) := by pointwise

theorem blk0 (r : Fin 1024) (k : Fin 704) : b0 m c t (ix3 0 r k) = aY m c (ix3 0 (row t r) (col (blk t) k)) := by
  refine Eq.trans ?_ (opY_apply (aY m c) (blk t) (row t r) k)
  unfold b0 row blk
  rw [← V_y m c]
  blk_ext [iblk, idx t]

theorem blk1 (k : Fin 704) (j : Fin 1024) : b1 m c t (ix2 k j) = aW m c (ix2 (col (blk t) k) j) := by
  refine Eq.trans ?_ (opW_apply (aW m c) (col (blk t) k) j)
  unfold b1 col blk
  rw [← V_w m c]
  blk_ext [iblk, idx t]

theorem blk2 (r k : Fin 1024) : b2 m c t (ix2 r k) = aX m c (ix3 0 (row t r) k) := by
  refine Eq.trans ?_ (flat_apply (aX m c) (row t r) k)
  unfold b2 row
  rw [← V_x m c]
  blk_ext [iblk, idx t]

theorem blk3 (j : Fin 1024) : b3 m c t (ix2 0 j) = aG m c (ix1 j) := by
  refine Eq.trans ?_ (gain_apply (aG m c) j)
  unfold b3
  rw [← V_g m c]
  blk_ext [iblk, idx t]

/-- The part of the product that point `t` computes. -/
def part (r j : Fin 1024) : EReal :=
  ∑ k : Fin 704, aY m c (ix3 0 (row t r) (col (blk t) k)) * aW m c (ix2 (col (blk t) k) j)

theorem part_blk (r j : Fin 1024) : k0_pay1 (F := Ideal) (b0 m c t) (b1 m c t) (ix2 r j) = part m c t r j := by
  rw [pay_part, part]
  exact Finset.sum_congr rfl fun k _ => by rw [blk0, blk1]

/-! ## The scratch tile -/

/-- What the scratch holds before point `t`. -/
def held : Vec Ideal S1024x1024 .f32 := (outsAt0 m c (t.val - 1) (Nat.lt_of_le_of_lt (Nat.sub_le _ _) t.isLt)).2.2

/-- A tile's first block sets the scratch. -/
theorem acc_set (h0 : t.val % 4 = 0) (r j : Fin 1024) :
    (outsAt0 m c t.val t.isLt).2.2 (ix2 r j) = part m c t r j := by
  rw [outsAt0_A m c t h0 (by omega) (by omega)]
  frame_out
  exact (pay_set _ _ r j).trans (part_blk m c t r j)

/-- The next two add to it. -/
theorem acc_add (h0 : t.val % 4 ≠ 0) (h3 : t.val % 4 ≠ 3) (r j : Fin 1024) :
    (outsAt0 m c t.val t.isLt).2.2 (ix2 r j) = held m c t (ix2 r j) + part m c t r j := by
  rw [outsAt0_B m c t h0 (by omega) (by omega)]
  frame_out
  refine (pay_add _ _ _ r j).trans ?_
  rw [(Memref.isWhole_whole cc0_scratch0).read_unread]
  exact congrArg _ (part_blk m c t r j)

/-- Point `s` of tile `q`. -/
def pt (q : Fin 8) (s : Fin 4) : Fin cfg0.N := ⟨4 * q.val + s.val, by show _ < 32; omega⟩

theorem held_last (q : Fin 8) (r j : Fin 1024) : held m c (pt q 3) (ix2 r j)
    = part m c (pt q 0) r j + part m c (pt q 1) r j + part m c (pt q 2) r j := by
  have h2 := acc_add m c (pt q 2) (by show (4 * q.val + 2) % 4 ≠ 0; omega) (by show (4 * q.val + 2) % 4 ≠ 3; omega) r j
  have h1 := acc_add m c (pt q 1) (by show (4 * q.val + 1) % 4 ≠ 0; omega) (by show (4 * q.val + 1) % 4 ≠ 3; omega) r j
  have h0 := acc_set m c (pt q 0) (by show (4 * q.val + 0) % 4 = 0; omega) r j
  have e1 : held m c (pt q 1) (ix2 r j) = part m c (pt q 0) r j := h0
  have e2 : held m c (pt q 2) (ix2 r j) = part m c (pt q 0) r j + part m c (pt q 1) r j := by rw [← e1]; exact h1
  rw [← e2]
  exact h2

/-- The tile of point `t`. -/
def tileNo : Fin 8 := ⟨t.val / 4, by have h : t.val < 32 := t.isLt; omega⟩

/-- At a tile's last block, what the scratch holds plus the last part is the whole product. -/
theorem whole (h3 : t.val % 4 = 3) (r j : Fin 1024) :
    held m c t (ix2 r j) + k0_pay1 (F := Ideal) (b0 m c t) (b1 m c t) (ix2 r j)
      = ∑ k : Fin 2816, aY m c (ix3 0 (row t r) k) * aW m c (ix2 k j) := by
  have e : t = pt (tileNo t) 3 := Fin.ext (by show t.val = 4 * (t.val / 4) + 3; omega)
  rw [part_blk]
  have h := held_last m c (tileNo t) r j
  rw [← e] at h
  have hp : part m c t r j = part m c (pt (tileNo t) 3) r j := congrArg (fun u => part m c u r j) e
  rw [h, hp]
  refine (Fin.sum_univ_four (fun s : Fin 4 => part m c (pt (tileNo t) s) r j)).symm.trans ?_
  refine Fin.sum_mul_add_congr fun s k hl => ?_
  have e1 : row (pt (tileNo t) s) r = row t r :=
    Fin.ext (by show (4 * (t.val / 4) + s.val) / 4 * 1024 + r.val = t.val / 4 * 1024 + r.val; have := s.isLt; omega)
  have e2 : col (blk (pt (tileNo t) s)) k = ⟨s.val * 704 + k.val, hl⟩ :=
    Fin.ext (by show (4 * (t.val / 4) + s.val) % 4 * 704 + k.val = s.val * 704 + k.val; have := s.isLt; omega)
  simp only [e1, e2]

/-- A last point's entry of the new residual stream. -/
theorem mid_blk (h3 : t.val % 4 = 3) (r j : Fin 1024) :
    k0_pay4 (F := Ideal) (b0 m c t) (b1 m c t) (held m c t) (b2 m c t) (ix2 r j)
      = mid (aX m c) (aW m c) (aY m c) (row t r) j := by
  rw [pay_mid, blk2, mid]
  exact congrArg (· + _) (whole m c t h3 r j)

/-- A last point's entry of the normalised stream. -/
theorem entry_blk (h3 : t.val % 4 = 3) (r j : Fin 1024) :
    k0_pay5 (F := Ideal) (b0 m c t) (b1 m c t) (held m c t) (b2 m c t) (b3 m c t) (ix2 r j)
      = val_main_v17 (F := Ideal) (aX m c) (aG m c) (aW m c) (aY m c) (ix2 (row t r) j) := by
  rw [pay_entry, ref_entry, blk3]
  exact congrArg (fun x => entry x (aG m c (ix1 j)) j) (funext fun k => mid_blk m c t h3 r k)

/-- What a tile's last point leaves in the two results' blocks. -/
theorem out4 (h3 : t.val % 4 = 3) (r j : Fin 1024) : (outsAt0 m c t.val t.isLt).1 (ix2 r j)
    = val_main_v3 (F := Ideal) (aX m c) (aW m c) (aY m c) (ix2 (row t r) j) := by
  refine Eq.trans ?_ ((mid_blk m c t h3 r j).trans (ref_mid _ _ _ _ _).symm)
  rw [outsAt0_C m c t (by omega) (by omega) h3]
  frame_out
  rw [(Memref.isWhole_whole cc0_scratch0).read_unread]
  rfl

@[inherit_doc out4]
theorem out5 (h3 : t.val % 4 = 3) (r j : Fin 1024) : (outsAt0 m c t.val t.isLt).2.1 (ix2 r j)
    = val_main_v17 (F := Ideal) (aX m c) (aG m c) (aW m c) (aY m c) (ix2 (row t r) j) := by
  refine Eq.trans ?_ (entry_blk m c t h3 r j)
  rw [outsAt0_C m c t (by omega) (by omega) h3]
  frame_out
  rw [(Memref.isWhole_whole cc0_scratch0).read_unread]
  rfl

/-- The new residual stream after the run. -/
theorem final4 : (dats m 0 c).arrAt 4 (cfgs 0).N
    = (val_main_v3 (F := Ideal) (aX m c) (aW m c) (aY m c) : Vec Ideal S8192x1024 .f32) := by
  refine (dats m 0 c).arrAt_eq_of_covers 4 _ (by decide +kernel) fun t hf y => ?_
  blk_simp
  rw [after0_4]
  refine (congrArg _ (show y = ix2 (y 0) (y 1) by blk_ext)).trans
    ((out4 m c t ((flush0_4 t).mp hf) (y 0) (y 1)).trans ?_)
  refine congrArg (val_main_v3 (F := Ideal) (aX m c) (aW m c) (aY m c)) ?_
  unfold row
  blk_ext [idx t]

/-- The normalised stream after the run. -/
theorem final5 : (dats m 0 c).arrAt 5 (cfgs 0).N
    = (val_main_v17 (F := Ideal) (aX m c) (aG m c) (aW m c) (aY m c) : Vec Ideal S8192x1024 .bf16) := by
  refine (dats m 0 c).arrAt_eq_of_covers 5 _ (by decide +kernel) fun t hf y => ?_
  blk_simp
  rw [after0_5]
  refine (congrArg _ (show y = ix2 (y 0) (y 1) by blk_ext)).trans ((out5 m c t ((flush0_5 t).mp hf) (y 0) (y 1)).trans ?_)
  refine congrArg (val_main_v17 (F := Ideal) (aX m c) (aG m c) (aW m c) (aY m c)) ?_
  unfold row
  blk_ext [idx t]

end Cert.FfnDownIdeal.Rows

end
-- ==== Proof.FfnActRef.lean ====
module

public import proofs.«01_k».proof.Proof.Gen.FfnActRefIdeal.Read
public import proofs.«01_k».proof.Proof.NormMath
public import Idealize.ShloMosaic.Lib.Pipeline.ValueKit

@[expose] public section

set_option maxRecDepth 16384
set_option maxHeartbeats 1000000

/-! The reference of the gate's and the convolution's backward pass, entry by entry: the gradient of the convolution's
output, and the three results as taps of it, a row past the last counting as zero. -/

noncomputable section

open Idealize.ShloMosaic Idealize.ShloMosaic.TcCoe Idealize.SL.Sem

namespace Cert.FfnActRefIdeal.Rows

open Cert.FfnActRefIdeal.Read

/-- Column `j` of shard `h` in half `a` (gate, up). -/
def col (a : Fin 2) (h : Fin 4) (j : Fin 704) : Fin 5632 := ⟨a.val * 2816 + h.val * 704 + j.val, by omega⟩

/-- Column `j` of shard `h` of the gated array. -/
def colD (h : Fin 4) (j : Fin 704) : Fin 2816 := ⟨h.val * 704 + j.val, by omega⟩

/-- A sum over rows moved down by `k` is the sum against rows moved up by `k`. -/
theorem sum_shift (N k : ℕ) (f g : ℕ → EReal) (hg : ∀ n, N ≤ n → g n = 0) :
    ∑ t : Fin N, (if t.val < k then 0 else f (t.val - k)) * g t.val = ∑ t : Fin N, f t.val * g (t.val + k) := by
  rw [Fin.sum_univ_eq_sum_range (fun n => (if n < k then 0 else f (n - k)) * g n) N,
    Fin.sum_univ_eq_sum_range (fun n => f n * g (n + k)) N]
  have h1 : ∑ n ∈ Finset.range (k + N), (if n < k then 0 else f (n - k)) * g n = ∑ n ∈ Finset.range N, f n * g (n + k) := by
    rw [Finset.sum_range_add, Finset.sum_eq_zero, zero_add]
    · exact Finset.sum_congr rfl fun n _ => by rw [if_neg (by omega), Nat.add_sub_cancel_left, Nat.add_comm]
    · intro n hn
      rw [if_pos (Finset.mem_range.mp hn), zero_mul]
  rw [← h1, Nat.add_comm k N, Finset.sum_range_add]
  refine (add_zero _).symm.trans (congrArg _ (Finset.sum_eq_zero fun n _ => ?_).symm)
  rw [hg _ (Nat.le_add_right _ _), mul_zero]

variable (U : FVec Ideal S1x8192x5632 .f32) (W : FVec Ideal S3x5632 .f32) (B : FVec Ideal S5632 .f32)
  (Dn : FVec Ideal S2816x1024 .f32) (X : FVec Ideal S1x8192x1024 .f32)

/-- Row `n` of the gradient of the convolution's output; zero past the last row. -/
def dy (q : Fin 5632) (n : ℕ) : EReal := if h : n < 8192 then val_main_v38 (F := Ideal) U W B Dn X (ix2 ⟨n, h⟩ q) else 0

theorem dy_in (q : Fin 5632) (t : Fin 8192) : dy U W B Dn X q t.val = val_main_v38 (F := Ideal) U W B Dn X (ix2 t q) :=
  dif_pos t.isLt

theorem dy_out (q : Fin 5632) (n : ℕ) (h : 8192 ≤ n) : dy U W B Dn X q n = 0 := dif_neg (by omega)

/-- Row `n` of the convolution's input. -/
def urow (q : Fin 5632) (n : ℕ) : EReal := if h : n < 8192 then U (ix3 0 ⟨n, h⟩ q) else 0

theorem urow_in (q : Fin 5632) (t : Fin 8192) : urow U q t.val = U (ix3 0 t q) := dif_pos t.isLt

theorem v0_apply (t : Fin 8192) (q : Fin 5632) : val_main_v0 (F := Ideal) U (ix2 t q) = U (ix3 0 t q) := by
  pointwise [val_main_v0]

/-! ## The three results -/

theorem pad2 (n : Fin 8194) (t : Fin 8192) (hn : n.val = t.val + 2) (q : Fin 5632) :
    val_main_v47 (F := Ideal) U W B Dn X (ix2 n q) = dy U W B Dn X q t.val * W (ix2 2 q) := by
  rw [dy_in]
  pointwise [val_main_v47, val_main_cst_4, val_main_v43, val_main_v42, val_main_v24, val_main_v23, val_main_v22]
  rw [dif_pos (by omega)]
  exact congrArg (fun s => val_main_v38 (F := Ideal) U W B Dn X (ix2 s q) * W (ix2 2 q)) (Fin.ext (by show n.val - 2 = t.val; omega))

theorem pad1 (n : Fin 8194) (t : Fin 8192) (hn : n.val = t.val + 2) (q : Fin 5632) :
    val_main_v57 (F := Ideal) U W B Dn X (ix2 n q) = dy U W B Dn X q (t.val + 1) * W (ix2 1 q) := by
  pointwise [val_main_v57, val_main_cst_8, val_main_v52, val_main_v51, val_main_v17, val_main_v16, val_main_v15]
  by_cases h : t.val + 1 < 8192
  · rw [dy, dif_pos h, dif_pos (by omega)]
    exact congrArg (fun s => val_main_v38 (F := Ideal) U W B Dn X (ix2 s q) * W (ix2 1 q)) (Fin.ext (by show n.val - 1 = t.val + 1; omega))
  · rw [dy, dif_neg h, dif_neg (by omega), zero_mul]

theorem pad0 (n : Fin 8194) (t : Fin 8192) (hn : n.val = t.val + 2) (q : Fin 5632) :
    val_main_v71 (F := Ideal) U W B Dn X (ix2 n q) = dy U W B Dn X q (t.val + 2) * W (ix2 0 q) := by
  pointwise [val_main_v71, val_main_cst_14, val_main_v66, val_main_v65, val_main_v8, val_main_v7, val_main_v6]
  by_cases h : t.val + 2 < 8192
  · rw [dy, dif_pos h, dif_pos (by omega)]
    exact congrArg (fun s => val_main_v38 (F := Ideal) U W B Dn X (ix2 s q) * W (ix2 0 q)) (Fin.ext (by show n.val = t.val + 2; omega))
  · rw [dy, dif_neg h, dif_neg (by omega), zero_mul]

theorem ref_du (a : Fin 2) (h : Fin 4) (t : Fin 8192) (j : Fin 704) :
    val_main_v77 (F := Ideal) U W B Dn X (ix4 a h t j)
      = dy U W B Dn X (col a h j) t.val * W (ix2 2 (col a h j)) + dy U W B Dn X (col a h j) (t.val + 1) * W (ix2 1 (col a h j))
        + dy U W B Dn X (col a h j) (t.val + 2) * W (ix2 0 (col a h j)) := by
  have hn : (⟨2 + t.val, by omega⟩ : Fin 8194).val = t.val + 2 := Nat.add_comm _ _
  rw [← pad2 U W B Dn X ⟨2 + t.val, by omega⟩ t hn, ← pad1 U W B Dn X ⟨2 + t.val, by omega⟩ t hn,
    ← pad0 U W B Dn X ⟨2 + t.val, by omega⟩ t hn]
  pointwise [val_main_v77, val_main_v76, val_main_v75, val_main_v74, val_main_v72, val_main_v58]
  rfl

theorem ref_dcb (a : Fin 2) (h : Fin 4) (z : Fin 1) (j : Fin 704) :
    val_main_v80 (F := Ideal) U W B Dn X (ix4 a h z j) = ∑ t : Fin 8192, dy U W B Dn X (col a h j) t.val := by
  pointwise [val_main_v80, val_main_v61, val_main_cst_10, val_main_v60, val_main_v59, val_main_cst_9]
  rw [Fin.sum_univ_one]
  exact Finset.sum_congr rfl fun t _ => (dy_in U W B Dn X (col a h j) t).symm

/-- The convolution's input moved down by `k` rows, against the gradient. -/
theorem moved (q : Fin 5632) (k : ℕ) (v : Fin 8192 → EReal)
    (hv : ∀ t, v t = if t.val < k then 0 else urow U q (t.val - k)) :
    ∑ t : Fin 8192, v t * val_main_v38 (F := Ideal) U W B Dn X (ix2 t q)
      = ∑ t : Fin 8192, U (ix3 0 t q) * dy U W B Dn X q (t.val + k) := by
  have h := sum_shift 8192 k (urow U q) (dy U W B Dn X q) (dy_out U W B Dn X q)
  refine Eq.trans (Finset.sum_congr rfl fun t _ => ?_) (h.trans (Finset.sum_congr rfl fun t _ => by rw [urow_in]))
  rw [hv, dy_in]

theorem tap2 (z : Fin 1) (q : Fin 5632) : val_main_v45 (F := Ideal) U W B Dn X (ix2 z q)
    = ∑ t : Fin 8192, U (ix3 0 t q) * dy U W B Dn X q (t.val + 0) := by
  pointwise [val_main_v45, val_main_v44, val_main_cst_2, val_main_v41, val_main_v40, val_main_cst_1, val_main_v39,
    val_main_v21, val_main_v4, val_main_v3, val_main_v2, val_main_cst]
  rw [Fin.sum_univ_one]
  refine moved U W B Dn X q 0 _ fun t => ?_
  rw [if_neg (by omega), Nat.sub_zero, urow_in]
  exact v0_apply U t q

theorem tap1 (z : Fin 1) (q : Fin 5632) : val_main_v54 (F := Ideal) U W B Dn X (ix2 z q)
    = ∑ t : Fin 8192, U (ix3 0 t q) * dy U W B Dn X q (t.val + 1) := by
  pointwise [val_main_v54, val_main_v53, val_main_cst_6, val_main_v50, val_main_v49, val_main_cst_5, val_main_v48,
    val_main_v14, val_main_v4, val_main_v3, val_main_v2, val_main_cst]
  rw [Fin.sum_univ_one]
  refine moved U W B Dn X q 1 _ fun t => ?_
  by_cases h : t.val < 1
  · rw [dif_pos (by omega), if_pos h]
  · rw [dif_neg (by omega), if_neg h, urow, dif_pos (by omega), v0_apply]
    exact congrArg (fun s => U (ix3 0 s q)) (Fin.ext (by show 1 + t.val - 2 = t.val - 1; omega))

theorem v5_apply (t : Fin 8192) (q : Fin 5632) :
    val_main_v5 (F := Ideal) U (ix2 t q) = if t.val < 2 then 0 else urow U q (t.val - 2) := by
  pointwise [val_main_v5, val_main_v4, val_main_v3, val_main_v2, val_main_cst]
  by_cases h : t.val < 2
  · rw [dif_pos h, if_pos h]
  · rw [dif_neg h, if_neg h, urow, dif_pos (by omega), v0_apply]

theorem tap0 (z : Fin 1) (q : Fin 5632) : val_main_v68 (F := Ideal) U W B Dn X (ix2 z q)
    = ∑ t : Fin 8192, U (ix3 0 t q) * dy U W B Dn X q (t.val + 2) := by
  pointwise [val_main_v68, val_main_v67, val_main_cst_12, val_main_v64, val_main_v63, val_main_cst_11, val_main_v62]
  rw [Fin.sum_univ_one]
  exact moved U W B Dn X q 2 _ fun t => v5_apply U t q

theorem ref_dcw (a : Fin 2) (h : Fin 4) (k : Fin 3) (j : Fin 704) :
    val_main_v79 (F := Ideal) U W B Dn X (ix4 a h k j)
      = ∑ t : Fin 8192, U (ix3 0 t (col a h j)) * dy U W B Dn X (col a h j) (t.val + (2 - k.val)) := by
  pointwise [val_main_v79, val_main_v78, val_main_v70, val_main_v69, val_main_cst_13, val_main_v56, val_main_v55,
    val_main_cst_7, val_main_v46, val_main_cst_3]
  have hq : a.val * 2816 + h.val * 704 + j.val < 5632 := (col a h j).isLt
  have hk : k.val < 3 := k.isLt
  have e0 := fun z => tap0 U W B Dn X z (col a h j)
  have e1 := fun z => tap1 U W B Dn X z (col a h j)
  have e2 := fun z => tap2 U W B Dn X z (col a h j)
  generalize dy U W B Dn X (col a h j) = d at *
  generalize val_main_v45 (F := Ideal) U W B Dn X = T2 at *
  generalize val_main_v54 (F := Ideal) U W B Dn X = T1 at *
  generalize val_main_v68 (F := Ideal) U W B Dn X = T0 at *
  split_ifs with h1 h2 h3 h3 h2 h3
  all_goals first
    | exfalso; omega
    | skip
  · have e : 2 - k.val = 0 := by omega
    rw [e, add_zero, add_zero]
    exact e2 _
  · have e : 2 - k.val = 1 := by omega
    rw [e, add_zero, zero_add]
    exact e1 _
  · have e : 2 - k.val = 2 := by omega
    rw [e, zero_add, zero_add]
    exact e0 _

/-! ## The gate's gradient for finite arguments -/

/-- The convolution's output. -/
def conv (t : Fin 8192) (q : Fin 5632) : EReal := val_main_v27 (F := Ideal) U W B (ix2 t q)

/-- The gradient of the gated array. -/
def da (t : Fin 8192) (q : Fin 2816) : EReal := ∑ x : Fin 1024, X (ix3 0 t x) * Dn (ix2 q x)

/-- Every entry is a real number. -/
def IsReal {s : Shape} (v : FVec Ideal s .f32) : Prop := ∀ i, (v i : EReal) = (((v i : EReal).toReal : ℝ) : EReal)

theorem coe_mul' {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

theorem coe_add' {x y : EReal} (hx : ∃ r : ℝ, x = r) (hy : ∃ r : ℝ, y = r) : ∃ r : ℝ, x + y = r := by
  obtain ⟨a, rfl⟩ := hx
  obtain ⟨b, rfl⟩ := hy
  exact ⟨a + b, (EReal.coe_add a b).symm⟩

theorem conv_real (hU : IsReal U) (hW : IsReal W) (hB : IsReal B) (t : Fin 8192) (q : Fin 5632) :
    ∃ r : ℝ, conv U W B t q = r := by
  have hu : ∀ s : Fin 8192, ∃ r : ℝ, val_main_v0 (F := Ideal) U (ix2 s q) = r := fun s => ⟨_, (v0_apply U s q).trans (hU _)⟩
  unfold conv
  pointwise [val_main_v27, val_main_v26, val_main_v25, val_main_v24, val_main_v23, val_main_v22, val_main_v21,
    val_main_v20, val_main_v19, val_main_v18, val_main_v17, val_main_v16, val_main_v15, val_main_v14, val_main_v13,
    val_main_v12, val_main_v11, val_main_v10, val_main_v9, val_main_v8, val_main_v7, val_main_v6, val_main_v5,
    val_main_v4, val_main_v3, val_main_v2, val_main_cst]
  refine coe_add' (coe_add' (coe_add' ⟨_, hB _⟩ (coe_mul' ?_ ⟨_, hW _⟩)) (coe_mul' ?_ ⟨_, hW _⟩)) (coe_mul' (hu _) ⟨_, hW _⟩)
  · split
    · exact ⟨0, rfl⟩
    · exact hu _
  · split
    · exact ⟨0, rfl⟩
    · exact hu _

theorem da_real (hD : IsReal Dn) (hX : IsReal X) (t : Fin 8192) (q : Fin 2816) : ∃ r : ℝ, da Dn X t q = r := by
  refine ⟨∑ x : Fin 1024, (X (ix3 0 t x) : EReal).toReal * (Dn (ix2 q x) : EReal).toReal, ?_⟩
  rw [NormMath.coe_sum, da]
  exact Finset.sum_congr rfl fun x _ => by rw [EReal.coe_mul, ← hX, ← hD]

/-- The gate's gradient: the kernel's factored form equals the two terms of the product rule. -/
theorem gate_form {d v g : EReal} (hd : ∃ r : ℝ, d = r) (hv : ∃ r : ℝ, v = r) (hg : ∃ r : ℝ, g = r) :
    d * v * Ideal.logistic g + g * (d * v) * (Ideal.logistic g * (1 - Ideal.logistic g))
      = d * v * (Ideal.logistic g * (1 + g * (1 - Ideal.logistic g))) := by
  obtain ⟨d, rfl⟩ := hd
  obtain ⟨v, rfl⟩ := hv
  obtain ⟨g, rfl⟩ := hg
  have hs : ∃ s : ℝ, Ideal.logistic (g : EReal) = s := by
    refine ⟨1 / (1 + Real.exp (-g)), ?_⟩
    have hp : (1 + Real.exp (-g)) ≠ 0 := by positivity
    show Ideal.div 1 (1 + Ideal.exp (-(g : EReal))) = _
    rw [← EReal.coe_neg]
    show Ideal.div ((1 : ℝ) : EReal) (((1 : ℝ) : EReal) + ((Real.exp (-g) : ℝ) : EReal)) = _
    rw [← EReal.coe_add, Ideal.div, if_neg (by exact_mod_cast hp), one_div]
    rw [EReal.coe_inv, EReal.coe_one, one_mul]
  obtain ⟨s, hs⟩ := hs
  rw [hs]
  have h1 : (1 : EReal) = ((1 : ℝ) : EReal) := rfl
  rw [h1]
  norm_cast
  ring

theorem dy_gate (hU : IsReal U) (hW : IsReal W) (hB : IsReal B) (hD : IsReal Dn) (hX : IsReal X)
    (h : Fin 4) (t : Fin 8192) (j : Fin 704) :
    dy U W B Dn X (col 0 h j) t.val = da Dn X t (colD h j) * conv U W B t (col 1 h j)
      * (Ideal.logistic (conv U W B t (col 0 h j)) * (1 + conv U W B t (col 0 h j) * (1 - Ideal.logistic (conv U W B t (col 0 h j))))) := by
  rw [dy_in, ← gate_form (da_real Dn X hD hX t _) (conv_real U W B hU hW hB t _) (conv_real U W B hU hW hB t _)]
  unfold col
  pointwise [val_main_v38, val_main_v37, val_main_v36, val_main_v35, val_main_v34, val_main_v33, val_main_call0_v0,
    val_main_call0_v1, val_main_call0_v2, val_main_call0_cst, val_main_call0_v3, val_main_call0_cst_0, val_main_call0_v4,
    val_main_call0_cst_1, val_main_call0_v6, val_main_call0_v7, val_main_call1_v0, val_main_call1_v1, val_main_call1_v2,
    val_main_v30_0, val_main_v30_1, val_main_v30_2, val_main_v29, val_main_v28]
  have hq : h.val * 704 + j.val < 2816 := (colD h j).isLt
  unfold Ideal.logistic da conv colD
  rw [dif_pos hq]
  simp only [Nat.add_assoc]

theorem dy_up (h : Fin 4) (t : Fin 8192) (j : Fin 704) :
    dy U W B Dn X (col 1 h j) t.val = da Dn X t (colD h j)
      * (conv U W B t (col 0 h j) * Ideal.logistic (conv U W B t (col 0 h j))) := by
  rw [dy_in, mul_comm]
  unfold col
  pointwise [val_main_v38, val_main_v37, val_main_v36, val_main_v35, val_main_v34, val_main_v33, val_main_call0_v0,
    val_main_call0_v1, val_main_call0_v2, val_main_call0_cst, val_main_call0_v3, val_main_call0_cst_0, val_main_call0_v4,
    val_main_call0_cst_1, val_main_call0_v6, val_main_call0_v7, val_main_call1_v0, val_main_call1_v1, val_main_call1_v2,
    val_main_v30_0, val_main_v30_1, val_main_v30_2, val_main_v29, val_main_v28]
  unfold Ideal.logistic da conv colD
  have hq : ¬(2816 + h.val * 704 + j.val < 2816) := by omega
  have e : 2816 + h.val * 704 + j.val - 2816 = h.val * 704 + j.val := by omega
  rw [dif_neg hq]
  simp only [e]

end Cert.FfnActRefIdeal.Rows

end
-- ==== Proof.FfnUpRef.lean ====
module

public import proofs.«01_k».proof.Proof.Gen.FfnUpRefIdeal.Read
public import proofs.«01_k».proof.Proof.FfnActRef
public import Idealize.ShloMosaic.Lib.Pipeline.ValueKit

@[expose] public section

set_option maxRecDepth 16384
set_option maxHeartbeats 1000000

/-! The reference of the up projection, its short convolution and gate, entry by entry. The product's rows are counted
from two rows of zeros before the first, as the convolution reads them. -/

noncomputable section

open Idealize.ShloMosaic Idealize.ShloMosaic.TcCoe Idealize.SL.Sem

namespace Cert.FfnUpRefIdeal.Rows

open Cert.FfnUpRefIdeal.Read
open Cert.FfnActRefIdeal.Rows (col)

variable (H : FVec Ideal S1x8192x1024 .f32) (U : FVec Ideal S1024x5632 .f32) (K : FVec Ideal S3x5632 .f32) (B : FVec Ideal S5632 .f32)

/-- Row `n` of the product with two rows of zeros before it; zero past the last. -/
def pr (q : Fin 5632) (n : ℕ) : EReal := if h : n < 8194 then val_main_v4 (F := Ideal) H U (ix2 ⟨n, h⟩ q) else 0

theorem pr_low (q : Fin 5632) (n : ℕ) (h : n < 2) : pr H U q n = 0 := by
  rw [pr, dif_pos (by omega)]
  pointwise [val_main_v4, val_main_v3, val_main_cst]
  exact dif_pos h

theorem prod_apply (t : Fin 8192) (q : Fin 5632) :
    val_main_v1 (F := Ideal) H U (ix2 t q) = ∑ k : Fin 1024, (H (ix3 0 t k) : EReal) * U (ix2 k q) := by
  pointwise [val_main_v1, val_main_v0]

theorem pr_in (q : Fin 5632) (t : Fin 8192) : pr H U q (t.val + 2) = val_main_v1 (F := Ideal) H U (ix2 t q) := by
  rw [pr, dif_pos (by omega)]
  pointwise [val_main_v4]
  rw [dif_neg (by omega)]
  exact congrArg (fun s => val_main_v1 (F := Ideal) H U (ix2 s q)) (Fin.ext (by show t.val + 2 - 2 = t.val; omega))

/-- An entry of the convolution's output. -/
def conv (t : Fin 8192) (q : Fin 5632) : EReal :=
  B (ix1 q) + pr H U q t.val * K (ix2 0 q) + pr H U q (t.val + 1) * K (ix2 1 q) + pr H U q (t.val + 2) * K (ix2 2 q)

theorem conv_apply (t : Fin 8192) (q : Fin 5632) : val_main_v27 (F := Ideal) H U K B (ix2 t q) = conv H U K B t q := by
  have e0 : val_main_v5 (F := Ideal) H U (ix2 t q) = pr H U q t.val := by
    rw [pr, dif_pos (by omega)]
    pointwise [val_main_v5]
  have e1 : val_main_v14 (F := Ideal) H U (ix2 t q) = pr H U q (t.val + 1) := by
    rw [pr, dif_pos (by omega)]
    pointwise [val_main_v14]
    exact congrArg (fun s => val_main_v4 (F := Ideal) H U (ix2 s q)) (Fin.ext (Nat.add_comm 1 t.val))
  have e2 : val_main_v21 (F := Ideal) H U (ix2 t q) = pr H U q (t.val + 2) := by
    rw [pr, dif_pos (by omega)]
    pointwise [val_main_v21]
    exact congrArg (fun s => val_main_v4 (F := Ideal) H U (ix2 s q)) (Fin.ext (Nat.add_comm 2 t.val))
  unfold conv
  rw [← e0, ← e1, ← e2]
  pointwise [val_main_v27, val_main_v26, val_main_v20, val_main_v13, val_main_v10, val_main_v19, val_main_v12, val_main_v11,
    val_main_v9, val_main_v8, val_main_v7, val_main_v6, val_main_v18, val_main_v17, val_main_v16, val_main_v15,
    val_main_v25, val_main_v24, val_main_v23, val_main_v22]

theorem ref_u (a : Fin 2) (h : Fin 4) (t : Fin 8192) (j : Fin 704) :
    val_main_v37 (F := Ideal) H U (ix4 a h t j) = pr H U (col a h j) (t.val + 2) := by
  rw [pr_in]
  pointwise [val_main_v37, val_main_v36, val_main_v35]
  exact congrArg (fun q => val_main_v1 (F := Ideal) H U q) (by unfold col; blk_ext)

theorem ref_y (a : Fin 2) (h : Fin 4) (t : Fin 8192) (j : Fin 704) :
    val_main_v40 (F := Ideal) H U K B (ix4 a h t j) = conv H U K B t (col a h j) := by
  rw [← conv_apply]
  pointwise [val_main_v40, val_main_v39, val_main_v38]
  exact congrArg (fun q => val_main_v27 (F := Ideal) H U K B q) (by unfold col; blk_ext)

theorem act_apply (t : Fin 8192) (q : Fin 2816) (p g : Fin 5632) (hp : p.val = 2816 + q.val) (hg : g.val = q.val) :
    val_main_v31 (F := Ideal) H U K B (ix2 t q)
      = conv H U K B t g * Ideal.logistic (conv H U K B t g) * conv H U K B t p := by
  have eg : val_main_v28 (F := Ideal) H U K B (ix2 t q) = conv H U K B t g := by
    rw [← conv_apply]
    pointwise [val_main_v28]
    exact congrArg (fun s => val_main_v27 (F := Ideal) H U K B (ix2 t s)) (Fin.ext hg.symm)
  have ep : val_main_v29 (F := Ideal) H U K B (ix2 t q) = conv H U K B t p := by
    rw [← conv_apply]
    pointwise [val_main_v29]
    exact congrArg (fun s => val_main_v27 (F := Ideal) H U K B (ix2 t s)) (Fin.ext hp.symm)
  rw [← eg, ← ep]
  pointwise [val_main_v31, val_main_v30, val_main_call0_v5, val_main_call0_v4, val_main_call0_cst_0, val_main_call0_v3,
    val_main_call0_v2, val_main_call0_cst, val_main_call0_v1, val_main_call0_v0]
  unfold Ideal.logistic
  rfl

theorem ref_a (h : Fin 4) (t : Fin 8192) (j : Fin 704) :
    val_main_v34 (F := Ideal) H U K B (ix3 h t j)
      = conv H U K B t (col 0 h j) * Ideal.logistic (conv H U K B t (col 0 h j)) * conv H U K B t (col 1 h j) := by
  rw [← act_apply H U K B t ⟨h.val * 704 + j.val, by omega⟩ (col 1 h j) (col 0 h j)
    (by show 1 * 2816 + h.val * 704 + j.val = 2816 + (h.val * 704 + j.val); omega)
    (by show 0 * 2816 + h.val * 704 + j.val = h.val * 704 + j.val; omega)]
  pointwise [val_main_v34, val_main_v33, val_main_v32]

end Cert.FfnUpRefIdeal.Rows

end
-- ==== Proof.FfnAct.lean ====
module

public import proofs.«01_k».proof.Proof.Gen.FfnActIdeal.Value
public import proofs.«01_k».proof.Proof.FfnActRef
public import Idealize.ShloMosaic.Lib.Pipeline.ValueKit
public import Idealize.ShloMosaic.Lib.Pipeline.ReadBack

@[expose] public section

set_option maxRecDepth 16384
set_option maxHeartbeats 1000000

/-! The backward pass of the gate and the short convolution. A grid point works on one shard's columns and one tile of
512 rows, the last tile first: the two rows after the tile come from a scratch that holds the first rows of the tile
before (the later rows), zeros at the first. The input gradient is stored per point, the gradients of the taps and of
the bias are summed over the tiles. -/

noncomputable section

open Idealize.ShloMosaic Idealize.ShloMosaic.TcCoe Idealize.SL.Sem
open Idealize.ShloMosaic.Pipeline (Dat)

namespace Cert.FfnActIdeal.Gate

open Cert.FfnActIdeal Cert.FfnActIdeal.Gen
open Cert.FfnActRefIdeal.Read
open Cert.FfnActRefIdeal.Rows

variable (m : (ℓ : Loc nD τ sig) → Buf (Elt Ideal) ℓ)

/-- Which block of each array a grid point works on. -/
theorem idx : ∀ t : Fin cfg0.N, win0_0.index t = ![15 - t.val % 16, 0] ∧ win0_1.index t = ![t.val / 16, 0]
    ∧ win0_2.index t = ![0, t.val / 16, 15 - t.val % 16, 0] ∧ win0_3.index t = ![0, t.val / 16, 15 - t.val % 16, 0]
    ∧ win0_4.index t = ![t.val / 16, 0, 0] ∧ win0_5.index t = ![t.val / 16 + 4, 0, 0]
    ∧ win0_6.index t = ![0, t.val / 16, 15 - t.val % 16, 0] ∧ win0_7.index t = ![0, t.val / 16, 0, 0]
    ∧ win0_8.index t = ![0, t.val / 16, 0, 0] :=
  (by decide +kernel : ∀ t : Fin grid0.N, _)

/-! ## The arrays the host prepares -/

/-- An array of 5632 columns by half and shard. -/
def opU (X : FVec Ideal S8192x5632 .f32) : FVec Ideal S2x4x8192x704 .bf16 :=
  shapeCast S2x4x8192x704 (truncf .bf16 (transpose S8x8192x704 [1, 0, 2] (shapeCast S8192x8x704 X shapeCasts_S8192x5632_S8192x8x704)
    transposes_S8192x8x704_S8x8192x704_1_0_2) bitsLt_bf16_f32) shapeCasts_S8x8192x704_S2x4x8192x704

/-- The taps by half and shard. -/
def opW (W : FVec Ideal S3x5632 .f32) : FVec Ideal S8x3x704 .f32 :=
  transpose S8x3x704 [1, 0, 2] (shapeCast S3x8x704 W shapeCasts_S3x5632_S3x8x704) transposes_S3x8x704_S8x3x704_1_0_2

theorem opU_apply (X : FVec Ideal S8192x5632 .f32) (a : Fin 2) (h : Fin 4) (t : Fin 8192) (j : Fin 704) :
    opU X (ix4 a h t j) = X (ix2 t (col a h j)) := by
  pointwise [opU]
  exact congrArg (fun q => X (ix2 t q)) (Fin.ext (by show (a.val * 4 + h.val) * 704 + j.val = a.val * 2816 + h.val * 704 + j.val; omega))

theorem opW_apply (W : FVec Ideal S3x5632 .f32) (a : Fin 2) (h : Fin 4) (k : Fin 3) (j : Fin 704) :
    opW W (ix3 ⟨h.val + 4 * a.val, by omega⟩ k j) = W (ix2 k (col a h j)) := by
  pointwise [opW]
  exact congrArg (fun q => W (ix2 k q)) (Fin.ext (by show (h.val + 4 * a.val) * 704 + j.val = a.val * 2816 + h.val * 704 + j.val; omega))

variable (c : Dev nD) (t : Fin cfg0.N)

/-- The arguments: the convolution's input, its taps and bias, the down weights, the incoming gradient. -/
def aU : FVec Ideal S1x8192x5632 .f32 := m ((c : Thread nD τ).loc main_arg0)
@[inherit_doc aU] def aW : FVec Ideal S3x5632 .f32 := m ((c : Thread nD τ).loc main_arg1)
@[inherit_doc aU] def aB : FVec Ideal S5632 .f32 := m ((c : Thread nD τ).loc main_arg2)
@[inherit_doc aU] def aD : FVec Ideal S2816x1024 .f32 := m ((c : Thread nD τ).loc main_arg3)
@[inherit_doc aU] def aX : FVec Ideal S1x8192x1024 .f32 := m ((c : Thread nD τ).loc main_arg4)

theorem V_v28 : (V m c main_v28 : FVec Ideal S8192x1024 .f32)
    = shapeCast S8192x1024 (aX m c) shapeCasts_S1x8192x1024_S8192x1024 := by
  unfold V
  after_results_simp
  rfl

theorem V_v29 : (V m c main_v29 : FVec Ideal S2816x1024 .bf16) = truncf .bf16 (aD m c) bitsLt_bf16_f32 := by
  unfold V
  after_results_simp
  rfl

theorem V_v34 : (V m c main_v34 : FVec Ideal S2x4x8192x704 .bf16) = opU (val_main_v0 (F := Ideal) (aU m c)) := by
  unfold V
  after_results_simp
  rfl

theorem V_v38 : (V m c main_v38 : FVec Ideal S2x4x8192x704 .bf16)
    = opU (val_main_v27 (F := Ideal) (aU m c) (aW m c) (aB m c)) := by
  unfold V
  after_results_simp
  rfl

theorem V_v40 : (V m c main_v40 : FVec Ideal S8x3x704 .f32) = opW (aW m c) := by
  unfold V
  after_results_simp
  rfl

/-! ## What the body stores -/

theorem lt511 : ∀ r : Fin 512, IntOp.cmpi .slt (BitVec.ofNat 32 r.val) 511#32 = BitVec.ofBool (decide (r.val < 511)) := by
  decide +kernel

theorem lt510 : ∀ r : Fin 512, IntOp.cmpi .slt (BitVec.ofNat 32 r.val) 510#32 = BitVec.ofBool (decide (r.val < 510)) := by
  decide +kernel

theorem eq510 : ∀ r : Fin 512, IntOp.cmpi .eq (BitVec.ofNat 32 r.val) 510#32 = BitVec.ofBool (decide (r.val = 510)) := by
  decide +kernel

/-- A choice by a decided condition. -/
theorem pick {α : Type} (p : Prop) [Decidable p] (x y : α) : Scalar.select (BitVec.ofBool (decide p)) x y = if p then x else y := by
  by_cases h : p
  · simp [h, Scalar.select]
  · simp [h, Scalar.select]

/-- The next row of a tile, given the tile's rows and the row after it as rows of one array. -/
theorem next1 (D : ℕ → EReal) (b : ℕ) (G : Vec Ideal S512x704 .f32) (p : Vec Ideal S1x704 .f32) (j : Fin 704)
    (hG : ∀ r : Fin 512, (G (ix2 r j) : EReal) = D (b + r.val)) (hp : (p (ix2 0 j) : EReal) = D (b + 512)) (r : Fin 512)
    (s : Fin 512) (hs : s.val = (r.val + 512 - 511) % 512) :
    Scalar.select (IntOp.cmpi .slt (BitVec.ofNat 32 r.val) 511#32) (G (ix2 s j) : EReal) (p (ix2 0 j)) = D (b + r.val + 1) := by
  rw [lt511, pick, hG, hp]
  split <;> exact congrArg D (by omega)

/-- The row after the next. -/
theorem next2 (D : ℕ → EReal) (b : ℕ) (G : Vec Ideal S512x704 .f32) (p p' : Vec Ideal S1x704 .f32) (j : Fin 704)
    (hG : ∀ r : Fin 512, (G (ix2 r j) : EReal) = D (b + r.val)) (hp : (p (ix2 0 j) : EReal) = D (b + 512))
    (hp' : (p' (ix2 0 j) : EReal) = D (b + 513)) (r : Fin 512) (s : Fin 512) (hs : s.val = (r.val + 512 - 510) % 512) :
    Scalar.select (IntOp.cmpi .slt (BitVec.ofNat 32 r.val) 510#32) (G (ix2 s j) : EReal)
      (Scalar.select (IntOp.cmpi .eq (BitVec.ofNat 32 r.val) 510#32) (p (ix2 0 j)) (p' (ix2 0 j))) = D (b + r.val + 2) := by
  rw [lt510, eq510, pick, pick, hG, hp, hp']
  split
  · exact congrArg D (by omega)
  · split <;> exact congrArg D (by omega)

section pay

variable (G U0 d1 d2 : FVec Ideal S512x704 .f32) (p p' : Vec Ideal S1x704 .f32) (q : Vec Ideal S1x1x1x704 .f32)
  (w0 w1 w2 : Vec Ideal S1x1x704 .f32) (u : Vec Ideal S1x1x512x704 .bf16) (r : Fin 512) (j : Fin 704)

theorem p12 : k0_pay12 (F := Ideal) G p (iota Kind.tc S512x1 32 [0] iota_S512x1_d0_w32) (ix2 r j)
    = Scalar.select (IntOp.cmpi .slt (BitVec.ofNat 32 r.val) 511#32) (G (ix2 ⟨(r.val + 512 - 511) % 512, Nat.mod_lt _ (by norm_num)⟩ j) : EReal) (p (ix2 0 j)) := by
  pointwise [k0_pay12]
theorem p23 : k0_pay23 (F := Ideal) G p (ix2 r j)
    = Scalar.select (IntOp.cmpi .slt (BitVec.ofNat 32 r.val) 511#32) (G (ix2 ⟨(r.val + 512 - 511) % 512, Nat.mod_lt _ (by norm_num)⟩ j) : EReal) (p (ix2 0 j)) := by
  pointwise [k0_pay23]
theorem p13 : k0_pay13 (F := Ideal) G p p' (iota Kind.tc S512x1 32 [0] iota_S512x1_d0_w32) (ix2 r j)
    = Scalar.select (IntOp.cmpi .slt (BitVec.ofNat 32 r.val) 510#32) (G (ix2 ⟨(r.val + 512 - 510) % 512, Nat.mod_lt _ (by norm_num)⟩ j) : EReal)
      (Scalar.select (IntOp.cmpi .eq (BitVec.ofNat 32 r.val) 510#32) (p (ix2 0 j)) (p' (ix2 0 j))) := by
  pointwise [k0_pay13]
theorem p29 : k0_pay29 (F := Ideal) k0_pay24 (k0_pay25 G) k0_pay26 (k0_pay27 p) (k0_pay28 p') (ix2 r j)
    = Scalar.select (IntOp.cmpi .slt (BitVec.ofNat 32 r.val) 510#32) (G (ix2 ⟨(r.val + 512 - 510) % 512, Nat.mod_lt _ (by norm_num)⟩ j) : EReal)
      (Scalar.select (IntOp.cmpi .eq (BitVec.ofNat 32 r.val) 510#32) (p (ix2 0 j)) (p' (ix2 0 j))) := by
  pointwise [k0_pay29, k0_pay24, k0_pay25, k0_pay26, k0_pay27, k0_pay28]
theorem p20 : k0_pay20 (F := Ideal) d2 (k0_pay19 G d1 w2 w1) w0 (ix4 0 0 r j)
    = G (ix2 r j) * w2 (ix3 0 0 j) + d1 (ix2 r j) * w1 (ix3 0 0 j) + d2 (ix2 r j) * w0 (ix3 0 0 j) := by
  pointwise [k0_pay20, k0_pay19]
theorem p34 : k0_pay34 (F := Ideal) G d1 d2 w2 w1 w0 (ix4 0 0 r j)
    = G (ix2 r j) * w2 (ix3 0 0 j) + d1 (ix2 r j) * w1 (ix3 0 0 j) + d2 (ix2 r j) * w0 (ix3 0 0 j) := by
  pointwise [k0_pay34]
theorem p14 : k0_pay14 (F := Ideal) G q (ix4 0 0 0 j) = (q (ix4 0 0 0 j) : EReal) + ∑ r : Fin 512, (G (ix2 r j) : EReal) := by
  pointwise [k0_pay14]
theorem p30 : k0_pay30 (F := Ideal) G q (ix4 0 0 0 j) = (q (ix4 0 0 0 j) : EReal) + ∑ r : Fin 512, (G (ix2 r j) : EReal) := by
  pointwise [k0_pay30]
theorem p16 : k0_pay16 (F := Ideal) (k0_pay15 G (k0_pay11 u) p p' (iota Kind.tc S512x1 32 [0] iota_S512x1_d0_w32) q) (ix4 0 0 0 j)
    = (q (ix4 0 0 0 j) : EReal) + ∑ r : Fin 512, (k0_pay13 (F := Ideal) G p p' (iota Kind.tc S512x1 32 [0] iota_S512x1_d0_w32) (ix2 r j) : EReal)
      * u (ix4 0 0 r j) := by
  pointwise [k0_pay16, k0_pay15, k0_pay11]
theorem p17 : k0_pay17 (F := Ideal) (k0_pay11 u) d1 q (ix4 0 0 0 j)
    = (q (ix4 0 0 0 j) : EReal) + ∑ r : Fin 512, (d1 (ix2 r j) : EReal) * u (ix4 0 0 r j) := by
  pointwise [k0_pay17, k0_pay11]
theorem p18 : k0_pay18 (F := Ideal) G (k0_pay11 u) q (ix4 0 0 0 j)
    = (q (ix4 0 0 0 j) : EReal) + ∑ r : Fin 512, (G (ix2 r j) : EReal) * u (ix4 0 0 r j) := by
  pointwise [k0_pay18, k0_pay11]
theorem p31 : k0_pay31 (F := Ideal) (k0_pay22 u) k0_pay24 (k0_pay25 G) k0_pay26 (k0_pay27 p) (k0_pay28 p') q (ix4 0 0 0 j)
    = (q (ix4 0 0 0 j) : EReal) + ∑ r : Fin 512, (k0_pay29 (F := Ideal) k0_pay24 (k0_pay25 G) k0_pay26 (k0_pay27 p) (k0_pay28 p') (ix2 r j) : EReal)
      * u (ix4 0 0 r j) := by
  pointwise [k0_pay31, k0_pay22]
theorem p32 : k0_pay32 (F := Ideal) (k0_pay22 u) d1 q (ix4 0 0 0 j)
    = (q (ix4 0 0 0 j) : EReal) + ∑ r : Fin 512, (d1 (ix2 r j) : EReal) * u (ix4 0 0 r j) := by
  pointwise [k0_pay32, k0_pay22]
theorem p33 : k0_pay33 (F := Ideal) G (k0_pay22 u) q (ix4 0 0 0 j)
    = (q (ix4 0 0 0 j) : EReal) + ∑ r : Fin 512, (G (ix2 r j) : EReal) * u (ix4 0 0 r j) := by
  pointwise [k0_pay33, k0_pay22]
theorem p21 (s : Fin 8) : k0_pay21 (F := Ideal) G (ix2 s j) = G (ix2 ⟨s.val, by omega⟩ j) := by
  pointwise [k0_pay21]
theorem p35 (s : Fin 8) : k0_pay1 (F := Ideal) (k0_pay35 G) (ix2 s j) = G (ix2 ⟨s.val, by omega⟩ j) := by
  pointwise [k0_pay1, k0_pay35]
theorem p9 (v3 : Vec Ideal S512x1024 .f32) (v6 : Vec Ideal S704x1024 .bf16) (v9 v12 : Vec Ideal S1x1x512x704 .bf16) :
    k0_pay9 (F := Ideal) v3 v6 v9 v12 (ix2 r j) = (∑ x : Fin 1024, (v3 (ix2 r x) : EReal) * v6 (ix2 j x)) * v12 (ix4 0 0 r j)
      * (Ideal.logistic (v9 (ix4 0 0 r j)) * (1 + v9 (ix4 0 0 r j) * (1 - Ideal.logistic (v9 (ix4 0 0 r j))))) := by
  pointwise [k0_pay9, k0_pay6, k0_pay7, k0_pay8]
theorem p10 (v3 : Vec Ideal S512x1024 .f32) (v6 : Vec Ideal S704x1024 .bf16) (v9 : Vec Ideal S1x1x512x704 .bf16) :
    k0_pay10 (F := Ideal) v3 v6 v9 (ix2 r j) = (∑ x : Fin 1024, (v3 (ix2 r x) : EReal) * v6 (ix2 j x))
      * (v9 (ix4 0 0 r j) * Ideal.logistic (v9 (ix4 0 0 r j))) := by
  pointwise [k0_pay10, k0_pay6, k0_pay7, k0_pay8]
theorem z2 (s : Fin 8) : k0_pay2 (F := Ideal) (ix2 s j) = (0 : EReal) := by
  pointwise [k0_pay2]
theorem z3 (s : Fin 8) : k0_pay3 (F := Ideal) (ix2 s j) = (0 : EReal) := by
  pointwise [k0_pay3]
theorem z4 (a : Fin 2) (z : Fin 1) (s : Fin 3) : k0_pay4 (F := Ideal) (ix4 a z s j) = (0 : EReal) := by
  pointwise [k0_pay4]
theorem z5 (a : Fin 2) (z : Fin 1) (s : Fin 1) : k0_pay5 (F := Ideal) (ix4 a z s j) = (0 : EReal) := by
  pointwise [k0_pay5]

end pay

/-! ## Arrays stored in pieces -/

/-- A piece that misses an entry along one axis leaves it. -/
theorem off_piece {s : Shape} {e : EltTy} {o n : Fin s.rank → ℕ} {inb} {w} {L : List (View.Piece (Elt Ideal) s e)} {y : s.Idx} (a : Fin s.rank)
    (h : (y a).val < o a ∨ o a + n a ≤ (y a).val) : View.canon (⟨Rect.unit o n inb, w⟩ :: L) y = View.canon L y :=
  View.canon_cons_of_not_mem _ L fun hm => by
    have := (Rect.mem_set_unit (inb := inb)).mp hm a
    omega

/-- A piece that holds an entry gives it. -/
theorem on_piece {s : Shape} {e : EltTy} {o n : Fin s.rank → ℕ} {inb} {w} {L : List (View.Piece (Elt Ideal) s e)} {y : s.Idx} (x : (⟨s.rank, n⟩ : Shape).Idx)
    (h : ∀ a, (y a).val = o a + (x a).val) : View.canon (⟨Rect.unit o n inb, w⟩ :: L) y = w x := by
  have he : y = (Rect.unit o n inb).emb x := funext fun a => Fin.ext (by
    rw [h a]
    show _ = o a + 1 * (x a).val
    omega)
  rw [he]
  exact View.canon_cons_emb _ _ _ _

/-- An entry read through a rectangle of unit strides. -/
theorem ld_at {s : Shape} {e : EltTy} (X : Vec Ideal s e) {o n : Fin s.rank → ℕ} {inb} (x : (⟨s.rank, n⟩ : Shape).Idx) (y : s.Idx)
    (h : ∀ a, (y a).val = o a + (x a).val) : View.ld X (Rect.unit o n inb) x = X y :=
  congrArg X (funext fun a => Fin.ext (by
    rw [h a]
    show o a + 1 * (x a).val = _
    omega))

section pieces

variable {n : ℕ} {e : EltTy} {L : List (View.Piece (Elt Ideal) ⟨4, ![2, 1, n, 704]⟩ e)}

theorem skip {A K l : ℕ} {inb w} {a : Fin 2} {z : Fin 1} {k : Fin n} {j : Fin 704} (h : a.val ≠ A ∨ k.val < K ∨ K + l ≤ k.val) :
    View.canon (⟨Rect.unit (s := ⟨4, ![2, 1, n, 704]⟩) ![A, 0, K, 0] ![1, 1, l, 704] inb, w⟩ :: L) (ix4 a z k j) = View.canon L (ix4 a z k j) := by
  rcases h with h | h
  · exact off_piece (0 : Fin 4) (by show a.val < A ∨ A + 1 ≤ a.val; omega)
  · exact off_piece (2 : Fin 4) h

theorem hit {A K l : ℕ} {inb w} {a : Fin 2} {z : Fin 1} {k : Fin n} {j : Fin 704} (x : Fin l) (ha : a.val = A) (hk : k.val = K + x.val) :
    View.canon (⟨Rect.unit (s := ⟨4, ![2, 1, n, 704]⟩) ![A, 0, K, 0] ![1, 1, l, 704] inb, w⟩ :: L) (ix4 a z k j) = w (ix4 0 0 x j) :=
  on_piece (s := ⟨4, ![2, 1, n, 704]⟩) (ix4 0 0 x j) fun (b : Fin 4) => match b with
    | 0 => ha
    | 1 => by show z.val = 0 + 0; omega
    | 2 => hk
    | 3 => by show j.val = 0 + j.val; omega

end pieces

end Cert.FfnActIdeal.Gate

end
-- ==== Proof.FfnActTile.lean ====
module

public import proofs.«01_k».proof.Proof.FfnAct
public import Idealize.ShloMosaic.Lib.Pipeline.ValueKit
public import Idealize.ShloMosaic.Lib.Pipeline.ReadBack

@[expose] public section

set_option maxRecDepth 16384
set_option maxHeartbeats 1000000

/-! The gradient of the convolution's output on a tile, what the stored rows add up, and the rows a tile hands on. -/

noncomputable section

open Idealize.ShloMosaic Idealize.ShloMosaic.TcCoe Idealize.SL.Sem
open Idealize.ShloMosaic.Pipeline (Dat)

namespace Cert.FfnActIdeal.Gate

open Cert.FfnActIdeal Cert.FfnActIdeal.Gen
open Cert.FfnActRefIdeal.Read
open Cert.FfnActRefIdeal.Rows

variable (m : (ℓ : Loc nD τ sig) → Buf (Elt Ideal) ℓ) (c : Dev nD) (t : Fin cfg0.N)

/-! ## The blocks as parts of the arrays -/

/-- The blocks a point reads. -/
def b0 : Vec Ideal S512x1024 .f32 := iblk m c 0 t
@[inherit_doc b0] def b1 : Vec Ideal S704x1024 .bf16 := iblk m c 1 t
@[inherit_doc b0] def b2 : Vec Ideal S2x1x512x704 .bf16 := iblk m c 2 t
@[inherit_doc b0] def b3 : Vec Ideal S2x1x512x704 .bf16 := iblk m c 3 t
@[inherit_doc b0] def b4 : Vec Ideal S1x3x704 .f32 := iblk m c 4 t
@[inherit_doc b0] def b5 : Vec Ideal S1x3x704 .f32 := iblk m c 5 t

/-- The point's shard. -/
def sh : Fin 4 := ⟨t.val / 16, by have h : t.val < 64 := t.isLt; omega⟩

/-- The first row of the point's tile. -/
def base : ℕ := (15 - t.val % 16) * 512

/-- Row `r` of the point's tile. -/
def row (r : Fin 512) : Fin 8192 := ⟨base t + r.val, by unfold base; omega⟩

theorem flat_apply (X : FVec Ideal S1x8192x1024 .f32) (r : Fin 8192) (k : Fin 1024) :
    shapeCast S8192x1024 X shapeCasts_S1x8192x1024_S8192x1024 (ix2 r k) = X (ix3 0 r k) := by pointwise

theorem blk0 (r : Fin 512) (k : Fin 1024) : b0 m c t (ix2 r k) = aX m c (ix3 0 (row t r) k) := by
  refine Eq.trans ?_ (flat_apply (aX m c) (row t r) k)
  unfold b0 row base
  rw [← V_v28 m c]
  blk_ext [iblk, idx t]

theorem blk1 (j : Fin 704) (k : Fin 1024) : (b1 m c t (ix2 j k) : EReal) = aD m c (ix2 (colD (sh t) j) k) := by
  refine Eq.trans ?_ (show (truncf .bf16 (aD m c) bitsLt_bf16_f32 : FVec Ideal S2816x1024 .bf16) (ix2 (colD (sh t) j) k) = _ by pointwise)
  unfold b1 colD sh
  rw [← V_v29 m c]
  blk_ext [iblk, idx t]

theorem blk2 (a : Fin 2) (r : Fin 512) (j : Fin 704) :
    (b2 m c t (ix4 a 0 r j) : EReal) = aU m c (ix3 0 (row t r) (col a (sh t) j)) := by
  refine Eq.trans ?_ ((opU_apply _ a (sh t) (row t r) j).trans (v0_apply (aU m c) _ _))
  unfold b2 row base sh
  rw [← V_v34 m c]
  blk_ext [iblk, idx t]

theorem blk3 (a : Fin 2) (r : Fin 512) (j : Fin 704) :
    (b3 m c t (ix4 a 0 r j) : EReal) = conv (aU m c) (aW m c) (aB m c) (row t r) (col a (sh t) j) := by
  refine Eq.trans ?_ (opU_apply _ a (sh t) (row t r) j)
  unfold b3 row base sh
  rw [← V_v38 m c]
  blk_ext [iblk, idx t]

theorem blk4 (k : Fin 3) (j : Fin 704) : (b4 m c t (ix3 0 k j) : EReal) = aW m c (ix2 k (col 0 (sh t) j)) := by
  refine Eq.trans ?_ (opW_apply _ 0 (sh t) k j)
  unfold b4 sh
  rw [← V_v40 m c]
  blk_ext [iblk, idx t]

theorem blk5 (k : Fin 3) (j : Fin 704) : (b5 m c t (ix3 0 k j) : EReal) = aW m c (ix2 k (col 1 (sh t) j)) := by
  refine Eq.trans ?_ (opW_apply _ 1 (sh t) k j)
  unfold b5 sh
  rw [← V_v40 m c]
  blk_ext [iblk, idx t]

/-! ## A tile's rows of the gradient of the convolution's output -/

/-- The half's gradient at the point's columns, by row. -/
def DY (a : Fin 2) (j : Fin 704) : ℕ → EReal := dy (aU m c) (aW m c) (aB m c) (aD m c) (aX m c) (col a (sh t) j)

/-- Every argument's entries are real numbers. -/
def Fine : Prop := IsReal (aU m c) ∧ IsReal (aW m c) ∧ IsReal (aB m c) ∧ IsReal (aD m c) ∧ IsReal (aX m c)

/-- A half of a block. -/
def half (X : Vec Ideal S2x1x512x704 .bf16) (a : Fin 2) : Vec Ideal S1x1x512x704 .bf16 := match a with
  | 0 => View.ld X (Rect.unit ![0, 0, 0, 0] ![1, 1, 512, 704] inb_S2x1x512x704_S1x1x512x704_0_0_0_0)
  | 1 => View.ld X (Rect.unit ![1, 0, 0, 0] ![1, 1, 512, 704] inb_S2x1x512x704_S1x1x512x704_1_0_0_0)

theorem half_apply (X : Vec Ideal S2x1x512x704 .bf16) (a : Fin 2) (r : Fin 512) (j : Fin 704) :
    half X a (ix4 0 0 r j) = X (ix4 a 0 r j) := by
  match a with
  | 0 => exact ld_at X _ _ (fun b => match b with | 0 => rfl | 1 => rfl | 2 => (Nat.zero_add _).symm | 3 => (Nat.zero_add _).symm)
  | 1 => exact ld_at X _ _ (fun b => match b with | 0 => rfl | 1 => rfl | 2 => (Nat.zero_add _).symm | 3 => (Nat.zero_add _).symm)

/-- A tap's row of a block. -/
def tap (X : Vec Ideal S1x3x704 .f32) (k : Fin 3) : Vec Ideal S1x1x704 .f32 := match k with
  | 0 => View.ld X (Rect.unit ![0, 0, 0] ![1, 1, 704] inb_S1x3x704_S1x1x704_0_0_0)
  | 1 => View.ld X (Rect.unit ![0, 1, 0] ![1, 1, 704] inb_S1x3x704_S1x1x704_0_1_0)
  | 2 => View.ld X (Rect.unit ![0, 2, 0] ![1, 1, 704] inb_S1x3x704_S1x1x704_0_2_0)

theorem tap_apply (X : Vec Ideal S1x3x704 .f32) (k : Fin 3) (j : Fin 704) : tap X k (ix3 0 0 j) = X (ix3 0 k j) := by
  match k with
  | 0 => exact ld_at X _ _ (fun b => match b with | 0 => rfl | 1 => rfl | 2 => (Nat.zero_add _).symm)
  | 1 => exact ld_at X _ _ (fun b => match b with | 0 => rfl | 1 => rfl | 2 => (Nat.zero_add _).symm)
  | 2 => exact ld_at X _ _ (fun b => match b with | 0 => rfl | 1 => rfl | 2 => (Nat.zero_add _).symm)

/-- The tile of the gate's gradient. -/
def gate : FVec Ideal S512x704 .f32 := k0_pay9 (F := Ideal) (b0 m c t) (b1 m c t) (half (b3 m c t) 0) (half (b3 m c t) 1)
/-- The tile of the up half's gradient. -/
def up : FVec Ideal S512x704 .f32 := k0_pay10 (F := Ideal) (b0 m c t) (b1 m c t) (half (b3 m c t) 0)

theorem dot (r : Fin 512) (j : Fin 704) : ∑ x : Fin 1024, (b0 m c t (ix2 r x) : EReal) * b1 m c t (ix2 j x)
    = da (aD m c) (aX m c) (row t r) (colD (sh t) j) :=
  Finset.sum_congr rfl fun x _ => by rw [blk0, blk1]

theorem gate_row (H : Fine m c) (j : Fin 704) (r : Fin 512) : (gate m c t (ix2 r j) : EReal) = DY m c t 0 j (base t + r.val) := by
  unfold gate
  rw [p9, dot, half_apply, half_apply, blk3, blk3]
  exact (dy_gate _ _ _ _ _ H.1 H.2.1 H.2.2.1 H.2.2.2.1 H.2.2.2.2 (sh t) (row t r) j).symm

theorem up_row (j : Fin 704) (r : Fin 512) : (up m c t (ix2 r j) : EReal) = DY m c t 1 j (base t + r.val) := by
  unfold up
  rw [p10, dot, half_apply, blk3]
  exact (dy_up _ _ _ _ _ (sh t) (row t r) j).symm

section point

variable (p p' : Vec Ideal S1x704 .f32)

/-- The two rows after the tile are the given ones. -/
def After (a : Fin 2) : Prop := ∀ j, (p (ix2 0 j) : EReal) = DY m c t a j (base t + 512) ∧ (p' (ix2 0 j) : EReal) = DY m c t a j (base t + 513)

variable {p p'}

theorem gate1 (H : Fine m c) (h : After m c t p p' 0) (r : Fin 512) (j : Fin 704) :
    k0_pay12 (F := Ideal) (gate m c t) p (iota Kind.tc S512x1 32 [0] iota_S512x1_d0_w32) (ix2 r j) = DY m c t 0 j (base t + r.val + 1) :=
  (p12 _ _ r j).trans (next1 _ _ _ _ j (gate_row m c t H j) (h j).1 r _ rfl)

theorem gate2 (H : Fine m c) (h : After m c t p p' 0) (r : Fin 512) (j : Fin 704) :
    k0_pay13 (F := Ideal) (gate m c t) p p' (iota Kind.tc S512x1 32 [0] iota_S512x1_d0_w32) (ix2 r j) = DY m c t 0 j (base t + r.val + 2) :=
  (p13 _ _ _ r j).trans (next2 _ _ _ _ _ j (gate_row m c t H j) (h j).1 (h j).2 r _ rfl)

theorem up1 (h : After m c t p p' 1) (r : Fin 512) (j : Fin 704) :
    k0_pay23 (F := Ideal) (up m c t) p (ix2 r j) = DY m c t 1 j (base t + r.val + 1) :=
  (p23 _ _ r j).trans (next1 _ _ _ _ j (up_row m c t j) (h j).1 r _ rfl)

theorem up2 (h : After m c t p p' 1) (r : Fin 512) (j : Fin 704) :
    k0_pay29 (F := Ideal) k0_pay24 (k0_pay25 (up m c t)) k0_pay26 (k0_pay27 p) (k0_pay28 p') (ix2 r j) = DY m c t 1 j (base t + r.val + 2) :=
  (p29 _ _ _ r j).trans (next2 _ _ _ _ _ j (up_row m c t j) (h j).1 (h j).2 r _ rfl)

/-- The reference's input gradient at the point's rows and columns. -/
def DU (a : Fin 2) (r : Fin 512) (j : Fin 704) : EReal :=
  val_main_v77 (F := Ideal) (aU m c) (aW m c) (aB m c) (aD m c) (aX m c) (ix4 a (sh t) (row t r) j)

theorem gate_du (H : Fine m c) (h : After m c t p p' 0) (r : Fin 512) (j : Fin 704) :
    k0_pay20 (F := Ideal) (k0_pay13 (gate m c t) p p' (iota Kind.tc S512x1 32 [0] iota_S512x1_d0_w32))
      (k0_pay19 (gate m c t) (k0_pay12 (gate m c t) p (iota Kind.tc S512x1 32 [0] iota_S512x1_d0_w32)) (tap (b4 m c t) 2) (tap (b4 m c t) 1))
      (tap (b4 m c t) 0) (ix4 0 0 r j) = DU m c t 0 r j := by
  unfold DU
  rw [p20, gate1 m c t H h, gate2 m c t H h, gate_row m c t H, tap_apply, tap_apply, tap_apply, blk4, blk4, blk4, ref_du]
  rfl

theorem up_du (h : After m c t p p' 1) (r : Fin 512) (j : Fin 704) :
    k0_pay34 (F := Ideal) (up m c t) (k0_pay23 (up m c t) p) (k0_pay29 k0_pay24 (k0_pay25 (up m c t)) k0_pay26 (k0_pay27 p) (k0_pay28 p'))
      (tap (b5 m c t) 2) (tap (b5 m c t) 1) (tap (b5 m c t) 0) (ix4 0 0 r j) = DU m c t 1 r j := by
  unfold DU
  rw [p34, up1 m c t h, up2 m c t h, up_row m c t, tap_apply, tap_apply, tap_apply, blk5, blk5, blk5, ref_du]
  rfl

/-- The tile's part of the gradient of tap `k`. -/
def T (a : Fin 2) (k : Fin 3) (j : Fin 704) : EReal :=
  ∑ r : Fin 512, DY m c t a j (base t + r.val + (2 - k.val)) * aU m c (ix3 0 (row t r) (col a (sh t) j))

/-- The tile's part of the bias's gradient. -/
def Tb (a : Fin 2) (j : Fin 704) : EReal := ∑ r : Fin 512, DY m c t a j (base t + r.val)

theorem part (a : Fin 2) (k : Fin 3) (j : Fin 704) (x : EReal) (f : Fin 512 → EReal)
    (hf : ∀ r, f r = DY m c t a j (base t + r.val + (2 - k.val))) :
    x + ∑ r : Fin 512, f r * half (b2 m c t) a (ix4 0 0 r j) = x + T m c t a k j :=
  congrArg _ (Finset.sum_congr rfl fun r _ => by rw [hf, half_apply, blk2])

variable (q : Vec Ideal S1x1x1x704 .f32) (j : Fin 704)

theorem s00 (H : Fine m c) (h : After m c t p p' 0) : k0_pay16 (F := Ideal) (k0_pay15 (gate m c t) (k0_pay11 (half (b2 m c t) 0)) p p'
      (iota Kind.tc S512x1 32 [0] iota_S512x1_d0_w32) q) (ix4 0 0 0 j) = (q (ix4 0 0 0 j) : EReal) + T m c t 0 0 j :=
  (p16 _ _ _ q _ j).trans (part m c t 0 0 j _ _ fun r => gate2 m c t H h r j)

theorem s01 (H : Fine m c) (h : After m c t p p' 0) : k0_pay17 (F := Ideal) (k0_pay11 (half (b2 m c t) 0))
      (k0_pay12 (gate m c t) p (iota Kind.tc S512x1 32 [0] iota_S512x1_d0_w32)) q (ix4 0 0 0 j) = (q (ix4 0 0 0 j) : EReal) + T m c t 0 1 j :=
  (p17 _ q _ j).trans (part m c t 0 1 j _ _ fun r => gate1 m c t H h r j)

theorem s02 (H : Fine m c) : k0_pay18 (F := Ideal) (gate m c t) (k0_pay11 (half (b2 m c t) 0)) q (ix4 0 0 0 j)
      = (q (ix4 0 0 0 j) : EReal) + T m c t 0 2 j :=
  (p18 _ q _ j).trans (part m c t 0 2 j _ _ fun r => gate_row m c t H j r)

theorem s10 (h : After m c t p p' 1) : k0_pay31 (F := Ideal) (k0_pay22 (half (b2 m c t) 1)) k0_pay24 (k0_pay25 (up m c t)) k0_pay26
      (k0_pay27 p) (k0_pay28 p') q (ix4 0 0 0 j) = (q (ix4 0 0 0 j) : EReal) + T m c t 1 0 j :=
  (p31 _ _ _ q _ j).trans (part m c t 1 0 j _ _ fun r => up2 m c t h r j)

theorem s11 (h : After m c t p p' 1) : k0_pay32 (F := Ideal) (k0_pay22 (half (b2 m c t) 1)) (k0_pay23 (up m c t) p) q (ix4 0 0 0 j)
      = (q (ix4 0 0 0 j) : EReal) + T m c t 1 1 j :=
  (p32 _ q _ j).trans (part m c t 1 1 j _ _ fun r => up1 m c t h r j)

theorem s12 : k0_pay33 (F := Ideal) (up m c t) (k0_pay22 (half (b2 m c t) 1)) q (ix4 0 0 0 j)
      = (q (ix4 0 0 0 j) : EReal) + T m c t 1 2 j :=
  (p33 _ q _ j).trans (part m c t 1 2 j _ _ fun r => up_row m c t j r)

theorem sb0 (H : Fine m c) : k0_pay14 (F := Ideal) (gate m c t) q (ix4 0 0 0 j) = (q (ix4 0 0 0 j) : EReal) + Tb m c t 0 j :=
  (p14 _ q j).trans (congrArg _ (Finset.sum_congr rfl fun r _ => gate_row m c t H j r))

theorem sb1 : k0_pay30 (F := Ideal) (up m c t) q (ix4 0 0 0 j) = (q (ix4 0 0 0 j) : EReal) + Tb m c t 1 j :=
  (p30 _ q j).trans (congrArg _ (Finset.sum_congr rfl fun r _ => up_row m c t j r))

end point

/-! ## The rows handed to the next tile -/

theorem carry_gate (H : Fine m c) (s : Fin 8) (j : Fin 704) :
    ((outsAt0 m c t.val t.isLt).2.2.2.1 (ix2 s j) : EReal) = DY m c t 0 j (base t + s.val) := by
  by_cases h : t.val % 16 = 0
  · rw [outsAt0_A m c t h]
    frame_out
    exact (p21 (gate m c t) j s).trans (gate_row m c t H j _)
  · rw [outsAt0_B m c t h]
    frame_out
    exact (p21 (gate m c t) j s).trans (gate_row m c t H j _)

theorem carry_up (s : Fin 8) (j : Fin 704) :
    ((outsAt0 m c t.val t.isLt).2.2.2.2 (ix2 s j) : EReal) = DY m c t 1 j (base t + s.val) := by
  by_cases h : t.val % 16 = 0
  · rw [outsAt0_A m c t h]
    frame_out
    exact (p35 (up m c t) j s).trans (up_row m c t j _)
  · rw [outsAt0_B m c t h]
    frame_out
    exact (p35 (up m c t) j s).trans (up_row m c t j _)

/-- A row of the scratch. -/
def srow (X : Vec Ideal S8x704 .f32) (s : Fin 2) : Vec Ideal S1x704 .f32 := match s with
  | 0 => View.ld X (Rect.unit ![0, 0] ![1, 704] inb_S8x704_S1x704_0_0)
  | 1 => View.ld X (Rect.unit ![1, 0] ![1, 704] inb_S8x704_S1x704_1_0)

theorem srow_apply (X : Vec Ideal S8x704 .f32) (s : Fin 2) (j : Fin 704) : srow X s (ix2 0 j) = X (ix2 ⟨s.val, by omega⟩ j) := by
  match s with
  | 0 => exact ld_at X _ _ (fun b => match b with | 0 => rfl | 1 => (Nat.zero_add _).symm)
  | 1 => exact ld_at X _ _ (fun b => match b with | 0 => rfl | 1 => (Nat.zero_add _).symm)

/-- The tile before, which holds the rows after. -/
def prev (t : Fin cfg0.N) : Fin cfg0.N := ⟨t.val - 1, Nat.lt_of_le_of_lt (Nat.sub_le _ _) t.isLt⟩

theorem DY_prev (h : t.val % 16 ≠ 0) (a : Fin 2) (j : Fin 704) (n : ℕ) :
    DY m c (prev t) a j (base (prev t) + n) = DY m c t a j (base t + (512 + n)) := by
  have e : sh (prev t) = sh t := Fin.ext (by show (t.val - 1) / 16 = t.val / 16; omega)
  have eb : base (prev t) = base t + 512 := by
    show (15 - (t.val - 1) % 16) * 512 = (15 - t.val % 16) * 512 + 512
    omega
  unfold DY
  rw [e, eb, Nat.add_assoc]

theorem after_zero (h : t.val % 16 = 0) (X : Vec Ideal S8x704 .f32) (hX : ∀ s j, (X (ix2 s j) : EReal) = 0) (a : Fin 2) :
    After m c t (srow X 0) (srow X 1) a := fun j => by
  have hb : base t = 7680 := by unfold base; omega
  rw [srow_apply, srow_apply, hX, hX, hb]
  exact ⟨(dy_out _ _ _ _ _ _ _ (by omega)).symm, (dy_out _ _ _ _ _ _ _ (by omega)).symm⟩

theorem after_gate (h : t.val % 16 ≠ 0) (H : Fine m c) :
    After m c t (srow (outsAt0 m c (prev t).val (prev t).isLt).2.2.2.1 0) (srow (outsAt0 m c (prev t).val (prev t).isLt).2.2.2.1 1) 0 := fun j => by
  rw [srow_apply, srow_apply, carry_gate m c (prev t) H, carry_gate m c (prev t) H, DY_prev m c t h, DY_prev m c t h]
  exact ⟨rfl, rfl⟩

theorem after_up (h : t.val % 16 ≠ 0) :
    After m c t (srow (outsAt0 m c (prev t).val (prev t).isLt).2.2.2.2 0) (srow (outsAt0 m c (prev t).val (prev t).isLt).2.2.2.2 1) 1 := fun j => by
  rw [srow_apply, srow_apply, carry_up m c (prev t), carry_up m c (prev t), DY_prev m c t h, DY_prev m c t h]
  exact ⟨rfl, rfl⟩

end Cert.FfnActIdeal.Gate

end
-- ==== Proof.FfnActOut.lean ====
module

public import proofs.«01_k».proof.Proof.FfnActTile
public import Idealize.ShloMosaic.Lib.Pipeline.ValueKit
public import Idealize.ShloMosaic.Lib.Pipeline.ReadBack

@[expose] public section

set_option maxRecDepth 16384
set_option maxHeartbeats 1000000

/-! What a grid point of the gate's and the convolution's backward pass leaves in the three results, and the results after
the run. -/

noncomputable section

open Idealize.ShloMosaic Idealize.ShloMosaic.TcCoe Idealize.SL.Sem
open Idealize.ShloMosaic.Pipeline (Dat)

namespace Cert.FfnActIdeal.Gate

open Cert.FfnActIdeal Cert.FfnActIdeal.Gen
open Cert.FfnActRefIdeal.Read
open Cert.FfnActRefIdeal.Rows

variable (m : (ℓ : Loc nD τ sig) → Buf (Elt Ideal) ℓ) (c : Dev nD) (t : Fin cfg0.N)

/-! ## What a point leaves -/

/-- Two stored halves cover the array. -/
theorem two {n : ℕ} {e : EltTy} (E : Fin 2 → Fin n → Fin 704 → Elt Ideal e) {L : List (View.Piece (Elt Ideal) ⟨4, ![2, 1, n, 704]⟩ e)}
    {i1 i0} {w1 w0 : Vec Ideal ⟨4, ![1, 1, n, 704]⟩ e} (h1 : ∀ k j, w1 (ix4 0 0 k j) = E 1 k j) (h0 : ∀ k j, w0 (ix4 0 0 k j) = E 0 k j)
    (a : Fin 2) (z : Fin 1) (k : Fin n) (j : Fin 704) :
    View.canon (⟨Rect.unit (s := ⟨4, ![2, 1, n, 704]⟩) ![1, 0, 0, 0] ![1, 1, n, 704] i1, w1⟩
      :: ⟨Rect.unit (s := ⟨4, ![2, 1, n, 704]⟩) ![0, 0, 0, 0] ![1, 1, n, 704] i0, w0⟩ :: L) (ix4 a z k j) = E a k j :=
  match a with
  | 1 => (hit (A := 1) (K := 0) (a := 1) k rfl (Nat.zero_add _).symm).trans (h1 k j)
  | 0 => (skip (A := 1) (K := 0) (l := n) (a := 0) (Or.inl (by decide))).trans
      ((hit (A := 0) (K := 0) (a := 0) k rfl (Nat.zero_add _).symm).trans (h0 k j))

/-- Six stored rows, one for each half and tap, cover the array: an entry is the entry of its row. -/
theorem six (E : Fin 2 → Fin 3 → Fin 704 → EReal) {L : List (View.Piece (Elt Ideal) ⟨4, ![2, 1, 3, 704]⟩ .f32)}
    {i12 i11 i10 i02 i01 i00} {w12 w11 w10 w02 w01 w00 : Vec Ideal ⟨4, ![1, 1, 1, 704]⟩ .f32}
    (h12 : ∀ j, w12 (ix4 0 0 0 j) = E 1 2 j) (h11 : ∀ j, w11 (ix4 0 0 0 j) = E 1 1 j) (h10 : ∀ j, w10 (ix4 0 0 0 j) = E 1 0 j)
    (h02 : ∀ j, w02 (ix4 0 0 0 j) = E 0 2 j) (h01 : ∀ j, w01 (ix4 0 0 0 j) = E 0 1 j) (h00 : ∀ j, w00 (ix4 0 0 0 j) = E 0 0 j)
    (a : Fin 2) (z : Fin 1) (k : Fin 3) (j : Fin 704) :
    View.canon (⟨Rect.unit (s := ⟨4, ![2, 1, 3, 704]⟩) ![1, 0, 2, 0] ![1, 1, 1, 704] i12, w12⟩
      :: ⟨Rect.unit (s := ⟨4, ![2, 1, 3, 704]⟩) ![1, 0, 1, 0] ![1, 1, 1, 704] i11, w11⟩
      :: ⟨Rect.unit (s := ⟨4, ![2, 1, 3, 704]⟩) ![1, 0, 0, 0] ![1, 1, 1, 704] i10, w10⟩
      :: ⟨Rect.unit (s := ⟨4, ![2, 1, 3, 704]⟩) ![0, 0, 2, 0] ![1, 1, 1, 704] i02, w02⟩
      :: ⟨Rect.unit (s := ⟨4, ![2, 1, 3, 704]⟩) ![0, 0, 1, 0] ![1, 1, 1, 704] i01, w01⟩
      :: ⟨Rect.unit (s := ⟨4, ![2, 1, 3, 704]⟩) ![0, 0, 0, 0] ![1, 1, 1, 704] i00, w00⟩ :: L) (ix4 a z k j) = E a k j :=
  match a, k with
  | 1, 2 => (hit (A := 1) (K := 2) (a := 1) (k := 2) 0 rfl rfl).trans (h12 j)
  | 1, 1 => (skip (A := 1) (K := 2) (l := 1) (a := 1) (k := 1) (by decide)).trans <|
      (hit (A := 1) (K := 1) (a := 1) (k := 1) 0 rfl rfl).trans (h11 j)
  | 1, 0 => (skip (A := 1) (K := 2) (l := 1) (a := 1) (k := 0) (by decide)).trans <|
      (skip (A := 1) (K := 1) (l := 1) (a := 1) (k := 0) (by decide)).trans <|
      (hit (A := 1) (K := 0) (a := 1) (k := 0) 0 rfl rfl).trans (h10 j)
  | 0, 2 => (skip (A := 1) (K := 2) (l := 1) (a := 0) (k := 2) (by decide)).trans <|
      (skip (A := 1) (K := 1) (l := 1) (a := 0) (k := 2) (by decide)).trans <|
      (skip (A := 1) (K := 0) (l := 1) (a := 0) (k := 2) (by decide)).trans <|
      (hit (A := 0) (K := 2) (a := 0) (k := 2) 0 rfl rfl).trans (h02 j)
  | 0, 1 => (skip (A := 1) (K := 2) (l := 1) (a := 0) (k := 1) (by decide)).trans <|
      (skip (A := 1) (K := 1) (l := 1) (a := 0) (k := 1) (by decide)).trans <|
      (skip (A := 1) (K := 0) (l := 1) (a := 0) (k := 1) (by decide)).trans <|
      (skip (A := 0) (K := 2) (l := 1) (a := 0) (k := 1) (by decide)).trans <|
      (hit (A := 0) (K := 1) (a := 0) (k := 1) 0 rfl rfl).trans (h01 j)
  | 0, 0 => (skip (A := 1) (K := 2) (l := 1) (a := 0) (k := 0) (by decide)).trans <|
      (skip (A := 1) (K := 1) (l := 1) (a := 0) (k := 0) (by decide)).trans <|
      (skip (A := 1) (K := 0) (l := 1) (a := 0) (k := 0) (by decide)).trans <|
      (skip (A := 0) (K := 2) (l := 1) (a := 0) (k := 0) (by decide)).trans <|
      (skip (A := 0) (K := 1) (l := 1) (a := 0) (k := 0) (by decide)).trans <|
      (hit (A := 0) (K := 0) (a := 0) (k := 0) 0 rfl rfl).trans (h00 j)

/-- A row read from a block. -/
theorem ld_row {n : ℕ} {e : EltTy} (X : Vec Ideal ⟨4, ![2, 1, n, 704]⟩ e) {A K : ℕ} {inb} (a : Fin 2) (z : Fin 1) (k : Fin n) (j : Fin 704)
    (ha : A = a.val) (hk : K = k.val) :
    View.ld X (Rect.unit (s := ⟨4, ![2, 1, n, 704]⟩) ![A, 0, K, 0] ![1, 1, 1, 704] inb) (ix4 0 0 0 j) = X (ix4 a z k j) := by
  exact ld_at (s := ⟨4, ![2, 1, n, 704]⟩) X (ix4 0 0 0 j) (ix4 a z k j) fun (b : Fin 4) => match b with
    | 0 => ha.symm
    | 1 => by show z.val = 0 + 0; omega
    | 2 => hk.symm
    | 3 => (Nat.zero_add _).symm

theorem z4_all (y) : k0_pay4 (F := Ideal) y = (0 : EReal) :=
  (congrArg _ (show y = ix4 (y 0) (y 1) (y 2) (y 3) by blk_ext)).trans (z4 (y 3) (y 0) (y 1) (y 2))

theorem z5_all (y) : k0_pay5 (F := Ideal) y = (0 : EReal) :=
  (congrArg _ (show y = ix4 (y 0) (y 1) (y 2) (y 3) by blk_ext)).trans (z5 (y 3) (y 0) (y 1) (y 2))

theorem out6 (H : Fine m c) (a : Fin 2) (z : Fin 1) (r : Fin 512) (j : Fin 704) :
    ((outsAt0 m c t.val t.isLt).1 (ix4 a z r j) : EReal) = DU m c t a r j := by
  by_cases h : t.val % 16 = 0
  · rw [outsAt0_A m c t h]
    frame_out
    simp (disch := first | rfl | decide) only [↓View.readCov_skip, View.readCov_fill]
    exact two (e := .bf16) (DU m c t) (fun k j => up_du m c t (after_zero m c t h _ (fun s j => z3 j s) 1) k j)
      (fun k j => gate_du m c t H (after_zero m c t h _ (fun s j => z2 j s) 0) k j) a z r j
  · rw [outsAt0_B m c t h]
    frame_out
    rw [(Memref.isWhole_whole cc0_scratch0).read_unread, (Memref.isWhole_whole cc0_scratch1).read_unread]
    exact two (e := .bf16) (DU m c t) (fun k j => up_du m c t (after_up m c t h) k j)
      (fun k j => gate_du m c t H (after_gate m c t h H) k j) a z r j

theorem out7A (H : Fine m c) (h : t.val % 16 = 0) (a : Fin 2) (z : Fin 1) (k : Fin 3) (j : Fin 704) :
    ((outsAt0 m c t.val t.isLt).2.1 (ix4 a z k j) : EReal) = 0 + T m c t a k j := by
  rw [outsAt0_A m c t h]
  frame_out
  simp (disch := first | rfl | decide) only [↓View.readCov_skip, View.readCov_fill]
  exact six (fun a k j => 0 + T m c t a k j)
    (fun j => (s12 m c t _ j).trans (congrArg (· + T m c t 1 2 j) (z4_all _)))
    (fun j => (s11 m c t _ j (after_zero m c t h _ (fun s j => z3 j s) 1)).trans (congrArg (· + T m c t 1 1 j) (z4_all _)))
    (fun j => (s10 m c t _ j (after_zero m c t h _ (fun s j => z3 j s) 1)).trans (congrArg (· + T m c t 1 0 j) (z4_all _)))
    (fun j => (s02 m c t _ j H).trans (congrArg (· + T m c t 0 2 j) (z4_all _)))
    (fun j => (s01 m c t _ j H (after_zero m c t h _ (fun s j => z2 j s) 0)).trans (congrArg (· + T m c t 0 1 j) (z4_all _)))
    (fun j => (s00 m c t _ j H (after_zero m c t h _ (fun s j => z2 j s) 0)).trans (congrArg (· + T m c t 0 0 j) (z4_all _))) a z k j

theorem out7B (H : Fine m c) (h : t.val % 16 ≠ 0) (a : Fin 2) (z : Fin 1) (k : Fin 3) (j : Fin 704) :
    ((outsAt0 m c t.val t.isLt).2.1 (ix4 a z k j) : EReal) = (outsAt0 m c (prev t).val (prev t).isLt).2.1 (ix4 a z k j) + T m c t a k j := by
  rw [outsAt0_B m c t h]
  frame_out
  rw [(Memref.isWhole_whole cc0_scratch0).read_unread, (Memref.isWhole_whole cc0_scratch1).read_unread]
  exact six (fun a k j => (outsAt0 m c (prev t).val (prev t).isLt).2.1 (ix4 a z k j) + T m c t a k j)
    (fun j => (s12 m c t _ j).trans (congrArg (· + T m c t 1 2 j) (ld_row _ 1 z 2 j rfl rfl)))
    (fun j => (s11 m c t _ j (after_up m c t h)).trans (congrArg (· + T m c t 1 1 j) (ld_row _ 1 z 1 j rfl rfl)))
    (fun j => (s10 m c t _ j (after_up m c t h)).trans (congrArg (· + T m c t 1 0 j) (ld_row _ 1 z 0 j rfl rfl)))
    (fun j => (s02 m c t _ j H).trans (congrArg (· + T m c t 0 2 j) (ld_row _ 0 z 2 j rfl rfl)))
    (fun j => (s01 m c t _ j H (after_gate m c t h H)).trans (congrArg (· + T m c t 0 1 j) (ld_row _ 0 z 1 j rfl rfl)))
    (fun j => (s00 m c t _ j H (after_gate m c t h H)).trans (congrArg (· + T m c t 0 0 j) (ld_row _ 0 z 0 j rfl rfl))) a z k j

theorem out8A (H : Fine m c) (h : t.val % 16 = 0) (a : Fin 2) (z : Fin 1) (k : Fin 1) (j : Fin 704) :
    ((outsAt0 m c t.val t.isLt).2.2.1 (ix4 a z k j) : EReal) = 0 + Tb m c t a j := by
  rw [outsAt0_A m c t h]
  frame_out
  simp (disch := first | rfl | decide) only [↓View.readCov_skip, View.readCov_fill]
  exact two (e := .f32) (fun a k j => 0 + Tb m c t a j)
    (fun k j => (congrArg _ (show ix4 0 0 k j = ix4 0 0 0 j by blk_ext)).trans ((sb1 m c t _ j).trans (congrArg (· + Tb m c t 1 j) (z5_all _))))
    (fun k j => (congrArg _ (show ix4 0 0 k j = ix4 0 0 0 j by blk_ext)).trans ((sb0 m c t _ j H).trans (congrArg (· + Tb m c t 0 j) (z5_all _)))) a z k j

theorem out8B (H : Fine m c) (h : t.val % 16 ≠ 0) (a : Fin 2) (z : Fin 1) (k : Fin 1) (j : Fin 704) :
    ((outsAt0 m c t.val t.isLt).2.2.1 (ix4 a z k j) : EReal) = (outsAt0 m c (prev t).val (prev t).isLt).2.2.1 (ix4 a z k j) + Tb m c t a j := by
  rw [outsAt0_B m c t h]
  frame_out
  exact two (e := .f32) (fun a k j => (outsAt0 m c (prev t).val (prev t).isLt).2.2.1 (ix4 a z k j) + Tb m c t a j)
    (fun k j => (congrArg _ (show ix4 0 0 k j = ix4 0 0 0 j by blk_ext)).trans
      ((sb1 m c t _ j).trans (congrArg (· + Tb m c t 1 j) (ld_row _ 1 z k j rfl (by omega)))))
    (fun k j => (congrArg _ (show ix4 0 0 k j = ix4 0 0 0 j by blk_ext)).trans
      ((sb0 m c t _ j H).trans (congrArg (· + Tb m c t 0 j) (ld_row _ 0 z k j rfl (by omega))))) a z k j

/-! ## The results after the run -/

/-- The tiles' sums, last tile first, are the sum over all rows. -/
theorem tiles (f : Fin 8192 → EReal) (g : Fin 16 → Fin 512 → EReal)
    (h : ∀ s r (l : Fin 8192), l.val = (15 - s.val) * 512 + r.val → g s r = f l) : ∑ s : Fin 16, ∑ r : Fin 512, g s r = ∑ l : Fin 8192, f l := by
  rw [← Equiv.sum_comp Fin.revPerm]
  refine Fin.sum_mul_add_congr fun s r hl => ?_
  exact h _ _ _ (by show s.val * 512 + r.val = (15 - (16 - (s.val + 1))) * 512 + r.val; omega)

/-- The input gradient's array after the run. -/
theorem final6 (H : Fine m c) : (dats m 0 c).arrAt 6 (cfgs 0).N = (val_main_v77 (F := Ideal)
    (aU m c) (aW m c) (aB m c) (aD m c) (aX m c) : Vec Ideal S2x4x8192x704 .bf16) := by
  refine (dats m 0 c).arrAt_eq_of_covers 6 _ (by decide +kernel) fun t hf y => ?_
  blk_simp
  rw [after0_6]
  refine (congrArg _ (show y = ix4 (y 0) (y 1) (y 2) (y 3) by blk_ext)).trans ((out6 m c t H (y 0) (y 1) (y 2) (y 3)).trans ?_)
  unfold DU
  refine congrArg (val_main_v77 (F := Ideal) (aU m c) (aW m c) (aB m c) (aD m c) (aX m c)) ?_
  unfold row base sh
  blk_ext [idx t]

/-- The taps' gradient's array after the run. -/
theorem final7 (H : Fine m c) : (dats m 0 c).arrAt 7 (cfgs 0).N = (val_main_v79 (F := Ideal)
    (aU m c) (aW m c) (aB m c) (aD m c) (aX m c) : Vec Ideal S2x4x3x704 .f32) := by
  refine (dats m 0 c).arrAt_eq_of_covers 7 _ (by decide +kernel) fun t hf y => ?_
  blk_simp
  rw [after0_7]
  have hy : ∀ y : S2x1x3x704.Idx, y = ix4 (y 0) (y 1) (y 2) (y 3) := fun y => by blk_ext
  have hs := Pipeline.eq_sum_fin_of_reset_step_apply_of_flush (fun n h => (outsAt0 m c n h).2.1) 16 (fun _ => 0)
    (fun s (y : S2x1x3x704.Idx) => T m c s (y 0) (y 2) (y 3))
    (fun t h0 y => (congrArg _ (hy y)).trans (out7A m c t H h0 (y 0) (y 1) (y 2) (y 3)))
    (fun t h0 y => (congrArg _ (hy y)).trans ((out7B m c t H h0 (y 0) (y 1) (y 2) (y 3)).trans
      (congrArg (· + T m c t (y 0) (y 2) (y 3)) (congrArg _ (hy y).symm)))) t ((flush0_7 t).mp hf) y
  refine hs.trans ?_
  rw [zero_add]
  refine Eq.trans ?_ ((ref_dcw (aU m c) (aW m c) (aB m c) (aD m c) (aX m c) (y 0) (sh t) (y 2) (y 3)).symm.trans (congrArg _ ?_))
  · refine tiles _ _ fun s r l hl => ?_
    have e : sh ⟨16 * (t.val / 16) + s.val, Pipeline.run_point_lt_of_flush t ((flush0_7 t).mp hf) s⟩ = sh t :=
      Fin.ext (by show (16 * (t.val / 16) + s.val) / 16 = t.val / 16; have := s.isLt; omega)
    have eb : base ⟨16 * (t.val / 16) + s.val, Pipeline.run_point_lt_of_flush t ((flush0_7 t).mp hf) s⟩ + r.val = l.val := by
      show (15 - (16 * (t.val / 16) + s.val) % 16) * 512 + r.val = l.val
      have := s.isLt
      omega
    have er : row ⟨16 * (t.val / 16) + s.val, Pipeline.run_point_lt_of_flush t ((flush0_7 t).mp hf) s⟩ r = l := Fin.ext eb
    unfold DY
    rw [e, eb, er, mul_comm]
  · unfold sh
    blk_ext [idx t]

/-- The bias's gradient's array after the run. -/
theorem final8 (H : Fine m c) : (dats m 0 c).arrAt 8 (cfgs 0).N = (val_main_v80 (F := Ideal)
    (aU m c) (aW m c) (aB m c) (aD m c) (aX m c) : Vec Ideal S2x4x1x704 .f32) := by
  refine (dats m 0 c).arrAt_eq_of_covers 8 _ (by decide +kernel) fun t hf y => ?_
  blk_simp
  rw [after0_8]
  have hy : ∀ y : S2x1x1x704.Idx, y = ix4 (y 0) (y 1) (y 2) (y 3) := fun y => by blk_ext
  have hs := Pipeline.eq_sum_fin_of_reset_step_apply_of_flush (fun n h => (outsAt0 m c n h).2.2.1) 16 (fun _ => 0)
    (fun s (y : S2x1x1x704.Idx) => Tb m c s (y 0) (y 3))
    (fun t h0 y => (congrArg _ (hy y)).trans (out8A m c t H h0 (y 0) (y 1) (y 2) (y 3)))
    (fun t h0 y => (congrArg _ (hy y)).trans ((out8B m c t H h0 (y 0) (y 1) (y 2) (y 3)).trans
      (congrArg (· + Tb m c t (y 0) (y 3)) (congrArg _ (hy y).symm)))) t ((flush0_8 t).mp hf) y
  refine hs.trans ?_
  rw [zero_add]
  refine Eq.trans ?_ ((ref_dcb (aU m c) (aW m c) (aB m c) (aD m c) (aX m c) (y 0) (sh t) (y 2) (y 3)).symm.trans (congrArg _ ?_))
  · refine tiles _ _ fun s r l hl => ?_
    have e : sh ⟨16 * (t.val / 16) + s.val, Pipeline.run_point_lt_of_flush t ((flush0_8 t).mp hf) s⟩ = sh t :=
      Fin.ext (by show (16 * (t.val / 16) + s.val) / 16 = t.val / 16; have := s.isLt; omega)
    have eb : base ⟨16 * (t.val / 16) + s.val, Pipeline.run_point_lt_of_flush t ((flush0_8 t).mp hf) s⟩ + r.val = l.val := by
      show (15 - (16 * (t.val / 16) + s.val) % 16) * 512 + r.val = l.val
      have := s.isLt
      omega
    unfold DY
    rw [e, eb]
  · unfold sh
    blk_ext [idx t]

end Cert.FfnActIdeal.Gate

end
-- ==== Proof.FfnUp.lean ====
module

public import proofs.«01_k».proof.Proof.Gen.FfnUpIdeal.Value
public import proofs.«01_k».proof.Proof.FfnUpRef
public import proofs.«01_k».proof.Proof.FfnActOut
public import Idealize.ShloMosaic.Lib.Pipeline.ValueKit
public import Idealize.ShloMosaic.Lib.Pipeline.ReadBack

@[expose] public section

set_option maxRecDepth 16384
set_option maxHeartbeats 1000000

/-! The up projection with the short convolution and the gate. A grid point works on one shard's columns and one tile of
512 rows, in order: the two rows before the tile come from a scratch that holds the last rows of the tile before, zeros
at the first. -/

noncomputable section

open Idealize.ShloMosaic Idealize.ShloMosaic.TcCoe Idealize.SL.Sem
open Idealize.ShloMosaic.Pipeline (Dat)

namespace Cert.FfnUpIdeal.Gate

open Cert.FfnUpIdeal Cert.FfnUpIdeal.Gen
open Cert.FfnUpRefIdeal.Read
open Cert.FfnUpRefIdeal.Rows
open Cert.FfnActRefIdeal.Rows (col)
open Cert.FfnActIdeal.Gate (opW opW_apply pick ld_at tap tap_apply two)

variable (m : (ℓ : Loc nD τ sig) → Buf (Elt Ideal) ℓ)

/-- Which block of each array a grid point works on. -/
theorem idx : ∀ t : Fin cfg0.N, win0_0.index t = ![t.val % 16, 0]
    ∧ win0_1.index t = ![t.val / 16, 0, 0] ∧ win0_2.index t = ![t.val / 16 + 4, 0, 0]
    ∧ win0_3.index t = ![t.val / 16, 0, 0] ∧ win0_4.index t = ![t.val / 16 + 4, 0, 0]
    ∧ win0_5.index t = ![t.val / 16, 0, 0] ∧ win0_6.index t = ![t.val / 16 + 4, 0, 0]
    ∧ win0_7.index t = ![t.val / 16, t.val % 16, 0] ∧ win0_8.index t = ![0, t.val / 16, t.val % 16, 0]
    ∧ win0_9.index t = ![0, t.val / 16, t.val % 16, 0] :=
  (by decide +kernel : ∀ t : Fin grid0.N, _)

variable (c : Dev nD) (t : Fin cfg0.N)

/-! ## The arrays the host prepares -/

/-- The arguments: the activations, the up weights, the taps, the bias. -/
def aH : FVec Ideal S1x8192x1024 .f32 := m ((c : Thread nD τ).loc main_arg0)
@[inherit_doc aH] def aU : FVec Ideal S1024x5632 .f32 := m ((c : Thread nD τ).loc main_arg1)
@[inherit_doc aH] def aK : FVec Ideal S3x5632 .f32 := m ((c : Thread nD τ).loc main_arg2)
@[inherit_doc aH] def aB : FVec Ideal S5632 .f32 := m ((c : Thread nD τ).loc main_arg3)

/-- The activations as operand. -/
def opH (X : FVec Ideal S1x8192x1024 .f32) : FVec Ideal S8192x1024 .bf16 :=
  truncf .bf16 (shapeCast S8192x1024 X shapeCasts_S1x8192x1024_S8192x1024) bitsLt_bf16_f32

/-- The up weights by half and shard. -/
def opE (X : FVec Ideal S1024x5632 .f32) : FVec Ideal S8x1024x704 .bf16 :=
  truncf .bf16 (transpose S8x1024x704 [1, 0, 2] (shapeCast S1024x8x704 X shapeCasts_S1024x5632_S1024x8x704)
    transposes_S1024x8x704_S8x1024x704_1_0_2) bitsLt_bf16_f32

/-- The bias by half and shard. -/
def opB (X : FVec Ideal S5632 .f32) : FVec Ideal S8x1x704 .f32 := shapeCast S8x1x704 X shapeCasts_S5632_S8x1x704

theorem opH_apply (X : FVec Ideal S1x8192x1024 .f32) (r : Fin 8192) (k : Fin 1024) : (opH X (ix2 r k) : EReal) = X (ix3 0 r k) := by
  pointwise [opH]

theorem opE_apply (X : FVec Ideal S1024x5632 .f32) (a : Fin 2) (h : Fin 4) (k : Fin 1024) (j : Fin 704) :
    (opE X (ix3 ⟨h.val + 4 * a.val, by omega⟩ k j) : EReal) = X (ix2 k (col a h j)) := by
  pointwise [opE]
  exact congrArg (fun q => X (ix2 k q)) (Fin.ext (by show (h.val + 4 * a.val) * 704 + j.val = a.val * 2816 + h.val * 704 + j.val; omega))

theorem opB_apply (X : FVec Ideal S5632 .f32) (a : Fin 2) (h : Fin 4) (j : Fin 704) :
    (opB X (ix3 ⟨h.val + 4 * a.val, by omega⟩ 0 j) : EReal) = X (ix1 (col a h j)) := by
  pointwise [opB]
  exact congrArg (fun q => X (ix1 q)) (Fin.ext (by show (h.val + 4 * a.val) * 704 + j.val = a.val * 2816 + h.val * 704 + j.val; omega))

theorem V_v1 : (V m c main_v1 : FVec Ideal S8192x1024 .bf16) = opH (aH m c) := by
  unfold V
  after_results_simp
  rfl

theorem V_v4 : (V m c main_v4 : FVec Ideal S8x1024x704 .bf16) = opE (aU m c) := by
  unfold V
  after_results_simp
  rfl

theorem V_v6 : (V m c main_v6 : FVec Ideal S8x3x704 .f32) = opW (aK m c) := by
  unfold V
  after_results_simp
  rfl

theorem V_v7 : (V m c main_v7 : FVec Ideal S8x1x704 .f32) = opB (aB m c) := by
  unfold V
  after_results_simp
  rfl

/-! ## The blocks as parts of the arrays -/

/-- The blocks a point reads. -/
def b0 : Vec Ideal S512x1024 .bf16 := iblk m c 0 t
@[inherit_doc b0] def b1 : Vec Ideal S1x1024x704 .bf16 := iblk m c 1 t
@[inherit_doc b0] def b2 : Vec Ideal S1x1024x704 .bf16 := iblk m c 2 t
@[inherit_doc b0] def b3 : Vec Ideal S1x3x704 .f32 := iblk m c 3 t
@[inherit_doc b0] def b4 : Vec Ideal S1x3x704 .f32 := iblk m c 4 t
@[inherit_doc b0] def b5 : Vec Ideal S1x1x704 .f32 := iblk m c 5 t
@[inherit_doc b0] def b6 : Vec Ideal S1x1x704 .f32 := iblk m c 6 t

/-- The point's shard. -/
def sh : Fin 4 := ⟨t.val / 16, by have h : t.val < 64 := t.isLt; omega⟩

/-- The first row of the point's tile. -/
def base : ℕ := t.val % 16 * 512

/-- Row `r` of the point's tile. -/
def row (r : Fin 512) : Fin 8192 := ⟨base t + r.val, by unfold base; omega⟩

theorem blk0 (r : Fin 512) (k : Fin 1024) : (b0 m c t (ix2 r k) : EReal) = aH m c (ix3 0 (row t r) k) := by
  refine Eq.trans ?_ (opH_apply (aH m c) (row t r) k)
  unfold b0 row base
  rw [← V_v1 m c]
  blk_ext [iblk, idx t]

theorem blk1 (k : Fin 1024) (j : Fin 704) : (b1 m c t (ix3 0 k j) : EReal) = aU m c (ix2 k (col 0 (sh t) j)) := by
  refine Eq.trans ?_ (opE_apply _ 0 (sh t) k j)
  unfold b1 sh
  rw [← V_v4 m c]
  blk_ext [iblk, idx t]

theorem blk2 (k : Fin 1024) (j : Fin 704) : (b2 m c t (ix3 0 k j) : EReal) = aU m c (ix2 k (col 1 (sh t) j)) := by
  refine Eq.trans ?_ (opE_apply _ 1 (sh t) k j)
  unfold b2 sh
  rw [← V_v4 m c]
  blk_ext [iblk, idx t]

theorem blk3 (k : Fin 3) (j : Fin 704) : (b3 m c t (ix3 0 k j) : EReal) = aK m c (ix2 k (col 0 (sh t) j)) := by
  refine Eq.trans ?_ (opW_apply _ 0 (sh t) k j)
  unfold b3 sh
  rw [← V_v6 m c]
  blk_ext [iblk, idx t]

theorem blk4 (k : Fin 3) (j : Fin 704) : (b4 m c t (ix3 0 k j) : EReal) = aK m c (ix2 k (col 1 (sh t) j)) := by
  refine Eq.trans ?_ (opW_apply _ 1 (sh t) k j)
  unfold b4 sh
  rw [← V_v6 m c]
  blk_ext [iblk, idx t]

theorem blk5 (j : Fin 704) : (b5 m c t (ix3 0 0 j) : EReal) = aB m c (ix1 (col 0 (sh t) j)) := by
  refine Eq.trans ?_ (opB_apply _ 0 (sh t) j)
  unfold b5 sh
  rw [← V_v7 m c]
  blk_ext [iblk, idx t]

theorem blk6 (j : Fin 704) : (b6 m c t (ix3 0 0 j) : EReal) = aB m c (ix1 (col 1 (sh t) j)) := by
  refine Eq.trans ?_ (opB_apply _ 1 (sh t) j)
  unfold b6 sh
  rw [← V_v7 m c]
  blk_ext [iblk, idx t]

/-! ## What the body stores -/

theorem ge1 : ∀ r : Fin 512, IntOp.cmpi .sge (BitVec.ofNat 32 r.val) 1#32 = BitVec.ofBool (decide (1 ≤ r.val)) := by
  decide +kernel

theorem ge2 : ∀ r : Fin 512, IntOp.cmpi .sge (BitVec.ofNat 32 r.val) 2#32 = BitVec.ofBool (decide (2 ≤ r.val)) := by
  decide +kernel

theorem eq0 : ∀ r : Fin 512, IntOp.cmpi .eq (BitVec.ofNat 32 r.val) 0#32 = BitVec.ofBool (decide (r.val = 0)) := by
  decide +kernel

/-- The row before, given the tile's rows and the row before the tile as rows of one sequence. -/
theorem prev1 (D : ℕ → EReal) (b : ℕ) (G : Vec Ideal S512x704 .f32) (p : Vec Ideal S1x704 .f32) (j : Fin 704)
    (hG : ∀ r : Fin 512, (G (ix2 r j) : EReal) = D (b + r.val + 2)) (hp : (p (ix2 0 j) : EReal) = D (b + 1)) (r : Fin 512)
    (s : Fin 512) (hs : s.val = (r.val + 512 - 1) % 512) :
    Scalar.select (IntOp.cmpi .sge (BitVec.ofNat 32 r.val) 1#32) (G (ix2 s j) : EReal) (p (ix2 0 j)) = D (b + r.val + 1) := by
  rw [ge1, pick, hG, hp]
  split <;> exact congrArg D (by omega)

/-- The row before that. -/
theorem prev2 (D : ℕ → EReal) (b : ℕ) (G : Vec Ideal S512x704 .f32) (p p' : Vec Ideal S1x704 .f32) (j : Fin 704)
    (hG : ∀ r : Fin 512, (G (ix2 r j) : EReal) = D (b + r.val + 2)) (hp : (p (ix2 0 j) : EReal) = D b)
    (hp' : (p' (ix2 0 j) : EReal) = D (b + 1)) (r : Fin 512) (s : Fin 512) (hs : s.val = (r.val + 512 - 2) % 512) :
    Scalar.select (IntOp.cmpi .sge (BitVec.ofNat 32 r.val) 2#32) (G (ix2 s j) : EReal)
      (Scalar.select (IntOp.cmpi .eq (BitVec.ofNat 32 r.val) 0#32) (p (ix2 0 j)) (p' (ix2 0 j))) = D (b + r.val) := by
  rw [ge2, eq0, pick, pick, hG, hp, hp']
  split
  · exact congrArg D (by omega)
  · split <;> exact congrArg D (by omega)

/-- The row before row `r` of a tile, as the body picks it. -/
def back1 (G : Vec Ideal S512x704 .f32) (p' : Vec Ideal S1x704 .f32) (r : Fin 512) (j : Fin 704) : EReal :=
  Scalar.select (IntOp.cmpi .sge (BitVec.ofNat 32 r.val) 1#32) (G (ix2 ⟨(r.val + 512 - 1) % 512, Nat.mod_lt _ (by norm_num)⟩ j) : EReal) (p' (ix2 0 j))

@[inherit_doc back1] def back2 (G : Vec Ideal S512x704 .f32) (p p' : Vec Ideal S1x704 .f32) (r : Fin 512) (j : Fin 704) : EReal :=
  Scalar.select (IntOp.cmpi .sge (BitVec.ofNat 32 r.val) 2#32) (G (ix2 ⟨(r.val + 512 - 2) % 512, Nat.mod_lt _ (by norm_num)⟩ j) : EReal)
    (Scalar.select (IntOp.cmpi .eq (BitVec.ofNat 32 r.val) 0#32) (p (ix2 0 j)) (p' (ix2 0 j)))

section pay

variable (x0 : Vec Ideal S512x1024 .bf16) (x1 : Vec Ideal S1x1024x704 .bf16) (G Y : FVec Ideal S512x704 .f32) (p p' : Vec Ideal S1x704 .f32)
  (w0 w1 w2 b : Vec Ideal S1x1x704 .f32) (r : Fin 512) (j : Fin 704)

theorem p8 : k0_pay8 (F := Ideal) x0 x1 (ix2 r j) = ∑ k : Fin 1024, (x0 (ix2 r k) : EReal) * x1 (ix3 0 k j) := by
  pointwise [k0_pay8, k0_pay7]
theorem p17 : k0_pay17 (F := Ideal) (k0_pay7 x0) x1 (ix2 r j) = ∑ k : Fin 1024, (x0 (ix2 r k) : EReal) * x1 (ix3 0 k j) := by
  pointwise [k0_pay17, k0_pay7]
theorem p9 : (k0_pay9 (F := Ideal) x0 x1 (ix4 0 0 r j) : EReal) = k0_pay8 (F := Ideal) x0 x1 (ix2 r j) := by
  pointwise [k0_pay9]
theorem p19 : (k0_pay19 (F := Ideal) (k0_pay18 (k0_pay7 x0) x1) (ix4 0 0 r j) : EReal) = k0_pay17 (F := Ideal) (k0_pay7 x0) x1 (ix2 r j) := by
  pointwise [k0_pay19, k0_pay18]
theorem p14 : k0_pay14 (F := Ideal) (k0_pay8 x0 x1) (k0_pay10 x0 x1 p') k0_pay11 (k0_pay12 x0 x1) (k0_pay13 p p') b w0 w1 w2 (ix2 r j)
    = b (ix3 0 0 j) + back2 (k0_pay8 x0 x1) p p' r j * w0 (ix3 0 0 j) + back1 (k0_pay8 x0 x1) p' r j * w1 (ix3 0 0 j)
      + k0_pay8 (F := Ideal) x0 x1 (ix2 r j) * w2 (ix3 0 0 j) := by
  unfold back1 back2
  pointwise [k0_pay14, k0_pay10, k0_pay11, k0_pay12, k0_pay13]
theorem p1 : k0_pay1 (F := Ideal) G (k0_pay20 G p') (k0_pay21 G p p' b w0) (k0_pay22 w1) w2 (ix2 r j)
    = b (ix3 0 0 j) + back2 G p p' r j * w0 (ix3 0 0 j) + back1 G p' r j * w1 (ix3 0 0 j) + G (ix2 r j) * w2 (ix3 0 0 j) := by
  unfold back1 back2
  pointwise [k0_pay1, k0_pay20, k0_pay21, k0_pay22]
theorem p15 (u1 u2 : FVec Ideal S512x704 .f32) (e : IVec S512x1 1) (u3 : FVec Ideal S512x704 .f32) :
    (k0_pay15 (F := Ideal) G u1 e u2 u3 b w0 w1 w2 (ix4 0 0 r j) : EReal) = k0_pay14 (F := Ideal) G u1 e u2 u3 b w0 w1 w2 (ix2 r j) := by
  pointwise [k0_pay15]
theorem p2 (u1 u2 u3 : FVec Ideal S512x704 .f32) :
    (k0_pay2 (F := Ideal) G u1 u2 u3 w2 (ix4 0 0 r j) : EReal) = k0_pay1 (F := Ideal) G u1 u2 u3 w2 (ix2 r j) := by
  pointwise [k0_pay2]
theorem p4 (u1 u2 u3 : FVec Ideal S512x704 .f32) :
    (k0_pay4 (F := Ideal) Y G u1 u2 u3 w2 (ix3 0 r j) : EReal)
      = Y (ix2 r j) * Ideal.logistic (Y (ix2 r j)) * k0_pay1 (F := Ideal) G u1 u2 u3 w2 (ix2 r j) := by
  pointwise [k0_pay4]
theorem p16 (s : Fin 8) : k0_pay16 (F := Ideal) G (ix2 s j) = G (ix2 ⟨504 + s.val, by omega⟩ j) := by
  pointwise [k0_pay16]
theorem p3 (s : Fin 8) : k0_pay3 (F := Ideal) G (ix2 s j) = G (ix2 ⟨504 + s.val, by omega⟩ j) := by
  pointwise [k0_pay3]
theorem z5 (s : Fin 8) : k0_pay5 (F := Ideal) (ix2 s j) = (0 : EReal) := by
  pointwise [k0_pay5]
theorem z6 (s : Fin 8) : k0_pay6 (F := Ideal) (ix2 s j) = (0 : EReal) := by
  pointwise [k0_pay6]

end pay

end Cert.FfnUpIdeal.Gate

end
-- ==== Proof.FfnUpOut.lean ====
module

public import proofs.«01_k».proof.Proof.FfnUp
public import Idealize.ShloMosaic.Lib.Pipeline.ValueKit
public import Idealize.ShloMosaic.Lib.Pipeline.ReadBack

@[expose] public section

set_option maxRecDepth 16384
set_option maxHeartbeats 1000000

/-! What a grid point of the up projection leaves in the three results, the rows a tile hands on, and the results after
the run. -/

noncomputable section

open Idealize.ShloMosaic Idealize.ShloMosaic.TcCoe Idealize.SL.Sem
open Idealize.ShloMosaic.Pipeline (Dat)

namespace Cert.FfnUpIdeal.Gate

open Cert.FfnUpIdeal Cert.FfnUpIdeal.Gen
open Cert.FfnUpRefIdeal.Read
open Cert.FfnUpRefIdeal.Rows
open Cert.FfnActRefIdeal.Rows (col)
open Cert.FfnActIdeal.Gate (ld_at tap tap_apply two)

variable (m : (ℓ : Loc nD τ sig) → Buf (Elt Ideal) ℓ) (c : Dev nD) (t : Fin cfg0.N)

/-! ## A tile's rows -/

/-- The half's product at the point's columns, by row, two rows of zeros first. -/
def P (a : Fin 2) (j : Fin 704) : ℕ → EReal := pr (aH m c) (aU m c) (col a (sh t) j)

/-- The convolution's output at the point's rows and columns. -/
def Y (a : Fin 2) (r : Fin 512) (j : Fin 704) : EReal := conv (aH m c) (aU m c) (aK m c) (aB m c) (row t r) (col a (sh t) j)

/-- The tile of the gate's half of the product. -/
def gate : FVec Ideal S512x704 .f32 := k0_pay8 (F := Ideal) (b0 m c t) (b1 m c t)
/-- The tile of the up half of the product. -/
def up : FVec Ideal S512x704 .f32 := k0_pay17 (F := Ideal) (k0_pay7 (b0 m c t)) (b2 m c t)

theorem P_row (a : Fin 2) (j : Fin 704) (r : Fin 512) : P m c t a j (base t + r.val + 2)
    = ∑ k : Fin 1024, (aH m c (ix3 0 (row t r) k) : EReal) * aU m c (ix2 k (col a (sh t) j)) :=
  (pr_in (aH m c) (aU m c) _ (row t r)).trans (prod_apply _ _ _ _)

theorem gate_row (j : Fin 704) (r : Fin 512) : (gate m c t (ix2 r j) : EReal) = P m c t 0 j (base t + r.val + 2) := by
  rw [P_row, gate, p8]
  exact Finset.sum_congr rfl fun k _ => by rw [blk0, blk1]

theorem up_row (j : Fin 704) (r : Fin 512) : (up m c t (ix2 r j) : EReal) = P m c t 1 j (base t + r.val + 2) := by
  rw [P_row, up, p17]
  exact Finset.sum_congr rfl fun k _ => by rw [blk0, blk2]

section point

variable (p p' : Vec Ideal S1x704 .f32)

/-- The two rows before the tile are the given ones. -/
def Before (a : Fin 2) : Prop := ∀ j, (p (ix2 0 j) : EReal) = P m c t a j (base t) ∧ (p' (ix2 0 j) : EReal) = P m c t a j (base t + 1)

variable {p p'}

theorem gate_y (h : Before m c t p p' 0) (r : Fin 512) (j : Fin 704) :
    k0_pay14 (F := Ideal) (k0_pay8 (b0 m c t) (b1 m c t)) (k0_pay10 (b0 m c t) (b1 m c t) p') k0_pay11 (k0_pay12 (b0 m c t) (b1 m c t))
      (k0_pay13 p p') (b5 m c t) (tap (b3 m c t) 0) (tap (b3 m c t) 1) (tap (b3 m c t) 2) (ix2 r j) = Y m c t 0 r j := by
  have e1 : back1 (gate m c t) p' r j = P m c t 0 j (base t + r.val + 1) := prev1 _ _ _ _ j (gate_row m c t j) (h j).2 r _ rfl
  have e2 : back2 (gate m c t) p p' r j = P m c t 0 j (base t + r.val) := prev2 _ _ _ _ _ j (gate_row m c t j) (h j).1 (h j).2 r _ rfl
  refine (p14 (b0 m c t) (b1 m c t) p p' (tap (b3 m c t) 0) (tap (b3 m c t) 1) (tap (b3 m c t) 2) (b5 m c t) r j).trans ?_
  change _ + back2 (gate m c t) p p' r j * _ + back1 (gate m c t) p' r j * _ + gate m c t (ix2 r j) * _ = _
  rw [e1, e2, gate_row, tap_apply, tap_apply, tap_apply, blk3, blk3, blk3, blk5]
  rfl

theorem up_y (h : Before m c t p p' 1) (r : Fin 512) (j : Fin 704) :
    k0_pay1 (F := Ideal) (up m c t) (k0_pay20 (up m c t) p') (k0_pay21 (up m c t) p p' (b6 m c t) (tap (b4 m c t) 0))
      (k0_pay22 (tap (b4 m c t) 1)) (tap (b4 m c t) 2) (ix2 r j) = Y m c t 1 r j := by
  have e1 : back1 (up m c t) p' r j = P m c t 1 j (base t + r.val + 1) := prev1 _ _ _ _ j (up_row m c t j) (h j).2 r _ rfl
  have e2 : back2 (up m c t) p p' r j = P m c t 1 j (base t + r.val) := prev2 _ _ _ _ _ j (up_row m c t j) (h j).1 (h j).2 r _ rfl
  refine (p1 (up m c t) p p' (tap (b4 m c t) 0) (tap (b4 m c t) 1) (tap (b4 m c t) 2) (b6 m c t) r j).trans ?_
  rw [e1, e2, up_row, tap_apply, tap_apply, tap_apply, blk4, blk4, blk4, blk6]
  rfl

variable {q q' : Vec Ideal S1x704 .f32}

/-- The stored half of the convolution's output, gate and up, and the stored gated tile. -/
theorem store_gate (h : Before m c t p p' 0) (r : Fin 512) (j : Fin 704) :
    (k0_pay15 (F := Ideal) (k0_pay8 (b0 m c t) (b1 m c t)) (k0_pay10 (b0 m c t) (b1 m c t) p') k0_pay11 (k0_pay12 (b0 m c t) (b1 m c t))
      (k0_pay13 p p') (b5 m c t) (tap (b3 m c t) 0) (tap (b3 m c t) 1) (tap (b3 m c t) 2) (ix4 0 0 r j) : EReal) = Y m c t 0 r j := by
  rw [p15]
  exact gate_y m c t h r j

@[inherit_doc store_gate] theorem store_up (h : Before m c t p p' 1) (r : Fin 512) (j : Fin 704) :
    (k0_pay2 (F := Ideal) (up m c t) (k0_pay20 (up m c t) p') (k0_pay21 (up m c t) p p' (b6 m c t) (tap (b4 m c t) 0))
      (k0_pay22 (tap (b4 m c t) 1)) (tap (b4 m c t) 2) (ix4 0 0 r j) : EReal) = Y m c t 1 r j := by
  rw [p2]
  exact up_y m c t h r j

@[inherit_doc store_gate] theorem store_act (h : Before m c t p p' 0) (h' : Before m c t q q' 1) (r : Fin 512) (j : Fin 704) :
    (k0_pay4 (F := Ideal) (k0_pay14 (k0_pay8 (b0 m c t) (b1 m c t)) (k0_pay10 (b0 m c t) (b1 m c t) p') k0_pay11
      (k0_pay12 (b0 m c t) (b1 m c t)) (k0_pay13 p p') (b5 m c t) (tap (b3 m c t) 0) (tap (b3 m c t) 1) (tap (b3 m c t) 2))
      (up m c t) (k0_pay20 (up m c t) q') (k0_pay21 (up m c t) q q' (b6 m c t) (tap (b4 m c t) 0))
      (k0_pay22 (tap (b4 m c t) 1)) (tap (b4 m c t) 2) (ix3 0 r j) : EReal)
      = Y m c t 0 r j * Ideal.logistic (Y m c t 0 r j) * Y m c t 1 r j := by
  rw [p4, gate_y m c t h, up_y m c t h']

end point

/-! ## The rows handed to the next tile -/

theorem carry_gate (s : Fin 8) (j : Fin 704) :
    ((outsAt0 m c t.val t.isLt).2.2.2.1 (ix2 s j) : EReal) = P m c t 0 j (base t + (506 + s.val)) := by
  have e : base t + (506 + s.val) = base t + (504 + s.val) + 2 := by omega
  rw [e]
  by_cases h : t.val % 16 = 0
  · rw [outsAt0_A m c t h]
    frame_out
    exact (p16 (gate m c t) j s).trans (gate_row m c t j _)
  · rw [outsAt0_B m c t h]
    frame_out
    exact (p16 (gate m c t) j s).trans (gate_row m c t j _)

theorem carry_up (s : Fin 8) (j : Fin 704) :
    ((outsAt0 m c t.val t.isLt).2.2.2.2 (ix2 s j) : EReal) = P m c t 1 j (base t + (506 + s.val)) := by
  have e : base t + (506 + s.val) = base t + (504 + s.val) + 2 := by omega
  rw [e]
  by_cases h : t.val % 16 = 0
  · rw [outsAt0_A m c t h]
    frame_out
    exact (p3 (up m c t) j s).trans (up_row m c t j _)
  · rw [outsAt0_B m c t h]
    frame_out
    exact (p3 (up m c t) j s).trans (up_row m c t j _)

/-- The last two rows of the scratch. -/
def srow (X : Vec Ideal S8x704 .f32) (s : Fin 2) : Vec Ideal S1x704 .f32 := match s with
  | 0 => View.ld X (Rect.unit ![6, 0] ![1, 704] inb_S8x704_S1x704_6_0)
  | 1 => View.ld X (Rect.unit ![7, 0] ![1, 704] inb_S8x704_S1x704_7_0)

theorem srow_apply (X : Vec Ideal S8x704 .f32) (s : Fin 2) (j : Fin 704) : srow X s (ix2 0 j) = X (ix2 ⟨6 + s.val, by omega⟩ j) := by
  match s with
  | 0 => exact ld_at X _ _ (fun b => match b with | 0 => rfl | 1 => (Nat.zero_add _).symm)
  | 1 => exact ld_at X _ _ (fun b => match b with | 0 => rfl | 1 => (Nat.zero_add _).symm)

/-- The tile before. -/
def prev (t : Fin cfg0.N) : Fin cfg0.N := ⟨t.val - 1, Nat.lt_of_le_of_lt (Nat.sub_le _ _) t.isLt⟩

theorem P_prev (h : t.val % 16 ≠ 0) (a : Fin 2) (j : Fin 704) (n : ℕ) :
    P m c (prev t) a j (base (prev t) + (512 + n)) = P m c t a j (base t + n) := by
  have e : sh (prev t) = sh t := Fin.ext (by show (t.val - 1) / 16 = t.val / 16; omega)
  have eb : base t = base (prev t) + 512 := by
    show t.val % 16 * 512 = (t.val - 1) % 16 * 512 + 512
    omega
  unfold P
  rw [e, eb, Nat.add_assoc]

theorem before_zero (h : t.val % 16 = 0) (X : Vec Ideal S8x704 .f32) (hX : ∀ s j, (X (ix2 s j) : EReal) = 0) (a : Fin 2) :
    Before m c t (srow X 0) (srow X 1) a := fun j => by
  have hb : base t = 0 := by unfold base; omega
  rw [srow_apply, srow_apply, hX, hX, hb]
  exact ⟨(pr_low _ _ _ _ (by omega)).symm, (pr_low _ _ _ _ (by omega)).symm⟩

theorem before_gate (h : t.val % 16 ≠ 0) :
    Before m c t (srow (outsAt0 m c (prev t).val (prev t).isLt).2.2.2.1 0) (srow (outsAt0 m c (prev t).val (prev t).isLt).2.2.2.1 1) 0 := fun j => by
  rw [srow_apply, srow_apply, carry_gate m c (prev t), carry_gate m c (prev t)]
  exact ⟨P_prev m c t h 0 j 0, P_prev m c t h 0 j 1⟩

theorem before_up (h : t.val % 16 ≠ 0) :
    Before m c t (srow (outsAt0 m c (prev t).val (prev t).isLt).2.2.2.2 0) (srow (outsAt0 m c (prev t).val (prev t).isLt).2.2.2.2 1) 1 := fun j => by
  rw [srow_apply, srow_apply, carry_up m c (prev t), carry_up m c (prev t)]
  exact ⟨P_prev m c t h 1 j 0, P_prev m c t h 1 j 1⟩

/-! ## What a point leaves -/

theorem out8 (a : Fin 2) (z : Fin 1) (r : Fin 512) (j : Fin 704) :
    ((outsAt0 m c t.val t.isLt).2.1 (ix4 a z r j) : EReal) = P m c t a j (base t + r.val + 2) := by
  by_cases h : t.val % 16 = 0
  · rw [outsAt0_A m c t h]
    frame_out
    exact two (e := .bf16) (fun a r j => P m c t a j (base t + r.val + 2))
      (fun k j => (p19 (b0 m c t) (b2 m c t) k j).trans (up_row m c t j k))
      (fun k j => (p9 (b0 m c t) (b1 m c t) k j).trans (gate_row m c t j k)) a z r j
  · rw [outsAt0_B m c t h]
    frame_out
    exact two (e := .bf16) (fun a r j => P m c t a j (base t + r.val + 2))
      (fun k j => (p19 (b0 m c t) (b2 m c t) k j).trans (up_row m c t j k))
      (fun k j => (p9 (b0 m c t) (b1 m c t) k j).trans (gate_row m c t j k)) a z r j

theorem out9 (a : Fin 2) (z : Fin 1) (r : Fin 512) (j : Fin 704) :
    ((outsAt0 m c t.val t.isLt).2.2.1 (ix4 a z r j) : EReal) = Y m c t a r j := by
  by_cases h : t.val % 16 = 0
  · rw [outsAt0_A m c t h]
    frame_out
    simp (disch := first | rfl | decide) only [↓View.readCov_skip, View.readCov_fill]
    exact two (e := .bf16) (Y m c t) (fun k j => store_up m c t (before_zero m c t h _ (fun s j => z6 j s) 1) k j)
      (fun k j => store_gate m c t (before_zero m c t h _ (fun s j => z5 j s) 0) k j) a z r j
  · rw [outsAt0_B m c t h]
    frame_out
    rw [(Memref.isWhole_whole cc0_scratch0).read_unread, (Memref.isWhole_whole cc0_scratch1).read_unread]
    exact two (e := .bf16) (Y m c t) (fun k j => store_up m c t (before_up m c t h) k j)
      (fun k j => store_gate m c t (before_gate m c t h) k j) a z r j

theorem out7 (z : Fin 1) (r : Fin 512) (j : Fin 704) :
    ((outsAt0 m c t.val t.isLt).1 (ix3 z r j) : EReal) = Y m c t 0 r j * Ideal.logistic (Y m c t 0 r j) * Y m c t 1 r j := by
  obtain rfl : z = 0 := Subsingleton.elim _ _
  by_cases h : t.val % 16 = 0
  · rw [outsAt0_A m c t h]
    frame_out
    simp (disch := first | rfl | decide) only [↓View.readCov_skip, View.readCov_fill]
    exact store_act m c t (before_zero m c t h _ (fun s j => z5 j s) 0) (before_zero m c t h _ (fun s j => z6 j s) 1) r j
  · rw [outsAt0_B m c t h]
    frame_out
    rw [(Memref.isWhole_whole cc0_scratch0).read_unread, (Memref.isWhole_whole cc0_scratch1).read_unread]
    exact store_act m c t (before_gate m c t h) (before_up m c t h) r j

/-! ## The results after the run -/

/-- The gated array after the run. -/
theorem final7 : (dats m 0 c).arrAt 7 (cfgs 0).N = (val_main_v34 (F := Ideal)
    (aH m c) (aU m c) (aK m c) (aB m c) : Vec Ideal S4x8192x704 .bf16) := by
  refine (dats m 0 c).arrAt_eq_of_covers 7 _ (by decide +kernel) fun t hf y => ?_
  blk_simp
  rw [after0_7]
  refine (congrArg _ (show y = ix3 (y 0) (y 1) (y 2) by blk_ext)).trans ((out7 m c t (y 0) (y 1) (y 2)).trans ?_)
  unfold Y
  refine (ref_a (aH m c) (aU m c) (aK m c) (aB m c) (sh t) (row t (y 1)) (y 2)).symm.trans
    (congrArg (val_main_v34 (F := Ideal) (aH m c) (aU m c) (aK m c) (aB m c)) ?_)
  unfold row base sh
  blk_ext [idx t]

/-- The product's array after the run. -/
theorem final8 : (dats m 0 c).arrAt 8 (cfgs 0).N = (val_main_v37 (F := Ideal)
    (aH m c) (aU m c) : Vec Ideal S2x4x8192x704 .bf16) := by
  refine (dats m 0 c).arrAt_eq_of_covers 8 _ (by decide +kernel) fun t hf y => ?_
  blk_simp
  rw [after0_8]
  refine (congrArg _ (show y = ix4 (y 0) (y 1) (y 2) (y 3) by blk_ext)).trans ((out8 m c t (y 0) (y 1) (y 2) (y 3)).trans ?_)
  refine (ref_u (aH m c) (aU m c) (y 0) (sh t) (row t (y 2)) (y 3)).symm.trans
    (congrArg (val_main_v37 (F := Ideal) (aH m c) (aU m c)) ?_)
  unfold row base sh
  blk_ext [idx t]

/-- The array of the convolution's output after the run. -/
theorem final9 : (dats m 0 c).arrAt 9 (cfgs 0).N = (val_main_v40 (F := Ideal)
    (aH m c) (aU m c) (aK m c) (aB m c) : Vec Ideal S2x4x8192x704 .bf16) := by
  refine (dats m 0 c).arrAt_eq_of_covers 9 _ (by decide +kernel) fun t hf y => ?_
  blk_simp
  rw [after0_9]
  refine (congrArg _ (show y = ix4 (y 0) (y 1) (y 2) (y 3) by blk_ext)).trans ((out9 m c t (y 0) (y 1) (y 2) (y 3)).trans ?_)
  unfold Y
  refine (ref_y (aH m c) (aU m c) (aK m c) (aB m c) (y 0) (sh t) (row t (y 2)) (y 3)).symm.trans
    (congrArg (val_main_v40 (F := Ideal) (aH m c) (aU m c) (aK m c) (aB m c)) ?_)
  unfold row base sh
  blk_ext [idx t]

end Cert.FfnUpIdeal.Gate

end
-- ==== Proof.NormTile.lean ====
module

public import proofs.«01_k».proof.Proof.NormMath

@[expose] public section

/-! The norm's backward pass after a product summed over eight column blocks: one entry of the input gradient, and what
a buffer holds that is summed into over the blocks of a tile or over the tiles. -/

noncomputable section

open Idealize.ShloMosaic

namespace Cert.NormTile

open Cert

/-- One entry of the norm's input gradient as the kernel computes it: the row `x`, the gain `g`, the gradient `dn` of the
    normed row, the residual's gradient `a`. -/
def entry (x g dn : Fin 1024 → EReal) (a : EReal) (j : Fin 1024) : EReal :=
  a + NormMath.rms x 1024 NormMath.eps * (dn j * g j - x j * NormMath.rms x 1024 NormMath.eps
    * Ideal.div (∑ k, dn k * g k * (x k * NormMath.rms x 1024 NormMath.eps)) ((1024 : ℝ) : EReal))

/-- A buffer set at a tile's first block and added to at the next six holds the sum of their parts. -/
theorem accum (a p : (n : ℕ) → n < 64 → EReal) (h0 : ∀ n h, n % 8 = 0 → a n h = p n h)
    (h1 : ∀ n (h : n < 64), n % 8 ≠ 0 → n % 8 ≠ 7 → a n h = a (n - 1) (by omega) + p n h) (i : ℕ) :
    ∀ k (h : 8 * i + k < 64), k ≤ 6 → a (8 * i + k) h = ∑ s : Fin (k + 1), p (8 * i + s.val) (by have := s.isLt; omega) := by
  intro k
  induction k with
  | zero => intro h _; rw [h0 _ _ (by omega), Fin.sum_univ_one]; rfl
  | succ k ih =>
    intro h hk
    rw [h1 _ _ (by omega) (by omega), Fin.sum_univ_castSucc]
    refine congrArg₂ (· + ·) (Eq.trans ?_ (ih (by omega) (by omega))) rfl
    congr 1

/-- A buffer left alone at all but the last block of each tile, set at the first tile's last block and added to at the
    others', ends as the sum over the tiles. -/
theorem carry (d g : (n : ℕ) → n < 64 → EReal)
    (hk : ∀ n (h : n < 64), n % 8 ≠ 7 → 0 < n → d n h = d (n - 1) (by omega))
    (h0 : ∀ n (h : n < 64), n % 8 = 7 → n < 8 → d n h = g n h)
    (h1 : ∀ n (h : n < 64), n % 8 = 7 → 8 ≤ n → d n h = d (n - 1) (by omega) + g n h) :
    ∀ i (h : 8 * i + 7 < 64), d (8 * i + 7) h = ∑ s : Fin (i + 1), g (8 * s.val + 7) (by have := s.isLt; omega) := by
  have keep : ∀ n (h : n < 64), n % 8 = 7 → ∀ k (h' : n + k < 64), k ≤ 7 → d (n + k) h' = d n h := by
    intro n h hn k
    induction k with
    | zero => intro _ _; rfl
    | succ k ih =>
      intro h' hk'
      rw [hk _ _ (by omega) (by omega)]
      exact ih (by omega) (by omega)
  intro i
  induction i with
  | zero => intro h; rw [h0 _ _ (by omega) (by omega), Fin.sum_univ_one]; rfl
  | succ i ih =>
    intro h
    rw [h1 _ _ (by omega) (by omega), Fin.sum_univ_castSucc]
    exact congrArg₂ (· + ·) ((keep (8 * i + 7) (by omega) (by omega) 7 (by omega) le_rfl).trans (ih (by omega))) rfl

end Cert.NormTile

end
-- ==== Proof.HgrnDx.lean ====
module

public import proofs.«01_k».proof.Proof.Gen.HgrnDxIdeal.Value
public import proofs.«01_k».proof.Proof.Gen.HgrnDxRefIdeal.Read
public import proofs.«01_k».proof.Proof.NormTile
public import Idealize.ShloMosaic.Lib.Pipeline.ValueKit

@[expose] public section

set_option maxRecDepth 16384

/-! The backward pass of the norm before the recurrence: the product with the weights is summed over eight column blocks
in a scratch tile, and the last block's point turns it into the norm's gradients. -/

noncomputable section

open Idealize.ShloMosaic Idealize.ShloMosaic.TcCoe Idealize.SL.Sem
open Idealize.ShloMosaic.Pipeline (Dat)

namespace Cert.HgrnDxIdeal.Norm

open Cert.HgrnDxIdeal Cert.HgrnDxIdeal.Gen
open Cert.HgrnDxRefIdeal.Read

variable (m : (ℓ : Loc nD τ sig) → Buf (Elt Ideal) ℓ)

/-- Which block of each array a grid point works on. -/
theorem idx : ∀ t : Fin cfg0.N, win0_0.index t = ![t.val / 8, t.val % 8] ∧ win0_1.index t = ![t.val % 8, 0, 0]
    ∧ win0_2.index t = ![t.val / 8, 0] ∧ win0_3.index t = ![0, 0] ∧ win0_4.index t = ![t.val / 8, 0]
    ∧ win0_5.index t = ![t.val / 8, 0] ∧ win0_6.index t = ![0, 0] :=
  (by decide +kernel : ∀ t : Fin grid0.N, _)

/-! ## The arrays the host prepares -/

/-- The weights, their columns in eight blocks. -/
def opB (W : FVec Ideal S1024x4096 .f32) : FVec Ideal S8x1024x512 .bf16 :=
  truncf .bf16 (transpose S8x1024x512 [1, 0, 2] (shapeCast S1024x8x512 W shapeCasts_S1024x4096_S1024x8x512)
    transposes_S1024x8x512_S8x1024x512_1_0_2) bitsLt_bf16_f32

/-- The incoming gradient. -/
def opA (D : FVec Ideal S1x8192x4096 .f32) : FVec Ideal S8192x4096 .bf16 :=
  truncf .bf16 (shapeCast S8192x4096 D shapeCasts_S1x8192x4096_S8192x4096) bitsLt_bf16_f32

theorem V_v2 (c : Dev nD) : (V m c main_v2 : FVec Ideal S8x1024x512 .bf16) = opB (m ((c : Thread nD τ).loc main_arg2)) := by
  unfold V
  after_results_simp
  rfl

theorem V_v4 (c : Dev nD) : (V m c main_v4 : FVec Ideal S8192x4096 .bf16) = opA (m ((c : Thread nD τ).loc main_arg3)) := by
  unfold V
  after_results_simp
  rfl

theorem V_v5 (c : Dev nD) : (V m c main_v5 : FVec Ideal S8192x1024 .f32)
    = shapeCast S8192x1024 (m ((c : Thread nD τ).loc main_arg0) : FVec Ideal S1x8192x1024 .f32)
        shapeCasts_S1x8192x1024_S8192x1024 := by
  unfold V
  after_results_simp
  try rfl

theorem V_v6 (c : Dev nD) : (V m c main_v6 : FVec Ideal S8192x1024 .f32)
    = shapeCast S8192x1024 (m ((c : Thread nD τ).loc main_arg4) : FVec Ideal S1x8192x1024 .f32)
        shapeCasts_S1x8192x1024_S8192x1024 := by
  unfold V
  after_results_simp
  try rfl

theorem V_v7 (c : Dev nD) : (V m c main_v7 : FVec Ideal S1x1024 .f32)
    = shapeCast S1x1024 (m ((c : Thread nD τ).loc main_arg1) : FVec Ideal S1024 .f32) shapeCasts_S1024_S1x1024 := by
  unfold V
  after_results_simp
  try rfl

/-- Column `k` of block `s`. -/
def col (s : Fin 8) (k : Fin 512) : Fin 4096 := ⟨s.val * 512 + k.val, by omega⟩

theorem opB_apply (W : FVec Ideal S1024x4096 .f32) (s : Fin 8) (j : Fin 1024) (k : Fin 512) :
    opB W (ix3 s j k) = W (ix2 j (col s k)) := by
  pointwise [opB]
  rfl

theorem opA_apply (D : FVec Ideal S1x8192x4096 .f32) (r : Fin 8192) (k : Fin 4096) :
    opA D (ix2 r k) = D (ix3 0 r k) := by
  pointwise [opA]

/-! ## One entry of each result -/

/-- Row `r` of the incoming gradient times the weights: the gradient of the normed row. -/
def dnorm (W : FVec Ideal S1024x4096 .f32) (D : FVec Ideal S1x8192x4096 .f32) (r : Fin 8192) (j : Fin 1024) : EReal :=
  ∑ k : Fin 4096, D (ix3 0 r k) * W (ix2 j k)

/-- Row `r` of the norm's input. -/
def xrow (X : FVec Ideal S1x8192x1024 .f32) (r : Fin 8192) (k : Fin 1024) : EReal := X (ix3 0 r k)

theorem ref_dx (X : FVec Ideal S1x8192x1024 .f32) (G : FVec Ideal S1024 .f32) (W : FVec Ideal S1024x4096 .f32)
    (D : FVec Ideal S1x8192x4096 .f32) (A : FVec Ideal S1x8192x1024 .f32) (r : Fin 8192) (j : Fin 1024) :
    val_main_v41 (F := Ideal) X G W D A (ix2 r j)
      = NormTile.entry (xrow X r) (fun k => G (ix1 k)) (dnorm W D r) (A (ix3 0 r j)) j := by
  pointwise [val_main_v0, val_main_v1, val_main_cst, val_main_v2, val_main_v3, val_main_cst_0, val_main_v4, val_main_v5,
    val_main_cst_1, val_main_v6, val_main_v7, val_main_v8, val_main_v9, val_main_cst_2, val_main_v10, val_main_v11,
    val_main_v14, val_main_v18, val_main_v19, val_main_v20, val_main_v24, val_main_v25, val_main_v27, val_main_cst_5,
    val_main_v28, val_main_v29, val_main_v30, val_main_v31, val_main_v32, val_main_v33, val_main_cst_6, val_main_v34,
    val_main_v35, val_main_cst_7, val_main_v36, val_main_v37, val_main_v38, val_main_v39, val_main_v40, val_main_v41]
  simp only [NormMath.w1024, NormMath.wNegHalf, NormMath.wEps, Fin.sum_univ_one]
  exact (NormMath.grad_entry (c := 1024) (xrow X r) (fun k => dnorm W D r k * G (ix1 k)) (by norm_num) NormMath.eps_pos (A (ix3 0 r j)) j).symm

/-- Row `r`'s term of the gain's gradient. -/
def dgTerm (X : FVec Ideal S1x8192x1024 .f32) (W : FVec Ideal S1024x4096 .f32) (D : FVec Ideal S1x8192x4096 .f32)
    (j : Fin 1024) (r : Fin 8192) : EReal :=
  dnorm W D r j * (X (ix3 0 r j) * NormMath.rms (xrow X r) 1024 NormMath.eps)

theorem ref_dg (X : FVec Ideal S1x8192x1024 .f32) (W : FVec Ideal S1024x4096 .f32)
    (D : FVec Ideal S1x8192x4096 .f32) (z : Fin 1) (j : Fin 1024) :
    val_main_v42 (F := Ideal) X W D (ix2 z j) = ∑ r : Fin 8192, dgTerm X W D j r := by
  pointwise [val_main_v0, val_main_v1, val_main_cst, val_main_v2, val_main_v3, val_main_cst_0, val_main_v4, val_main_v5,
    val_main_cst_1, val_main_v6, val_main_v7, val_main_v8, val_main_v12, val_main_v13, val_main_v19, val_main_v20,
    val_main_v21, val_main_cst_3, val_main_v22, val_main_v23, val_main_cst_4, val_main_v26, val_main_v42]
  simp only [NormMath.w1024, NormMath.wNegHalf, NormMath.wEps, Fin.sum_univ_one]
  exact Finset.sum_congr rfl fun r _ => mul_comm _ _

/-! ## What the body stores -/

theorem pay_part (x0 : Vec Ideal S1024x512 .bf16) (x1 : Vec Ideal S1x1024x512 .bf16) (r j : Fin 1024) :
    k0_pay1 (F := Ideal) x0 x1 (ix2 r j) = ∑ k : Fin 512, (x0 (ix2 r k) : EReal) * x1 (ix3 0 j k) := by
  pointwise [k0_pay1]

theorem pay_set (x0 : Vec Ideal S1024x512 .bf16) (x1 : Vec Ideal S1x1024x512 .bf16) (r j : Fin 1024) :
    k0_pay2 (F := Ideal) x0 x1 (ix2 r j) = k0_pay1 (F := Ideal) x0 x1 (ix2 r j) := by
  pointwise [k0_pay2]

theorem pay_add (x0 : Vec Ideal S1024x512 .bf16) (x1 : Vec Ideal S1x1024x512 .bf16) (p : Vec Ideal S1024x1024 .f32)
    (r j : Fin 1024) :
    k0_pay3 (F := Ideal) x0 x1 p (ix2 r j) = (p (ix2 r j) : EReal) + k0_pay1 (F := Ideal) x0 x1 (ix2 r j) := by
  pointwise [k0_pay3]

/-- The input gradient's tile from the finished product. -/
theorem pay_dx (d : FVec Ideal S1024x1024 .f32) (p : Vec Ideal S1024x1024 .f32) (x : Vec Ideal S1024x1024 .f32)
    (g : Vec Ideal S1x1024 .f32) (a : Vec Ideal S1024x1024 .f32) (r j : Fin 1024) :
    k0_pay10 (F := Ideal) d p x g a (ix2 r j) = NormTile.entry (fun k => x (ix2 r k)) (fun k => g (ix2 0 k))
      (fun k => (p (ix2 r k) : EReal) + d (ix2 r k)) (a (ix2 r j)) j := by
  pointwise [k0_pay10, k0_pay4, k0_pay5, k0_pay6, k0_pay7]
  simp only [NormMath.w1024, NormMath.wEps, NormMath.rms, NormTile.entry]

/-- The gain's gradient from the finished product, summed over the tile's rows. -/
theorem pay_dg0 (d : FVec Ideal S1024x1024 .f32) (p : Vec Ideal S1024x1024 .f32) (x : Vec Ideal S1024x1024 .f32)
    (z : Fin 1) (j : Fin 1024) :
    k0_pay8 (F := Ideal) d p x (ix2 z j) = ∑ r : Fin 1024, ((p (ix2 r j) : EReal) + d (ix2 r j))
      * (x (ix2 r j) * NormMath.rms (fun k => x (ix2 r k)) 1024 NormMath.eps) := by
  pointwise [k0_pay8, k0_pay4, k0_pay5, k0_pay6, k0_pay7]
  simp only [NormMath.w1024, NormMath.wEps, NormMath.rms]

theorem pay_dg (d : FVec Ideal S1024x1024 .f32) (p : Vec Ideal S1024x1024 .f32) (x : Vec Ideal S1024x1024 .f32)
    (q : Vec Ideal S1x1024 .f32) (z : Fin 1) (j : Fin 1024) :
    k0_pay9 (F := Ideal) d p x q (ix2 z j) = (q (ix2 z j) : EReal) + k0_pay8 (F := Ideal) d p x (ix2 z j) := by
  pointwise [k0_pay9]

/-! ## The blocks as parts of the arrays -/

theorem flat_apply (X : FVec Ideal S1x8192x1024 .f32) (r : Fin 8192) (k : Fin 1024) :
    shapeCast S8192x1024 X shapeCasts_S1x8192x1024_S8192x1024 (ix2 r k) = X (ix3 0 r k) := by pointwise

theorem gain_apply (X : FVec Ideal S1024 .f32) (z : Fin 1) (k : Fin 1024) :
    shapeCast S1x1024 X shapeCasts_S1024_S1x1024 (ix2 z k) = X (ix1 k) := by pointwise

variable (c : Dev nD) (t : Fin cfg0.N)

/-- The arguments: the norm's input, its gain, the weights, the incoming gradient, the residual's gradient. -/
def aX : FVec Ideal S1x8192x1024 .f32 := m ((c : Thread nD τ).loc main_arg0)
@[inherit_doc aX] def aG : FVec Ideal S1024 .f32 := m ((c : Thread nD τ).loc main_arg1)
@[inherit_doc aX] def aW : FVec Ideal S1024x4096 .f32 := m ((c : Thread nD τ).loc main_arg2)
@[inherit_doc aX] def aD : FVec Ideal S1x8192x4096 .f32 := m ((c : Thread nD τ).loc main_arg3)
@[inherit_doc aX] def aA : FVec Ideal S1x8192x1024 .f32 := m ((c : Thread nD τ).loc main_arg4)

/-- The blocks a point reads. -/
def b0 : Vec Ideal S1024x512 .bf16 := iblk m c 0 t
@[inherit_doc b0] def b1 : Vec Ideal S1x1024x512 .bf16 := iblk m c 1 t
@[inherit_doc b0] def b2 : Vec Ideal S1024x1024 .f32 := iblk m c 2 t
@[inherit_doc b0] def b3 : Vec Ideal S1x1024 .f32 := iblk m c 3 t
@[inherit_doc b0] def b4 : Vec Ideal S1024x1024 .f32 := iblk m c 4 t

/-- Row `r` of point `t`'s tile. -/
def row (r : Fin 1024) : Fin 8192 := ⟨t.val / 8 * 1024 + r.val, by have h : t.val < 64 := t.isLt; omega⟩

/-- The column block of point `t`. -/
def blk : Fin 8 := ⟨t.val % 8, Nat.mod_lt _ (by norm_num)⟩

theorem blk0 (r : Fin 1024) (k : Fin 512) : b0 m c t (ix2 r k) = aD m c (ix3 0 (row t r) (col (blk t) k)) := by
  refine Eq.trans ?_ (opA_apply (aD m c) (row t r) (col (blk t) k))
  unfold aD b0 row col blk
  rw [← V_v4 m c]
  blk_ext [iblk, idx t]

theorem blk1 (j : Fin 1024) (k : Fin 512) : b1 m c t (ix3 0 j k) = aW m c (ix2 j (col (blk t) k)) := by
  refine Eq.trans ?_ (opB_apply (aW m c) (blk t) j k)
  unfold aW b1 blk
  rw [← V_v2 m c]
  blk_ext [iblk, idx t]

theorem blk2 (r : Fin 1024) (k : Fin 1024) : b2 m c t (ix2 r k) = aX m c (ix3 0 (row t r) k) := by
  refine Eq.trans ?_ (flat_apply (aX m c) (row t r) k)
  unfold aX b2 row
  rw [← V_v5 m c]
  blk_ext [iblk, idx t]

theorem blk3 (z : Fin 1) (k : Fin 1024) : b3 m c t (ix2 z k) = aG m c (ix1 k) := by
  refine Eq.trans ?_ (gain_apply (aG m c) z k)
  unfold aG b3
  rw [← V_v7 m c]
  blk_ext [iblk, idx t]

theorem blk4 (r : Fin 1024) (k : Fin 1024) : b4 m c t (ix2 r k) = aA m c (ix3 0 (row t r) k) := by
  refine Eq.trans ?_ (flat_apply (aA m c) (row t r) k)
  unfold aA b4 row
  rw [← V_v6 m c]
  blk_ext [iblk, idx t]

/-- The part of the product that point `t` computes. -/
def part (r j : Fin 1024) : EReal :=
  ∑ k : Fin 512, aD m c (ix3 0 (row t r) (col (blk t) k)) * aW m c (ix2 j (col (blk t) k))

theorem part_blk (r j : Fin 1024) : k0_pay1 (F := Ideal) (b0 m c t) (b1 m c t) (ix2 r j) = part m c t r j := by
  rw [pay_part, part]
  exact Finset.sum_congr rfl fun k _ => by rw [blk0, blk1]

/-! ## The scratch tile -/

/-- At a tile's first block the scratch is set. -/
theorem acc_set (h0 : t.val % 8 = 0) (r j : Fin 1024) :
    (outsAt0 m c t.val t.isLt).2.2 (ix2 r j) = part m c t r j := by
  rw [outsAt0_A m c t h0 (by omega) (by omega)]
  frame_out
  exact (pay_set _ _ r j).trans (part_blk m c t r j)

/-- At the next six it is added to. -/
theorem acc_add (h0 : t.val % 8 ≠ 0) (h7 : t.val % 8 ≠ 7) (r j : Fin 1024) :
    (outsAt0 m c t.val t.isLt).2.2 (ix2 r j)
      = (outsAt0 m c (t.val - 1) (Nat.lt_of_le_of_lt (Nat.sub_le _ _) t.isLt)).2.2 (ix2 r j) + part m c t r j := by
  rw [outsAt0_B m c t h0 (by omega) (by omega)]
  frame_out
  refine (pay_add _ _ _ r j).trans ?_
  rw [(Memref.isWhole_whole cc0_scratch0).read_unread]
  exact congrArg _ (part_blk m c t r j)

/-- At a tile's last block, what the scratch holds plus the last part is the whole product. -/
theorem whole (h7 : t.val % 8 = 7) (r j : Fin 1024) :
    (outsAt0 m c (t.val - 1) (Nat.lt_of_le_of_lt (Nat.sub_le _ _) t.isLt)).2.2 (ix2 r j)
      + k0_pay1 (F := Ideal) (b0 m c t) (b1 m c t) (ix2 r j) = dnorm (aW m c) (aD m c) (row t r) j := by
  have ht : t.val < 64 := t.isLt
  rw [part_blk]
  have h := NormTile.accum (fun n h => (outsAt0 m c n h).2.2 (ix2 r j)) (fun n h => part m c ⟨n, h⟩ r j)
    (fun n h h0 => acc_set m c ⟨n, h⟩ h0 r j) (fun n h h0 h7 => acc_add m c ⟨n, h⟩ h0 h7 r j)
    (t.val / 8) 6 (by omega) le_rfl
  have e : t.val - 1 = 8 * (t.val / 8) + 6 := by omega
  have h2 : (outsAt0 m c (t.val - 1) (Nat.lt_of_le_of_lt (Nat.sub_le _ _) t.isLt)).2.2 (ix2 r j)
      = ∑ s : Fin 7, part m c ⟨8 * (t.val / 8) + s.val, by have := s.isLt; show _ < 64; omega⟩ r j := by
    rw [← h]; simp only [e]
  rw [h2]
  have h3 : part m c t r j = part m c ⟨8 * (t.val / 8) + (Fin.last 7).val, by show _ + 7 < 64; omega⟩ r j :=
    congrArg (fun u => part m c u r j) (Fin.ext (by show t.val = 8 * (t.val / 8) + 7; omega))
  rw [h3]
  refine (Fin.sum_univ_castSucc (fun s : Fin 8 => part m c ⟨8 * (t.val / 8) + s.val, by have := s.isLt; show _ < 64; omega⟩ r j)).symm.trans ?_
  rw [dnorm]
  refine Fin.sum_mul_add_congr fun s k hl => ?_
  have e1 : row ⟨8 * (t.val / 8) + s.val, by have := s.isLt; show _ < 64; omega⟩ r = row t r :=
    Fin.ext (by show (8 * (t.val / 8) + s.val) / 8 * 1024 + r.val = t.val / 8 * 1024 + r.val; have := s.isLt; omega)
  have e2 : col (blk ⟨8 * (t.val / 8) + s.val, by have := s.isLt; show _ < 64; omega⟩) k = ⟨s.val * 512 + k.val, hl⟩ :=
    Fin.ext (by show (8 * (t.val / 8) + s.val) % 8 * 512 + k.val = s.val * 512 + k.val; have := s.isLt; omega)
  simp only [e1, e2]

/-! ## The two results -/

/-- What the scratch held before point `t`. -/
def held : Vec Ideal S1024x1024 .f32 := (outsAt0 m c (t.val - 1) (Nat.lt_of_le_of_lt (Nat.sub_le _ _) t.isLt)).2.2

theorem xrow_blk (r : Fin 1024) : (fun k : Fin 1024 => (b2 m c t (ix2 r k) : EReal)) = xrow (aX m c) (row t r) :=
  funext fun k => blk2 m c t r k

/-- The finished product's tile, over what the scratch held. -/
theorem dx_blk (h7 : t.val % 8 = 7) (r j : Fin 1024) :
    k0_pay10 (F := Ideal) (k0_pay1 (b0 m c t) (b1 m c t)) (held m c t) (b2 m c t) (b3 m c t) (b4 m c t) (ix2 r j)
      = val_main_v41 (F := Ideal) (aX m c) (aG m c) (aW m c) (aD m c) (aA m c) (ix2 (row t r) j) := by
  rw [pay_dx, ref_dx, xrow_blk, blk4]
  have hg : (fun k : Fin 1024 => (b3 m c t (ix2 0 k) : EReal)) = fun k => aG m c (ix1 k) := funext fun k => blk3 m c t 0 k
  have hd : (fun k : Fin 1024 => (held m c t (ix2 r k) : EReal)
      + k0_pay1 (F := Ideal) (b0 m c t) (b1 m c t) (ix2 r k)) = dnorm (aW m c) (aD m c) (row t r) :=
    funext fun k => whole m c t h7 r k
  rw [hg, hd]

/-- The tile's part of the gain's gradient. -/
def dgPart (j : Fin 1024) : EReal := ∑ r : Fin 1024, dgTerm (aX m c) (aW m c) (aD m c) j (row t r)

theorem dg_blk (h7 : t.val % 8 = 7) (z : Fin 1) (j : Fin 1024) :
    k0_pay8 (F := Ideal) (k0_pay1 (b0 m c t) (b1 m c t)) (held m c t) (b2 m c t) (ix2 z j) = dgPart m c t j := by
  rw [pay_dg0, dgPart]
  refine Finset.sum_congr rfl fun r _ => ?_
  have hd : (held m c t (ix2 r j) : EReal) + k0_pay1 (F := Ideal) (b0 m c t) (b1 m c t) (ix2 r j)
      = dnorm (aW m c) (aD m c) (row t r) j := whole m c t h7 r j
  rw [hd, xrow_blk, blk2, dgTerm]

/-- What a tile's last point leaves in the input gradient's block. -/
theorem out5 (h7 : t.val % 8 = 7) (y : S1024x1024.Idx) : (outsAt0 m c t.val t.isLt).1 y
    = val_main_v41 (F := Ideal) (aX m c) (aG m c) (aW m c) (aD m c) (aA m c) (ix2 (row t (y 0)) (y 1)) := by
  have hy : y = ix2 (y 0) (y 1) := by blk_ext
  refine Eq.trans ?_ ((congrArg _ hy).trans (dx_blk m c t h7 (y 0) (y 1)))
  by_cases h : t.val < 8
  · rw [outsAt0_C m c t (by omega) (by omega) h7 h (by omega)]
    frame_out
    rw [(Memref.isWhole_whole cc0_scratch0).read_unread]
    rfl
  · rw [outsAt0_D m c t (by omega) (by omega) h7 h (by omega)]
    frame_out
    rw [(Memref.isWhole_whole cc0_scratch0).read_unread]
    rfl

/-- The input gradient's array after the run. -/
theorem final5 : (dats m 0 c).arrAt 5 (cfgs 0).N = (val_main_v41 (F := Ideal)
    (aX m c) (aG m c) (aW m c) (aD m c) (aA m c) : Vec Ideal S8192x1024 .f32) := by
  refine (dats m 0 c).arrAt_eq_of_covers 5 _ (by decide +kernel) fun t hf y => ?_
  blk_simp
  rw [after0_5]
  refine (out5 m c t ((flush0_5 t).mp hf) y).trans (congrArg _ ?_)
  unfold row
  blk_ext [idx t]

/-- The gain's gradient's block at a point that is no tile's last. -/
theorem dg_keep (h7 : t.val % 8 ≠ 7) (h0 : 0 < t.val) (z : Fin 1) (j : Fin 1024) :
    (outsAt0 m c t.val t.isLt).2.1 (ix2 z j)
      = (outsAt0 m c (t.val - 1) (Nat.lt_of_le_of_lt (Nat.sub_le _ _) t.isLt)).2.1 (ix2 z j) := by
  by_cases h : t.val % 8 = 0
  · rw [outsAt0_A m c t h (by omega) (by omega)]
    rfl
  · rw [outsAt0_B m c t h (by omega) (by omega)]
    rfl

theorem dg_set (h7 : t.val % 8 = 7) (h : t.val < 8) (z : Fin 1) (j : Fin 1024) :
    (outsAt0 m c t.val t.isLt).2.1 (ix2 z j) = dgPart m c t j := by
  rw [outsAt0_C m c t (by omega) (by omega) h7 h (by omega)]
  frame_out
  rw [(Memref.isWhole_whole cc0_scratch0).read_unread]
  exact dg_blk m c t h7 z j

theorem dg_add (h7 : t.val % 8 = 7) (h : 8 ≤ t.val) (z : Fin 1) (j : Fin 1024) :
    (outsAt0 m c t.val t.isLt).2.1 (ix2 z j)
      = (outsAt0 m c (t.val - 1) (Nat.lt_of_le_of_lt (Nat.sub_le _ _) t.isLt)).2.1 (ix2 z j) + dgPart m c t j := by
  rw [outsAt0_D m c t (by omega) (by omega) h7 (by omega) h]
  frame_out
  rw [(Memref.isWhole_whole cc0_scratch0).read_unread]
  exact (pay_dg _ _ _ _ z j).trans (congrArg _ (dg_blk m c t h7 z j))

/-- The gain's gradient's array after the run. -/
theorem final6 : (dats m 0 c).arrAt 6 (cfgs 0).N = (val_main_v42 (F := Ideal)
    (aX m c) (aW m c) (aD m c) : Vec Ideal S1x1024 .f32) := by
  refine (dats m 0 c).arrAt_eq_of_covers 6 _ (by decide +kernel) fun t hf y => ?_
  blk_simp
  rw [after0_6]
  have ht : t.val < 64 := t.isLt
  have h63 := (flush0_6 t).mp hf
  have hy : y = ix2 (y 0) (y 1) := by blk_ext
  have hs := NormTile.carry (fun n h => (outsAt0 m c n h).2.1 (ix2 (y 0) (y 1))) (fun n h => dgPart m c ⟨n, h⟩ (y 1))
    (fun n h h7 h0 => dg_keep m c ⟨n, h⟩ h7 h0 (y 0) (y 1)) (fun n h h7 h0 => dg_set m c ⟨n, h⟩ h7 h0 (y 0) (y 1))
    (fun n h h7 h0 => dg_add m c ⟨n, h⟩ h7 h0 (y 0) (y 1)) 7 (by omega)
  have e : t = ⟨8 * 7 + 7, by show _ < 64; omega⟩ := Fin.ext (by show t.val = 63; omega)
  have h1 := (congrArg (fun s : Fin cfg0.N => (outsAt0 m c s.val s.isLt).2.1 y) e).trans
    (congrArg (outsAt0 m c (8 * 7 + 7) (by show _ < 64; omega)).2.1 hy)
  refine h1.trans (hs.trans ?_)
  refine Eq.trans ?_ ((ref_dg (aX m c) (aW m c) (aD m c) (y 0) (y 1)).symm.trans (congrArg _ ?_))
  · refine Fin.sum_mul_add_congr fun s k hl => ?_
    exact congrArg (dgTerm (aX m c) (aW m c) (aD m c) (y 1)) (Fin.ext (by
      show (8 * s.val + 7) / 8 * 1024 + k.val = s.val * 1024 + k.val
      have := s.isLt; omega))
  · blk_ext [idx t]

end Cert.HgrnDxIdeal.Norm

end
-- ==== Proof.FfnDh.lean ====
module

public import proofs.«01_k».proof.Proof.Gen.FfnDhIdeal.Value
public import proofs.«01_k».proof.Proof.Gen.FfnDhRefIdeal.Read
public import proofs.«01_k».proof.Proof.HgrnDx
public import Idealize.ShloMosaic.Lib.Pipeline.ValueKit

@[expose] public section

set_option maxRecDepth 16384

/-! The backward pass of the norm before the feed-forward layer. It runs like the one before the recurrence, whose tile
computations are the same; here both factors of the product come in column blocks. -/

noncomputable section

open Idealize.ShloMosaic Idealize.ShloMosaic.TcCoe Idealize.SL.Sem
open Idealize.ShloMosaic.Pipeline (Dat)

namespace Cert.FfnDhIdeal.Norm

open Cert.FfnDhIdeal Cert.FfnDhIdeal.Gen
open Cert.FfnDhRefIdeal.Read

variable (m : (ℓ : Loc nD τ sig) → Buf (Elt Ideal) ℓ)

/-- Which block of each array a grid point works on. -/
theorem idx : ∀ t : Fin cfg0.N, win0_0.index t = ![t.val % 8, t.val / 8, 0] ∧ win0_1.index t = ![t.val % 8, 0, 0]
    ∧ win0_2.index t = ![t.val / 8, 0] ∧ win0_3.index t = ![0, 0] ∧ win0_4.index t = ![t.val / 8, 0]
    ∧ win0_5.index t = ![t.val / 8, 0] ∧ win0_6.index t = ![0, 0] :=
  (by decide +kernel : ∀ t : Fin grid0.N, _)

/-! ## The arrays the host prepares -/

/-- The weights, their columns in eight blocks. -/
def opB (W : FVec Ideal S1024x5632 .f32) : FVec Ideal S8x1024x704 .bf16 :=
  truncf .bf16 (transpose S8x1024x704 [1, 0, 2] (shapeCast S1024x8x704 W shapeCasts_S1024x5632_S1024x8x704)
    transposes_S1024x8x704_S8x1024x704_1_0_2) bitsLt_bf16_f32

/-- The incoming gradient, its columns in eight blocks. -/
def opA (D : FVec Ideal S1x8192x5632 .f32) : FVec Ideal S8x8192x704 .bf16 :=
  truncf .bf16 (transpose S8x8192x704 [1, 0, 2] (shapeCast S8192x8x704 (shapeCast S8192x5632 D
    shapeCasts_S1x8192x5632_S8192x5632) shapeCasts_S8192x5632_S8192x8x704)
    transposes_S8192x8x704_S8x8192x704_1_0_2) bitsLt_bf16_f32

theorem V_v6 (c : Dev nD) : (V m c main_v6 : FVec Ideal S8x1024x704 .bf16) = opB (m ((c : Thread nD τ).loc main_arg2)) := by
  unfold V
  after_results_simp
  rfl

theorem V_v3 (c : Dev nD) : (V m c main_v3 : FVec Ideal S8x8192x704 .bf16) = opA (m ((c : Thread nD τ).loc main_arg3)) := by
  unfold V
  after_results_simp
  rfl

theorem V_v7 (c : Dev nD) : (V m c main_v7 : FVec Ideal S8192x1024 .f32)
    = shapeCast S8192x1024 (m ((c : Thread nD τ).loc main_arg0) : FVec Ideal S1x8192x1024 .f32)
        shapeCasts_S1x8192x1024_S8192x1024 := by
  unfold V
  after_results_simp
  try rfl

theorem V_v8 (c : Dev nD) : (V m c main_v8 : FVec Ideal S8192x1024 .f32)
    = shapeCast S8192x1024 (m ((c : Thread nD τ).loc main_arg4) : FVec Ideal S1x8192x1024 .f32)
        shapeCasts_S1x8192x1024_S8192x1024 := by
  unfold V
  after_results_simp
  try rfl

theorem V_v9 (c : Dev nD) : (V m c main_v9 : FVec Ideal S1x1024 .f32)
    = shapeCast S1x1024 (m ((c : Thread nD τ).loc main_arg1) : FVec Ideal S1024 .f32) shapeCasts_S1024_S1x1024 := by
  unfold V
  after_results_simp
  try rfl

/-- Column `k` of block `s`. -/
def col (s : Fin 8) (k : Fin 704) : Fin 5632 := ⟨s.val * 704 + k.val, by omega⟩

theorem opB_apply (W : FVec Ideal S1024x5632 .f32) (s : Fin 8) (j : Fin 1024) (k : Fin 704) :
    opB W (ix3 s j k) = W (ix2 j (col s k)) := by
  pointwise [opB]
  rfl

theorem opA_apply (D : FVec Ideal S1x8192x5632 .f32) (s : Fin 8) (r : Fin 8192) (k : Fin 704) :
    opA D (ix3 s r k) = D (ix3 0 r (col s k)) := by
  pointwise [opA]
  rfl

/-! ## One entry of each result -/

/-- Row `r` of the incoming gradient times the weights: the gradient of the normed row. -/
def dnorm (W : FVec Ideal S1024x5632 .f32) (D : FVec Ideal S1x8192x5632 .f32) (r : Fin 8192) (j : Fin 1024) : EReal :=
  ∑ k : Fin 5632, D (ix3 0 r k) * W (ix2 j k)

/-- Row `r` of the norm's input. -/
def xrow (X : FVec Ideal S1x8192x1024 .f32) (r : Fin 8192) (k : Fin 1024) : EReal := X (ix3 0 r k)

theorem ref_dx (X : FVec Ideal S1x8192x1024 .f32) (G : FVec Ideal S1024 .f32) (W : FVec Ideal S1024x5632 .f32)
    (D : FVec Ideal S1x8192x5632 .f32) (A : FVec Ideal S1x8192x1024 .f32) (r : Fin 8192) (j : Fin 1024) :
    val_main_v41 (F := Ideal) X G W D A (ix2 r j)
      = NormTile.entry (xrow X r) (fun k => G (ix1 k)) (dnorm W D r) (A (ix3 0 r j)) j := by
  pointwise [val_main_v0, val_main_v1, val_main_cst, val_main_v2, val_main_v3, val_main_cst_0, val_main_v4, val_main_v5,
    val_main_cst_1, val_main_v6, val_main_v7, val_main_v8, val_main_v9, val_main_cst_2, val_main_v10, val_main_v11,
    val_main_v14, val_main_v18, val_main_v19, val_main_v20, val_main_v24, val_main_v25, val_main_v27, val_main_cst_5,
    val_main_v28, val_main_v29, val_main_v30, val_main_v31, val_main_v32, val_main_v33, val_main_cst_6, val_main_v34,
    val_main_v35, val_main_cst_7, val_main_v36, val_main_v37, val_main_v38, val_main_v39, val_main_v40, val_main_v41]
  simp only [NormMath.w1024, NormMath.wNegHalf, NormMath.wEps, Fin.sum_univ_one]
  exact (NormMath.grad_entry (c := 1024) (xrow X r) (fun k => dnorm W D r k * G (ix1 k)) (by norm_num) NormMath.eps_pos (A (ix3 0 r j)) j).symm

/-- Row `r`'s term of the gain's gradient. -/
def dgTerm (X : FVec Ideal S1x8192x1024 .f32) (W : FVec Ideal S1024x5632 .f32) (D : FVec Ideal S1x8192x5632 .f32)
    (j : Fin 1024) (r : Fin 8192) : EReal :=
  dnorm W D r j * (X (ix3 0 r j) * NormMath.rms (xrow X r) 1024 NormMath.eps)

theorem ref_dg (X : FVec Ideal S1x8192x1024 .f32) (W : FVec Ideal S1024x5632 .f32)
    (D : FVec Ideal S1x8192x5632 .f32) (z : Fin 1) (j : Fin 1024) :
    val_main_v42 (F := Ideal) X W D (ix2 z j) = ∑ r : Fin 8192, dgTerm X W D j r := by
  pointwise [val_main_v0, val_main_v1, val_main_cst, val_main_v2, val_main_v3, val_main_cst_0, val_main_v4, val_main_v5,
    val_main_cst_1, val_main_v6, val_main_v7, val_main_v8, val_main_v12, val_main_v13, val_main_v19, val_main_v20,
    val_main_v21, val_main_cst_3, val_main_v22, val_main_v23, val_main_cst_4, val_main_v26, val_main_v42]
  simp only [NormMath.w1024, NormMath.wNegHalf, NormMath.wEps, Fin.sum_univ_one]
  exact Finset.sum_congr rfl fun r _ => mul_comm _ _

/-! ## What the body stores -/

theorem pay_part (x0 x1 : Vec Ideal S1x1024x704 .bf16) (r j : Fin 1024) :
    k0_pay1 (F := Ideal) x0 x1 (ix2 r j) = ∑ k : Fin 704, (x0 (ix3 0 r k) : EReal) * x1 (ix3 0 j k) := by
  pointwise [k0_pay1]

theorem pay_set (x0 x1 : Vec Ideal S1x1024x704 .bf16) (r j : Fin 1024) :
    k0_pay2 (F := Ideal) x0 x1 (ix2 r j) = k0_pay1 (F := Ideal) x0 x1 (ix2 r j) := by
  pointwise [k0_pay2]

theorem pay_add (x0 x1 : Vec Ideal S1x1024x704 .bf16) (p : Vec Ideal S1024x1024 .f32)
    (r j : Fin 1024) :
    k0_pay3 (F := Ideal) x0 x1 p (ix2 r j) = (p (ix2 r j) : EReal) + k0_pay1 (F := Ideal) x0 x1 (ix2 r j) := by
  pointwise [k0_pay3]

/-- The input gradient's tile from the finished product. -/
theorem pay_dx (d : FVec Ideal S1024x1024 .f32) (p : Vec Ideal S1024x1024 .f32) (x : Vec Ideal S1024x1024 .f32)
    (g : Vec Ideal S1x1024 .f32) (a : Vec Ideal S1024x1024 .f32) (r j : Fin 1024) :
    k0_pay10 (F := Ideal) d p x g a (ix2 r j) = NormTile.entry (fun k => x (ix2 r k)) (fun k => g (ix2 0 k))
      (fun k => (p (ix2 r k) : EReal) + d (ix2 r k)) (a (ix2 r j)) j :=
  HgrnDxIdeal.Norm.pay_dx d p x g a r j

/-- The gain's gradient from the finished product, summed over the tile's rows. -/
theorem pay_dg0 (d : FVec Ideal S1024x1024 .f32) (p : Vec Ideal S1024x1024 .f32) (x : Vec Ideal S1024x1024 .f32)
    (z : Fin 1) (j : Fin 1024) :
    k0_pay8 (F := Ideal) d p x (ix2 z j) = ∑ r : Fin 1024, ((p (ix2 r j) : EReal) + d (ix2 r j))
      * (x (ix2 r j) * NormMath.rms (fun k => x (ix2 r k)) 1024 NormMath.eps) :=
  HgrnDxIdeal.Norm.pay_dg0 d p x z j

theorem pay_dg (d : FVec Ideal S1024x1024 .f32) (p : Vec Ideal S1024x1024 .f32) (x : Vec Ideal S1024x1024 .f32)
    (q : Vec Ideal S1x1024 .f32) (z : Fin 1) (j : Fin 1024) :
    k0_pay9 (F := Ideal) d p x q (ix2 z j) = (q (ix2 z j) : EReal) + k0_pay8 (F := Ideal) d p x (ix2 z j) :=
  HgrnDxIdeal.Norm.pay_dg d p x q z j

/-! ## The blocks as parts of the arrays -/

theorem flat_apply (X : FVec Ideal S1x8192x1024 .f32) (r : Fin 8192) (k : Fin 1024) :
    shapeCast S8192x1024 X shapeCasts_S1x8192x1024_S8192x1024 (ix2 r k) = X (ix3 0 r k) := by pointwise

theorem gain_apply (X : FVec Ideal S1024 .f32) (z : Fin 1) (k : Fin 1024) :
    shapeCast S1x1024 X shapeCasts_S1024_S1x1024 (ix2 z k) = X (ix1 k) := by pointwise

variable (c : Dev nD) (t : Fin cfg0.N)

/-- The arguments: the norm's input, its gain, the weights, the incoming gradient, the residual's gradient. -/
def aX : FVec Ideal S1x8192x1024 .f32 := m ((c : Thread nD τ).loc main_arg0)
@[inherit_doc aX] def aG : FVec Ideal S1024 .f32 := m ((c : Thread nD τ).loc main_arg1)
@[inherit_doc aX] def aW : FVec Ideal S1024x5632 .f32 := m ((c : Thread nD τ).loc main_arg2)
@[inherit_doc aX] def aD : FVec Ideal S1x8192x5632 .f32 := m ((c : Thread nD τ).loc main_arg3)
@[inherit_doc aX] def aA : FVec Ideal S1x8192x1024 .f32 := m ((c : Thread nD τ).loc main_arg4)

/-- The blocks a point reads. -/
def b0 : Vec Ideal S1x1024x704 .bf16 := iblk m c 0 t
@[inherit_doc b0] def b1 : Vec Ideal S1x1024x704 .bf16 := iblk m c 1 t
@[inherit_doc b0] def b2 : Vec Ideal S1024x1024 .f32 := iblk m c 2 t
@[inherit_doc b0] def b3 : Vec Ideal S1x1024 .f32 := iblk m c 3 t
@[inherit_doc b0] def b4 : Vec Ideal S1024x1024 .f32 := iblk m c 4 t

/-- Row `r` of point `t`'s tile. -/
def row (r : Fin 1024) : Fin 8192 := ⟨t.val / 8 * 1024 + r.val, by have h : t.val < 64 := t.isLt; omega⟩

/-- The column block of point `t`. -/
def blk : Fin 8 := ⟨t.val % 8, Nat.mod_lt _ (by norm_num)⟩

theorem blk0 (r : Fin 1024) (k : Fin 704) : b0 m c t (ix3 0 r k) = aD m c (ix3 0 (row t r) (col (blk t) k)) := by
  refine Eq.trans ?_ (opA_apply (aD m c) (blk t) (row t r) k)
  unfold aD b0 row blk
  rw [← V_v3 m c]
  blk_ext [iblk, idx t]

theorem blk1 (j : Fin 1024) (k : Fin 704) : b1 m c t (ix3 0 j k) = aW m c (ix2 j (col (blk t) k)) := by
  refine Eq.trans ?_ (opB_apply (aW m c) (blk t) j k)
  unfold aW b1 blk
  rw [← V_v6 m c]
  blk_ext [iblk, idx t]

theorem blk2 (r : Fin 1024) (k : Fin 1024) : b2 m c t (ix2 r k) = aX m c (ix3 0 (row t r) k) := by
  refine Eq.trans ?_ (flat_apply (aX m c) (row t r) k)
  unfold aX b2 row
  rw [← V_v7 m c]
  blk_ext [iblk, idx t]

theorem blk3 (z : Fin 1) (k : Fin 1024) : b3 m c t (ix2 z k) = aG m c (ix1 k) := by
  refine Eq.trans ?_ (gain_apply (aG m c) z k)
  unfold aG b3
  rw [← V_v9 m c]
  blk_ext [iblk, idx t]

theorem blk4 (r : Fin 1024) (k : Fin 1024) : b4 m c t (ix2 r k) = aA m c (ix3 0 (row t r) k) := by
  refine Eq.trans ?_ (flat_apply (aA m c) (row t r) k)
  unfold aA b4 row
  rw [← V_v8 m c]
  blk_ext [iblk, idx t]

/-- The part of the product that point `t` computes. -/
def part (r j : Fin 1024) : EReal :=
  ∑ k : Fin 704, aD m c (ix3 0 (row t r) (col (blk t) k)) * aW m c (ix2 j (col (blk t) k))

theorem part_blk (r j : Fin 1024) : k0_pay1 (F := Ideal) (b0 m c t) (b1 m c t) (ix2 r j) = part m c t r j := by
  rw [pay_part, part]
  exact Finset.sum_congr rfl fun k _ => by rw [blk0, blk1]

/-! ## The scratch tile -/

/-- At a tile's first block the scratch is set. -/
theorem acc_set (h0 : t.val % 8 = 0) (r j : Fin 1024) :
    (outsAt0 m c t.val t.isLt).2.2 (ix2 r j) = part m c t r j := by
  rw [outsAt0_A m c t h0 (by omega) (by omega)]
  frame_out
  exact (pay_set _ _ r j).trans (part_blk m c t r j)

/-- At the next six it is added to. -/
theorem acc_add (h0 : t.val % 8 ≠ 0) (h7 : t.val % 8 ≠ 7) (r j : Fin 1024) :
    (outsAt0 m c t.val t.isLt).2.2 (ix2 r j)
      = (outsAt0 m c (t.val - 1) (Nat.lt_of_le_of_lt (Nat.sub_le _ _) t.isLt)).2.2 (ix2 r j) + part m c t r j := by
  rw [outsAt0_B m c t h0 (by omega) (by omega)]
  frame_out
  refine (pay_add _ _ _ r j).trans ?_
  rw [(Memref.isWhole_whole cc0_scratch0).read_unread]
  exact congrArg _ (part_blk m c t r j)

/-- At a tile's last block, what the scratch holds plus the last part is the whole product. -/
theorem whole (h7 : t.val % 8 = 7) (r j : Fin 1024) :
    (outsAt0 m c (t.val - 1) (Nat.lt_of_le_of_lt (Nat.sub_le _ _) t.isLt)).2.2 (ix2 r j)
      + k0_pay1 (F := Ideal) (b0 m c t) (b1 m c t) (ix2 r j) = dnorm (aW m c) (aD m c) (row t r) j := by
  have ht : t.val < 64 := t.isLt
  rw [part_blk]
  have h := NormTile.accum (fun n h => (outsAt0 m c n h).2.2 (ix2 r j)) (fun n h => part m c ⟨n, h⟩ r j)
    (fun n h h0 => acc_set m c ⟨n, h⟩ h0 r j) (fun n h h0 h7 => acc_add m c ⟨n, h⟩ h0 h7 r j)
    (t.val / 8) 6 (by omega) le_rfl
  have e : t.val - 1 = 8 * (t.val / 8) + 6 := by omega
  have h2 : (outsAt0 m c (t.val - 1) (Nat.lt_of_le_of_lt (Nat.sub_le _ _) t.isLt)).2.2 (ix2 r j)
      = ∑ s : Fin 7, part m c ⟨8 * (t.val / 8) + s.val, by have := s.isLt; show _ < 64; omega⟩ r j := by
    rw [← h]; simp only [e]
  rw [h2]
  have h3 : part m c t r j = part m c ⟨8 * (t.val / 8) + (Fin.last 7).val, by show _ + 7 < 64; omega⟩ r j :=
    congrArg (fun u => part m c u r j) (Fin.ext (by show t.val = 8 * (t.val / 8) + 7; omega))
  rw [h3]
  refine (Fin.sum_univ_castSucc (fun s : Fin 8 => part m c ⟨8 * (t.val / 8) + s.val, by have := s.isLt; show _ < 64; omega⟩ r j)).symm.trans ?_
  rw [dnorm]
  refine Fin.sum_mul_add_congr fun s k hl => ?_
  have e1 : row ⟨8 * (t.val / 8) + s.val, by have := s.isLt; show _ < 64; omega⟩ r = row t r :=
    Fin.ext (by show (8 * (t.val / 8) + s.val) / 8 * 1024 + r.val = t.val / 8 * 1024 + r.val; have := s.isLt; omega)
  have e2 : col (blk ⟨8 * (t.val / 8) + s.val, by have := s.isLt; show _ < 64; omega⟩) k = ⟨s.val * 704 + k.val, hl⟩ :=
    Fin.ext (by show (8 * (t.val / 8) + s.val) % 8 * 704 + k.val = s.val * 704 + k.val; have := s.isLt; omega)
  simp only [e1, e2]

/-! ## The two results -/

/-- What the scratch held before point `t`. -/
def held : Vec Ideal S1024x1024 .f32 := (outsAt0 m c (t.val - 1) (Nat.lt_of_le_of_lt (Nat.sub_le _ _) t.isLt)).2.2

theorem xrow_blk (r : Fin 1024) : (fun k : Fin 1024 => (b2 m c t (ix2 r k) : EReal)) = xrow (aX m c) (row t r) :=
  funext fun k => blk2 m c t r k

/-- The finished product's tile, over what the scratch held. -/
theorem dx_blk (h7 : t.val % 8 = 7) (r j : Fin 1024) :
    k0_pay10 (F := Ideal) (k0_pay1 (b0 m c t) (b1 m c t)) (held m c t) (b2 m c t) (b3 m c t) (b4 m c t) (ix2 r j)
      = val_main_v41 (F := Ideal) (aX m c) (aG m c) (aW m c) (aD m c) (aA m c) (ix2 (row t r) j) := by
  rw [pay_dx, ref_dx, xrow_blk, blk4]
  have hg : (fun k : Fin 1024 => (b3 m c t (ix2 0 k) : EReal)) = fun k => aG m c (ix1 k) := funext fun k => blk3 m c t 0 k
  have hd : (fun k : Fin 1024 => (held m c t (ix2 r k) : EReal)
      + k0_pay1 (F := Ideal) (b0 m c t) (b1 m c t) (ix2 r k)) = dnorm (aW m c) (aD m c) (row t r) :=
    funext fun k => whole m c t h7 r k
  rw [hg, hd]

/-- The tile's part of the gain's gradient. -/
def dgPart (j : Fin 1024) : EReal := ∑ r : Fin 1024, dgTerm (aX m c) (aW m c) (aD m c) j (row t r)

theorem dg_blk (h7 : t.val % 8 = 7) (z : Fin 1) (j : Fin 1024) :
    k0_pay8 (F := Ideal) (k0_pay1 (b0 m c t) (b1 m c t)) (held m c t) (b2 m c t) (ix2 z j) = dgPart m c t j := by
  rw [pay_dg0, dgPart]
  refine Finset.sum_congr rfl fun r _ => ?_
  have hd : (held m c t (ix2 r j) : EReal) + k0_pay1 (F := Ideal) (b0 m c t) (b1 m c t) (ix2 r j)
      = dnorm (aW m c) (aD m c) (row t r) j := whole m c t h7 r j
  rw [hd, xrow_blk, blk2, dgTerm]

/-- What a tile's last point leaves in the input gradient's block. -/
theorem out5 (h7 : t.val % 8 = 7) (y : S1024x1024.Idx) : (outsAt0 m c t.val t.isLt).1 y
    = val_main_v41 (F := Ideal) (aX m c) (aG m c) (aW m c) (aD m c) (aA m c) (ix2 (row t (y 0)) (y 1)) := by
  have hy : y = ix2 (y 0) (y 1) := by blk_ext
  refine Eq.trans ?_ ((congrArg _ hy).trans (dx_blk m c t h7 (y 0) (y 1)))
  by_cases h : t.val < 8
  · rw [outsAt0_C m c t (by omega) (by omega) h7 h (by omega)]
    frame_out
    rw [(Memref.isWhole_whole cc0_scratch0).read_unread]
    rfl
  · rw [outsAt0_D m c t (by omega) (by omega) h7 h (by omega)]
    frame_out
    rw [(Memref.isWhole_whole cc0_scratch0).read_unread]
    rfl

/-- The input gradient's array after the run. -/
theorem final5 : (dats m 0 c).arrAt 5 (cfgs 0).N = (val_main_v41 (F := Ideal)
    (aX m c) (aG m c) (aW m c) (aD m c) (aA m c) : Vec Ideal S8192x1024 .f32) := by
  refine (dats m 0 c).arrAt_eq_of_covers 5 _ (by decide +kernel) fun t hf y => ?_
  blk_simp
  rw [after0_5]
  refine (out5 m c t ((flush0_5 t).mp hf) y).trans (congrArg _ ?_)
  unfold row
  blk_ext [idx t]

/-- The gain's gradient's block at a point that is no tile's last. -/
theorem dg_keep (h7 : t.val % 8 ≠ 7) (h0 : 0 < t.val) (z : Fin 1) (j : Fin 1024) :
    (outsAt0 m c t.val t.isLt).2.1 (ix2 z j)
      = (outsAt0 m c (t.val - 1) (Nat.lt_of_le_of_lt (Nat.sub_le _ _) t.isLt)).2.1 (ix2 z j) := by
  by_cases h : t.val % 8 = 0
  · rw [outsAt0_A m c t h (by omega) (by omega)]
    rfl
  · rw [outsAt0_B m c t h (by omega) (by omega)]
    rfl

theorem dg_set (h7 : t.val % 8 = 7) (h : t.val < 8) (z : Fin 1) (j : Fin 1024) :
    (outsAt0 m c t.val t.isLt).2.1 (ix2 z j) = dgPart m c t j := by
  rw [outsAt0_C m c t (by omega) (by omega) h7 h (by omega)]
  frame_out
  rw [(Memref.isWhole_whole cc0_scratch0).read_unread]
  exact dg_blk m c t h7 z j

theorem dg_add (h7 : t.val % 8 = 7) (h : 8 ≤ t.val) (z : Fin 1) (j : Fin 1024) :
    (outsAt0 m c t.val t.isLt).2.1 (ix2 z j)
      = (outsAt0 m c (t.val - 1) (Nat.lt_of_le_of_lt (Nat.sub_le _ _) t.isLt)).2.1 (ix2 z j) + dgPart m c t j := by
  rw [outsAt0_D m c t (by omega) (by omega) h7 (by omega) h]
  frame_out
  rw [(Memref.isWhole_whole cc0_scratch0).read_unread]
  exact (pay_dg _ _ _ _ z j).trans (congrArg _ (dg_blk m c t h7 z j))

/-- The gain's gradient's array after the run. -/
theorem final6 : (dats m 0 c).arrAt 6 (cfgs 0).N = (val_main_v42 (F := Ideal)
    (aX m c) (aW m c) (aD m c) : Vec Ideal S1x1024 .f32) := by
  refine (dats m 0 c).arrAt_eq_of_covers 6 _ (by decide +kernel) fun t hf y => ?_
  blk_simp
  rw [after0_6]
  have ht : t.val < 64 := t.isLt
  have h63 := (flush0_6 t).mp hf
  have hy : y = ix2 (y 0) (y 1) := by blk_ext
  have hs := NormTile.carry (fun n h => (outsAt0 m c n h).2.1 (ix2 (y 0) (y 1))) (fun n h => dgPart m c ⟨n, h⟩ (y 1))
    (fun n h h7 h0 => dg_keep m c ⟨n, h⟩ h7 h0 (y 0) (y 1)) (fun n h h7 h0 => dg_set m c ⟨n, h⟩ h7 h0 (y 0) (y 1))
    (fun n h h7 h0 => dg_add m c ⟨n, h⟩ h7 h0 (y 0) (y 1)) 7 (by omega)
  have e : t = ⟨8 * 7 + 7, by show _ < 64; omega⟩ := Fin.ext (by show t.val = 63; omega)
  have h1 := (congrArg (fun s : Fin cfg0.N => (outsAt0 m c s.val s.isLt).2.1 y) e).trans
    (congrArg (outsAt0 m c (8 * 7 + 7) (by show _ < 64; omega)).2.1 hy)
  refine h1.trans (hs.trans ?_)
  refine Eq.trans ?_ ((ref_dg (aX m c) (aW m c) (aD m c) (y 0) (y 1)).symm.trans (congrArg _ ?_))
  · refine Fin.sum_mul_add_congr fun s k hl => ?_
    exact congrArg (dgTerm (aX m c) (aW m c) (aD m c) (y 1)) (Fin.ext (by
      show (8 * s.val + 7) / 8 * 1024 + k.val = s.val * 1024 + k.val
      have := s.isLt; omega))
  · blk_ext [idx t]

end Cert.FfnDhIdeal.Norm

end
-- ==== Proof.Loss.lean ====
module

public import proofs.«01_k».proof.Proof.Gen.LossIdeal.Value
public import proofs.«01_k».proof.Proof.Gen.LossRefIdeal.Read
public import proofs.«01_k».proof.Proof.NormMath
public import Idealize.ShloMosaic.Lib.Pipeline.ValueKit

@[expose] public section

set_option maxRecDepth 16384

/-! The loss and its gradient: half the mean squared error, summed over the rows tile by tile, and the scaled error. -/

noncomputable section

open Idealize.ShloMosaic Idealize.ShloMosaic.TcCoe Idealize.SL.Sem
open Idealize.ShloMosaic.Pipeline (Dat)

namespace Cert.LossIdeal.Rows

open Cert.LossIdeal Cert.LossIdeal.Gen
open Cert.LossRefIdeal.Read

variable (m : (ℓ : Loc nD τ sig) → Buf (Elt Ideal) ℓ)

/-- Which block of each array a grid point works on. -/
theorem idx : ∀ t : Fin cfg0.N, win0_0.index t = ![t.val, 0] ∧ win0_1.index t = ![t.val, 0]
    ∧ win0_2.index t = ![t.val, 0] ∧ win0_3.index t = ![0, 0] :=
  (by decide +kernel : ∀ t : Fin grid0.N, _)

theorem V_v0 (c : Dev nD) : (V m c main_v0 : FVec Ideal S8192x1024 .f32)
    = shapeCast S8192x1024 (m ((c : Thread nD τ).loc main_arg0) : FVec Ideal S1x8192x1024 .f32)
        shapeCasts_S1x8192x1024_S8192x1024 := by
  unfold V
  after_results_simp
  try rfl

theorem V_v1 (c : Dev nD) : (V m c main_v1 : FVec Ideal S8192x1024 .f32)
    = shapeCast S8192x1024 (m ((c : Thread nD τ).loc main_arg1) : FVec Ideal S1x8192x1024 .f32)
        shapeCasts_S1x8192x1024_S8192x1024 := by
  unfold V
  after_results_simp
  try rfl

/-! ## The constants -/

/-- The word `0x40000000` is the number 2. -/
theorem wTwo : Ideal.ofBits .f32 1073741824#32 = ((2 : ℝ) : EReal) := by
  simp [Ideal.ofBits, Ideal.ieee, -EReal.coe_mul]; norm_num

/-- The word `0x3F000000` is the number 1/2. -/
theorem wHalf : Ideal.ofBits .f32 1056964608#32 = ((1 / 2 : ℝ) : EReal) := by
  simp [Ideal.ofBits, Ideal.ieee, -EReal.coe_mul]; norm_num

/-- The word `0x3F800000` is the number 1. -/
theorem wOne : Ideal.ofBits .f32 1065353216#32 = ((1 : ℝ) : EReal) := by
  simp [Ideal.ofBits, Ideal.ieee, -EReal.coe_mul]; norm_num

/-- The word `0x3A800000` is the number 1/1024. -/
theorem wInv1024 : Ideal.ofBits .f32 981467136#32 = ((1 / 1024 : ℝ) : EReal) := by
  simp [Ideal.ofBits, Ideal.ieee, -EReal.coe_mul]; norm_num

/-! ## The mathematics -/

/-- The mean squared error of row `r`. -/
def err (Y T : FVec Ideal S1x8192x1024 .f32) (r : Fin 8192) : EReal :=
  Ideal.div (∑ k : Fin 1024, (Y (ix3 0 r k) - T (ix3 0 r k)) * (Y (ix3 0 r k) - T (ix3 0 r k))) ((1024 : ℝ) : EReal)

/-- One half times the mean's share times twice the error is the error over the mean's count. -/
theorem half_twice (e : EReal) :
    Ideal.div ((1 / 2 : ℝ) : EReal) ((1024 : ℝ) : EReal) * (((2 : ℝ) : EReal) * e)
      = e * ((1 / 1024 : ℝ) : EReal) := by
  rw [Ideal.div_coe (by norm_num), ← mul_assoc, ← EReal.coe_mul, ← EReal.coe_mul, mul_comm e]
  norm_num

theorem ref_dy (Y T : FVec Ideal S1x8192x1024 .f32) (r : Fin 8192) (j : Fin 1024) :
    val_main_v15 (F := Ideal) Y T (ix2 r j) = (Y (ix3 0 r j) - T (ix3 0 r j)) * ((1 / 1024 : ℝ) : EReal) := by
  pointwise [val_main_v15, val_main_v14, val_main_v13, val_main_v12, val_main_v11, val_main_v10, val_main_v9,
    val_main_cst_4, val_main_cst_5, val_main_cst_6, val_main_v3, val_main_v2, val_main_cst, val_main_v0]
  simp only [wTwo, wHalf, wOne, NormMath.w1024]
  exact half_twice _

theorem ref_row (Y T : FVec Ideal S1x8192x1024 .f32) (r : Fin 8192) :
    val_main_v6 (F := Ideal) Y T (ix2 0 r) = err Y T r := by
  pointwise [val_main_v6, val_main_v5, val_main_v4, val_main_cst_0, val_main_cst_1, val_main_v1, val_main_v0]
  simp only [NormMath.w1024, err]

theorem ref_loss (Y T : FVec Ideal S1x8192x1024 .f32) (z : Fin 1) (j : Fin 128) :
    val_main_v16 (F := Ideal) Y T (ix2 z j) = ∑ r : Fin 8192, ((1 / 2 : ℝ) : EReal) * err Y T r := by
  rw [← NormMath.coe_mul_sum _ _ (by norm_num : (0 : ℝ) ≤ 1 / 2)]
  simp only [← ref_row]
  pointwise [val_main_v16, val_main_v8, val_main_cst_3, val_main_v7, val_main_cst_2]
  simp only [wHalf, Fin.sum_univ_one]

/-- The error's tile, scaled. -/
theorem pay_dy (x0 x1 : Vec Ideal S512x1024 .f32) (r : Fin 512) (j : Fin 1024) :
    k0_pay2 (F := Ideal) x0 x1 (ix2 r j) = ((x0 (ix2 r j) : EReal) - x1 (ix2 r j)) * ((1 / 1024 : ℝ) : EReal) := by
  pointwise [k0_pay2, k0_pay1]
  simp only [wInv1024]

/-- The tile's part of the loss. -/
theorem pay_loss0 (x0 x1 : Vec Ideal S512x1024 .f32) (z : Fin 1) (j : Fin 128) :
    k0_pay3 (F := Ideal) x0 x1 (ix2 z j) = ((1 / 2 : ℝ) : EReal) * ∑ r : Fin 512, Ideal.div
      (∑ k : Fin 1024, ((x0 (ix2 r k) : EReal) - x1 (ix2 r k)) * ((x0 (ix2 r k) : EReal) - x1 (ix2 r k))) ((1024 : ℝ) : EReal) := by
  pointwise [k0_pay3, k0_pay1]
  simp only [wHalf, NormMath.w1024]

theorem pay_loss (x0 x1 : Vec Ideal S512x1024 .f32) (p : Vec Ideal S1x128 .f32) (z : Fin 1) (j : Fin 128) :
    k0_pay4 (F := Ideal) x0 x1 p (ix2 z j) = (p (ix2 z j) : EReal) + k0_pay3 (F := Ideal) x0 x1 (ix2 z j) := by
  pointwise [k0_pay4]

/-! ## The tiles as parts of the arrays -/

theorem flat_apply (X : FVec Ideal S1x8192x1024 .f32) (r : Fin 8192) (k : Fin 1024) :
    shapeCast S8192x1024 X shapeCasts_S1x8192x1024_S8192x1024 (ix2 r k) = X (ix3 0 r k) := by pointwise

variable (c : Dev nD) (t : Fin cfg0.N)

/-- The arguments: the model's output and the target. -/
def aY : FVec Ideal S1x8192x1024 .f32 := m ((c : Thread nD τ).loc main_arg0)
@[inherit_doc aY] def aT : FVec Ideal S1x8192x1024 .f32 := m ((c : Thread nD τ).loc main_arg1)

/-- The tiles a point reads. -/
def b0 : Vec Ideal S512x1024 .f32 := iblk m c 0 t
@[inherit_doc b0] def b1 : Vec Ideal S512x1024 .f32 := iblk m c 1 t

/-- Row `r` of point `t`'s tile is row `512 t + r` of the array. -/
def row (r : Fin 512) : Fin 8192 := ⟨t.val * 512 + r.val, by have h : t.val < 16 := t.isLt; omega⟩

theorem blk0 (r : Fin 512) (k : Fin 1024) : b0 m c t (ix2 r k) = aY m c (ix3 0 (row t r) k) := by
  refine Eq.trans ?_ (flat_apply (aY m c) (row t r) k)
  unfold aY b0 row
  rw [← V_v0 m c]
  blk_ext [iblk, idx t]

theorem blk1 (r : Fin 512) (k : Fin 1024) : b1 m c t (ix2 r k) = aT m c (ix3 0 (row t r) k) := by
  refine Eq.trans ?_ (flat_apply (aT m c) (row t r) k)
  unfold aT b1 row
  rw [← V_v1 m c]
  blk_ext [iblk, idx t]

theorem dy_blk (r : Fin 512) (j : Fin 1024) : k0_pay2 (F := Ideal) (b0 m c t) (b1 m c t) (ix2 r j)
    = val_main_v15 (F := Ideal) (aY m c) (aT m c) (ix2 (row t r) j) := by
  rw [pay_dy, ref_dy, blk0, blk1]

theorem loss_blk (z : Fin 1) (j : Fin 128) : k0_pay3 (F := Ideal) (b0 m c t) (b1 m c t) (ix2 z j)
    = ∑ r : Fin 512, ((1 / 2 : ℝ) : EReal) * err (aY m c) (aT m c) (row t r) := by
  rw [pay_loss0, NormMath.coe_mul_sum _ _ (by norm_num : (0 : ℝ) ≤ 1 / 2)]
  refine Finset.sum_congr rfl fun r _ => ?_
  simp only [blk0, blk1, err]

/-- What a point leaves in the gradient's tile. -/
theorem out2 (y : S512x1024.Idx) : (outsAt0 m c t.val t.isLt).1 y
    = val_main_v15 (F := Ideal) (aY m c) (aT m c) (ix2 (row t (y 0)) (y 1)) := by
  have hy : y = ix2 (y 0) (y 1) := by blk_ext
  by_cases h0 : t.val % 16 = 0
  · rw [outsAt0_A m c t h0 (by have h : t.val < 16 := t.isLt; omega)]
    frame_out
    exact (congrArg _ hy).trans (dy_blk m c t (y 0) (y 1))
  · rw [outsAt0_B m c t h0 (by omega)]
    frame_out
    exact (congrArg _ hy).trans (dy_blk m c t (y 0) (y 1))

/-- The gradient's array after the run. -/
theorem final2 : (dats m 0 c).arrAt 2 (cfgs 0).N
    = (val_main_v15 (F := Ideal) (aY m c) (aT m c) : Vec Ideal S8192x1024 .f32) := by
  refine (dats m 0 c).arrAt_eq_of_covers 2 _ (by decide +kernel) fun t hf y => ?_
  blk_simp
  rw [after0_2]
  refine (out2 m c t y).trans (congrArg _ ?_)
  unfold row
  blk_ext [idx t]

/-- The loss after the run, on every lane. -/
theorem final3 : (dats m 0 c).arrAt 3 (cfgs 0).N
    = (val_main_v16 (F := Ideal) (aY m c) (aT m c) : Vec Ideal S1x128 .f32) := by
  refine (dats m 0 c).arrAt_eq_of_covers 3 _ (by decide +kernel) fun t hf y => ?_
  blk_simp
  rw [after0_3]
  have hs := Pipeline.eq_sum_fin_of_reset_step_apply_of_flush (fun n h => (outsAt0 m c n h).2) 16 (fun _ => 0)
    (fun s (y : S1x128.Idx) => ∑ r : Fin 512, ((1 / 2 : ℝ) : EReal) * err (aY m c) (aT m c) (row s r))
    (fun t h0 y => by
      rw [outsAt0_A m c t h0 (by have h : t.val < 16 := t.isLt; omega), zero_add]
      frame_out
      exact (congrArg _ (show y = ix2 (y 0) (y 1) by blk_ext)).trans (loss_blk m c t (y 0) (y 1)))
    (fun t h0 y => by
      rw [outsAt0_B m c t h0 (by omega)]
      frame_out
      have hy : y = ix2 (y 0) (y 1) := by blk_ext
      refine (congrArg _ hy).trans ((pay_loss _ _ _ (y 0) (y 1)).trans ?_)
      refine congrArg₂ (· + ·) (congrArg _ hy.symm) (loss_blk m c t (y 0) (y 1))) t ((flush0_3 t).mp hf) y
  refine hs.trans ?_
  refine Eq.trans ?_ ((ref_loss (aY m c) (aT m c) (y 0) (y 1)).symm.trans (congrArg _ ?_))
  · rw [zero_add]
    refine Fin.sum_mul_add_congr fun s k hl => ?_
    have h : t.val / 16 = 0 := by have h : t.val < 16 := t.isLt; omega
    exact congrArg (fun r => ((1 / 2 : ℝ) : EReal) * err (aY m c) (aT m c) r) (Fin.ext (by simp [row, h]))
  · blk_ext [idx t]

end Cert.LossIdeal.Rows

end
-- ==== Proof.AttnBlocks.lean ====
module

public import proofs.«01_k».proof.Proof.Gen.AttnIdeal.Frame
public import proofs.«01_k».proof.Proof.Gen.AttnIdeal.Loops
public import Idealize.ShloMosaic.Lib.VecWindow
public import Idealize.ShloMosaic.Lib.LoopRemainder

@[expose] public section

set_option maxRecDepth 16384

noncomputable section

/-! The backward attention kernel as a function on blocks: the rows of one query block, what a visit to it
adds to the query gradient and to the key and value gradients, and the counted loop that takes the visits two at a time. -/

namespace Cert.AttnIdeal.Body

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.VecWindow (window put)

/-- What a grid point reads of the arrays that are sliced by query block: the queries, the forward pass's transposed
output, its log-sum-exp rows, and the transposed cotangent. -/
structure Rows (F : FTy → Type) where
  q : Vec F S8192x256 .bf16
  o : Vec F S16x128x512 .bf16
  l : Vec F S1x16x1x512 .f32
  g : Vec F S16x128x512 .bf16

theorem inb_row (n : Fin 16) : ∀ a, (![n.val * 512, 0] : Fin 2 → ℕ) a + S512x256.size a ≤ S8192x256.size a := by revert n; decide +kernel
theorem inb_slab (n : Fin 16) : ∀ a, (![n.val, 0, 0] : Fin 3 → ℕ) a + S1x128x512.size a ≤ S16x128x512.size a := by revert n; decide +kernel
theorem inb_lse (n : Fin 16) : ∀ a, (![0, n.val, 0, 0] : Fin 4 → ℕ) a + S1x1x1x512.size a ≤ S1x16x1x512.size a := by revert n; decide +kernel

/-- Query block `n`: 512 rows of a `8192 × 256` array. -/
def row {e : EltTy} (x : Vec F S8192x256 e) (n : Fin 16) : Vec F S512x256 e := window x ![n.val * 512, 0] S512x256.size (inb_row n)
/-- Slab `n` of a transposed `16 × 128 × 512` array. -/
def slab {e : EltTy} (x : Vec F S16x128x512 e) (n : Fin 16) : Vec F S1x128x512 e := window x ![n.val, 0, 0] S1x128x512.size (inb_slab n)
/-- The log-sum-exp row of query block `n`. -/
def lseRow (x : Vec F S1x16x1x512 .f32) (n : Fin 16) : Vec F S1x1x1x512 .f32 := window x ![0, n.val, 0, 0] S1x1x1x512.size (inb_lse n)
/-- Query block `n` of `d` replaced. -/
def setRow (d : Vec F S8192x256 .f32) (n : Fin 16) (w : Vec F S512x256 .f32) : Vec F S8192x256 .f32 := put d ![n.val * 512, 0] S512x256.size w

/-- What a visit to query block `n` adds to the key gradient. -/
def dkPart (X : Rows F) (kb : FVec F S512x256 .bf16) (vb : FVec F S512x128 .bf16) (n : Fin 16) : FVec F S512x256 .f32 :=
  k0_pay39 kb vb (row X.q n) (slab X.g n) (lseRow X.l n) (slab X.o n)
/-- What a visit to query block `n` adds to the value gradient. -/
def dvPart (X : Rows F) (kb : FVec F S512x256 .bf16) (n : Fin 16) : FVec F S512x128 .f32 :=
  k0_pay40 kb (row X.q n) (slab X.g n) (lseRow X.l n)
/-- The query gradient after a visit to block `n`. -/
def visit (X : Rows F) (kb : FVec F S512x256 .bf16) (vb : FVec F S512x128 .bf16) (n : Fin 16) (d : Vec F S8192x256 .f32) : Vec F S8192x256 .f32 :=
  setRow d n (k0_pay38 kb vb (row X.q n) (slab X.g n) (lseRow X.l n) (slab X.o n) (row d n))

theorem row_setRow_ne (d : Vec F S8192x256 .f32) (n n' : Fin 16) (h : n ≠ n') (w : Vec F S512x256 .f32) : row (setRow d n w) n' = row d n' := by
  refine VecWindow.window_put_of_disjoint d _ _ _ _ _ w 0 ?_
  have : n.val ≠ n'.val := fun e => h (Fin.ext e)
  show n'.val * 512 + 512 ≤ n.val * 512 ∨ n.val * 512 + 512 ≤ n'.val * 512
  omega

/-- The query gradient and the two accumulators. -/
abbrev St (F : FTy → Type) : Type := Vec F S8192x256 .f32 × Vec F S512x256 .f32 × Vec F S512x128 .f32

theorem pair_lt : ∀ (i : grid0.Coords) (k : Fin (k0_t1_loop i).trips), (i 1).val + 2 + 2 * k.val < 16 := by decide +kernel
/-- The first block of trip `k`, -/
def fst (i : grid0.Coords) (k : Fin (k0_t1_loop i).trips) : Fin 16 := ⟨(i 1).val + 1 + 2 * k.val, by have := pair_lt i k; omega⟩
/-- and the second. -/
def snd (i : grid0.Coords) (k : Fin (k0_t1_loop i).trips) : Fin 16 := ⟨(i 1).val + 2 + 2 * k.val, pair_lt i k⟩

/-- One trip: two visits, their key and value parts added together first. -/
def pair (X : Rows F) (kb : FVec F S512x256 .bf16) (vb : FVec F S512x128 .bf16) (n n' : Fin 16) (s : St F) : St F :=
  (visit X kb vb n' (visit X kb vb n s.1), k0_pay60 (addf (dkPart X kb vb n) (dkPart X kb vb n')) s.2.1,
    k0_pay61 (addf (dvPart X kb n) (dvPart X kb n')) s.2.2)

/-- The state before trip `k`. -/
def iter (X : Rows F) (kb : FVec F S512x256 .bf16) (vb : FVec F S512x128 .bf16) (i : grid0.Coords) (s : St F) : ℕ → St F
  | 0 => s
  | k + 1 => if h : k < (k0_t1_loop i).trips then pair X kb vb (fst i ⟨k, h⟩) (snd i ⟨k, h⟩) (iter X kb vb i s k) else iter X kb vb i s k

theorem iter_succ (X : Rows F) (kb : FVec F S512x256 .bf16) (vb : FVec F S512x128 .bf16) (i : grid0.Coords) (s : St F) (k : Fin (k0_t1_loop i).trips) :
    iter X kb vb i s (k.val + 1) = pair X kb vb (fst i k) (snd i k) (iter X kb vb i s k.val) := dif_pos k.isLt

theorem off4_eq : ∀ (i : grid0.Coords) (k : Fin (k0_t1_loop i).trips), k0_off4 i k = ![((i 1).val + 1 + 2 * k.val) * 512, 0] := by decide +kernel
theorem off5_eq : ∀ (i : grid0.Coords) (k : Fin (k0_t1_loop i).trips), k0_off5 i k = ![(i 1).val + 1 + 2 * k.val, 0, 0] := by decide +kernel
theorem off6_eq : ∀ (i : grid0.Coords) (k : Fin (k0_t1_loop i).trips), k0_off6 i k = ![((i 1).val + 2 + 2 * k.val) * 512, 0] := by decide +kernel
theorem off7_eq : ∀ (i : grid0.Coords) (k : Fin (k0_t1_loop i).trips), k0_off7 i k = ![(i 1).val + 2 + 2 * k.val, 0, 0] := by decide +kernel
theorem off8_eq : ∀ (i : grid0.Coords) (k : Fin (k0_t1_loop i).trips), k0_off8 i k = ![0, (i 1).val + 1 + 2 * k.val, 0, 0] := by decide +kernel
theorem off9_eq : ∀ (i : grid0.Coords) (k : Fin (k0_t1_loop i).trips), k0_off9 i k = ![0, (i 1).val + 2 + 2 * k.val, 0, 0] := by decide +kernel
instance (i : grid0.Coords) (k : Fin (k0_t1_loop i).trips) : ClosedOff (k0_off4 i k) := ⟨_, off4_eq i k⟩
instance (i : grid0.Coords) (k : Fin (k0_t1_loop i).trips) : ClosedOff (k0_off6 i k) := ⟨_, off6_eq i k⟩

/-! The loop's payloads are the single visit's. -/
theorem pay12_eq (kb : FVec F S512x256 .bf16) (vb : FVec F S512x128 .bf16) (q : Vec F S512x256 .bf16) (g : Vec F S1x128x512 .bf16) (l : Vec F S1x1x1x512 .f32) (o : Vec F S1x128x512 .bf16) (a : Vec F S512x256 .f32) :
    k0_pay12 kb (k0_pay4 vb g) (k0_pay9 kb q l) (k0_pay10 g) o a = k0_pay38 kb vb q g l o a := rfl
theorem pay54_eq (kb : FVec F S512x256 .bf16) (vb : FVec F S512x128 .bf16) (q : Vec F S512x256 .bf16) (g : Vec F S1x128x512 .bf16) (l : Vec F S1x1x1x512 .f32) (o : Vec F S1x128x512 .bf16) (a : Vec F S512x256 .f32) :
    k0_pay54 kb (k0_pay16 (k0_pay6 g) (k0_pay7 kb q) (k0_pay8 vb g) l o) (k0_pay17 a) = k0_pay38 kb vb q g l o a := rfl
theorem pay55_eq (kb : FVec F S512x256 .bf16) (vb : FVec F S512x128 .bf16) (q q' : Vec F S512x256 .bf16) (g g' : Vec F S1x128x512 .bf16) (l l' : Vec F S1x1x1x512 .f32) (o o' : Vec F S1x128x512 .bf16) (a : Vec F S512x256 .f32) :
    k0_pay55 (k0_pay5 q') (k0_pay13 (k0_pay2 q) (k0_pay4 vb g) (k0_pay9 kb q l) (k0_pay10 g) o) (k0_pay16 (k0_pay6 g') (k0_pay7 kb q') (k0_pay8 vb g') l' o') a
      = k0_pay60 (addf (k0_pay39 kb vb q g l o) (k0_pay39 kb vb q' g' l' o')) a := rfl
theorem pay56_eq (kb : FVec F S512x256 .bf16) (q q' : Vec F S512x256 .bf16) (g g' : Vec F S1x128x512 .bf16) (l l' : Vec F S1x1x1x512 .f32) (a : Vec F S512x128 .f32) :
    k0_pay56 (k0_pay6 g') (k0_pay14 (k0_pay3 g) (k0_pay9 kb q l)) (k0_pay15 (k0_pay7 kb q') l') a
      = k0_pay61 (addf (k0_pay40 kb q g l) (k0_pay40 kb q' g' l')) a := rfl

/-- One trip of the loop, from any contents: what it reads stays, and the three arrays it writes go through `pair`. -/
theorem trip (c : Dev nD) (i : grid0.Coords) (arg2 : Memref sig .tc .vmem S8192x256 .bf16) (harg2 : arg2.IsWhole) (arg3 : Memref sig .tc .vmem S512x256 .bf16) (harg3 : arg3.IsWhole) (arg4 : Memref sig .tc .vmem S512x128 .bf16) (harg4 : arg4.IsWhole) (arg5 : Memref sig .tc .vmem S16x128x512 .bf16) (harg5 : arg5.IsWhole) (arg6 : Memref sig .tc .vmem S1x16x1x512 .f32) (harg6 : arg6.IsWhole) (arg7 : Memref sig .tc .vmem S16x128x512 .bf16) (harg7 : arg7.IsWhole) (arg8 : Memref sig .tc .vmem S8192x256 .f32) (harg8 : arg8.IsWhole) (arg9 : Memref sig .tc .vmem S512x256 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S512x128 .f32) (harg12 : arg12.IsWhole) (arg1 : BitVec 32) (kb : FVec F S512x256 .bf16) (vb : FVec F S512x128 .bf16)
    (f2 : BufTy.Contents (Elt F) arg2.view.ty) (f5 : BufTy.Contents (Elt F) arg5.view.ty) (f6 : BufTy.Contents (Elt F) arg6.view.ty) (f7 : BufTy.Contents (Elt F) arg7.view.ty) (f8 : BufTy.Contents (Elt F) arg8.view.ty) (f11 : BufTy.Contents (Elt F) arg11.view.ty) (f12 : BufTy.Contents (Elt F) arg12.view.ty) (s : St F)
    (h8 : arg8.view.read (Elt F) f8 = s.1) (h11 : arg11.view.read (Elt F) f11 = s.2.1) (h12 : arg12.view.read (Elt F) f12 = s.2.2)
    (k : Fin (k0_t1_loop i).trips) (E : Set ℕ) :
    (iprop((arg2.view.loc (c : Thread nD τ) ↦[arg2.view.set]{fullShare} f2) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg11.view.loc (c : Thread nD τ) ↦[arg11.view.set]{fullShare} f11) ∗ (arg12.view.loc (c : Thread nD τ) ↦[arg12.view.set]{fullShare} f12)) : sProp 𝕄)
      ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 arg12 harg12 arg1 kb vb k PUnit.unit)
          (fun _ => (iprop((arg2.view.loc (c : Thread nD τ) ↦[arg2.view.set]{fullShare} f2) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (∃ f, (arg8.view.loc (c : Thread nD τ) ↦[arg8.view.set]{fullShare} f) ∗ ⌜arg8.view.read (Elt F) f = (pair ⟨arg2.view.read (Elt F) f2, arg5.view.read (Elt F) f5, arg6.view.read (Elt F) f6, arg7.view.read (Elt F) f7⟩ kb vb (fst i k) (snd i k) s).1⌝) ∗ (∃ f, (arg11.view.loc (c : Thread nD τ) ↦[arg11.view.set]{fullShare} f) ∗ ⌜arg11.view.read (Elt F) f = (pair ⟨arg2.view.read (Elt F) f2, arg5.view.read (Elt F) f5, arg6.view.read (Elt F) f6, arg7.view.read (Elt F) f7⟩ kb vb (fst i k) (snd i k) s).2.1⌝) ∗ (∃ f, (arg12.view.loc (c : Thread nD τ) ↦[arg12.view.set]{fullShare} f) ∗ ⌜arg12.view.read (Elt F) f = (pair ⟨arg2.view.read (Elt F) f2, arg5.view.read (Elt F) f5, arg6.view.read (Elt F) f6, arg7.view.read (Elt F) f7⟩ kb vb (fst i k) (snd i k) s).2.2⌝)) : sProp 𝕄)) := by
  have r4 : ∀ {e} (v : View sig .tc .vmem S8192x256 e) f, v.readAt (Elt F) (Rect.unit (s := S8192x256) (k0_off4 i k) S512x256.size (k0_off4_inb i k)).toLoadRect f = row (v.read (Elt F) f) (fst i k) :=
    fun v f => v.readAt_unit f _ (off4_eq i k) _
  have r6 : ∀ {e} (v : View sig .tc .vmem S8192x256 e) f, v.readAt (Elt F) (Rect.unit (s := S8192x256) (k0_off6 i k) S512x256.size (k0_off6_inb i k)).toLoadRect f = row (v.read (Elt F) f) (snd i k) :=
    fun v f => v.readAt_unit f _ (off6_eq i k) _
  have r5 : ∀ (v : View sig .tc .vmem S16x128x512 .bf16) f, v.readAt (Elt F) (Rect.unit (s := S16x128x512) (k0_off5 i k) S1x128x512.size (k0_off5_inb i k)).toLoadRect f = slab (v.read (Elt F) f) (fst i k) :=
    fun v f => v.readAt_unit f _ (off5_eq i k) _
  have r7 : ∀ (v : View sig .tc .vmem S16x128x512 .bf16) f, v.readAt (Elt F) (Rect.unit (s := S16x128x512) (k0_off7 i k) S1x128x512.size (k0_off7_inb i k)).toLoadRect f = slab (v.read (Elt F) f) (snd i k) :=
    fun v f => v.readAt_unit f _ (off7_eq i k) _
  have r8 : ∀ (v : View sig .tc .vmem S1x16x1x512 .f32) f, v.readAt (Elt F) (Rect.unit (s := S1x16x1x512) (k0_off8 i k) S1x1x1x512.size (k0_off8_inb i k)).toLoadRect f = lseRow (v.read (Elt F) f) (fst i k) :=
    fun v f => v.readAt_unit f _ (off8_eq i k) _
  have r9 : ∀ (v : View sig .tc .vmem S1x16x1x512 .f32) f, v.readAt (Elt F) (Rect.unit (s := S1x16x1x512) (k0_off9 i k) S1x1x1x512.size (k0_off9_inb i k)).toLoadRect f = lseRow (v.read (Elt F) f) (snd i k) :=
    fun v f => v.readAt_unit f _ (off9_eq i k) _
  have hne : fst i k ≠ snd i k := fun e => by have := congrArg Fin.val e; simp only [fst, snd] at this; omega
  unfold k0_t1_body
  iintro ⟨H2, H5, H6, H7, H8, H11, H12⟩
  sl_exec
  sl_step
  isplitl [H2]; · iexact H2
  isplitl [H5]; · iexact H5
  isplitl [H6]; · iexact H6
  isplitl [H7]; · iexact H7
  isplitl [H8]
  · iexists _; isplitl [H8]; · iexact H8
    ipureintro
    refine (View.read_writes_cons_put arg8.view f8 (k0_off6_inb i k) _ _ (off6_eq i k)).trans ?_
    rw [View.read_writes_cons_put arg8.view f8 (k0_off4_inb i k) _ _ (off4_eq i k)]
    rw [View.writes_nil, h8]
    show _ = setRow _ (snd i k) (k0_pay38 kb vb _ _ _ _ (row (setRow s.1 (fst i k) _) (snd i k)))
    rw [row_setRow_ne _ _ _ hne, ← h8]
    refine congrArg₂ (fun a b => put (put (arg8.view.read (Elt F) f8) ![((i 1).val + 1 + 2 * k.val) * 512, 0] S512x256.size a) ![((i 1).val + 2 + 2 * k.val) * 512, 0] S512x256.size b) ?_ ?_
    · rfl
    · rfl
  isplitl [H11]
  · iexists _; isplitl [H11]; · iexact H11
    ipureintro
    refine (View.read_writes_full arg11.view f11 _ _ _).trans ?_
    show _ = k0_pay60 _ s.2.1
    rw [← h11, ← View.readAt_full arg11.view f11 inb_S512x256_S512x256_0_0]
    rfl
  · iexists _; isplitl [H12]; · iexact H12
    ipureintro
    refine (View.read_writes_full arg12.view f12 _ _ _).trans ?_
    show _ = k0_pay61 _ s.2.2
    rw [← h12, ← View.readAt_full arg12.view f12 inb_S512x128_S512x128_0_0]
    rfl

end Cert.AttnIdeal.Body
-- ==== Proof.AttnPoint.lean ====
module

public import proofs.«01_k».proof.Proof.AttnBlocks

@[expose] public section

set_option maxRecDepth 16384

noncomputable section

/-! One grid point of the backward attention kernel, run from any contents: what its three outputs hold afterwards. -/

namespace Cert.AttnIdeal.Body

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Idealize.ShloMosaic.VecWindow (window put)

/-- What holds before trip `k` of the loop over pairs of query blocks, entered at the state `s`. -/
abbrev pairInv (c : Dev nD) (i : grid0.Coords) (arg2 : Memref sig .tc .vmem S8192x256 .bf16) (harg2 : arg2.IsWhole) (arg3 : Memref sig .tc .vmem S512x256 .bf16) (harg3 : arg3.IsWhole) (arg4 : Memref sig .tc .vmem S512x128 .bf16) (harg4 : arg4.IsWhole) (arg5 : Memref sig .tc .vmem S16x128x512 .bf16) (harg5 : arg5.IsWhole) (arg6 : Memref sig .tc .vmem S1x16x1x512 .f32) (harg6 : arg6.IsWhole) (arg7 : Memref sig .tc .vmem S16x128x512 .bf16) (harg7 : arg7.IsWhole) (arg8 : Memref sig .tc .vmem S8192x256 .f32) (harg8 : arg8.IsWhole) (arg9 : Memref sig .tc .vmem S512x256 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S512x128 .f32) (harg12 : arg12.IsWhole) (kb : FVec F S512x256 .bf16) (vb : FVec F S512x128 .bf16)
    (f2 : BufTy.Contents (Elt F) arg2.view.ty) (f5 : BufTy.Contents (Elt F) arg5.view.ty) (f6 : BufTy.Contents (Elt F) arg6.view.ty) (f7 : BufTy.Contents (Elt F) arg7.view.ty) (s : St F) (k : ℕ) (_u : PUnit) : sProp 𝕄 :=
  iprop((arg2.view.loc (c : Thread nD τ) ↦[arg2.view.set]{fullShare} f2) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (∃ f, (arg8.view.loc (c : Thread nD τ) ↦[arg8.view.set]{fullShare} f) ∗ ⌜arg8.view.read (Elt F) f = (iter ⟨arg2.view.read (Elt F) f2, arg5.view.read (Elt F) f5, arg6.view.read (Elt F) f6, arg7.view.read (Elt F) f7⟩ kb vb i s k).1⌝) ∗ (∃ f, (arg11.view.loc (c : Thread nD τ) ↦[arg11.view.set]{fullShare} f) ∗ ⌜arg11.view.read (Elt F) f = (iter ⟨arg2.view.read (Elt F) f2, arg5.view.read (Elt F) f5, arg6.view.read (Elt F) f6, arg7.view.read (Elt F) f7⟩ kb vb i s k).2.1⌝) ∗ (∃ f, (arg12.view.loc (c : Thread nD τ) ↦[arg12.view.set]{fullShare} f) ∗ ⌜arg12.view.read (Elt F) f = (iter ⟨arg2.view.read (Elt F) f2, arg5.view.read (Elt F) f5, arg6.view.read (Elt F) f6, arg7.view.read (Elt F) f7⟩ kb vb i s k).2.2⌝))

/-- A trip keeps it. -/
theorem pairInv_step (c : Dev nD) (E : Set ℕ) (i : grid0.Coords) (arg2 : Memref sig .tc .vmem S8192x256 .bf16) (harg2 : arg2.IsWhole) (arg3 : Memref sig .tc .vmem S512x256 .bf16) (harg3 : arg3.IsWhole) (arg4 : Memref sig .tc .vmem S512x128 .bf16) (harg4 : arg4.IsWhole) (arg5 : Memref sig .tc .vmem S16x128x512 .bf16) (harg5 : arg5.IsWhole) (arg6 : Memref sig .tc .vmem S1x16x1x512 .f32) (harg6 : arg6.IsWhole) (arg7 : Memref sig .tc .vmem S16x128x512 .bf16) (harg7 : arg7.IsWhole) (arg8 : Memref sig .tc .vmem S8192x256 .f32) (harg8 : arg8.IsWhole) (arg9 : Memref sig .tc .vmem S512x256 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S512x128 .f32) (harg12 : arg12.IsWhole) (arg1 : BitVec 32) (kb : FVec F S512x256 .bf16) (vb : FVec F S512x128 .bf16)
    (f2 : BufTy.Contents (Elt F) arg2.view.ty) (f5 : BufTy.Contents (Elt F) arg5.view.ty) (f6 : BufTy.Contents (Elt F) arg6.view.ty) (f7 : BufTy.Contents (Elt F) arg7.view.ty) (s : St F) (k : Fin (k0_t1_loop i).trips) (u : PUnit) :
    pairInv c i arg2 harg2 arg3 harg3 arg4 harg4 arg5 harg5 arg6 harg6 arg7 harg7 arg8 harg8 arg9 harg9 arg10 harg10 arg11 harg11 arg12 harg12 kb vb f2 f5 f6 f7 s k.val u
      ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 arg12 harg12 arg1 kb vb k u)
          (pairInv c i arg2 harg2 arg3 harg3 arg4 harg4 arg5 harg5 arg6 harg6 arg7 harg7 arg8 harg8 arg9 harg9 arg10 harg10 arg11 harg11 arg12 harg12 kb vb f2 f5 f6 f7 s (k.val + 1)) := by
  unfold pairInv
  iintro ⟨H2, H5, H6, H7, ⟨%g8, H8, %h8⟩, ⟨%g11, H11, %h11⟩, ⟨%g12, H12, %h12⟩⟩
  rw [iter_succ]
  iapply (trip c i arg2 harg2 arg3 harg3 arg4 harg4 arg5 harg5 arg6 harg6 arg7 harg7 arg8 harg8 arg9 harg9 arg10 harg10 arg11 harg11 arg12 harg12 arg1 kb vb f2 f5 f6 f7 g8 g11 g12 _ h8 h11 h12 k E)
  isplitl [H2]; · iexact H2
  isplitl [H5]; · iexact H5
  isplitl [H6]; · iexact H6
  isplitl [H7]; · iexact H7
  isplitl [H8]; · iexact H8
  isplitl [H11]; · iexact H11
  iexact H12

/-- The first visit of a grid point, to the diagonal block: its key gradient, -/
def dkDiag (X : Rows F) (kx : Vec F S512x256 .bf16) (vx : Vec F S512x128 .bf16) (n : Fin 16) : FVec F S512x256 .f32 :=
  k0_pay52 (k0_pay44 (row X.q n)) (k0_pay46 vx (slab X.g n)) (k0_pay47 kx (row X.q n) (lseRow X.l n)) (k0_pay48 (slab X.g n)) (k0_pay49 (slab X.o n))
/-- its value gradient, -/
def dvDiag (X : Rows F) (kx : Vec F S512x256 .bf16) (n : Fin 16) : FVec F S512x128 .f32 :=
  k0_pay53 (k0_pay45 (slab X.g n)) (k0_pay47 kx (row X.q n) (lseRow X.l n))
/-- and the query gradient after it. -/
def visitDiag (X : Rows F) (kx : Vec F S512x256 .bf16) (vx : Vec F S512x128 .bf16) (n : Fin 16) (d : Vec F S8192x256 .f32) : Vec F S8192x256 .f32 :=
  setRow d n (k0_pay51 (k0_pay42 kx) (k0_pay46 vx (slab X.g n)) (k0_pay47 kx (row X.q n) (lseRow X.l n)) (k0_pay48 (slab X.g n)) (k0_pay49 (slab X.o n)) (row d n))

/-- The grid point's key block number. -/
def blockOf (i : grid0.Coords) : Fin 16 := ⟨(i 1).val, (i 1).isLt⟩

/-- The state after the diagonal visit: the query gradient starts at zero at the first key block. -/
def enter (X : Rows F) (kx : Vec F S512x256 .bf16) (vx : Vec F S512x128 .bf16) (i : grid0.Coords) (d : Vec F S8192x256 .f32) : St F :=
  (visitDiag X kx vx (blockOf i) (if (i 1).val = 0 then k0_pay41 (F := F) else d), dkDiag X kx vx (blockOf i), dvDiag X kx (blockOf i))

/-- The state after the remaining odd block, if there is one. -/
def last (X : Rows F) (kb : FVec F S512x256 .bf16) (vb : FVec F S512x128 .bf16) (i : grid0.Coords) (s : St F) : St F :=
  if (i 1).val % 2 = 0 then (visit X kb vb 15 s.1, k0_pay60 (dkPart X kb vb 15) s.2.1, k0_pay61 (dvPart X kb 15) s.2.2) else s

/-- The state after all visits of a grid point. -/
def visits (X : Rows F) (kx : Vec F S512x256 .bf16) (vx : Vec F S512x128 .bf16) (i : grid0.Coords) (d : Vec F S8192x256 .f32) : St F :=
  last X (k0_pay42 kx) (k0_pay43 vx) i (iter X (k0_pay42 kx) (k0_pay43 vx) i (enter X kx vx i d) (k0_t1_loop i).trips)

/-- What a grid point leaves in the query gradient, -/
def outQ (X : Rows F) (kx : Vec F S512x256 .bf16) (vx : Vec F S512x128 .bf16) (i : grid0.Coords) (d : Vec F S8192x256 .f32) : Vec F S8192x256 .f32 :=
  if (i 1).val = 15 then k0_pay1 (visits X kx vx i d).1 else (visits X kx vx i d).1
/-- in the key gradient, -/
def outK (X : Rows F) (kx : Vec F S512x256 .bf16) (vx : Vec F S512x128 .bf16) (i : grid0.Coords) (d : Vec F S8192x256 .f32) : Vec F S512x256 .f32 :=
  k0_pay62 (visits X kx vx i d).2.1
/-- and in the value gradient. -/
def outV (X : Rows F) (kx : Vec F S512x256 .bf16) (vx : Vec F S512x128 .bf16) (i : grid0.Coords) (d : Vec F S8192x256 .f32) : Vec F S512x128 .f32 :=
  (visits X kx vx i d).2.2

/-- The three branch conditions of the body. -/
abbrev isFirst (i : grid0.Coords) : Prop := (Scalar.cmpi .ne (Scalar.extui (Scalar.cmpi .eq (BitVec.ofNat 32 (i 1).val) 0#32)) 0#32) = 1#1
abbrev hasOdd (i : grid0.Coords) : Prop :=
  (Scalar.cmpi .ne (Scalar.extui (Scalar.cmpi .eq (Scalar.select (Scalar.andi (Scalar.xori
      (Scalar.cmpi .slt (Scalar.remsi (Scalar.subi 15#32 (BitVec.ofNat 32 (i 1).val)) (Scalar.select (Scalar.cmpi .eq 2#32 0#32) 1#32 2#32)) 0#32)
      (Scalar.cmpi .slt (Scalar.select (Scalar.cmpi .eq 2#32 0#32) 1#32 2#32) 0#32))
      (Scalar.cmpi .ne (Scalar.remsi (Scalar.subi 15#32 (BitVec.ofNat 32 (i 1).val)) (Scalar.select (Scalar.cmpi .eq 2#32 0#32) 1#32 2#32)) 0#32))
      (Scalar.addi (Scalar.remsi (Scalar.subi 15#32 (BitVec.ofNat 32 (i 1).val)) (Scalar.select (Scalar.cmpi .eq 2#32 0#32) 1#32 2#32)) (Scalar.select (Scalar.cmpi .eq 2#32 0#32) 1#32 2#32))
      (Scalar.remsi (Scalar.subi 15#32 (BitVec.ofNat 32 (i 1).val)) (Scalar.select (Scalar.cmpi .eq 2#32 0#32) 1#32 2#32))) 1#32)) 0#32) = 1#1
abbrev isLast (i : grid0.Coords) : Prop := (Scalar.cmpi .ne (Scalar.extui (Scalar.cmpi .eq (BitVec.ofNat 32 (i 1).val) 15#32)) 0#32) = 1#1
theorem isFirst_iff : ∀ i : grid0.Coords, isFirst i ↔ (i 1).val = 0 := by decide +kernel
theorem hasOdd_iff : ∀ i : grid0.Coords, hasOdd i ↔ (i 1).val % 2 = 0 := by decide +kernel
theorem isLast_iff : ∀ i : grid0.Coords, isLast i ↔ (i 1).val = 15 := by decide +kernel
theorem off1_eq : ∀ i : grid0.Coords, k0_off1 i = ![(i 1).val * 512, 0] := by decide +kernel
theorem off2_eq : ∀ i : grid0.Coords, k0_off2 i = ![(i 1).val, 0, 0] := by decide +kernel
theorem off3_eq : ∀ i : grid0.Coords, k0_off3 i = ![0, (i 1).val, 0, 0] := by decide +kernel

/-- A buffer stored whole with zeros holds zeros. -/
theorem read_zero (v : View sig .tc .vmem S8192x256 .f32) (f : BufTy.Contents (Elt F) v.ty) :
    v.read (Elt F) (v.writes (Elt F) f [⟨Rect.unit (s := S8192x256) ![0, 0] S8192x256.size inb_S8192x256_S8192x256_0_0, k0_pay41 (F := F)⟩]) = k0_pay41 (F := F) :=
  View.read_writes_full v f inb_S8192x256_S8192x256_0_0 _ _

/-- The last block of query rows stored over contents that read `d`. -/
theorem put15 (v : View sig .tc .vmem S8192x256 .f32) (g : BufTy.Contents (Elt F) v.ty) (X : Rows F) (kb : FVec F S512x256 .bf16) (vb : FVec F S512x128 .bf16)
    (d : Vec F S8192x256 .f32) (h : v.read (Elt F) g = d) :
    v.read (Elt F) (v.writes (Elt F) g [⟨Rect.unit (s := S8192x256) ![7680, 0] S512x256.size inb_S8192x256_S512x256_7680_0,
        k0_pay38 kb vb (row X.q 15) (slab X.g 15) (lseRow X.l 15) (slab X.o 15) (row (v.read (Elt F) g) 15)⟩]) = visit X kb vb 15 d := by
  subst h
  exact View.read_writes_cons_put v g inb_S8192x256_S512x256_7680_0 _ [] rfl

/-- The whole query gradient scaled in place. -/
theorem scaled (v : View sig .tc .vmem S8192x256 .f32) (f g : BufTy.Contents (Elt F) v.ty) (d : Vec F S8192x256 .f32) (L) (h : v.read (Elt F) f = d) :
    v.read (Elt F) (v.writes (Elt F) g (⟨Rect.unit (s := S8192x256) ![0, 0] S8192x256.size inb_S8192x256_S8192x256_0_0,
        k0_pay1 (v.readAt (Elt F) (Rect.unit (s := S8192x256) ![0, 0] S8192x256.size inb_S8192x256_S8192x256_0_0).toLoadRect f)⟩ :: L)) = k0_pay1 d :=
  (View.read_writes_full v g inb_S8192x256_S8192x256_0_0 _ _).trans (congrArg k0_pay1 ((View.readAt_full v f _).trans h))

set_option maxHeartbeats 1600000 in
/-- A grid point from any contents. -/
theorem point (c : Dev nD) (i : grid0.Coords) (arg2 : Memref sig .tc .vmem S8192x256 .bf16) (harg2 : arg2.IsWhole) (arg3 : Memref sig .tc .vmem S512x256 .bf16) (harg3 : arg3.IsWhole) (arg4 : Memref sig .tc .vmem S512x128 .bf16) (harg4 : arg4.IsWhole) (arg5 : Memref sig .tc .vmem S16x128x512 .bf16) (harg5 : arg5.IsWhole) (arg6 : Memref sig .tc .vmem S1x16x1x512 .f32) (harg6 : arg6.IsWhole) (arg7 : Memref sig .tc .vmem S16x128x512 .bf16) (harg7 : arg7.IsWhole) (arg8 : Memref sig .tc .vmem S8192x256 .f32) (harg8 : arg8.IsWhole) (arg9 : Memref sig .tc .vmem S512x256 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S512x128 .f32) (harg12 : arg12.IsWhole)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty)
    (X : Rows F) (hX : X = ⟨arg2.view.read (Elt F) f2, arg5.view.read (Elt F) f5, arg6.view.read (Elt F) f6, arg7.view.read (Elt F) f7⟩) (kx : Vec F S512x256 .bf16) (hk : arg3.view.read (Elt F) f3 = kx) (vx : Vec F S512x128 .bf16) (hv : arg4.view.read (Elt F) f4 = vx) (d : Vec F S8192x256 .f32) (hd : arg8.view.read (Elt F) f8 = d) (E : Set ℕ) :
    (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)) : sProp 𝕄)
      ⊢ wp frame (wpE (defs₀ (F := F)) Variants.none (c : Thread nD τ) none) E (cc0_attn_bwd_1 (F := F) i arg2 harg2 arg3 harg3 arg4 harg4 arg5 harg5 arg6 harg6 arg7 harg7 arg8 harg8 arg9 harg9 arg10 harg10 arg11 harg11 arg12 harg12)
          (fun _ => (iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (∃ f, (arg8.view.loc (c : Thread nD τ) ↦[arg8.view.set]{fullShare} f) ∗ ⌜arg8.view.read (Elt F) f = outQ X kx vx i d⌝) ∗ (∃ f, (arg9.view.loc (c : Thread nD τ) ↦[arg9.view.set]{fullShare} f) ∗ ⌜arg9.view.read (Elt F) f = outK X kx vx i d⌝) ∗ (∃ f, (arg10.view.loc (c : Thread nD τ) ↦[arg10.view.set]{fullShare} f) ∗ ⌜arg10.view.read (Elt F) f = outV X kx vx i d⌝) ∗ (∃ f, (arg11.view.loc (c : Thread nD τ) ↦[arg11.view.set]{fullShare} f)) ∗ (∃ f, (arg12.view.loc (c : Thread nD τ) ↦[arg12.view.set]{fullShare} f))) : sProp 𝕄)) := by
  have r1 : ∀ {e} (v : View sig .tc .vmem S8192x256 e) f, v.readAt (Elt F) (Rect.unit (s := S8192x256) (k0_off1 i) S512x256.size (k0_off1_inb i)).toLoadRect f = row (v.read (Elt F) f) (blockOf i) :=
    fun v f => v.readAt_unit f _ (off1_eq i) _
  have r2 : ∀ (v : View sig .tc .vmem S16x128x512 .bf16) f, v.readAt (Elt F) (Rect.unit (s := S16x128x512) (k0_off2 i) S1x128x512.size (k0_off2_inb i)).toLoadRect f = slab (v.read (Elt F) f) (blockOf i) :=
    fun v f => v.readAt_unit f _ (off2_eq i) _
  have r3 : ∀ (v : View sig .tc .vmem S1x16x1x512 .f32) f, v.readAt (Elt F) (Rect.unit (s := S1x16x1x512) (k0_off3 i) S1x1x1x512.size (k0_off3_inb i)).toLoadRect f = lseRow (v.read (Elt F) f) (blockOf i) :=
    fun v f => v.readAt_unit f _ (off3_eq i) _
  have r3' : arg3.view.readAt (Elt F) (Rect.unit (s := S512x256) ![0, 0] S512x256.size inb_S512x256_S512x256_0_0).toLoadRect f3 = kx := (View.readAt_full arg3.view f3 _).trans hk
  have r4' : arg4.view.readAt (Elt F) (Rect.unit (s := S512x128) ![0, 0] S512x128.size inb_S512x128_S512x128_0_0).toLoadRect f4 = vx := (View.readAt_full arg4.view f4 _).trans hv
  have q15 : ∀ {e} (v : View sig .tc .vmem S8192x256 e) f, v.readAt (Elt F) (Rect.unit (s := S8192x256) ![7680, 0] S512x256.size inb_S8192x256_S512x256_7680_0).toLoadRect f = row (v.read (Elt F) f) 15 :=
    fun v f => v.readAt_unit f _ rfl _
  have g15 : ∀ (v : View sig .tc .vmem S16x128x512 .bf16) f, v.readAt (Elt F) (Rect.unit (s := S16x128x512) ![15, 0, 0] S1x128x512.size inb_S16x128x512_S1x128x512_15_0_0).toLoadRect f = slab (v.read (Elt F) f) 15 :=
    fun v f => v.readAt_unit f _ rfl _
  have l15 : ∀ (v : View sig .tc .vmem S1x16x1x512 .f32) f, v.readAt (Elt F) (Rect.unit (s := S1x16x1x512) ![0, 15, 0, 0] S1x1x1x512.size inb_S1x16x1x512_S1x1x1x512_0_15_0_0).toLoadRect f = lseRow (v.read (Elt F) f) 15 :=
    fun v f => v.readAt_unit f _ rfl _
  subst hX hk hv hd
  simp only [cc0_attn_bwd_1_eq_skeleton]; unfold cc0_attn_bwd_1_skel
  iintro ⟨H2, H3, H4, H5, H6, H7, H8, H9, H10, H11, H12⟩
  have n15 : (![7680, 0] : Fin 2 → ℕ) = ![(15 : Fin 16).val * 512, 0] := rfl
  by_cases hc1 : isFirst i <;>
  · sl_exec (disch := first | sl_exact hc1)
    sl_for (pairInv c i arg2 harg2 arg3 harg3 arg4 harg4 arg5 harg5 arg6 harg6 arg7 harg7 arg8 harg8 arg9 harg9 arg10 harg10 arg11 harg11 arg12 harg12 (k0_pay42 _) (k0_pay43 _) f2 f5 f6 f7 (enter ⟨arg2.view.read (Elt F) f2, arg5.view.read (Elt F) f5, arg6.view.read (Elt F) f6, arg7.view.read (Elt F) f7⟩ (arg3.view.read (Elt F) f3) (arg4.view.read (Elt F) f4) i (arg8.view.read (Elt F) f8))) $$ [H2 H5 H6 H7 H8 H11 H12]
    · intro k u; exact pairInv_step c E i arg2 harg2 arg3 harg3 arg4 harg4 arg5 harg5 arg6 harg6 arg7 harg7 arg8 harg8 arg9 harg9 arg10 harg10 arg11 harg11 arg12 harg12 _ _ _ f2 f5 f6 f7 _ k u
    · unfold pairInv
      isplitl [H2]; · iexact H2
      isplitl [H5]; · iexact H5
      isplitl [H6]; · iexact H6
      isplitl [H7]; · iexact H7
      isplitl [H8]
      · iexists _; isplitl [H8]; · iexact H8
        ipureintro
        refine (View.read_writes_cons_put arg8.view _ (k0_off1_inb i) _ _ (off1_eq i)).trans ?_
        show _ = visitDiag _ _ _ _ (if _ then _ else _)
        by_cases hc : isFirst i
        · rw [if_pos ((isFirst_iff i).1 hc)]
          first
          | exact absurd hc hc1
          | refine Eq.trans ?_ (congrArg (visitDiag _ _ _ (blockOf i)) (read_zero arg8.view arg8.view.junk))
            unfold visitDiag
            delta point.sl.v48 point.sl.v46 point.sl.H8_1
            generalize View.read (Elt F) arg8.view (arg8.view.writes (Elt F) arg8.view.junk [⟨Rect.unit (s := S8192x256) ![0, 0] S8192x256.size inb_S8192x256_S8192x256_0_0, k0_pay41 (F := F)⟩]) = z
            rfl
        · rw [if_neg (fun h => hc ((isFirst_iff i).2 h))]
          first
          | exact absurd hc1 hc
          | rfl
      isplitl [H11]
      · iexists _; isplitl [H11]; · iexact H11
        ipureintro
        exact View.read_writes_full arg11.view _ _ _ _
      · iexists _; isplitl [H12]; · iexact H12
        ipureintro
        exact View.read_writes_full arg12.view _ _ _ _
    iintro %u ⟨H2, H5, H6, H7, ⟨%g8, H8, %h8⟩, ⟨%g11, H11, %h11⟩, ⟨%g12, H12, %h12⟩⟩
    obtain ⟨s, hs⟩ : ∃ s, iter ⟨arg2.view.read (Elt F) f2, arg5.view.read (Elt F) f5, arg6.view.read (Elt F) f6, arg7.view.read (Elt F) f7⟩ (k0_pay42 (arg3.view.read (Elt F) f3)) (k0_pay43 (arg4.view.read (Elt F) f4)) i (enter ⟨arg2.view.read (Elt F) f2, arg5.view.read (Elt F) f5, arg6.view.read (Elt F) f6, arg7.view.read (Elt F) f7⟩ (arg3.view.read (Elt F) f3) (arg4.view.read (Elt F) f4) i (arg8.view.read (Elt F) f8)) (k0_t1_loop i).trips = s := ⟨_, rfl⟩
    replace h8 : arg8.view.read (Elt F) g8 = s.1 := h8.trans (congrArg (fun z => z.1) hs)
    replace h11 : arg11.view.read (Elt F) g11 = s.2.1 := h11.trans (congrArg (fun z => z.2.1) hs)
    replace h12 : arg12.view.read (Elt F) g12 = s.2.2 := h12.trans (congrArg (fun z => z.2.2) hs)
    have hv : visits ⟨arg2.view.read (Elt F) f2, arg5.view.read (Elt F) f5, arg6.view.read (Elt F) f6, arg7.view.read (Elt F) f7⟩ (arg3.view.read (Elt F) f3) (arg4.view.read (Elt F) f4) i (arg8.view.read (Elt F) f8) = last ⟨arg2.view.read (Elt F) f2, arg5.view.read (Elt F) f5, arg6.view.read (Elt F) f6, arg7.view.read (Elt F) f7⟩ (k0_pay42 (arg3.view.read (Elt F) f3)) (k0_pay43 (arg4.view.read (Elt F) f4)) i s := congrArg (last _ _ _ i) hs
    clear hs
    by_cases hc2 : hasOdd i <;> by_cases hc3 : isLast i <;>
    · sl_exec (disch := first | sl_exact hc2 | sl_exact hc3)
      sl_step
      isplitl [H2]; · iexact H2
      isplitl [H3]; · iexact H3
      isplitl [H4]; · iexact H4
      isplitl [H5]; · iexact H5
      isplitl [H6]; · iexact H6
      isplitl [H7]; · iexact H7
      isplitl [H8]
      · iexists _; isplitl [H8]; · iexact H8
        ipureintro
        unfold outQ; rw [hv]; unfold last
        first
        | rw [if_pos ((hasOdd_iff i).1 hc2)]
          first
          | rw [if_pos ((isLast_iff i).1 hc3)]
            exact scaled arg8.view _ g8 _ _ (put15 arg8.view g8 ⟨arg2.view.read (Elt F) f2, arg5.view.read (Elt F) f5, arg6.view.read (Elt F) f6, arg7.view.read (Elt F) f7⟩ _ _ s.1 h8)
          | rw [if_neg (fun h => hc3 ((isLast_iff i).2 h))]
            exact put15 arg8.view g8 ⟨arg2.view.read (Elt F) f2, arg5.view.read (Elt F) f5, arg6.view.read (Elt F) f6, arg7.view.read (Elt F) f7⟩ _ _ s.1 h8
        | rw [if_neg (fun h => hc2 ((hasOdd_iff i).2 h))]
          first
          | rw [if_pos ((isLast_iff i).1 hc3)]
            exact scaled arg8.view g8 g8 s.1 [] h8
          | rw [if_neg (fun h => hc3 ((isLast_iff i).2 h))]
            exact h8
      isplitl [H9]
      · iexists _; isplitl [H9]; · iexact H9
        ipureintro
        refine (View.read_writes_full arg9.view f9 _ _ _).trans (congrArg k0_pay62 ?_)
        rw [hv]; unfold last
        first
        | rw [if_pos ((hasOdd_iff i).1 hc2)]
          exact (View.readCov_full arg11.view inb_S512x256_S512x256_0_0 inb_S512x256_S512x256_0_0 _ []).trans (congrArg (k0_pay60 (dkPart ⟨arg2.view.read (Elt F) f2, arg5.view.read (Elt F) f5, arg6.view.read (Elt F) f6, arg7.view.read (Elt F) f7⟩ _ _ 15)) ((View.readAt_full arg11.view g11 _).trans h11))
        | rw [if_neg (fun h => hc2 ((hasOdd_iff i).2 h))]
          exact (View.readAt_full arg11.view _ _).trans h11
      isplitl [H10]
      · iexists _; isplitl [H10]; · iexact H10
        ipureintro
        refine (View.read_writes_full arg10.view f10 _ _ _).trans ?_
        unfold outV; rw [hv]; unfold last
        first
        | rw [if_pos ((hasOdd_iff i).1 hc2)]
          exact (View.readCov_full arg12.view inb_S512x128_S512x128_0_0 inb_S512x128_S512x128_0_0 _ []).trans (congrArg (k0_pay61 (dvPart ⟨arg2.view.read (Elt F) f2, arg5.view.read (Elt F) f5, arg6.view.read (Elt F) f6, arg7.view.read (Elt F) f7⟩ _ 15)) ((View.readAt_full arg12.view g12 _).trans h12))
        | rw [if_neg (fun h => hc2 ((hasOdd_iff i).2 h))]
          exact (View.readAt_full arg12.view _ _).trans h12
      isplitl [H11]; · iexists _; iexact H11
      iexists _; iexact H12

end Cert.AttnIdeal.Body
-- ==== Proof.AttnFrame.lean ====
module

public import proofs.«01_k».proof.Proof.AttnPoint
public import Idealize.ShloMosaic.Lib.Pipeline.FrameBody
public import Idealize.ShloMosaic.Lib.Claim

@[expose] public section

set_option maxRecDepth 16384

noncomputable section

/-! The whole run of the backward attention call: what its three outputs hold point by point, and the frame. -/

namespace Cert.AttnIdeal.Body

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]
variable (m : (ℓ : Loc nD τ sig) → Buf (Elt F) ℓ) (ρ : Dev nD → PrngReg)

local notation "𝕄" => MT nD τ sig Unit (Elt F) ℕ (UR sig nD τ) ℕ

/-- The blocks a grid point reads: the head's query rows, outputs, row statistics and output gradients, -/
def rowsAt (c : Dev nD) (t : Fin cfg0.N) : Rows F := ⟨iblk m c 0 t, iblk m c 3 t, iblk m c 4 t, iblk m c 5 t⟩
/-- its key block -/
def keyAt (c : Dev nD) (t : Fin cfg0.N) : Vec F S512x256 .bf16 := iblk m c 1 t
/-- and its value block. -/
def valAt (c : Dev nD) (t : Fin cfg0.N) : Vec F S512x128 .bf16 := iblk m c 2 t

/-- The query gradient after grid point `n`: each point adds to what the one before left. -/
def qAfter (c : Dev nD) : (n : ℕ) → n < cfg0.N → Vec F S8192x256 .f32
  | 0, h => outQ (rowsAt m c ⟨0, h⟩) (keyAt m c ⟨0, h⟩) (valAt m c ⟨0, h⟩) (grid0.coords ⟨0, h⟩) (k0_pay41 (F := F))
  | n + 1, h => outQ (rowsAt m c ⟨n + 1, h⟩) (keyAt m c ⟨n + 1, h⟩) (valAt m c ⟨n + 1, h⟩) (grid0.coords ⟨n + 1, h⟩) (qAfter c n (Nat.lt_of_succ_lt h))

/-- At the first key block what was there before does not matter, -/
theorem enter_first (X : Rows F) (kx : Vec F S512x256 .bf16) (vx : Vec F S512x128 .bf16) (i : grid0.Coords) (h : (i 1).val = 0)
    (d d' : Vec F S8192x256 .f32) : enter X kx vx i d = enter X kx vx i d' := by
  unfold enter; rw [if_pos h, if_pos h]
/-- for any of the outputs; -/
theorem visits_first (X : Rows F) (kx : Vec F S512x256 .bf16) (vx : Vec F S512x128 .bf16) (i : grid0.Coords) (h : (i 1).val = 0)
    (d d' : Vec F S8192x256 .f32) : visits X kx vx i d = visits X kx vx i d' := by
  unfold visits; rw [enter_first X kx vx i h d d']
theorem outQ_first (X : Rows F) (kx : Vec F S512x256 .bf16) (vx : Vec F S512x128 .bf16) (i : grid0.Coords) (h : (i 1).val = 0)
    (d d' : Vec F S8192x256 .f32) : outQ X kx vx i d = outQ X kx vx i d' := by
  unfold outQ; rw [visits_first X kx vx i h d d']

/-- A point's second coordinate. -/
theorem coord1 : ∀ t : Fin grid0.N, (grid0.coords t 1).val = t.val % 16 := by decide +kernel

/-- What a point finds in the query gradient. -/
def qBefore (c : Dev nD) (t : Fin cfg0.N) : Vec F S8192x256 .f32 :=
  if h : t.val = 0 then k0_pay41 (F := F) else qAfter m c (t.val - 1) (Nat.lt_of_le_of_lt (Nat.sub_le _ _) t.isLt)

theorem qAfter_eq (c : Dev nD) (t : Fin cfg0.N) :
    qAfter m c t.val t.isLt = outQ (rowsAt m c t) (keyAt m c t) (valAt m c t) (grid0.coords t) (qBefore m c t) := by
  obtain ⟨n, h⟩ := t
  cases n <;> rfl

/-- The proof data of the one pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => qAfter m c t.val t.isLt
    | ⟨7, _⟩ => outK (rowsAt m c t) (keyAt m c t) (valAt m c t) (grid0.coords t) (qBefore m c t)
    | ⟨8, _⟩ => outV (rowsAt m c t) (keyAt m c t) (valAt m c t) (grid0.coords t) (qBefore m c t)
  Φ _ := Pipeline.ΦA spec0 c
  q _ := fullShare
  owed _ := 0

theorem arrays_eq (c : Dev nD) (w : Fin cfg0.W) : (dats m 0 c).A w = V m c (Pipeline.arrRef spec0 w) := by
  dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = qAfter m c t.val t.isLt := by dsimp only [dats]
theorem after7 (c : Dev nD) (t : Fin cfg0.N) : (dats m 0 c).after 7 t = outK (rowsAt m c t) (keyAt m c t) (valAt m c t) (grid0.coords t) (qBefore m c t) := by dsimp only [dats]
theorem after8 (c : Dev nD) (t : Fin cfg0.N) : (dats m 0 c).after 8 t = outV (rowsAt m c t) (keyAt m c t) (valAt m c t) (grid0.coords t) (qBefore m c t) := by dsimp only [dats]
theorem before0 (c : Dev nD) (t : Fin cfg0.N) (d) : (dats m 0 c).before 0 t d = iblk m c 0 t :=
  before0_0_of m (dats m 0 c) (arrays_eq m c 0) (after0 m c) t d
theorem before1 (c : Dev nD) (t : Fin cfg0.N) (d) : (dats m 0 c).before 1 t d = iblk m c 1 t :=
  before0_1_of m (dats m 0 c) (arrays_eq m c 1) (after1 m c) t d
theorem before2 (c : Dev nD) (t : Fin cfg0.N) (d) : (dats m 0 c).before 2 t d = iblk m c 2 t :=
  before0_2_of m (dats m 0 c) (arrays_eq m c 2) (after2 m c) t d
theorem before3 (c : Dev nD) (t : Fin cfg0.N) (d) : (dats m 0 c).before 3 t d = iblk m c 3 t :=
  before0_3_of m (dats m 0 c) (arrays_eq m c 3) (after3 m c) t d
theorem before4 (c : Dev nD) (t : Fin cfg0.N) (d) : (dats m 0 c).before 4 t d = iblk m c 4 t :=
  before0_4_of m (dats m 0 c) (arrays_eq m c 4) (after4 m c) t d
theorem before5 (c : Dev nD) (t : Fin cfg0.N) (d) : (dats m 0 c).before 5 t d = iblk m c 5 t :=
  before0_5_of m (dats m 0 c) (arrays_eq m c 5) (after5 m c) t d

/-- Past a head's first key block the query gradient is what the point before left. -/
theorem before6 (c : Dev nD) (t : Fin cfg0.N) (h : t.val % 16 ≠ 0) (d) : (dats m 0 c).before 6 t d = qBefore m c t := by
  have h0 : t.val ≠ 0 := fun e => h (by rw [e])
  refine ((dats m 0 c).before_out_kept 6 rfl t h0 ?_ (fun _ => rfl) (fun _ _ => rfl) d).trans ?_
  · rw [Bool.eq_false_iff]; intro e
    have := (flush0_6 _).mp e
    simp only at this
    omega
  · rw [after6]; unfold qBefore; rw [dif_neg h0]

/-- Whatever a point finds there, the outputs come out as stated. -/
theorem visits_before (c : Dev nD) (t : Fin cfg0.N) (d) :
    visits (rowsAt m c t) (keyAt m c t) (valAt m c t) (grid0.coords t) ((dats m 0 c).before 6 t d)
      = visits (rowsAt m c t) (keyAt m c t) (valAt m c t) (grid0.coords t) (qBefore m c t) := by
  by_cases h : t.val % 16 = 0
  · exact visits_first _ _ _ _ ((coord1 t).trans h) _ _
  · exact congrArg _ (before6 m c t h d)
abbrev ms0 (t : Fin cfg0.N) : Memref sig .tc .vmem S8192x256 .bf16 := win0_0.stage (cfg0.slots t 0)
abbrev ms1 (t : Fin cfg0.N) : Memref sig .tc .vmem S512x256 .bf16 := win0_1.stage (cfg0.slots t 1)
abbrev ms2 (t : Fin cfg0.N) : Memref sig .tc .vmem S512x128 .bf16 := win0_2.stage (cfg0.slots t 2)
abbrev ms3 (t : Fin cfg0.N) : Memref sig .tc .vmem S16x128x512 .bf16 := win0_3.stage (cfg0.slots t 3)
abbrev ms4 (t : Fin cfg0.N) : Memref sig .tc .vmem S1x16x1x512 .f32 := win0_4.stage (cfg0.slots t 4)
abbrev ms5 (t : Fin cfg0.N) : Memref sig .tc .vmem S16x128x512 .bf16 := win0_5.stage (cfg0.slots t 5)
abbrev ms6 (t : Fin cfg0.N) : Memref sig .tc .vmem S8192x256 .f32 := win0_6.stage (cfg0.slots t 6)
abbrev ms7 (t : Fin cfg0.N) : Memref sig .tc .vmem S512x256 .f32 := win0_7.stage (cfg0.slots t 7)
abbrev ms8 (t : Fin cfg0.N) : Memref sig .tc .vmem S512x128 .f32 := win0_8.stage (cfg0.slots t 8)

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))
/-- and what it leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

/-- No window is ever left out. -/
theorem leaves (c : Dev nD) (w : Fin cfg0.W) (t : Fin cfg0.N) :
    (dats m 0 c).leavesExact w t = owns (c : Thread nD τ) ((cfg0.win w).stage (cfg0.slots t w)) fullShare ((dats m 0 c).after w t) := by
  unfold Dat.leavesExact; fin_cases w <;> rfl

/-- The scratch operands and the generator's register, at anything. -/
theorem scratch_eq (c : Dev nD) :
    (Pipeline.ΦA spec0 c : sProp 𝕄)
      = iprop(((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]

/-- A grid point followed by whatever takes its outputs. -/
theorem point_then (c : Dev nD) (i : grid0.Coords) (arg2 : Memref sig .tc .vmem S8192x256 .bf16) (harg2 : arg2.IsWhole) (arg3 : Memref sig .tc .vmem S512x256 .bf16) (harg3 : arg3.IsWhole) (arg4 : Memref sig .tc .vmem S512x128 .bf16) (harg4 : arg4.IsWhole) (arg5 : Memref sig .tc .vmem S16x128x512 .bf16) (harg5 : arg5.IsWhole) (arg6 : Memref sig .tc .vmem S1x16x1x512 .f32) (harg6 : arg6.IsWhole) (arg7 : Memref sig .tc .vmem S16x128x512 .bf16) (harg7 : arg7.IsWhole) (arg8 : Memref sig .tc .vmem S8192x256 .f32) (harg8 : arg8.IsWhole) (arg9 : Memref sig .tc .vmem S512x256 .f32) (harg9 : arg9.IsWhole) (arg10 : Memref sig .tc .vmem S512x128 .f32) (harg10 : arg10.IsWhole) (arg11 : Memref sig .tc .vmem S512x256 .f32) (harg11 : arg11.IsWhole) (arg12 : Memref sig .tc .vmem S512x128 .f32) (harg12 : arg12.IsWhole)
    (f2 : BufTy.Contents (Elt F) arg2.view.ty) (f3 : BufTy.Contents (Elt F) arg3.view.ty) (f4 : BufTy.Contents (Elt F) arg4.view.ty) (f5 : BufTy.Contents (Elt F) arg5.view.ty) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty)
    (X : Rows F) (hX : X = ⟨arg2.view.read (Elt F) f2, arg5.view.read (Elt F) f5, arg6.view.read (Elt F) f6, arg7.view.read (Elt F) f7⟩) (kx : Vec F S512x256 .bf16) (hk : arg3.view.read (Elt F) f3 = kx) (vx : Vec F S512x128 .bf16) (hv : arg4.view.read (Elt F) f4 = vx) (d : Vec F S8192x256 .f32) (hd : arg8.view.read (Elt F) f8 = d) (E : Set ℕ) (Q : PUnit → sProp 𝕄) :
    (iprop(((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)) ∗ (((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (∃ f, (arg8.view.loc (c : Thread nD τ) ↦[arg8.view.set]{fullShare} f) ∗ ⌜arg8.view.read (Elt F) f = outQ X kx vx i d⌝) ∗ (∃ f, (arg9.view.loc (c : Thread nD τ) ↦[arg9.view.set]{fullShare} f) ∗ ⌜arg9.view.read (Elt F) f = outK X kx vx i d⌝) ∗ (∃ f, (arg10.view.loc (c : Thread nD τ) ↦[arg10.view.set]{fullShare} f) ∗ ⌜arg10.view.read (Elt F) f = outV X kx vx i d⌝) ∗ (∃ f, (arg11.view.loc (c : Thread nD τ) ↦[arg11.view.set]{fullShare} f)) ∗ (∃ f, (arg12.view.loc (c : Thread nD τ) ↦[arg12.view.set]{fullShare} f))) -∗ Q ⟨⟩)) : sProp 𝕄)
      ⊢ wp frame (wpE (defs₀ (F := F)) Variants.none (c : Thread nD τ) none) E (cc0_attn_bwd_1 (F := F) i arg2 harg2 arg3 harg3 arg4 harg4 arg5 harg5 arg6 harg6 arg7 harg7 arg8 harg8 arg9 harg9 arg10 harg10 arg11 harg11 arg12 harg12) Q :=
  (sep_mono_left (point c i arg2 harg2 arg3 harg3 arg4 harg4 arg5 harg5 arg6 harg6 arg7 harg7 arg8 harg8 arg9 harg9 arg10 harg10 arg11 harg11 arg12 harg12 f2 f3 f4 f5 f6 f7 f8 f9 f10 f11 f12 X hX kx hk vx hv d hd E)).trans
    ((wp_frame_r _ _ _).trans (wp_mono frame _ E fun _ => by iintro ⟨H, K⟩; iapply K; iexact H))

/-- The body at any point. -/
theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, leaves]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl, scratch_eq]
  unfold owns
  iintro ⟨⟨⟨⟨%d11, %f11, %e11, H11⟩, ⟨%d12, %f12, %e12, H12⟩⟩, Hg⟩, Ho, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩⟩
  iapply (point_then c (grid0.coords t) (ms0 t) (hstage0_0 ((cfg0.slots t 0).cast nbuf0_0)) (ms1 t) (hstage0_1 ((cfg0.slots t 1).cast nbuf0_1)) (ms2 t) (hstage0_2 ((cfg0.slots t 2).cast nbuf0_2)) (ms3 t) (hstage0_3 ((cfg0.slots t 3).cast nbuf0_3)) (ms4 t) (hstage0_4 ((cfg0.slots t 4).cast nbuf0_4)) (ms5 t) (hstage0_5 ((cfg0.slots t 5).cast nbuf0_5)) (ms6 t) (hstage0_6 ((cfg0.slots t 6).cast nbuf0_6)) (ms7 t) (hstage0_7 ((cfg0.slots t 7).cast nbuf0_7)) (ms8 t) (hstage0_8 ((cfg0.slots t 8).cast nbuf0_8)) (Memref.whole cc0_scratch0) (Memref.isWhole_whole _) (Memref.whole cc0_scratch1) (Memref.isWhole_whole _) f0 f1 f2 f3 f4 f5 f6 f7 f8 f11 f12
    (rowsAt m c t) (by rw [e0, e3, e4, e5]; rfl) (keyAt m c t) e1 (valAt m c t) e2 _ e6 Set.univ)
  isplitl [H0 H1 H2 H3 H4 H5 H6 H7 H8 H11 H12]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H11]; · iexact H11
    iexact H12
  iintro ⟨H0, H1, H2, H3, H4, H5, ⟨%g6, H6, %q6⟩, ⟨%g7, H7, %q7⟩, ⟨%g8, H8, %q8⟩, ⟨%g11, H11⟩, ⟨%g12, H12⟩⟩
  isplitl [H11 H12 Hg]
  · isplitl [H11 H12]
    · isplitl [H11]
      · iexists _; iexists g11; isplitr; · ipureintro; rfl
        iexact H11
      · iexists _; iexists g12; isplitr; · ipureintro; rfl
        iexact H12
    iexact Hg
  isplitl [Ho]; · iexact Ho
  isplitl [H0]
  · iexists f0; isplitr; · ipureintro; exact e0.trans (after0 m c t).symm
    iexact H0
  isplitl [H1]
  · iexists f1; isplitr; · ipureintro; exact e1.trans (after1 m c t).symm
    iexact H1
  isplitl [H2]
  · iexists f2; isplitr; · ipureintro; exact e2.trans (after2 m c t).symm
    iexact H2
  isplitl [H3]
  · iexists f3; isplitr; · ipureintro; exact e3.trans (after3 m c t).symm
    iexact H3
  isplitl [H4]
  · iexists f4; isplitr; · ipureintro; exact e4.trans (after4 m c t).symm
    iexact H4
  isplitl [H5]
  · iexists f5; isplitr; · ipureintro; exact e5.trans (after5 m c t).symm
    iexact H5
  isplitl [H6]
  · iexists g6; isplitr
    · ipureintro
      refine q6.trans (Eq.trans ?_ (after6 m c t).symm)
      rw [qAfter_eq]; unfold outQ; rw [visits_before]
    iexact H6
  isplitl [H7]
  · iexists g7; isplitr
    · ipureintro
      refine q7.trans (Eq.trans ?_ (after7 m c t).symm)
      unfold outK; rw [visits_before]
    iexact H7
  iexists g8; isplitr
  · ipureintro
    refine q8.trans (Eq.trans ?_ (after8 m c t).symm)
    unfold outV; rw [visits_before]
  iexact H8

/-- The table's row at a point is the body as spelled above. -/
theorem row_eq (t : Fin cfg0.N) : defs₀ (F := F) .tc cfg0.body (cfg0.bodyArgs t (cfg0.slots t)) = bodyAt0 t := by
  unfold defs₀; rw [Defs.onTc_tc]

/-- The pipeline's obligation at every point. -/
theorem obligation (c : Dev nD) : BodyObligation (dats (F := F) m 0 c) (defs₀ (F := F)) Variants.none () Set.univ := fun t => by
  rw [bigSep_W0, bigSep_W0, row_eq]
  exact triple_restated (body_sound m c t) rfl .rfl fun _ => .rfl

set_option backward.isDefEq.respectTransparency.types false in
/-- Every run of the call ends with the arrays as the proof data says and all counters at zero. -/
theorem run_counters : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := arrays_eq m) (hin := fun _ => .rfl) (hout := fun _ => .rfl)

/-- The same without the counters. -/
theorem run_arrays : θ_run defs (onTc (τ := τ) (main (F := F))) (s₀ m ρ) (Pipeline.FramePost cfgs (dats m) 0 (V m)) :=
  (θ_run defs _ _).mono (fun _ h => h.1) (run_counters m ρ)

/-- The frame: the call ends, its arguments unchanged and the counters at zero. -/
theorem whole : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (arrays_eq m) (run_arrays m ρ)) ((θ_run defs _ _).mono (fun _ h => h.2) (run_counters m ρ))

end Cert.AttnIdeal.Body
-- ==== Proof.AttnFrames.lean ====
module

public import proofs.«01_k».proof.Defs
public import proofs.«01_k».proof.Proof.Gen.Attn
public import proofs.«01_k».proof.Proof.Gen.AttnIdeal
public import proofs.«01_k».proof.Proof.AttnFrame

@[expose] public section

set_option maxRecDepth 16384

noncomputable section

/-! The frames of the backward attention call: both programs are one text, the second with names for four of its constants. -/

namespace Cert.AttnIdeal.Body

open Idealize.ShloMosaic Idealize.SL.Sem

/-- A named constant read as the bit pattern it was named from. -/
abbrev rawNamed : Named Bits := ⟨fun _ _ {φ} b => Scalar.ofBits φ b⟩

theorem frame_attn_ideal : Cert.quiescent_AttnIdeal := fun m ρ _ => whole m ρ

theorem frame_attn : Cert.quiescent_Attn := fun m ρ _ =>
  letI := rawNamed
  Eq.mp (by sl_kernel_rfl) (whole (F := Bits) m ρ)

end Cert.AttnIdeal.Body

end
-- ==== Proof.AttnMath.lean ====
module

public import proofs.«01_k».proof.Proof.NormMath
public import Idealize.ShloMosaic.Lib.WordCmp

@[expose] public section

noncomputable section

/-! Causal softmax attention over the real numbers: the probabilities, the output, the log-sum-exp and the gradient of the
scores, and the extended-real expressions two programs compute them by. -/

open Idealize.ShloMosaic

namespace Cert.AttnMath

variable {N V : ℕ}

/-- The score the softmax sees: the score itself up to the query, minus infinity past it. -/
def seen (S : Fin N → Fin N → ℝ) (q k : Fin N) : EReal := if k ≤ q then ((S q k : ℝ) : EReal) else ⊥

/-- The greatest score a query sees. -/
def top (S : Fin N → Fin N → ℝ) (q : Fin N) : ℝ := (Finset.univ.fold max ⊥ (seen S q)).toReal

theorem top_coe (S : Fin N → Fin N → ℝ) (q : Fin N) : Finset.univ.fold max ⊥ (seen S q) = ((top S q : ℝ) : EReal) := by
  refine (EReal.coe_toReal ?_ ?_).symm
  · refine ne_of_lt ((Finset.fold_max_lt _).mpr ⟨bot_lt_top, fun k _ => ?_⟩)
    unfold seen; split_ifs
    · exact EReal.coe_lt_top _
    · exact bot_lt_top
  · refine ne_of_gt (lt_of_lt_of_le (EReal.bot_lt_coe (S q q)) ((Finset.le_fold_max _).mpr (.inr ⟨q, Finset.mem_univ _, ?_⟩)))
    unfold seen; rw [if_pos le_rfl]

/-- The unnormalised probability, -/
def ex (S : Fin N → Fin N → ℝ) (q k : Fin N) : ℝ := if k ≤ q then Real.exp (S q k - top S q) else 0
/-- a query's total, -/
def tot (S : Fin N → Fin N → ℝ) (q : Fin N) : ℝ := ∑ k, ex S q k
/-- the probability, -/
def prob (S : Fin N → Fin N → ℝ) (q k : Fin N) : ℝ := ex S q k / tot S q
/-- the log-sum-exp, -/
def lse (S : Fin N → Fin N → ℝ) (q : Fin N) : ℝ := top S q + Real.log (tot S q)
/-- the output, -/
def out (S : Fin N → Fin N → ℝ) (v : Fin N → Fin V → ℝ) (q : Fin N) (e : Fin V) : ℝ := ∑ k, prob S q k * v k e
/-- the gradient of a probability, -/
def dp (g v : Fin N → Fin V → ℝ) (q k : Fin N) : ℝ := ∑ e, g q e * v k e
/-- and the gradient of a score. -/
def ds (S : Fin N → Fin N → ℝ) (g v : Fin N → Fin V → ℝ) (q k : Fin N) : ℝ :=
  prob S q k * (dp g v q k - ∑ e, g q e * out S v q e)

theorem ex_nonneg (S : Fin N → Fin N → ℝ) (q k : Fin N) : 0 ≤ ex S q k := by
  unfold ex; split_ifs
  · exact (Real.exp_pos _).le
  · exact le_rfl

theorem tot_pos (S : Fin N → Fin N → ℝ) (q : Fin N) : 0 < tot S q := by
  refine Finset.sum_pos' (fun k _ => ex_nonneg S q k) ⟨q, Finset.mem_univ _, ?_⟩
  unfold ex; rw [if_pos le_rfl]; exact Real.exp_pos _

theorem prob_past (S : Fin N → Fin N → ℝ) {q k : Fin N} (h : ¬ k ≤ q) : prob S q k = 0 := by
  unfold prob ex; rw [if_neg h, zero_div]

theorem ds_past (S : Fin N → Fin N → ℝ) (g v : Fin N → Fin V → ℝ) {q k : Fin N} (h : ¬ k ≤ q) : ds S g v q k = 0 := by
  unfold ds; rw [prob_past S h, zero_mul]

/-- The cotangent against the output is the probabilities' gradient averaged. -/
theorem delta_eq (S : Fin N → Fin N → ℝ) (g v : Fin N → Fin V → ℝ) (q : Fin N) :
    ∑ e, g q e * out S v q e = ∑ k, dp g v q k * prob S q k := by
  simp only [out, dp, Finset.mul_sum, Finset.sum_mul]
  rw [Finset.sum_comm]
  exact Finset.sum_congr rfl fun k _ => Finset.sum_congr rfl fun e _ => by ring

/-- The derivative of the quotient is the gradient of the score. -/
theorem quotient_grad (S : Fin N → Fin N → ℝ) (g v : Fin N → Fin V → ℝ) (q k : Fin N) :
    (dp g v q k / tot S q + -∑ j, dp g v q j * (1 / (tot S q * tot S q)) * ex S q j) * ex S q k = ds S g v q k := by
  have h := (tot_pos S q).ne'
  have e : ∑ j, dp g v q j * (1 / (tot S q * tot S q)) * ex S q j = (∑ j, dp g v q j * prob S q j) / tot S q := by
    rw [Finset.sum_div]
    exact Finset.sum_congr rfl fun j _ => by unfold prob; field_simp
  unfold ds
  rw [e, delta_eq]
  unfold prob
  field_simp
  ring

/-- The unnormalised probability as an exponential of the seen score. -/
theorem exp_seen (S : Fin N → Fin N → ℝ) (q k : Fin N) : Ideal.exp (seen S q k - ((top S q : ℝ) : EReal)) = ((ex S q k : ℝ) : EReal) := by
  unfold seen ex
  split_ifs
  · rw [← EReal.coe_sub, Ideal.exp_coe]
  · rw [EReal.bot_sub, Ideal.exp_bot, EReal.coe_zero]

/-- The logarithm of 2, inverted. -/
abbrev il2 : ℝ := (Real.log 2)⁻¹

theorem log2_pos : 0 < Real.log 2 := Real.log_pos one_lt_two

/-- The probability recomputed from the log-sum-exp in base 2. -/
theorem exp2_seen (S : Fin N → Fin N → ℝ) (q k : Fin N) (raw s : ℝ) (hs : 0 < s) (h : S q k = raw * s) :
    Ideal.exp2 ((if k ≤ q then ((raw : ℝ) : EReal) else ⊥) * ((s * il2 : ℝ) : EReal) - ((lse S q : ℝ) : EReal) * ((il2 : ℝ) : EReal))
      = ((prob S q k : ℝ) : EReal) := by
  have h2 := log2_pos
  by_cases hk : k ≤ q
  · rw [if_pos hk, ← EReal.coe_mul, ← EReal.coe_mul, ← EReal.coe_sub, Ideal.exp2_coe]
    congr 1
    show Real.rpow 2 _ = _
    rw [show Real.rpow 2 (raw * (s * il2) - lse S q * il2) = Real.exp (Real.log 2 * (raw * (s * il2) - lse S q * il2)) from
      Real.rpow_def_of_pos two_pos _]
    rw [show Real.log 2 * (raw * (s * il2) - lse S q * il2) = (S q k - top S q) - Real.log (tot S q) by
      rw [h]; unfold lse il2; field_simp; ring]
    unfold prob ex
    rw [if_pos hk, Real.exp_sub, Real.exp_log (tot_pos S q)]
  · rw [if_neg hk, prob_past S hk, EReal.bot_mul_coe_of_pos (mul_pos hs (inv_pos.mpr h2)), ← EReal.coe_mul, EReal.bot_sub, Ideal.exp2_bot]
    rfl

/-- A sum of products of reals. -/
theorem coe_sum_mul {ι : Type} [Fintype ι] (f g : ι → ℝ) : ∑ i, ((f i : ℝ) : EReal) * ((g i : ℝ) : EReal) = ((∑ i, f i * g i : ℝ) : EReal) := by
  rw [NormMath.coe_sum]
  exact Finset.sum_congr rfl fun i _ => (EReal.coe_mul _ _).symm

/-- Choosing by comparing two positions as words. -/
theorem select_le {α : Type} (hN : N ≤ 2 ^ 31) (k q : Fin N) (a b : α) :
    Scalar.select (IntOp.cmpi .sle (BitVec.ofNat 32 k.val) (BitVec.ofNat 32 q.val)) a b = if k ≤ q then a else b := by
  rw [WordCmp.cmpi_sle_ofNat (by have := k.isLt; omega) (by have := q.isLt; omega), WordCmp.select_decide]
  rfl

end Cert.AttnMath

end
-- ==== Proof.AttnRef.lean ====
module

public import proofs.«01_k».proof.Proof.Gen.AttnRefIdeal.Read
public import proofs.«01_k».proof.Proof.AttnMath
public import Idealize.ShloMosaic.Lib.Pipeline.ValueKit

@[expose] public section

set_option maxRecDepth 16384

/-! The attention reference over the reals: what each step of the differentiated softmax attention holds when the four
arguments are real numbers. -/

noncomputable section

open Idealize.ShloMosaic Idealize.ShloMosaic.TcCoe Idealize.SL.Sem

namespace Cert.AttnRefIdeal.Real

open Cert.AttnRefIdeal Cert.AttnRefIdeal.Gen Cert.AttnRefIdeal.Read

/-- Every entry is a real number. -/
def IsReal {s : Shape} (x : FVec Ideal s .f32) : Prop := ∀ i, (x i : EReal) = (((x i : EReal).toReal : ℝ) : EReal)

/-- The query, the key, the value or the cotangent at a position of a head. -/
def at192 (x : FVec Ideal S1x8192x8x192 .f32) (h : Fin 8) (p : Fin 8192) (d : Fin 192) : ℝ := (x (ix4 0 p h d) : EReal).toReal
@[inherit_doc at192] def at128 (x : FVec Ideal S1x8192x8x128 .f32) (h : Fin 8) (p : Fin 8192) (e : Fin 128) : ℝ := (x (ix4 0 p h e) : EReal).toReal

/-- A query against a key. -/
def rawS (Q K : FVec Ideal S1x8192x8x192 .f32) (h : Fin 8) (q k : Fin 8192) : ℝ := ∑ d : Fin 192, at192 Q h q d * at192 K h k d
/-- The scaled score. -/
def score (Q K : FVec Ideal S1x8192x8x192 .f32) (h : Fin 8) (q k : Fin 8192) : ℝ := rawS Q K h q k * (Real.sqrt 192)⁻¹

variable {Q K : FVec Ideal S1x8192x8x192 .f32} {V G : FVec Ideal S1x8192x8x128 .f32}

theorem real192 {x : FVec Ideal S1x8192x8x192 .f32} (hx : IsReal x) (h : Fin 8) (p : Fin 8192) (d : Fin 192) :
    (x (ix4 0 p h d) : EReal) = ((at192 x h p d : ℝ) : EReal) := hx _
theorem real128 {x : FVec Ideal S1x8192x8x128 .f32} (hx : IsReal x) (h : Fin 8) (p : Fin 8192) (e : Fin 128) :
    (x (ix4 0 p h e) : EReal) = ((at128 x h p e : ℝ) : EReal) := hx _

/-- The words the reference's constants are. -/
theorem w192 : Ideal.ofBits .f32 1128267776#32 = ((192 : ℝ) : EReal) := by
  simp [Ideal.ofBits, Ideal.ieee, -EReal.coe_mul]; norm_num
@[inherit_doc w192] theorem wBot : Ideal.ofBits .f32 4286578688#32 = (⊥ : EReal) := by
  simp [Ideal.ofBits, Ideal.ieee]

theorem scale_eq : Ideal.rsqrt ((192 : ℝ) : EReal) = (((Real.sqrt 192)⁻¹ : ℝ) : EReal) := by
  rw [Ideal.rsqrt_coe, if_neg (by norm_num), if_neg (by norm_num)]

theorem scaled (hQ : IsReal Q) (hK : IsReal K) (h : Fin 8) (q k : Fin 8192) :
    val_main_v6 (F := Ideal) Q K (ix3 h q k) = ((score Q K h q k : ℝ) : EReal) := by
  pointwise [val_main_v6, val_main_v5, val_main_v4, val_main_cst, val_main_v3, val_main_v0, val_main_v1]
  rw [w192, scale_eq]
  simp_rw [real192 hQ, real192 hK]
  rw [AttnMath.coe_sum_mul, ← EReal.coe_mul]
  rfl

theorem mask_at (h : Fin 8) (q k : Fin 8192) (a b : EReal) :
    Scalar.select (val_main_v13_1 (F := Ideal) (ix3 h q k)) a b = if k ≤ q then a else b := by
  pointwise [val_main_v13_1, val_main_v12, val_main_v11, val_main_v10, val_main_v9, val_main_v8, val_main_v7]
  exact AttnMath.select_le (N := 8192) (by norm_num) k q a b

theorem seen_at (hQ : IsReal Q) (hK : IsReal K) (h : Fin 8) (q k : Fin 8192) :
    val_main_v13_0 (F := Ideal) Q K (ix3 h q k) = AttnMath.seen (score Q K h) q k := by
  rw [val_main_v13_0_apply, mask_at, scaled hQ hK]
  pointwise [val_main_call0_v2, val_main_call0_v0, val_main_cst_0]
  show (if k ≤ q then _ else Ideal.ofBits .f32 4286578688#32) = _
  rw [wBot]
  rfl

theorem top_at (hQ : IsReal Q) (hK : IsReal K) (h : Fin 8) (q : Fin 8192) :
    val_main_v14 (F := Ideal) Q K (ix2 h q) = ((AttnMath.top (score Q K h) q : ℝ) : EReal) := by
  rw [← AttnMath.top_coe]
  pointwise [val_main_v14, val_main_cst_1]
  rw [wBot]
  exact congrArg (fun f => Finset.fold max ⊥ f Finset.univ) (funext fun k => seen_at hQ hK h q k)

/-- The greatest score, bounded below by nothing. -/
theorem top_at' (hQ : IsReal Q) (hK : IsReal K) (h : Fin 8) (q : Fin 8192) :
    val_main_v21 (F := Ideal) Q K (ix2 h q) = ((AttnMath.top (score Q K h) q : ℝ) : EReal) := by
  rw [val_main_v21_apply, top_at hQ hK]
  pointwise [val_main_v20, val_main_cst_3]
  rw [wBot]
  exact max_eq_right bot_le
theorem spread (h : Fin 8) (q k : Fin 8192) : val_main_v32 (F := Ideal) Q K (ix3 h q k) = val_main_v21 (F := Ideal) Q K (ix2 h q) := by
  pointwise [val_main_v32, val_main_v31]

theorem ex_at (hQ : IsReal Q) (hK : IsReal K) (h : Fin 8) (q k : Fin 8192) :
    val_main_v34 (F := Ideal) Q K (ix3 h q k) = ((AttnMath.ex (score Q K h) q k : ℝ) : EReal) := by
  rw [val_main_v34_apply, val_main_v33_apply, seen_at hQ hK, spread, top_at' hQ hK]
  exact AttnMath.exp_seen _ q k

theorem tot_at (hQ : IsReal Q) (hK : IsReal K) (h : Fin 8) (q : Fin 8192) :
    val_main_v35 (F := Ideal) Q K (ix2 h q) = ((AttnMath.tot (score Q K h) q : ℝ) : EReal) := by
  pointwise [val_main_v35, val_main_cst_9]
  simp_rw [ex_at hQ hK]
  exact (NormMath.coe_sum _ _).symm

theorem prob_at (hQ : IsReal Q) (hK : IsReal K) (h : Fin 8) (q k : Fin 8192) :
    val_main_v38 (F := Ideal) Q K (ix3 h q k) = ((AttnMath.prob (score Q K h) q k : ℝ) : EReal) := by
  pointwise [val_main_v38, val_main_v37, val_main_v36]
  rw [ex_at hQ hK, tot_at hQ hK, Ideal.div_coe (AttnMath.tot_pos _ q).ne', ← EReal.coe_mul, mul_one_div]
  rfl

theorem dp_at (hV : IsReal V) (hG : IsReal G) (h : Fin 8) (q k : Fin 8192) :
    val_main_v46 (F := Ideal) V G (ix3 h q k) = ((AttnMath.dp (at128 G h) (at128 V h) q k : ℝ) : EReal) := by
  pointwise [val_main_v46, val_main_v45, val_main_v44, val_main_v2]
  simp_rw [real128 hV, real128 hG]
  exact AttnMath.coe_sum_mul _ _

theorem avg_at (hQ : IsReal Q) (hK : IsReal K) (hV : IsReal V) (hG : IsReal G) (h : Fin 8) (q : Fin 8192) :
    val_main_v57 (F := Ideal) Q K V G (ix2 h q) = ((-∑ j, AttnMath.dp (at128 G h) (at128 V h) q j
      * (1 / (AttnMath.tot (score Q K h) q * AttnMath.tot (score Q K h) q)) * AttnMath.ex (score Q K h) q j : ℝ) : EReal) := by
  pointwise [val_main_v57, val_main_cst_12, val_main_v54, val_main_v53, val_main_v52, val_main_cst_11, val_main_v51, val_main_v50,
    val_main_v49, val_main_v41, val_main_v40, val_main_cst_10, val_main_v39, val_main_v36]
  simp_rw [ex_at hQ hK, tot_at hQ hK, dp_at hV hG]
  have ht := AttnMath.tot_pos (score Q K h) q
  rw [← EReal.coe_mul, Ideal.div_coe (mul_pos ht ht).ne', one_mul]
  simp_rw [← EReal.coe_mul]
  rw [← NormMath.coe_sum, Fin.sum_univ_one]
  exact (EReal.coe_neg _).symm

theorem ds_at (hQ : IsReal Q) (hK : IsReal K) (hV : IsReal V) (hG : IsReal G) (h : Fin 8) (q k : Fin 8192) :
    val_main_v63 (F := Ideal) Q K V G (ix3 h q k)
      = ((AttnMath.ds (score Q K h) (at128 G h) (at128 V h) q k * (Real.sqrt 192)⁻¹ : ℝ) : EReal) := by
  rw [val_main_v63_apply, val_main_v61_apply, mask_at]
  pointwise [val_main_v62, val_main_v4, val_main_cst, val_main_v60, val_main_v59, val_main_v58, val_main_v56, val_main_v55, val_main_v36, val_main_call1_v0, val_main_call1_cst]
  rw [w192, scale_eq]
  split_ifs with hk
  · rw [ex_at hQ hK, tot_at hQ hK, dp_at hV hG, avg_at hQ hK hV hG, Ideal.div_coe (AttnMath.tot_pos _ q).ne', ← EReal.coe_mul, mul_one_div,
      ← EReal.coe_add, ← EReal.coe_mul, ← EReal.coe_mul, AttnMath.quotient_grad]
  · rw [AttnMath.ds_past _ _ _ hk, zero_mul, zero_mul]
    rfl

/-- The padding is with zeros. -/
theorem fill0 : (FloatOps.sitofp (F := Ideal) FTy.f32 (0#32) : EReal) = 0 := by
  show (((0#32 : BitVec 32).toInt : ℝ) : EReal) = 0
  simp

/-- The query gradient, -/
theorem dq_at (hQ : IsReal Q) (hK : IsReal K) (hV : IsReal V) (hG : IsReal G) (q : Fin 8192) (h : Fin 8) (d : Fin 192) :
    val_main_v67 (F := Ideal) Q K V G (ix3 q h d)
      = ((∑ k : Fin 8192, AttnMath.ds (score Q K h) (at128 G h) (at128 V h) q k * (Real.sqrt 192)⁻¹ * at192 K h k d : ℝ) : EReal) := by
  pointwise [val_main_v67, val_main_v66, val_main_v1]
  simp_rw [ds_at hQ hK hV hG, real192 hK]
  exact AttnMath.coe_sum_mul _ _
/-- the key gradient -/
theorem dk_at (hQ : IsReal Q) (hK : IsReal K) (hV : IsReal V) (hG : IsReal G) (k : Fin 8192) (h : Fin 8) (d : Fin 192) :
    val_main_v65 (F := Ideal) Q K V G (ix3 k h d)
      = ((∑ q : Fin 8192, AttnMath.ds (score Q K h) (at128 G h) (at128 V h) q k * (Real.sqrt 192)⁻¹ * at192 Q h q d : ℝ) : EReal) := by
  pointwise [val_main_v65, val_main_v64, val_main_v0]
  simp_rw [ds_at hQ hK hV hG, real192 hQ]
  exact AttnMath.coe_sum_mul _ _
/-- and the value gradient. -/
theorem dv_at (hQ : IsReal Q) (hK : IsReal K) (hG : IsReal G) (k : Fin 8192) (h : Fin 8) (e : Fin 128) :
    val_main_v48 (F := Ideal) Q K G (ix3 k h e)
      = ((∑ q : Fin 8192, at128 G h q e * AttnMath.prob (score Q K h) q k : ℝ) : EReal) := by
  pointwise [val_main_v48, val_main_v47, val_main_v45, val_main_v44]
  simp_rw [prob_at hQ hK, real128 hG]
  exact AttnMath.coe_sum_mul _ _

/-! The three results as they are returned: heads side by side, queries and keys padded to 256 columns. -/
theorem out0 (q : Fin 8192) (h : Fin 8) (d : Fin 256) (hl : h.val * 256 + d.val < 2048) :
    val_main_v69 (F := Ideal) Q K V G (ix2 q ⟨h.val * 256 + d.val, hl⟩)
      = if hd : d.val < 192 then val_main_v67 (F := Ideal) Q K V G (ix3 q h ⟨d.val, hd⟩) else (0 : EReal) := by
  pointwise [val_main_v69, val_main_v68, val_main_call2_v0, val_main_c]
  split_ifs
  · rfl
  · exact fill0
theorem out1 (k : Fin 8192) (h : Fin 8) (d : Fin 256) (hl : h.val * 256 + d.val < 2048) :
    val_main_v71 (F := Ideal) Q K V G (ix2 k ⟨h.val * 256 + d.val, hl⟩)
      = if hd : d.val < 192 then val_main_v65 (F := Ideal) Q K V G (ix3 k h ⟨d.val, hd⟩) else (0 : EReal) := by
  pointwise [val_main_v71, val_main_v70, val_main_call3_v0, val_main_c_13]
  split_ifs
  · rfl
  · exact fill0
theorem out2 (k : Fin 8192) (h : Fin 8) (e : Fin 128) (hl : h.val * 128 + e.val < 1024) :
    val_main_v72 (F := Ideal) Q K G (ix2 k ⟨h.val * 128 + e.val, hl⟩) = val_main_v48 (F := Ideal) Q K G (ix3 k h e) := by
  pointwise [val_main_v72]

end Cert.AttnRefIdeal.Real

end
-- ==== Proof.AttnPay.lean ====
module

public import proofs.«01_k».proof.Proof.AttnPoint
public import proofs.«01_k».proof.Proof.AttnMath
public import Idealize.ShloMosaic.Lib.Pipeline.ValueKit

@[expose] public section

set_option maxRecDepth 16384

/-! What a visit of the backward attention kernel computes, entry by entry, over the extended reals. -/

noncomputable section

open Idealize.ShloMosaic Idealize.ShloMosaic.TcCoe Idealize.SL.Sem

namespace Cert.AttnIdeal.Body

open Cert.AttnIdeal Cert.AttnIdeal.Gen

/-- The scale of the scores times the base-2 logarithm of e, -/
abbrev cS : EReal := (((Real.sqrt 192)⁻¹ * (Real.log 2)⁻¹ : ℝ) : EReal)
/-- the base-2 logarithm of e, -/
abbrev cL : EReal := (((Real.log 2)⁻¹ : ℝ) : EReal)
/-- and the scale. -/
abbrev cR : EReal := (((Real.sqrt 192)⁻¹ : ℝ) : EReal)

theorem named_scale : (Named.named (F := Ideal) κ "scale" 0x3D93CD3A#32 : Ideal .f32) = cR :=
  IdealRules.named_const.ideal_named_scalar _ _ _ _ rfl
theorem named_scale_log2e : (Named.named (F := Ideal) κ "scale_log2e" 0x3DD53B95#32 : Ideal .f32) = cS :=
  IdealRules.named_const.ideal_named_scalar _ _ _ _ rfl
theorem named_log2e : (Named.named (F := Ideal) κ "log2e" 0x3FB8AA3B#32 : Ideal .f32) = cL :=
  IdealRules.named_const.ideal_named_scalar _ _ _ _ rfl
theorem named_mask : (Named.named (F := Ideal) κ "mask" 0xF149F2CA#32 : Ideal .f32) = (⊥ : EReal) :=
  IdealRules.named_const.ideal_named_scalar _ _ _ _ rfl

/-- A key against a query. -/
def raw (kb qb : Vec Ideal S512x256 .bf16) (k q : Fin 512) : EReal := ∑ d : Fin 256, (kb (ix2 k d) : EReal) * qb (ix2 q d)

/-- The probability from a score and the log-sum-exp. -/
def recomputed (s l : EReal) : EReal := Ideal.exp2 (s * cS - l * cL)

theorem pay36_apply (kb q : Vec Ideal S512x256 .bf16) (l : Vec Ideal S1x1x1x512 .f32) (k r : Fin 512) :
    k0_pay36 (F := Ideal) kb q l (ix2 k r) = recomputed (raw kb q k r) (l (ix4 0 0 0 r)) := by
  pointwise [k0_pay36, k0_pay34]
  simp only [named_scale_log2e, named_log2e, recomputed, raw]
  rfl

theorem pay47_apply (kb q : Vec Ideal S512x256 .bf16) (l : Vec Ideal S1x1x1x512 .f32) (k r : Fin 512) :
    k0_pay47 (F := Ideal) kb q l (ix2 k r) = recomputed (if k ≤ r then raw kb q k r else ⊥) (l (ix4 0 0 0 r)) := by
  pointwise [k0_pay47, k0_pay42, k0_pay44]
  simp only [named_scale_log2e, named_log2e, named_mask, recomputed, raw, AttnMath.select_le (N := 512) (by norm_num)]
  rfl

/-- The gradient of a score from its probability. -/
def scored (p : EReal) (vb : Vec Ideal S512x128 .bf16) (g o : Vec Ideal S1x128x512 .bf16) (k q : Fin 512) : EReal :=
  p * ((∑ e : Fin 128, (vb (ix2 k e) : EReal) * g (ix3 0 e q)) - ∑ e : Fin 128, (g (ix3 0 e q) : EReal) * o (ix3 0 e q))

theorem pay37_apply (kb q : Vec Ideal S512x256 .bf16) (vb : Vec Ideal S512x128 .bf16) (g : Vec Ideal S1x128x512 .bf16)
    (l : Vec Ideal S1x1x1x512 .f32) (o : Vec Ideal S1x128x512 .bf16) (k r : Fin 512) :
    k0_pay37 (F := Ideal) kb vb q g l o (ix2 k r) = scored (k0_pay36 (F := Ideal) kb q l (ix2 k r)) vb g o k r := by
  pointwise [k0_pay37, k0_pay35]
  rfl

theorem pay50_apply (p : FVec Ideal S512x512 .f32) (vb : Vec Ideal S512x128 .bf16) (g o : Vec Ideal S1x128x512 .bf16) (k r : Fin 512) :
    k0_pay50 (F := Ideal) (k0_pay46 vb g) p (k0_pay48 g) (k0_pay49 o) (ix2 k r) = scored (p (ix2 k r)) vb g o k r := by
  pointwise [k0_pay50, k0_pay46, k0_pay48, k0_pay49, k0_pay43, k0_pay45]
  rfl

theorem pay38_apply (kb q : Vec Ideal S512x256 .bf16) (vb : Vec Ideal S512x128 .bf16) (g : Vec Ideal S1x128x512 .bf16)
    (l : Vec Ideal S1x1x1x512 .f32) (o : Vec Ideal S1x128x512 .bf16) (a : Vec Ideal S512x256 .f32) (r : Fin 512) (d : Fin 256) :
    k0_pay38 (F := Ideal) kb vb q g l o a (ix2 r d)
      = (a (ix2 r d) : EReal) + ∑ k : Fin 512, (k0_pay37 (F := Ideal) kb vb q g l o (ix2 k r) : EReal) * kb (ix2 k d) := by
  unfold k0_pay38
  generalize k0_pay37 (F := Ideal) kb vb q g l o = D
  pointwise

theorem pay39_apply (kb q : Vec Ideal S512x256 .bf16) (vb : Vec Ideal S512x128 .bf16) (g : Vec Ideal S1x128x512 .bf16)
    (l : Vec Ideal S1x1x1x512 .f32) (o : Vec Ideal S1x128x512 .bf16) (k : Fin 512) (d : Fin 256) :
    k0_pay39 (F := Ideal) kb vb q g l o (ix2 k d)
      = ∑ r : Fin 512, (k0_pay37 (F := Ideal) kb vb q g l o (ix2 k r) : EReal) * q (ix2 r d) := by
  unfold k0_pay39
  generalize k0_pay37 (F := Ideal) kb vb q g l o = D
  pointwise [k0_pay34]

theorem pay40_apply (kb q : Vec Ideal S512x256 .bf16) (g : Vec Ideal S1x128x512 .bf16)
    (l : Vec Ideal S1x1x1x512 .f32) (k : Fin 512) (e : Fin 128) :
    k0_pay40 (F := Ideal) kb q g l (ix2 k e)
      = ∑ r : Fin 512, (k0_pay36 (F := Ideal) kb q l (ix2 k r) : EReal) * g (ix3 0 e r) := by
  unfold k0_pay40
  generalize k0_pay36 (F := Ideal) kb q l = D
  pointwise [k0_pay35]

theorem pay51_apply (kb : Vec Ideal S512x256 .bf16) (x p : FVec Ideal S512x512 .f32) (g o : FVec Ideal S128x512 .f32)
    (a : Vec Ideal S512x256 .f32) (r : Fin 512) (d : Fin 256) :
    k0_pay51 (F := Ideal) (k0_pay42 kb) x p g o a (ix2 r d)
      = (a (ix2 r d) : EReal) + ∑ k : Fin 512, (k0_pay50 (F := Ideal) x p g o (ix2 k r) : EReal) * kb (ix2 k d) := by
  unfold k0_pay51
  generalize k0_pay50 (F := Ideal) x p g o = D
  pointwise [k0_pay42]

theorem pay52_apply (q : Vec Ideal S512x256 .bf16) (x p : FVec Ideal S512x512 .f32) (g o : FVec Ideal S128x512 .f32)
    (k : Fin 512) (d : Fin 256) :
    k0_pay52 (F := Ideal) (k0_pay44 q) x p g o (ix2 k d)
      = ∑ r : Fin 512, (k0_pay50 (F := Ideal) x p g o (ix2 k r) : EReal) * q (ix2 r d) := by
  unfold k0_pay52
  generalize k0_pay50 (F := Ideal) x p g o = D
  pointwise [k0_pay44]

theorem pay53_apply (g : Vec Ideal S1x128x512 .bf16) (p : FVec Ideal S512x512 .f32) (k : Fin 512) (e : Fin 128) :
    k0_pay53 (F := Ideal) (k0_pay45 g) p (ix2 k e) = ∑ r : Fin 512, (p (ix2 k r) : EReal) * g (ix3 0 e r) := by
  pointwise [k0_pay53, k0_pay45]

theorem pay60_apply (x y : FVec Ideal S512x256 .f32) (k : Fin 512) (d : Fin 256) :
    k0_pay60 (F := Ideal) x y (ix2 k d) = (y (ix2 k d) : EReal) + x (ix2 k d) := by pointwise [k0_pay60]
theorem pay61_apply (x y : FVec Ideal S512x128 .f32) (k : Fin 512) (e : Fin 128) :
    k0_pay61 (F := Ideal) x y (ix2 k e) = (y (ix2 k e) : EReal) + x (ix2 k e) := by pointwise [k0_pay61]
theorem pay62_apply (x : FVec Ideal S512x256 .f32) (k : Fin 512) (d : Fin 256) :
    k0_pay62 (F := Ideal) x (ix2 k d) = (x (ix2 k d) : EReal) * cR := by
  pointwise [k0_pay62]
  simp only [named_scale]
theorem pay1_apply (x : FVec Ideal S8192x256 .f32) (r : Fin 8192) (d : Fin 256) :
    k0_pay1 (F := Ideal) x (ix2 r d) = (x (ix2 r d) : EReal) * cR := by
  pointwise [k0_pay1]
  simp only [named_scale]
theorem pay41_apply (r : Fin 8192) (d : Fin 256) : k0_pay41 (F := Ideal) (ix2 r d) = (0 : EReal) := by
  pointwise [k0_pay41]
theorem pay42_eq (x : Vec Ideal S512x256 .bf16) : k0_pay42 (F := Ideal) x = x := by
  funext y
  have h : y = ix2 (y 0) (y 1) := by blk_ext
  rw [h]
  pointwise [k0_pay42]
theorem pay43_eq (x : Vec Ideal S512x128 .bf16) : k0_pay43 (F := Ideal) x = x := by
  funext y
  have h : y = ix2 (y 0) (y 1) := by blk_ext
  rw [h]
  pointwise [k0_pay43]

end Cert.AttnIdeal.Body

end
-- ==== Proof.AttnVisits.lean ====
module

public import proofs.«01_k».proof.Proof.AttnPay

@[expose] public section

set_option maxRecDepth 16384

/-! The visits of one grid point of the backward attention kernel added up: key block `j` meets the query blocks `j … 15`. -/

noncomputable section

open Idealize.ShloMosaic Idealize.ShloMosaic.TcCoe Idealize.SL.Sem

namespace Cert.AttnIdeal.Body

open Cert.AttnIdeal Cert.AttnIdeal.Gen
open Idealize.ShloMosaic.VecWindow (window put)

/-- Row `r` of block `n`. -/
def pos (n : Fin 16) (r : Fin 512) : Fin 8192 := ⟨n.val * 512 + r.val, by omega⟩

theorem row_apply {e : EltTy} (x : Vec Ideal S8192x256 e) (n : Fin 16) (r : Fin 512) (d : Fin 256) :
    row x n (ix2 r d) = x (ix2 (pos n r) d) := by
  unfold row window pos
  blk_ext
theorem slab_apply {e : EltTy} (x : Vec Ideal S16x128x512 e) (n : Fin 16) (v : Fin 128) (r : Fin 512) :
    slab x n (ix3 0 v r) = x (ix3 n v r) := by
  unfold slab window
  blk_ext
theorem lseRow_apply (x : Vec Ideal S1x16x1x512 .f32) (n : Fin 16) (r : Fin 512) :
    lseRow x n (ix4 0 0 0 r) = x (ix4 0 n 0 r) := by
  unfold lseRow window
  blk_ext

theorem row_setRow (d : Vec Ideal S8192x256 .f32) (n n' : Fin 16) (w : Vec Ideal S512x256 .f32) :
    row (setRow d n w) n' = if n = n' then w else row d n' := by
  split_ifs with h
  · subst h
    exact VecWindow.window_put_same d _ _ _ w
  · exact row_setRow_ne d n n' h w

variable (X : Rows Ideal) (kx : Vec Ideal S512x256 .bf16) (vx : Vec Ideal S512x128 .bf16) (j : Fin 16)

/-- The probability of key `k` of block `j` for query `r` of block `n`, -/
def pAt (n : Fin 16) (k r : Fin 512) : EReal :=
  recomputed (if n = j ∧ ¬ k ≤ r then ⊥ else raw kx (row X.q n) k r) (lseRow X.l n (ix4 0 0 0 r))
/-- the gradient of its score, -/
def dAt (n : Fin 16) (k r : Fin 512) : EReal := scored (pAt X kx j n k r) vx (slab X.g n) (slab X.o n) k r
/-- and what the pair of blocks adds to the query gradient, -/
def addQ (n : Fin 16) (r : Fin 512) (d : Fin 256) : EReal := ∑ k : Fin 512, dAt X kx vx j n k r * kx (ix2 k d)
/-- to the key gradient -/
def addK (n : Fin 16) (k : Fin 512) (d : Fin 256) : EReal := ∑ r : Fin 512, dAt X kx vx j n k r * row X.q n (ix2 r d)
/-- and to the value gradient. -/
def addV (n : Fin 16) (k : Fin 512) (e : Fin 128) : EReal := ∑ r : Fin 512, pAt X kx j n k r * slab X.g n (ix3 0 e r)

/-- A visit past the diagonal, -/
theorem dAt_off {n : Fin 16} (h : n ≠ j) (k r : Fin 512) :
    k0_pay37 (F := Ideal) kx vx (row X.q n) (slab X.g n) (lseRow X.l n) (slab X.o n) (ix2 k r) = dAt X kx vx j n k r := by
  rw [pay37_apply, pay36_apply]
  unfold dAt pAt
  rw [if_neg fun e => h e.1]
theorem dkPart_apply {n : Fin 16} (h : n ≠ j) (k : Fin 512) (d : Fin 256) : dkPart X kx vx n (ix2 k d) = addK X kx vx j n k d := by
  unfold dkPart
  rw [pay39_apply]
  exact Finset.sum_congr rfl fun r _ => by rw [dAt_off X kx vx j h]
theorem dvPart_apply {n : Fin 16} (h : n ≠ j) (k : Fin 512) (e : Fin 128) : dvPart X kx n (ix2 k e) = addV X kx j n k e := by
  unfold dvPart
  rw [pay40_apply]
  exact Finset.sum_congr rfl fun r _ => by
    rw [pay36_apply]; unfold pAt; rw [if_neg fun e => h e.1]
theorem visit_apply {n : Fin 16} (h : n ≠ j) (a : Vec Ideal S8192x256 .f32) (n' : Fin 16) (r : Fin 512) (d : Fin 256) :
    row (visit X kx vx n a) n' (ix2 r d) = (row a n' (ix2 r d) : EReal) + if n = n' then addQ X kx vx j n r d else 0 := by
  unfold visit
  rw [row_setRow]
  split_ifs with e
  · subst e
    rw [pay38_apply]
    exact congrArg _ (Finset.sum_congr rfl fun k _ => by rw [dAt_off X kx vx j h])
  · exact (add_zero _).symm

/-- and the one on it. -/
theorem p47_diag (k r : Fin 512) :
    k0_pay47 (F := Ideal) kx (row X.q j) (lseRow X.l j) (ix2 k r) = pAt X kx j j k r := by
  rw [pay47_apply]
  unfold pAt
  by_cases h : k ≤ r
  · rw [if_pos h, if_neg fun e => e.2 h]
  · rw [if_neg h, if_pos ⟨rfl, h⟩]
theorem dAt_diag (k r : Fin 512) :
    k0_pay50 (F := Ideal) (k0_pay46 vx (slab X.g j)) (k0_pay47 kx (row X.q j) (lseRow X.l j)) (k0_pay48 (slab X.g j)) (k0_pay49 (slab X.o j)) (ix2 k r)
      = dAt X kx vx j j k r := by
  rw [pay50_apply, p47_diag]
  rfl
theorem dkDiag_apply (k : Fin 512) (d : Fin 256) : dkDiag X kx vx j (ix2 k d) = addK X kx vx j j k d := by
  unfold dkDiag
  rw [pay52_apply]
  exact Finset.sum_congr rfl fun r _ => by rw [dAt_diag]
theorem dvDiag_apply (k : Fin 512) (e : Fin 128) : dvDiag X kx j (ix2 k e) = addV X kx j j k e := by
  unfold dvDiag
  rw [pay53_apply]
  exact Finset.sum_congr rfl fun r _ => by rw [p47_diag]
theorem visitDiag_apply (a : Vec Ideal S8192x256 .f32) (n' : Fin 16) (r : Fin 512) (d : Fin 256) :
    row (visitDiag X kx vx j a) n' (ix2 r d) = (row a n' (ix2 r d) : EReal) + if j = n' then addQ X kx vx j j r d else 0 := by
  unfold visitDiag
  rw [row_setRow]
  split_ifs with e
  · subst e
    rw [pay51_apply]
    exact congrArg _ (Finset.sum_congr rfl fun k _ => by rw [dAt_diag])
  · exact (add_zero _).symm

/-- What blocks `j … b` add up to. -/
def upTo (f : Fin 16 → EReal) (b : ℕ) : EReal := ∑ n : Fin 16, if j ≤ n ∧ n.val ≤ b then f n else 0

theorem upTo_first (f : Fin 16 → EReal) : upTo j f j.val = f j := by
  unfold upTo
  rw [Finset.sum_eq_single j]
  · rw [if_pos ⟨le_rfl, le_rfl⟩]
  · intro n _ h
    rw [if_neg]
    rintro ⟨h1, h2⟩
    exact h (le_antisymm h2 h1)
  · exact fun h => absurd (Finset.mem_univ _) h

theorem upTo_next (f : Fin 16 → EReal) (n : Fin 16) (b : ℕ) (hn : n.val = b + 1) (hj : j.val ≤ b) :
    upTo j f (b + 1) = upTo j f b + f n := by
  unfold upTo
  rw [show f n = ∑ x : Fin 16, if x = n then f x else 0 by rw [Finset.sum_ite_eq' Finset.univ n f, if_pos (Finset.mem_univ _)],
    ← Finset.sum_add_distrib]
  refine Finset.sum_congr rfl fun x _ => ?_
  by_cases h : x = n
  · subst h
    rw [if_pos ⟨show j.val ≤ x.val by omega, by omega⟩, if_neg (by rintro ⟨_, h2⟩; omega), if_pos rfl, zero_add]
  · have hx : x.val ≠ n.val := fun e => h (Fin.ext e)
    rw [if_neg h, add_zero]
    refine if_congr ⟨fun e => ⟨e.1, by omega⟩, fun e => ⟨e.1, by omega⟩⟩ rfl rfl

/-- The state after blocks `j … b`, entered with the query gradient `a`. -/
structure After (a : Vec Ideal S8192x256 .f32) (b : ℕ) (s : St Ideal) : Prop where
  q : ∀ n r d, row s.1 n (ix2 r d) = (row a n (ix2 r d) : EReal) + if j ≤ n ∧ n.val ≤ b then addQ X kx vx j n r d else 0
  k : ∀ k d, s.2.1 (ix2 k d) = upTo j (fun n => addK X kx vx j n k d) b
  v : ∀ k e, s.2.2 (ix2 k e) = upTo j (fun n => addV X kx j n k e) b

variable {X kx vx j}

theorem After.visit_q {a : Vec Ideal S8192x256 .f32} {b : ℕ} {q : Vec Ideal S8192x256 .f32} (n : Fin 16) (hn : n.val = b + 1) (hj : j.val ≤ b)
    (h : ∀ n r d, row q n (ix2 r d) = (row a n (ix2 r d) : EReal) + if j ≤ n ∧ n.val ≤ b then addQ X kx vx j n r d else 0)
    (n' : Fin 16) (r : Fin 512) (d : Fin 256) :
    row (visit X kx vx n q) n' (ix2 r d) = (row a n' (ix2 r d) : EReal) + if j ≤ n' ∧ n'.val ≤ b + 1 then addQ X kx vx j n' r d else 0 := by
  have hne : n ≠ j := fun e => by rw [e] at hn; omega
  rw [visit_apply X kx vx j hne, h, add_assoc]
  congr 1
  by_cases e : n = n'
  · subst e
    rw [if_pos rfl, if_neg (by rintro ⟨_, h2⟩; omega), if_pos ⟨show j.val ≤ n.val by omega, by omega⟩, zero_add]
  · have hx : n.val ≠ n'.val := fun h => e (Fin.ext h)
    rw [if_neg e, add_zero]
    exact if_congr ⟨fun e => ⟨e.1, by omega⟩, fun e => ⟨e.1, by omega⟩⟩ rfl rfl

/-- One more visit; -/
theorem After.one {a : Vec Ideal S8192x256 .f32} {b : ℕ} {s : St Ideal} (h : After X kx vx j a b s) (n : Fin 16) (hn : n.val = b + 1) (hj : j.val ≤ b) :
    After X kx vx j a (b + 1) (visit X kx vx n s.1, k0_pay60 (dkPart X kx vx n) s.2.1, k0_pay61 (dvPart X kx n) s.2.2) := by
  have hne : n ≠ j := fun e => by rw [e] at hn; omega
  refine ⟨After.visit_q n hn hj h.q, fun k d => ?_, fun k e => ?_⟩
  · show k0_pay60 (F := Ideal) _ _ (ix2 k d) = _
    rw [pay60_apply, h.k, dkPart_apply X kx vx j hne, upTo_next j _ n b hn hj]
  · show k0_pay61 (F := Ideal) _ _ (ix2 k e) = _
    rw [pay61_apply, h.v, dvPart_apply X kx j hne, upTo_next j _ n b hn hj]

/-- two more, as the loop takes them. -/
theorem After.two {a : Vec Ideal S8192x256 .f32} {b : ℕ} {s : St Ideal} (h : After X kx vx j a b s) (n n' : Fin 16) (hn : n.val = b + 1)
    (hn' : n'.val = b + 2) (hj : j.val ≤ b) : After X kx vx j a (b + 2) (pair X kx vx n n' s) := by
  have hne : n ≠ j := fun e => by rw [e] at hn; omega
  have hne' : n' ≠ j := fun e => by rw [e] at hn'; omega
  refine ⟨After.visit_q n' hn' (by omega) (After.visit_q n hn hj h.q), fun k d => ?_, fun k e => ?_⟩
  · show k0_pay60 (F := Ideal) _ _ (ix2 k d) = _
    rw [pay60_apply, h.k, upTo_next j _ n' (b + 1) hn' (by omega), upTo_next j _ n b hn hj, add_assoc]
    exact congrArg _ (congrArg₂ (· + ·) (dkPart_apply X kx vx j hne k d) (dkPart_apply X kx vx j hne' k d))
  · show k0_pay61 (F := Ideal) _ _ (ix2 k e) = _
    rw [pay61_apply, h.v, upTo_next j _ n' (b + 1) hn' (by omega), upTo_next j _ n b hn hj, add_assoc]
    exact congrArg _ (congrArg₂ (· + ·) (dvPart_apply X kx j hne k e) (dvPart_apply X kx j hne' k e))

variable (X kx vx)

theorem trips_eq : ∀ i : grid0.Coords, (k0_t1_loop i).trips = (15 - (i 1).val) / 2 := by decide +kernel

/-- What a grid point enters with: zeros at a head's first key block. -/
def entering (i : grid0.Coords) (d : Vec Ideal S8192x256 .f32) : Vec Ideal S8192x256 .f32 := if (i 1).val = 0 then k0_pay41 (F := Ideal) else d

theorem after_enter (i : grid0.Coords) (d : Vec Ideal S8192x256 .f32) :
    After X kx vx (blockOf i) (entering i d) (blockOf i).val (enter X kx vx i d) := by
  refine ⟨fun n r e => ?_, fun k e => ?_, fun k e => ?_⟩
  · refine (visitDiag_apply X kx vx (blockOf i) (entering i d) n r e).trans (congrArg _ ?_)
    by_cases h : blockOf i = n
    · subst h
      rw [if_pos rfl, if_pos ⟨le_rfl, le_rfl⟩]
    · rw [if_neg h, if_neg]
      rintro ⟨h1, h2⟩
      exact h (le_antisymm h1 h2)
  · rw [upTo_first]
    exact dkDiag_apply X kx vx (blockOf i) k e
  · rw [upTo_first]
    exact dvDiag_apply X kx (blockOf i) k e

theorem after_iter (i : grid0.Coords) (d : Vec Ideal S8192x256 .f32) (k : ℕ) (hk : k ≤ (k0_t1_loop i).trips) :
    After X kx vx (blockOf i) (entering i d) ((blockOf i).val + 2 * k) (iter X kx vx i (enter X kx vx i d) k) := by
  induction k with
  | zero => exact after_enter X kx vx i d
  | succ k ih =>
    rw [iter_succ X kx vx i _ ⟨k, hk⟩]
    exact After.two (ih (by omega)) _ _ (by show (i 1).val + 1 + 2 * k = (i 1).val + 2 * k + 1; omega)
      (by show (i 1).val + 2 + 2 * k = (i 1).val + 2 * k + 2; omega) (by omega)

/-- The whole point. -/
theorem after_visits (i : grid0.Coords) (d : Vec Ideal S8192x256 .f32) :
    After X kx vx (blockOf i) (entering i d) 15 (visits X kx vx i d) := by
  have h := after_iter X kx vx i d _ le_rfl
  have ht := trips_eq i
  have hj : (i 1).val < 16 := (i 1).isLt
  have hb : (blockOf i).val = (i 1).val := rfl
  unfold visits last
  rw [pay42_eq, pay43_eq]
  split_ifs with e
  · have hb' : (blockOf i).val + 2 * (k0_t1_loop i).trips = 14 := by rw [ht, hb]; omega
    rw [hb'] at h
    exact h.one 15 rfl (by omega)
  · have hb' : (blockOf i).val + 2 * (k0_t1_loop i).trips = 15 := by rw [ht, hb]; omega
    rw [hb'] at h
    exact h

end Cert.AttnIdeal.Body

end
-- ==== Proof.AttnOps.lean ====
module

public import proofs.«01_k».proof.Proof.AttnFrame
public import proofs.«01_k».proof.Proof.AttnRef
public import proofs.«01_k».proof.Proof.AttnVisits

@[expose] public section

set_option maxRecDepth 16384

/-! The arrays the host prepares for the backward attention call: the queries and keys padded to 256 columns a head, the
values, the saved output and the output's cotangent turned and cut into blocks of 512 positions, the log-sum-exp. -/

noncomputable section

open Idealize.ShloMosaic Idealize.ShloMosaic.TcCoe Idealize.SL.Sem

namespace Cert.AttnIdeal.Body

open Cert.AttnIdeal Cert.AttnIdeal.Gen
open Cert.AttnRefIdeal.Read Cert.AttnRefIdeal.Real

/-- Queries or keys, heads side by side, each padded with 64 zero columns. -/
def opPad (x : FVec Ideal S1x8192x8x192 .f32) : FVec Ideal S8192x2048 .bf16 :=
  truncf .bf16 (shapeCast S8192x2048 (pad S8192x8x256 ![0, 0, 0] ![0, 0, 64] ![0, 0, 0]
    (shapeCast S8192x8x192 x shapeCasts_S1x8192x8x192_S8192x8x192) (sitofp .f32 (constantI S_ 32 0#32))
    pads_S8192x8x192_S8192x8x256_000_000_0640 h_S_) shapeCasts_S8192x8x256_S8192x2048) bitsLt_bf16_f32
/-- The values, heads side by side. -/
def opVal (x : FVec Ideal S1x8192x8x128 .f32) : FVec Ideal S8192x1024 .bf16 :=
  truncf .bf16 (shapeCast S8192x1024 (shapeCast S8192x8x128 x shapeCasts_S1x8192x8x128_S8192x8x128)
    shapeCasts_S8192x8x128_S8192x1024) bitsLt_bf16_f32
/-- An array of rows cut into blocks of 512, each block turned. -/
def opTurn (x : FVec Ideal S8192x8x128 .f32) : FVec Ideal S16x1024x512 .bf16 :=
  truncf .bf16 (transpose S16x1024x512 [0, 2, 1] (shapeCast S16x512x1024 x shapeCasts_S8192x8x128_S16x512x1024)
    transposes_S16x512x1024_S16x1024x512_0_2_1) bitsLt_bf16_f32
/-- The greatest score a query sees, -/
def opTop (Q K : FVec Ideal S1x8192x8x192 .f32) : FVec Ideal S8x8192x1 .f32 :=
  broadcastInDim S8x8192x1 ![0, 1] bcast_S8x8192_S8x8192x1_0_1 (val_main_v14 (F := Ideal) Q K : FVec Ideal S8x8192 .f32)
/-- the exponentials, -/
def opEx (Q K : FVec Ideal S1x8192x8x192 .f32) : FVec Ideal S8x8192x8192 .f32 :=
  Host.exp (subf (val_main_v13_0 (F := Ideal) Q K) (broadcastInDim S8x8192x8192 ![0, 1, 2] bcast_S8x8192x1_S8x8192x8192_0_1_2 (opTop Q K)))
/-- their sums, -/
def opTot (Q K : FVec Ideal S1x8192x8x192 .f32) : FVec Ideal S8x8192x1 .f32 :=
  broadcastInDim S8x8192x1 ![0, 1] bcast_S8x8192_S8x8192x1_0_1
    (Host.reduceAdd (opEx Q K) (constant S_ .f32 0x00000000#32) reducesTo_S8x8192x8192_S8x8192_d2 h_S_)
/-- the saved output -/
def opOut (Q K : FVec Ideal S1x8192x8x192 .f32) (x : FVec Ideal S1x8192x8x128 .f32) : FVec Ideal S8192x8x128 .f32 :=
  transpose S8192x8x128 [2, 0, 1] (Host.dotGeneral dot_S8192x8x128_S8x8192x8192_S8x128x8192_0_2_2_1_1_0 none
    (shapeCast S8192x8x128 x shapeCasts_S1x8192x8x128_S8192x8x128)
    (Host.divf (opEx Q K) (broadcastInDim S8x8192x8192 ![0, 1, 2] bcast_S8x8192x1_S8x8192x8192_0_1_2 (opTot Q K))))
    transposes_S8x128x8192_S8192x8x128_2_0_1
/-- and the log-sum-exp. -/
def opLse (Q K : FVec Ideal S1x8192x8x192 .f32) : FVec Ideal S8x16x1x512 .f32 :=
  shapeCast S8x16x1x512 (addf (opTop Q K) (Host.log (opTot Q K))) shapeCasts_S8x8192x1_S8x16x1x512

/-! ## Entries -/

theorem opPad_apply (x : FVec Ideal S1x8192x8x192 .f32) (r : Fin 8192) (h : Fin 8) (d : Fin 256) (hl : h.val * 256 + d.val < 2048) :
    opPad x (ix2 r ⟨h.val * 256 + d.val, hl⟩) = if hd : d.val < 192 then x (ix4 0 r h ⟨d.val, hd⟩) else (0 : EReal) := by
  pointwise [opPad]
  split_ifs
  · rfl
  · exact fill0
theorem opVal_apply (x : FVec Ideal S1x8192x8x128 .f32) (r : Fin 8192) (h : Fin 8) (e : Fin 128) (hl : h.val * 128 + e.val < 1024) :
    opVal x (ix2 r ⟨h.val * 128 + e.val, hl⟩) = x (ix4 0 r h e) := by
  pointwise [opVal]
theorem opTurn_apply (x : FVec Ideal S8192x8x128 .f32) (n : Fin 16) (h : Fin 8) (e : Fin 128) (r : Fin 512) (hl : h.val * 128 + e.val < 1024) :
    opTurn x (ix3 n ⟨h.val * 128 + e.val, hl⟩ r) = x (ix3 (pos n r) h e) := by
  unfold pos
  pointwise [opTurn]
theorem opDo_apply (x : FVec Ideal S1x8192x8x128 .f32) (p : Fin 8192) (h : Fin 8) (e : Fin 128) :
    shapeCast S8192x8x128 x shapeCasts_S1x8192x8x128_S8192x8x128 (ix3 p h e) = x (ix4 0 p h e) := by pointwise

variable {Q K : FVec Ideal S1x8192x8x192 .f32}

theorem opTop_apply (hQ : IsReal Q) (hK : IsReal K) (h : Fin 8) (q : Fin 8192) :
    opTop Q K (ix3 h q 0) = ((AttnMath.top (score Q K h) q : ℝ) : EReal) := by
  rw [← top_at hQ hK]
  pointwise [opTop]
theorem opEx_apply (hQ : IsReal Q) (hK : IsReal K) (h : Fin 8) (q k : Fin 8192) :
    opEx Q K (ix3 h q k) = ((AttnMath.ex (score Q K h) q k : ℝ) : EReal) := by
  rw [← AttnMath.exp_seen, ← seen_at hQ hK, ← opTop_apply hQ hK]
  pointwise [opEx]
theorem opTot_apply (hQ : IsReal Q) (hK : IsReal K) (h : Fin 8) (q : Fin 8192) :
    opTot Q K (ix3 h q 0) = ((AttnMath.tot (score Q K h) q : ℝ) : EReal) := by
  unfold AttnMath.tot
  rw [NormMath.coe_sum]
  simp_rw [← opEx_apply hQ hK]
  pointwise [opTot]
theorem opOut_apply (hQ : IsReal Q) (hK : IsReal K) {x : FVec Ideal S1x8192x8x128 .f32} (hx : IsReal x) (q : Fin 8192) (h : Fin 8) (e : Fin 128) :
    opOut Q K x (ix3 q h e) = ((AttnMath.out (score Q K h) (at128 x h) q e : ℝ) : EReal) := by
  pointwise [opOut]
  simp_rw [real128 hx, opEx_apply hQ hK, opTot_apply hQ hK, Ideal.div_coe (AttnMath.tot_pos _ q).ne', ← EReal.coe_mul, mul_one_div]
  rw [← NormMath.coe_sum]
  exact congrArg _ (Finset.sum_congr rfl fun k _ => mul_comm _ _)
theorem lse_read (A B : FVec Ideal S8x8192x1 .f32) (h : Fin 8) (n : Fin 16) (r : Fin 512) :
    shapeCast S8x16x1x512 (addf A (Host.log B)) shapeCasts_S8x8192x1_S8x16x1x512 (ix4 h n 0 r)
      = (A (ix3 h (pos n r) 0) + Ideal.log (B (ix3 h (pos n r) 0)) : EReal) := by
  unfold pos
  pointwise
theorem opLse_apply (hQ : IsReal Q) (hK : IsReal K) (h : Fin 8) (n : Fin 16) (r : Fin 512) :
    opLse Q K (ix4 h n 0 r) = ((AttnMath.lse (score Q K h) (pos n r) : ℝ) : EReal) := by
  have e := lse_read (opTop Q K) (opTot Q K) h n r
  unfold opLse
  rw [e, opTop_apply hQ hK, opTot_apply hQ hK, Ideal.log_coe, if_neg (not_le.mpr (AttnMath.tot_pos _ _)), ← EReal.coe_add]
  rfl

/-! ## The arrays in memory -/

variable (m : (ℓ : Loc nD τ sig) → Buf (Elt Ideal) ℓ)

/-- The four arguments on a device. -/
def aQ (c : Dev nD) : FVec Ideal S1x8192x8x192 .f32 := m ((c : Thread nD τ).loc main_arg0)
@[inherit_doc aQ] def aK (c : Dev nD) : FVec Ideal S1x8192x8x192 .f32 := m ((c : Thread nD τ).loc main_arg1)
@[inherit_doc aQ] def aV (c : Dev nD) : FVec Ideal S1x8192x8x128 .f32 := m ((c : Thread nD τ).loc main_arg2)
@[inherit_doc aQ] def aG (c : Dev nD) : FVec Ideal S1x8192x8x128 .f32 := m ((c : Thread nD τ).loc main_arg3)

theorem V_v31 (c : Dev nD) : (V m c main_v31 : FVec Ideal S8192x2048 .bf16) = opPad (aQ m c) := by
  unfold V
  simp only [List.flatten_cons, List.flatten_nil, List.cons_append, List.nil_append, List.append_nil]
  after_results_simp
  rfl
theorem V_v35 (c : Dev nD) : (V m c main_v35 : FVec Ideal S8192x2048 .bf16) = opPad (aK m c) := by
  unfold V
  simp only [List.flatten_cons, List.flatten_nil, List.cons_append, List.nil_append, List.append_nil]
  after_results_simp
  rfl
theorem V_v38 (c : Dev nD) : (V m c main_v38 : FVec Ideal S8192x1024 .bf16) = opVal (aV m c) := by
  unfold V
  simp only [List.flatten_cons, List.flatten_nil, List.cons_append, List.nil_append, List.append_nil]
  after_results_simp
  rfl
theorem V_v45 (c : Dev nD) : (V m c main_v45 : FVec Ideal S16x1024x512 .bf16)
    = opTurn (shapeCast S8192x8x128 (aG m c) shapeCasts_S1x8192x8x128_S8192x8x128) := by
  unfold V
  simp only [List.flatten_cons, List.flatten_nil, List.cons_append, List.nil_append, List.append_nil]
  after_results_simp
  rfl
theorem V_v27 (c : Dev nD) : (V m c main_v27 : FVec Ideal S8x16x1x512 .f32) = opLse (aQ m c) (aK m c) := by
  unfold V
  simp only [List.flatten_cons, List.flatten_nil, List.cons_append, List.nil_append, List.append_nil]
  after_results_simp
  rfl
theorem V_v41 (c : Dev nD) : (V m c main_v41 : FVec Ideal S16x1024x512 .bf16) = opTurn (opOut (aQ m c) (aK m c) (aV m c)) := by
  unfold V
  simp only [List.flatten_cons, List.flatten_nil, List.cons_append, List.nil_append, List.append_nil]
  after_results_simp
  rfl

end Cert.AttnIdeal.Body

end
-- ==== Proof.AttnVals.lean ====
module

public import proofs.«01_k».proof.Proof.AttnOps

@[expose] public section

set_option maxRecDepth 16384

/-! What a grid point of the backward attention call computes, over the reals: the blocks it reads are pieces of the
arguments, and its sums are the attention's gradients summed over a block. -/

noncomputable section

open Idealize.ShloMosaic Idealize.ShloMosaic.TcCoe Idealize.SL.Sem

namespace Cert.AttnIdeal.Body

open Cert.AttnIdeal Cert.AttnIdeal.Gen
open Cert.AttnRefIdeal.Read Cert.AttnRefIdeal.Real

/-- Which block of each array a grid point works on. -/
theorem idx : ∀ t : Fin cfg0.N, win0_0.index t = ![0, t.val / 16] ∧ win0_1.index t = ![t.val % 16, t.val / 16]
    ∧ win0_2.index t = ![t.val % 16, t.val / 16] ∧ win0_3.index t = ![0, t.val / 16, 0] ∧ win0_4.index t = ![t.val / 16, 0, 0, 0]
    ∧ win0_5.index t = ![0, t.val / 16, 0] ∧ win0_6.index t = ![0, t.val / 16] ∧ win0_7.index t = ![t.val % 16, t.val / 16]
    ∧ win0_8.index t = ![t.val % 16, t.val / 16] :=
  (by decide +kernel : ∀ t : Fin grid0.N, _)

variable (m : (ℓ : Loc nD τ sig) → Buf (Elt Ideal) ℓ) (c : Dev nD) (t : Fin cfg0.N)

/-- A point's head -/
def hd : Fin 8 := ⟨t.val / 16, by have h : t.val < 128 := t.isLt; omega⟩
/-- and its key block. -/
def kb : Fin 16 := ⟨t.val % 16, Nat.mod_lt _ (by norm_num)⟩

theorem blockOf_kb : blockOf (grid0.coords t) = kb t := Fin.ext (coord1 t)

/-- A block before the key block holds earlier positions only. -/
theorem past {n : Fin 16} (hn : ¬ kb t ≤ n) (r k : Fin 512) : ¬ pos (kb t) k ≤ pos n r := by
  intro h
  have h' : (kb t).val * 512 + k.val ≤ n.val * 512 + r.val := h
  have hn' : ¬ (kb t).val ≤ n.val := hn
  omega

/-- A query or a key with 64 zeros appended. -/
def wide (x : FVec Ideal S1x8192x8x192 .f32) (h : Fin 8) (p : Fin 8192) (d : Fin 256) : ℝ :=
  if hd : d.val < 192 then at192 x h p ⟨d.val, hd⟩ else 0

/-- The blocks a point reads. -/
def b0 : Vec Ideal S8192x256 .bf16 := iblk m c 0 t
@[inherit_doc b0] def b1 : Vec Ideal S512x256 .bf16 := iblk m c 1 t
@[inherit_doc b0] def b2 : Vec Ideal S512x128 .bf16 := iblk m c 2 t
@[inherit_doc b0] def b3 : Vec Ideal S16x128x512 .bf16 := iblk m c 3 t
@[inherit_doc b0] def b4 : Vec Ideal S1x16x1x512 .f32 := iblk m c 4 t
@[inherit_doc b0] def b5 : Vec Ideal S16x128x512 .bf16 := iblk m c 5 t

theorem col256 (d : Fin 256) : (hd t).val * 256 + d.val < 2048 := by have := (hd t).isLt; omega
theorem col128 (e : Fin 128) : (hd t).val * 128 + e.val < 1024 := by have := (hd t).isLt; omega

theorem blk0 (p : Fin 8192) (d : Fin 256) : b0 m c t (ix2 p d) = opPad (aQ m c) (ix2 p ⟨(hd t).val * 256 + d.val, col256 t d⟩) := by
  unfold b0
  rw [← V_v31 m c]
  unfold hd
  blk_ext [iblk, idx t]
theorem blk1 (k : Fin 512) (d : Fin 256) : b1 m c t (ix2 k d) = opPad (aK m c) (ix2 (pos (kb t) k) ⟨(hd t).val * 256 + d.val, col256 t d⟩) := by
  unfold b1
  rw [← V_v35 m c]
  unfold hd pos kb
  blk_ext [iblk, idx t]
theorem blk2 (k : Fin 512) (e : Fin 128) : b2 m c t (ix2 k e) = opVal (aV m c) (ix2 (pos (kb t) k) ⟨(hd t).val * 128 + e.val, col128 t e⟩) := by
  unfold b2
  rw [← V_v38 m c]
  unfold hd pos kb
  blk_ext [iblk, idx t]
theorem blk3 (n : Fin 16) (e : Fin 128) (r : Fin 512) : b3 m c t (ix3 n e r)
    = opTurn (opOut (aQ m c) (aK m c) (aV m c)) (ix3 n ⟨(hd t).val * 128 + e.val, col128 t e⟩ r) := by
  unfold b3
  rw [← V_v41 m c]
  unfold hd
  blk_ext [iblk, idx t]
theorem read4 (A : FVec Ideal S8x16x1x512 .f32) (n : Fin 16) (r : Fin 512) :
    ((cfg0.win 4).blk t).view.read (Elt Ideal) A (ix4 0 n 0 r) = A (ix4 (hd t) n 0 r) := by
  unfold hd
  blk_simp [idx t]
  refine congrArg A ?_
  funext a
  apply Fin.ext
  fin_cases a <;> (try simp only [Fin.isValue]) <;> (try blk_simp [idx t])
  exact Nat.add_zero _
theorem blk4 (n : Fin 16) (r : Fin 512) : b4 m c t (ix4 0 n 0 r) = opLse (aQ m c) (aK m c) (ix4 (hd t) n 0 r) :=
  (read4 t (V m c main_v27) n r).trans (congrFun (V_v27 m c) _)
theorem blk5 (n : Fin 16) (e : Fin 128) (r : Fin 512) : b5 m c t (ix3 n e r)
    = opTurn (shapeCast S8192x8x128 (aG m c) shapeCasts_S1x8192x8x128_S8192x8x128) (ix3 n ⟨(hd t).val * 128 + e.val, col128 t e⟩ r) := by
  unfold b5
  rw [← V_v45 m c]
  unfold hd
  blk_ext [iblk, idx t]

theorem pad_wide {x : FVec Ideal S1x8192x8x192 .f32} (hx : IsReal x) (p : Fin 8192) (h : Fin 8) (d : Fin 256) (hl : h.val * 256 + d.val < 2048) :
    opPad x (ix2 p ⟨h.val * 256 + d.val, hl⟩) = ((wide x h p d : ℝ) : EReal) := by
  rw [opPad_apply]
  unfold wide
  split_ifs
  · exact real192 hx _ _ _
  · rfl

/-- The 64 further columns add nothing. -/
theorem wide_sum (x y : FVec Ideal S1x8192x8x192 .f32) (h : Fin 8) (p p' : Fin 8192) :
    ∑ d : Fin 256, wide y h p d * wide x h p' d = ∑ d : Fin 192, at192 x h p' d * at192 y h p d := by
  have e := Fin.sum_univ_add (M := ℝ) (a := 192) (b := 64) fun d => wide y h p d * wide x h p' d
  refine e.trans ?_
  rw [Finset.sum_eq_zero (s := Finset.univ (α := Fin 64)) (f := fun d => _), add_zero]
  · refine Finset.sum_congr rfl fun d _ => ?_
    unfold wide
    rw [dif_pos (show (Fin.castAdd 64 d).val < 192 from d.isLt), dif_pos (show (Fin.castAdd 64 d).val < 192 from d.isLt)]
    exact mul_comm _ _
  · intro d _
    unfold wide
    rw [dif_neg (by simp), zero_mul]

variable (hQ : IsReal (aQ m c)) (hK : IsReal (aK m c)) (hV : IsReal (aV m c)) (hG : IsReal (aG m c))

/-- The scores of the point's head, -/
def S (q k : Fin 8192) : ℝ := score (aQ m c) (aK m c) (hd t) q k
/-- its cotangents -/
def g (q : Fin 8192) (e : Fin 128) : ℝ := at128 (aG m c) (hd t) q e
/-- and its values. -/
def v (k : Fin 8192) (e : Fin 128) : ℝ := at128 (aV m c) (hd t) k e

section
include hQ
theorem q_blk (n : Fin 16) (r : Fin 512) (d : Fin 256) :
    row (rowsAt m c t).q n (ix2 r d) = ((wide (aQ m c) (hd t) (pos n r) d : ℝ) : EReal) := by
  rw [row_apply]
  exact (blk0 m c t _ _).trans (pad_wide hQ _ _ _ _)
end
section
include hK
theorem k_blk (k : Fin 512) (d : Fin 256) : keyAt m c t (ix2 k d) = ((wide (aK m c) (hd t) (pos (kb t) k) d : ℝ) : EReal) :=
  (blk1 m c t _ _).trans (pad_wide hK _ _ _ _)
end
section
include hV
theorem v_blk (k : Fin 512) (e : Fin 128) : valAt m c t (ix2 k e) = ((v m c t (pos (kb t) k) e : ℝ) : EReal) :=
  (blk2 m c t _ _).trans ((opVal_apply _ _ _ _ _).trans (real128 hV _ _ _))
end
section
include hG
theorem g_blk (n : Fin 16) (e : Fin 128) (r : Fin 512) : slab (rowsAt m c t).g n (ix3 0 e r) = ((g m c t (pos n r) e : ℝ) : EReal) := by
  rw [slab_apply]
  exact (blk5 m c t _ _ _).trans ((opTurn_apply _ _ _ _ _ _).trans ((opDo_apply _ _ _ _).trans (real128 hG _ _ _)))
end
section
include hQ hK
theorem l_blk (n : Fin 16) (r : Fin 512) : lseRow (rowsAt m c t).l n (ix4 0 0 0 r) = ((AttnMath.lse (S m c t) (pos n r) : ℝ) : EReal) := by
  rw [lseRow_apply]
  exact (blk4 m c t _ _).trans (opLse_apply hQ hK _ _ _)
include hV in
theorem o_blk (n : Fin 16) (e : Fin 128) (r : Fin 512) :
    slab (rowsAt m c t).o n (ix3 0 e r) = ((AttnMath.out (S m c t) (v m c t) (pos n r) e : ℝ) : EReal) := by
  rw [slab_apply]
  exact (blk3 m c t _ _ _).trans ((opTurn_apply _ _ _ _ _ _).trans (opOut_apply hQ hK hV _ _ _))

theorem raw_blk (n : Fin 16) (k r : Fin 512) : raw (keyAt m c t) (row (rowsAt m c t).q n) k r
    = ((rawS (aQ m c) (aK m c) (hd t) (pos n r) (pos (kb t) k) : ℝ) : EReal) := by
  unfold raw
  simp_rw [q_blk m c t hQ, k_blk m c t hK]
  rw [AttnMath.coe_sum_mul, wide_sum]
  rfl

theorem p_blk {n : Fin 16} (hn : kb t ≤ n) (k r : Fin 512) : pAt (rowsAt m c t) (keyAt m c t) (kb t) n k r
    = ((AttnMath.prob (S m c t) (pos n r) (pos (kb t) k) : ℝ) : EReal) := by
  unfold pAt recomputed
  rw [raw_blk m c t hQ hK, l_blk m c t hQ hK]
  refine Eq.trans ?_ (AttnMath.exp2_seen (S m c t) (pos n r) (pos (kb t) k) _ (Real.sqrt 192)⁻¹ (by positivity) rfl)
  have hn' : (kb t).val ≤ n.val := hn
  have e : (if n = kb t ∧ ¬ k ≤ r then (⊥ : EReal) else ((rawS (aQ m c) (aK m c) (hd t) (pos n r) (pos (kb t) k) : ℝ) : EReal))
      = if pos (kb t) k ≤ pos n r then ((rawS (aQ m c) (aK m c) (hd t) (pos n r) (pos (kb t) k) : ℝ) : EReal) else ⊥ := by
    by_cases hp : pos (kb t) k ≤ pos n r
    · rw [if_pos hp, if_neg]
      rintro ⟨h1, h2⟩
      subst h1
      have hp' : (kb t).val * 512 + k.val ≤ (kb t).val * 512 + r.val := hp
      exact h2 (show k.val ≤ r.val by omega)
    · rw [if_neg hp, if_pos]
      have hp' : ¬ (kb t).val * 512 + k.val ≤ n.val * 512 + r.val := hp
      exact ⟨Fin.ext (by omega), fun h2 => hp' (by have : k.val ≤ r.val := h2; omega)⟩
  rw [e]

include hV hG
theorem d_blk {n : Fin 16} (hn : kb t ≤ n) (k r : Fin 512) : dAt (rowsAt m c t) (keyAt m c t) (valAt m c t) (kb t) n k r
    = ((AttnMath.ds (S m c t) (g m c t) (v m c t) (pos n r) (pos (kb t) k) : ℝ) : EReal) := by
  unfold dAt scored
  rw [p_blk m c t hQ hK hn]
  simp_rw [v_blk m c t hV, g_blk m c t hG, o_blk m c t hQ hK hV]
  rw [AttnMath.coe_sum_mul, AttnMath.coe_sum_mul, ← EReal.coe_sub, ← EReal.coe_mul]
  unfold AttnMath.ds AttnMath.dp
  rw [Finset.sum_congr rfl fun e _ => mul_comm (v m c t (pos (kb t) k) e) (g m c t (pos n r) e)]

/-- What a visit adds; a visit that is left out would add nothing. -/
theorem termQ (n : Fin 16) (r : Fin 512) (d : Fin 256) :
    (if kb t ≤ n ∧ n.val ≤ 15 then addQ (rowsAt m c t) (keyAt m c t) (valAt m c t) (kb t) n r d else 0)
      = ((∑ k : Fin 512, AttnMath.ds (S m c t) (g m c t) (v m c t) (pos n r) (pos (kb t) k) * wide (aK m c) (hd t) (pos (kb t) k) d : ℝ) : EReal) := by
  by_cases hn : kb t ≤ n
  · rw [if_pos ⟨hn, by omega⟩]
    unfold addQ
    simp_rw [d_blk m c t hQ hK hV hG hn, k_blk m c t hK]
    exact AttnMath.coe_sum_mul _ _
  · rw [if_neg fun h => hn h.1, Finset.sum_eq_zero, EReal.coe_zero]
    intro k _
    rw [AttnMath.ds_past _ _ _ (past t hn r k), zero_mul]
@[inherit_doc termQ] theorem termK (n : Fin 16) (k : Fin 512) (d : Fin 256) :
    (if kb t ≤ n ∧ n.val ≤ 15 then addK (rowsAt m c t) (keyAt m c t) (valAt m c t) (kb t) n k d else 0)
      = ((∑ r : Fin 512, AttnMath.ds (S m c t) (g m c t) (v m c t) (pos n r) (pos (kb t) k) * wide (aQ m c) (hd t) (pos n r) d : ℝ) : EReal) := by
  by_cases hn : kb t ≤ n
  · rw [if_pos ⟨hn, by omega⟩]
    unfold addK
    simp_rw [d_blk m c t hQ hK hV hG hn, q_blk m c t hQ]
    exact AttnMath.coe_sum_mul _ _
  · rw [if_neg fun h => hn h.1, Finset.sum_eq_zero, EReal.coe_zero]
    intro r _
    rw [AttnMath.ds_past _ _ _ (past t hn r k), zero_mul]
omit hV
@[inherit_doc termQ] theorem termV (n : Fin 16) (k : Fin 512) (e : Fin 128) :
    (if kb t ≤ n ∧ n.val ≤ 15 then addV (rowsAt m c t) (keyAt m c t) (kb t) n k e else 0)
      = ((∑ r : Fin 512, AttnMath.prob (S m c t) (pos n r) (pos (kb t) k) * g m c t (pos n r) e : ℝ) : EReal) := by
  by_cases hn : kb t ≤ n
  · rw [if_pos ⟨hn, by omega⟩]
    unfold addV
    simp_rw [p_blk m c t hQ hK hn, g_blk m c t hG]
    exact AttnMath.coe_sum_mul _ _
  · rw [if_neg fun h => hn h.1, Finset.sum_eq_zero, EReal.coe_zero]
    intro r _
    rw [AttnMath.prob_past _ (past t hn r k), zero_mul]
end

end Cert.AttnIdeal.Body

end
-- ==== Proof.AttnFinal.lean ====
module

public import proofs.«01_k».proof.Proof.AttnVals

@[expose] public section

set_option maxRecDepth 16384

/-! The three arrays the backward attention call leaves are the gradients the differentiated reference computes. -/

noncomputable section

open Idealize.ShloMosaic Idealize.ShloMosaic.TcCoe Idealize.SL.Sem
open Idealize.ShloMosaic.Pipeline (Dat)

namespace Cert.AttnIdeal.Body

open Cert.AttnIdeal Cert.AttnIdeal.Gen
open Cert.AttnRefIdeal.Read Cert.AttnRefIdeal.Real

variable (m : (ℓ : Loc nD τ sig) → Buf (Elt Ideal) ℓ) (c : Dev nD) (t : Fin cfg0.N)

/-- Sixteen sums of 512 terms are one sum over all positions. -/
theorem join (f : Fin 8192 → ℝ) : ∑ n : Fin 16, ((∑ r : Fin 512, f (pos n r) : ℝ) : EReal) = ((∑ p : Fin 8192, f p : ℝ) : EReal) := by
  rw [← NormMath.coe_sum]
  exact congrArg _ (Fin.sum_mul_add_congr (f := f) fun n r _ => rfl)

/-- A padded column of a gradient, the scale moved inside. -/
theorem column (w : Fin 8192 → ℝ) (x : FVec Ideal S1x8192x8x192 .f32) (h : Fin 8) (d : Fin 256) (s : ℝ) :
    ((∑ p : Fin 8192, w p * wide x h p d : ℝ) : EReal) * ((s : ℝ) : EReal)
      = if hd : d.val < 192 then ((∑ p : Fin 8192, w p * s * at192 x h p ⟨d.val, hd⟩ : ℝ) : EReal) else 0 := by
  rw [← EReal.coe_mul, Finset.sum_mul]
  unfold wide
  split_ifs
  · exact congrArg _ (Finset.sum_congr rfl fun p _ => by ring)
  · simp

variable (hQ : IsReal (aQ m c)) (hK : IsReal (aK m c)) (hV : IsReal (aV m c)) (hG : IsReal (aG m c))

/-- The query gradient before its last scaling. -/
def qRaw (n : ℕ) (h : n < cfg0.N) : Vec Ideal S8192x256 .f32 :=
  (visits (rowsAt m c ⟨n, h⟩) (keyAt m c ⟨n, h⟩) (valAt m c ⟨n, h⟩) (grid0.coords ⟨n, h⟩) (qBefore m c ⟨n, h⟩)).1

theorem qAfter_raw (h : t.val % 16 ≠ 15) : qAfter m c t.val t.isLt = qRaw m c t.val t.isLt := by
  rw [qAfter_eq]
  unfold outQ
  rw [if_neg (by rw [coord1]; exact h)]
  rfl

/-- What point `t` adds to the query gradient. -/
def qTerm (t : Fin cfg0.N) (x : Fin 16 × Fin 512 × Fin 256) : EReal :=
  ((∑ k : Fin 512, AttnMath.ds (S m c t) (g m c t) (v m c t) (pos x.1 x.2.1) (pos (kb t) k) * wide (aK m c) (hd t) (pos (kb t) k) x.2.2 : ℝ) : EReal)

include hQ hK hV hG

theorem qRaw_step (x : Fin 16 × Fin 512 × Fin 256) : row (qRaw m c t.val t.isLt) x.1 (ix2 x.2.1 x.2.2)
    = (row (entering (grid0.coords t) (qBefore m c t)) x.1 (ix2 x.2.1 x.2.2) : EReal) + qTerm m c t x := by
  unfold qRaw qTerm
  rw [← termQ m c t hQ hK hV hG]
  have h := (after_visits (rowsAt m c t) (keyAt m c t) (valAt m c t) (grid0.coords t) (qBefore m c t)).q x.1 x.2.1 x.2.2
  rw [blockOf_kb] at h
  exact h

theorem qRaw_total (ht : t.val % 16 = 15) (n : Fin 16) (r : Fin 512) (d : Fin 256) :
    row (qRaw m c t.val t.isLt) n (ix2 r d)
      = ((∑ k : Fin 8192, AttnMath.ds (S m c t) (g m c t) (v m c t) (pos n r) k * wide (aK m c) (hd t) k d : ℝ) : EReal) := by
  have hs := Pipeline.eq_sum_fin_of_reset_step_apply_of_flush
    (fun n h (x : Fin 16 × Fin 512 × Fin 256) => (row (qRaw m c n h) x.1 (ix2 x.2.1 x.2.2) : EReal)) 16 (fun _ => 0) (qTerm m c)
    (fun t h0 x => by
      rw [qRaw_step m c t hQ hK hV hG]
      refine congrArg (· + _) ?_
      unfold entering
      rw [if_pos (by rw [coord1]; exact h0), row_apply, pay41_apply])
    (fun t h0 x => by
      rw [qRaw_step m c t hQ hK hV hG]
      refine congrArg (· + _) ?_
      unfold entering
      rw [if_neg (by rw [coord1]; exact h0)]
      unfold qBefore
      rw [dif_neg (by omega)]
      rw [qAfter_raw m c ⟨t.val - 1, Nat.lt_of_le_of_lt (Nat.sub_le _ _) t.isLt⟩ (by show (t.val - 1) % 16 ≠ 15; omega)]) t ht (n, r, d)
  refine hs.trans ?_
  rw [zero_add, ← join fun k => AttnMath.ds (S m c t) (g m c t) (v m c t) (pos n r) k * wide (aK m c) (hd t) k d]
  refine Finset.sum_congr rfl fun s _ => ?_
  have e : ∀ hl, hd ⟨16 * (t.val / 16) + s.val, hl⟩ = hd t := fun hl => Fin.ext (by show (16 * (t.val / 16) + s.val) / 16 = t.val / 16; omega)
  have e' : ∀ hl, kb ⟨16 * (t.val / 16) + s.val, hl⟩ = s := fun hl => Fin.ext (by show (16 * (t.val / 16) + s.val) % 16 = s.val; omega)
  unfold qTerm S g v
  rw [e, e']

/-- What the last point of a head leaves in the query gradient, -/
theorem point6 (ht : t.val % 16 = 15) (p : Fin 8192) (d : Fin 256) :
    qAfter m c t.val t.isLt (ix2 p d)
      = val_main_v69 (F := Ideal) (aQ m c) (aK m c) (aV m c) (aG m c) (ix2 p ⟨(hd t).val * 256 + d.val, col256 t d⟩) := by
  rw [out0]
  have hp : p = pos ⟨p.val / 512, by omega⟩ ⟨p.val % 512, by omega⟩ := Fin.ext (by show p.val = p.val / 512 * 512 + p.val % 512; omega)
  have h := qRaw_total m c t hQ hK hV hG ht ⟨p.val / 512, by omega⟩ ⟨p.val % 512, by omega⟩ d
  rw [row_apply, ← hp] at h
  rw [qAfter_eq]
  unfold outQ
  rw [if_pos (by rw [coord1]; exact ht), pay1_apply]
  refine (congrArg (· * cR) h).trans ((column _ _ _ _ _).trans ?_)
  split_ifs
  · exact (dq_at hQ hK hV hG p (hd t) _).symm
  · rfl

/-- what every point leaves in the key gradient -/
theorem point7 (k : Fin 512) (d : Fin 256) :
    outK (rowsAt m c t) (keyAt m c t) (valAt m c t) (grid0.coords t) (qBefore m c t) (ix2 k d)
      = val_main_v71 (F := Ideal) (aQ m c) (aK m c) (aV m c) (aG m c) (ix2 (pos (kb t) k) ⟨(hd t).val * 256 + d.val, col256 t d⟩) := by
  rw [out1]
  unfold outK
  have h := (after_visits (rowsAt m c t) (keyAt m c t) (valAt m c t) (grid0.coords t) (qBefore m c t)).k k d
  rw [blockOf_kb] at h
  unfold upTo at h
  simp_rw [termK m c t hQ hK hV hG] at h
  rw [join fun q => AttnMath.ds (S m c t) (g m c t) (v m c t) q (pos (kb t) k) * wide (aQ m c) (hd t) q d] at h
  rw [pay62_apply]
  refine (congrArg (· * cR) h).trans ((column _ _ _ _ _).trans ?_)
  split_ifs
  · exact (dk_at hQ hK hV hG (pos (kb t) k) (hd t) _).symm
  · rfl

omit hV in
/-- and in the value gradient. -/
theorem point8 (k : Fin 512) (e : Fin 128) :
    outV (rowsAt m c t) (keyAt m c t) (valAt m c t) (grid0.coords t) (qBefore m c t) (ix2 k e)
      = val_main_v72 (F := Ideal) (aQ m c) (aK m c) (aG m c) (ix2 (pos (kb t) k) ⟨(hd t).val * 128 + e.val, col128 t e⟩) := by
  rw [out2]
  unfold outV
  have h := (after_visits (rowsAt m c t) (keyAt m c t) (valAt m c t) (grid0.coords t) (qBefore m c t)).v k e
  rw [blockOf_kb] at h
  unfold upTo at h
  simp_rw [termV m c t hQ hK hG] at h
  rw [join fun q => AttnMath.prob (S m c t) q (pos (kb t) k) * g m c t q e] at h
  refine h.trans (Eq.trans (congrArg _ ?_) (dv_at hQ hK hG (pos (kb t) k) (hd t) e).symm)
  exact Finset.sum_congr rfl fun q _ => mul_comm _ _

/-- The query gradient's array after the run, -/
theorem final6 : (dats m 0 c).arrAt 6 (cfgs 0).N
    = (val_main_v69 (F := Ideal) (aQ m c) (aK m c) (aV m c) (aG m c) : Vec Ideal S8192x2048 .f32) := by
  refine (dats m 0 c).arrAt_eq_of_covers 6 _ (by decide +kernel) fun t hf y => ?_
  blk_simp
  rw [after6]
  have hy : y = ix2 (y 0) (y 1) := by blk_ext
  refine (congrArg _ hy).trans ((point6 m c t hQ hK hV hG ((flush0_6 t).mp hf) (y 0) (y 1)).trans (congrArg _ ?_))
  unfold hd
  blk_ext [idx t]
/-- the key gradient's -/
theorem final7 : (dats m 0 c).arrAt 7 (cfgs 0).N
    = (val_main_v71 (F := Ideal) (aQ m c) (aK m c) (aV m c) (aG m c) : Vec Ideal S8192x2048 .f32) := by
  refine (dats m 0 c).arrAt_eq_of_covers 7 _ (by decide +kernel) fun t hf y => ?_
  blk_simp
  rw [after7]
  have hy : y = ix2 (y 0) (y 1) := by blk_ext
  refine (congrArg _ hy).trans ((point7 m c t hQ hK hV hG (y 0) (y 1)).trans (congrArg _ ?_))
  unfold hd pos kb
  blk_ext [idx t]
omit hV in
/-- and the value gradient's. -/
theorem final8 : (dats m 0 c).arrAt 8 (cfgs 0).N
    = (val_main_v72 (F := Ideal) (aQ m c) (aK m c) (aG m c) : Vec Ideal S8192x1024 .f32) := by
  refine (dats m 0 c).arrAt_eq_of_covers 8 _ (by decide +kernel) fun t hf y => ?_
  blk_simp
  rw [after8]
  have hy : y = ix2 (y 0) (y 1) := by blk_ext
  refine (congrArg _ hy).trans ((point8 m c t hQ hK hG (y 0) (y 1)).trans (congrArg _ ?_))
  unfold hd pos kb
  blk_ext [idx t]

omit hQ hK hV hG

/-- What the arrays hold at the end: the three gradients, and the arguments as they were. -/
theorem ends (g : Dev nD → PrngReg) : θ_run (defs (F := Ideal)) (onTc (τ := τ) (main (F := Ideal))) ⟨m, fun _ => 0, g⟩ (fun r => ∀ c : Dev nD,
      r.2.mem ((c.tc : Thread nD τ).loc main_v46_0) = (dats m 0 c).arrAt 6 (cfgs 0).N
      ∧ r.2.mem ((c.tc : Thread nD τ).loc main_v46_1) = (dats m 0 c).arrAt 7 (cfgs 0).N
      ∧ r.2.mem ((c.tc : Thread nD τ).loc main_v46_2) = (dats m 0 c).arrAt 8 (cfgs 0).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run defs _ _).mono (fun r h c => ?_) (θ_run_and (run_arrays m g) (whole m g))
  obtain ⟨h1, h2⟩ := h
  exact ⟨(h1 c).1 6, (h1 c).1 7, (h1 c).1 8, h2.1 c⟩

end Cert.AttnIdeal.Body

end
-- ==== Proof.AttnPre.lean ====
module

public import proofs.«01_k».proof.Pre_finite
public import proofs.«01_k».proof.Proof.AttnRef
public import Idealize.ShloMosaic.Lib.ReduceAll

@[expose] public section

set_option maxRecDepth 16384

/-! The precondition of the attention claim read back: every entry of the four arguments is a real number. -/

noncomputable section

open Idealize.ShloMosaic Idealize.ShloMosaic.TcCoe

namespace Cert.Pre_finite

open Cert.AttnRefIdeal.Real

/-- The side conditions of the precondition's operations. -/
theorem facts : Facts where
  bcast_S_S1x8192x8x192 := by decide
  reducesTo_S1x8192x8x192_S_d0_1_2_3 := by decide
  h_S_ := by decide
  bcast_S_S1x8192x8x128 := by decide
  reducesTo_S1x8192x8x128_S_d0_1_2_3 := by decide

theorem wTop : Ideal.ofBits .f32 2139095040#32 = (⊤ : EReal) := by
  simp [Ideal.ofBits, Ideal.ieee]

/-- An entry whose size is less than infinity is a real number. -/
theorem real_of_lt (x : EReal) (h : FloatOps.cmpf (F := Ideal) (φ := .f32) .olt (FloatOps.hostAbsf (F := Ideal) (φ := .f32) x) (Ideal.ofBits .f32 2139095040#32) = 1#1) :
    x = ((x.toReal : ℝ) : EReal) := by
  rw [wTop] at h
  have h' : max x (-x) < ⊤ := by
    have e : BitVec.ofBool (decide (max x (-x) < ⊤)) = 1#1 := h
    by_contra hn
    rw [decide_eq_false hn] at e
    exact absurd e (by decide)
  refine (EReal.coe_toReal (fun e => ?_) fun e => ?_).symm
  · rw [e] at h'
    exact absurd h' (by simp)
  · rw [e] at h'
    exact absurd h' (by simp)

variable [Facts]

theorem real_of_fn (Q K : FVec Ideal S1x8192x8x192 .f32) (V G : FVec Ideal S1x8192x8x128 .f32)
    (h : fn (F := Ideal) Q K V G = fun _ => 1#1) : IsReal Q ∧ IsReal K ∧ IsReal V ∧ IsReal G := by
  have h0 := congrFun h (fun a => a.elim0)
  unfold fn fn_part1 at h0
  obtain ⟨h1, hG⟩ := IntOp.andi_eq_one.1 h0
  obtain ⟨h2, hV⟩ := IntOp.andi_eq_one.1 h1
  obtain ⟨hQ, hK⟩ := IntOp.andi_eq_one.1 h2
  haveI : Subsingleton (S_ : Shape).Idx := ⟨fun a b => funext fun i => i.elim0⟩
  refine ⟨fun i => ?_, fun i => ?_, fun i => ?_, fun i => ?_⟩
  · exact real_of_lt _ (Host.reduce_andi_all _ _ _ _ _ hQ i)
  · exact real_of_lt _ (Host.reduce_andi_all _ _ _ _ _ hK i)
  · exact real_of_lt _ (Host.reduce_andi_all _ _ _ _ _ hV i)
  · exact real_of_lt _ (Host.reduce_andi_all _ _ _ _ _ hG i)

end Cert.Pre_finite

end
-- ==== Proof.FfnActPre.lean ====
module

public import proofs.«01_k».proof.Pre_ffn_finite
public import proofs.«01_k».proof.Proof.AttnPre
public import proofs.«01_k».proof.Proof.FfnActRef

@[expose] public section

set_option maxRecDepth 16384

/-! The precondition of the gate's claim read back: every entry of the five arguments is a real number. -/

noncomputable section

open Idealize.ShloMosaic Idealize.ShloMosaic.TcCoe

namespace Cert.Pre_ffn_finite

open Cert.FfnActRefIdeal.Rows
open Cert.Pre_finite (real_of_lt)

/-- The side conditions of the precondition's operations. -/
theorem facts : Facts where
  bcast_S_S1x8192x5632 := by decide
  reducesTo_S1x8192x5632_S_d0_1_2 := by decide
  h_S_ := by decide
  bcast_S_S3x5632 := by decide
  reducesTo_S3x5632_S_d0_1 := by decide
  bcast_S_S5632 := by decide
  reducesTo_S5632_S_d0 := by decide
  bcast_S_S2816x1024 := by decide
  reducesTo_S2816x1024_S_d0_1 := by decide
  bcast_S_S1x8192x1024 := by decide
  reducesTo_S1x8192x1024_S_d0_1_2 := by decide

variable [Facts]

theorem real_of_fn (U : FVec Ideal S1x8192x5632 .f32) (W : FVec Ideal S3x5632 .f32) (B : FVec Ideal S5632 .f32)
    (D : FVec Ideal S2816x1024 .f32) (X : FVec Ideal S1x8192x1024 .f32) (h : fn (F := Ideal) U W B D X = fun _ => 1#1) :
    IsReal U ∧ IsReal W ∧ IsReal B ∧ IsReal D ∧ IsReal X := by
  have h0 := congrFun h (fun a => a.elim0)
  unfold fn fn_part1 at h0
  obtain ⟨h1, hX⟩ := IntOp.andi_eq_one.1 h0
  obtain ⟨h2, hD⟩ := IntOp.andi_eq_one.1 h1
  obtain ⟨h3, hB⟩ := IntOp.andi_eq_one.1 h2
  obtain ⟨hU, hW⟩ := IntOp.andi_eq_one.1 h3
  haveI : Subsingleton (S_ : Shape).Idx := ⟨fun a b => funext fun i => i.elim0⟩
  exact ⟨fun i => real_of_lt _ (Host.reduce_andi_all _ _ _ _ _ hU i), fun i => real_of_lt _ (Host.reduce_andi_all _ _ _ _ _ hW i),
    fun i => real_of_lt _ (Host.reduce_andi_all _ _ _ _ _ hB i), fun i => real_of_lt _ (Host.reduce_andi_all _ _ _ _ _ hD i),
    fun i => real_of_lt _ (Host.reduce_andi_all _ _ _ _ _ hX i)⟩

end Cert.Pre_ffn_finite

end
-- ==== Proof.lean ====
module

public import proofs.«01_k».proof.Defs
public import proofs.«01_k».proof.Proof.Gen.NormBwd
public import proofs.«01_k».proof.Proof.Gen.NormBwd.Skeleton
public import proofs.«01_k».proof.Proof.Gen.NormBwd.Launch
public import proofs.«01_k».proof.Proof.Gen.NormBwd.Points
public import proofs.«01_k».proof.Proof.Gen.NormBwd.Frame
public import proofs.«01_k».proof.Proof.Gen.NormBwdIdeal
public import proofs.«01_k».proof.Proof.Gen.NormBwdIdeal.Skeleton
public import proofs.«01_k».proof.Proof.Gen.NormBwdIdeal.Launch
public import proofs.«01_k».proof.Proof.Gen.NormBwdIdeal.Points
public import proofs.«01_k».proof.Proof.Gen.NormBwdIdeal.Frame
public import proofs.«01_k».proof.Proof.Gen.NormBwdRefIdeal
public import proofs.«01_k».proof.Proof.Gen.NormBwdIdeal.Value
public import proofs.«01_k».proof.Proof.Gen.NormBwdRefIdeal.Run
public import proofs.«01_k».proof.Proof.Gen.NormBwdRefIdeal.Read
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.Attn.Loops
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnIdeal.Loops
public import proofs.«01_k».proof.Proof.Gen.AttnRefIdeal
public import proofs.«01_k».proof.Proof.Gen.AttnRefIdeal.Run
public import proofs.«01_k».proof.Proof.Gen.AttnRefIdeal.Read
public import proofs.«01_k».proof.Proof.Gen.FfnDh
public import proofs.«01_k».proof.Proof.Gen.FfnDh.Skeleton
public import proofs.«01_k».proof.Proof.Gen.FfnDh.Launch
public import proofs.«01_k».proof.Proof.Gen.FfnDh.Points
public import proofs.«01_k».proof.Proof.Gen.FfnDh.Frame
public import proofs.«01_k».proof.Proof.Gen.FfnDhIdeal
public import proofs.«01_k».proof.Proof.Gen.FfnDhIdeal.Skeleton
public import proofs.«01_k».proof.Proof.Gen.FfnDhIdeal.Launch
public import proofs.«01_k».proof.Proof.Gen.FfnDhIdeal.Points
public import proofs.«01_k».proof.Proof.Gen.FfnDhIdeal.Frame
public import proofs.«01_k».proof.Proof.Gen.FfnDhRefIdeal
public import proofs.«01_k».proof.Proof.Gen.HgrnDx
public import proofs.«01_k».proof.Proof.Gen.HgrnDx.Skeleton
public import proofs.«01_k».proof.Proof.Gen.HgrnDx.Launch
public import proofs.«01_k».proof.Proof.Gen.HgrnDx.Points
public import proofs.«01_k».proof.Proof.Gen.HgrnDx.Frame
public import proofs.«01_k».proof.Proof.Gen.HgrnDxIdeal
public import proofs.«01_k».proof.Proof.Gen.HgrnDxIdeal.Skeleton
public import proofs.«01_k».proof.Proof.Gen.HgrnDxIdeal.Launch
public import proofs.«01_k».proof.Proof.Gen.HgrnDxIdeal.Points
public import proofs.«01_k».proof.Proof.Gen.HgrnDxIdeal.Frame
public import proofs.«01_k».proof.Proof.Gen.HgrnDxRefIdeal
public import proofs.«01_k».proof.Proof.Gen.Loss
public import proofs.«01_k».proof.Proof.Gen.Loss.Skeleton
public import proofs.«01_k».proof.Proof.Gen.Loss.Launch
public import proofs.«01_k».proof.Proof.Gen.Loss.Points
public import proofs.«01_k».proof.Proof.Gen.Loss.Frame
public import proofs.«01_k».proof.Proof.Gen.LossIdeal
public import proofs.«01_k».proof.Proof.Gen.LossIdeal.Skeleton
public import proofs.«01_k».proof.Proof.Gen.LossIdeal.Launch
public import proofs.«01_k».proof.Proof.Gen.LossIdeal.Points
public import proofs.«01_k».proof.Proof.Gen.LossIdeal.Frame
public import proofs.«01_k».proof.Proof.Gen.LossRefIdeal
public import proofs.«01_k».proof.Proof.Gen.FfnAct
public import proofs.«01_k».proof.Proof.Gen.FfnAct.Skeleton
public import proofs.«01_k».proof.Proof.Gen.FfnAct.Launch
public import proofs.«01_k».proof.Proof.Gen.FfnAct.Points
public import proofs.«01_k».proof.Proof.Gen.FfnAct.Frame
public import proofs.«01_k».proof.Proof.Gen.FfnActIdeal
public import proofs.«01_k».proof.Proof.Gen.FfnActIdeal.Skeleton
public import proofs.«01_k».proof.Proof.Gen.FfnActIdeal.Launch
public import proofs.«01_k».proof.Proof.Gen.FfnActIdeal.Points
public import proofs.«01_k».proof.Proof.Gen.FfnActIdeal.Frame
public import proofs.«01_k».proof.Proof.Gen.FfnActRefIdeal
public import proofs.«01_k».proof.Proof.Gen.Pre_finite
public import proofs.«01_k».proof.Proof.Gen.FfnDhIdeal.Value
public import proofs.«01_k».proof.Proof.Gen.FfnDhRefIdeal.Run
public import proofs.«01_k».proof.Proof.Gen.FfnDhRefIdeal.Read
public import proofs.«01_k».proof.Proof.Gen.HgrnDxIdeal.Value
public import proofs.«01_k».proof.Proof.Gen.HgrnDxRefIdeal.Run
public import proofs.«01_k».proof.Proof.Gen.HgrnDxRefIdeal.Read
public import proofs.«01_k».proof.Proof.Gen.LossIdeal.Value
public import proofs.«01_k».proof.Proof.Gen.LossRefIdeal.Run
public import proofs.«01_k».proof.Proof.Gen.LossRefIdeal.Read
public import proofs.«01_k».proof.Proof.Gen.FfnActIdeal.Value
public import proofs.«01_k».proof.Proof.Gen.FfnActRefIdeal.Read
public import proofs.«01_k».proof.Proof.Gen.FfnActRefIdeal.Run
public import proofs.«01_k».proof.Proof.Gen.NormFwd
public import proofs.«01_k».proof.Proof.Gen.NormFwd.Skeleton
public import proofs.«01_k».proof.Proof.Gen.NormFwd.Launch
public import proofs.«01_k».proof.Proof.Gen.NormFwd.Points
public import proofs.«01_k».proof.Proof.Gen.NormFwd.Frame
public import proofs.«01_k».proof.Proof.Gen.NormFwdIdeal
public import proofs.«01_k».proof.Proof.Gen.NormFwdIdeal.Skeleton
public import proofs.«01_k».proof.Proof.Gen.NormFwdIdeal.Launch
public import proofs.«01_k».proof.Proof.Gen.NormFwdIdeal.Points
public import proofs.«01_k».proof.Proof.Gen.NormFwdIdeal.Frame
public import proofs.«01_k».proof.Proof.Gen.NormFwdRefIdeal
public import proofs.«01_k».proof.Proof.Gen.FfnUp
public import proofs.«01_k».proof.Proof.Gen.FfnUp.Skeleton
public import proofs.«01_k».proof.Proof.Gen.FfnUp.Launch
public import proofs.«01_k».proof.Proof.Gen.FfnUp.Points
public import proofs.«01_k».proof.Proof.Gen.FfnUp.Frame
public import proofs.«01_k».proof.Proof.Gen.FfnUpIdeal
public import proofs.«01_k».proof.Proof.Gen.FfnUpIdeal.Skeleton
public import proofs.«01_k».proof.Proof.Gen.FfnUpIdeal.Launch
public import proofs.«01_k».proof.Proof.Gen.FfnUpIdeal.Points
public import proofs.«01_k».proof.Proof.Gen.FfnUpIdeal.Frame
public import proofs.«01_k».proof.Proof.Gen.FfnUpRefIdeal
public import proofs.«01_k».proof.Proof.Gen.NormFwdIdeal.Value
public import proofs.«01_k».proof.Proof.Gen.NormFwdRefIdeal.Run
public import proofs.«01_k».proof.Proof.Gen.NormFwdRefIdeal.Read
public import proofs.«01_k».proof.Proof.Gen.FfnUpIdeal.Value
public import proofs.«01_k».proof.Proof.Gen.FfnUpRefIdeal.Run
public import proofs.«01_k».proof.Proof.Gen.FfnUpRefIdeal.Read
public import proofs.«01_k».proof.Proof.NormBwd
public import proofs.«01_k».proof.Proof.Gen.HgrnOut
public import proofs.«01_k».proof.Proof.Gen.HgrnOut.Skeleton
public import proofs.«01_k».proof.Proof.Gen.HgrnOut.Launch
public import proofs.«01_k».proof.Proof.Gen.HgrnOut.Points
public import proofs.«01_k».proof.Proof.Gen.HgrnOut.Frame
public import proofs.«01_k».proof.Proof.Gen.HgrnOutIdeal
public import proofs.«01_k».proof.Proof.Gen.HgrnOutIdeal.Skeleton
public import proofs.«01_k».proof.Proof.Gen.HgrnOutIdeal.Launch
public import proofs.«01_k».proof.Proof.Gen.HgrnOutIdeal.Points
public import proofs.«01_k».proof.Proof.Gen.HgrnOutIdeal.Frame
public import proofs.«01_k».proof.Proof.Gen.HgrnOutRefIdeal
public import proofs.«01_k».proof.Proof.Gen.MlaOut
public import proofs.«01_k».proof.Proof.Gen.MlaOut.Skeleton
public import proofs.«01_k».proof.Proof.Gen.MlaOut.Launch
public import proofs.«01_k».proof.Proof.Gen.MlaOut.Points
public import proofs.«01_k».proof.Proof.Gen.MlaOut.Frame
public import proofs.«01_k».proof.Proof.Gen.MlaOutIdeal
public import proofs.«01_k».proof.Proof.Gen.MlaOutIdeal.Skeleton
public import proofs.«01_k».proof.Proof.Gen.MlaOutIdeal.Launch
public import proofs.«01_k».proof.Proof.Gen.MlaOutIdeal.Points
public import proofs.«01_k».proof.Proof.Gen.MlaOutIdeal.Frame
public import proofs.«01_k».proof.Proof.Gen.MlaOutRefIdeal
public import proofs.«01_k».proof.Proof.Gen.HgrnOutIdeal.Value
public import proofs.«01_k».proof.Proof.Gen.HgrnOutRefIdeal.Run
public import proofs.«01_k».proof.Proof.Gen.HgrnOutRefIdeal.Read
public import proofs.«01_k».proof.Proof.Gen.MlaOutIdeal.Value
public import proofs.«01_k».proof.Proof.Gen.MlaOutRefIdeal.Run
public import proofs.«01_k».proof.Proof.Gen.MlaOutRefIdeal.Read
public import proofs.«01_k».proof.Proof.Gen.FfnDown
public import proofs.«01_k».proof.Proof.Gen.FfnDown.Skeleton
public import proofs.«01_k».proof.Proof.Gen.FfnDown.Launch
public import proofs.«01_k».proof.Proof.Gen.FfnDown.Points
public import proofs.«01_k».proof.Proof.Gen.FfnDown.Frame
public import proofs.«01_k».proof.Proof.Gen.FfnDownIdeal
public import proofs.«01_k».proof.Proof.Gen.FfnDownIdeal.Skeleton
public import proofs.«01_k».proof.Proof.Gen.FfnDownIdeal.Launch
public import proofs.«01_k».proof.Proof.Gen.FfnDownIdeal.Points
public import proofs.«01_k».proof.Proof.Gen.FfnDownIdeal.Frame
public import proofs.«01_k».proof.Proof.Gen.FfnDownRefIdeal
public import proofs.«01_k».proof.Proof.Gen.FfnDownIdeal.Value
public import proofs.«01_k».proof.Proof.Gen.FfnDownRefIdeal.Run
public import proofs.«01_k».proof.Proof.Gen.FfnDownRefIdeal.Read
public import proofs.«01_k».proof.Proof.NormFwd
public import proofs.«01_k».proof.Proof.HgrnOut
public import proofs.«01_k».proof.Proof.MlaOut
public import proofs.«01_k».proof.Proof.FfnDown
public import proofs.«01_k».proof.Proof.FfnUpOut
public import proofs.«01_k».proof.Proof.HgrnDx
public import proofs.«01_k».proof.Proof.FfnDh
public import proofs.«01_k».proof.Proof.Loss
public import proofs.«01_k».proof.Proof.AttnFrames
public import proofs.«01_k».proof.Proof.AttnFinal
public import proofs.«01_k».proof.Proof.AttnPre
public import proofs.«01_k».proof.Proof.FfnActOut
public import proofs.«01_k».proof.Proof.FfnActPre
public import Idealize.ShloMosaic.Lib.Claim
public import Idealize.ShloMosaic.Adequacy
public import Idealize.ShloMosaic.Init

@[expose] public section

set_option maxRecDepth 8192

noncomputable section

namespace Cert.Proof

open Idealize.ShloMosaic Idealize.SL.Sem Cert.NormBwd

/-- The reference leaves its arguments unchanged. -/
theorem frame_norm_ref : Cert.quiescent_NormBwdRefIdeal := by
  intro m ρ _
  exact (θ_run Cert.NormBwdRefIdeal.defs _ _).mono
    (fun r h => ⟨fun c => (h c).2.2, sem_eq_zero_of_no_sems (by decide) r.2⟩) (Cert.NormBwdRefIdeal.Value.run m ρ)

/-- The kernel's two results are the reference's. -/
theorem norm : Cert.algebraic_NormBwdIdeal_NormBwdRefIdeal := by
  pair_intro
  · run_from Cert.NormBwdIdeal.Gen.run_main m g
    · exact Cert.NormBwdIdeal.Gen.V_main_arg0 m c
    · exact Cert.NormBwdIdeal.Gen.V_main_arg1 m c
    · exact Cert.NormBwdIdeal.Gen.V_main_arg2 m c
    · exact Cert.NormBwdIdeal.Gen.V_main_arg3 m c
    · exact Cert.NormBwdIdeal.Gen.V_main_arg4 m c
  · run_from Cert.NormBwdRefIdeal.Value.run m' g'
    · obtain ⟨e0, e1, e2, e3, e4⟩ := hagree c
      rw [Cert.NormBwdRefIdeal.Read.val_main_v41_eq, e0, e1, e2, e3, e4]
      exact (Cert.NormBwdIdeal.Norm.final5 m c).symm
    · exact (Cert.NormBwdRefIdeal.Read.val_main_v42_eq _ _ _).trans (Cert.NormBwdIdeal.Norm.final6 m c).symm

/-- The attention reference leaves its arguments unchanged. -/
theorem frame_attn_ref : Cert.quiescent_AttnRefIdeal := by
  intro m ρ _
  exact (θ_run Cert.AttnRefIdeal.defs _ _).mono
    (fun r h => ⟨fun c => (h c).2.2.2, sem_eq_zero_of_no_sems (by decide) r.2⟩) (Cert.AttnRefIdeal.Value.run m ρ)

/-- The four constants named in the attention call are the values they stand for. -/
theorem named : Cert.preserves_Attn_AttnIdeal :=
  ⟨IdealRules.named_const.statement Cert.AttnIdeal.κ "mask" .f32 0xF149F2CA#32 ⊥ rfl,
   IdealRules.named_const.statement Cert.AttnIdeal.κ "scale_log2e" .f32 0x3DD53B95#32 _ rfl,
   IdealRules.named_const.statement Cert.AttnIdeal.κ "log2e" .f32 0x3FB8AA3B#32 _ rfl,
   IdealRules.named_const.statement Cert.AttnIdeal.κ "scale" .f32 0x3D93CD3A#32 _ rfl⟩

/-- The attention call's three results are the differentiated attention's, for real arguments. -/
theorem attn : Cert.algebraic_AttnIdeal_AttnRefIdeal_pre_finite (hPre_finite := Cert.Pre_finite.facts) := by
  intro m g m' g' hpre hagree
  have hr := fun c => @Cert.Pre_finite.real_of_fn Cert.Pre_finite.facts _ _ _ _ (hpre c)
  refine ⟨_, _, _, Cert.AttnIdeal.Body.ends m g, ?_⟩
  refine (θ_run Cert.AttnRefIdeal.defs _ _).mono (fun r h c => ?_) (Cert.AttnRefIdeal.Value.run m' g')
  obtain ⟨e0, e1, e2, e3⟩ := hagree c
  obtain ⟨hQ, hK, hV, hG⟩ := hr c
  obtain ⟨h0, h1, h2, hargs⟩ := h c
  refine ⟨h0.trans ?_, h1.trans ?_, h2.trans ?_, hargs⟩
  · rw [Cert.AttnRefIdeal.Read.val_main_v69_eq, e0, e1, e2, e3]
    exact (Cert.AttnIdeal.Body.final6 m c hQ hK hV hG).symm
  · rw [Cert.AttnRefIdeal.Read.val_main_v71_eq, e0, e1, e2, e3]
    exact (Cert.AttnIdeal.Body.final7 m c hQ hK hV hG).symm
  · rw [Cert.AttnRefIdeal.Read.val_main_v72_eq, e0, e1, e3]
    exact (Cert.AttnIdeal.Body.final8 m c hQ hK hG).symm

/-- Each further reference leaves its arguments unchanged. -/
theorem frame_ffn_dh_ref : Cert.quiescent_FfnDhRefIdeal := by
  intro m ρ _
  exact (θ_run Cert.FfnDhRefIdeal.defs _ _).mono
    (fun r h => ⟨fun c => (h c).2.2, sem_eq_zero_of_no_sems (by decide) r.2⟩) (Cert.FfnDhRefIdeal.Value.run m ρ)

theorem frame_hgrn_dx_ref : Cert.quiescent_HgrnDxRefIdeal := by
  intro m ρ _
  exact (θ_run Cert.HgrnDxRefIdeal.defs _ _).mono
    (fun r h => ⟨fun c => (h c).2.2, sem_eq_zero_of_no_sems (by decide) r.2⟩) (Cert.HgrnDxRefIdeal.Value.run m ρ)

theorem frame_loss_ref : Cert.quiescent_LossRefIdeal := by
  intro m ρ _
  exact (θ_run Cert.LossRefIdeal.defs _ _).mono
    (fun r h => ⟨fun c => (h c).2.2, sem_eq_zero_of_no_sems (by decide) r.2⟩) (Cert.LossRefIdeal.Value.run m ρ)

theorem frame_norm_fwd_ref : Cert.quiescent_NormFwdRefIdeal := by
  intro m ρ _
  exact (θ_run Cert.NormFwdRefIdeal.defs _ _).mono
    (fun r h => ⟨fun c => (h c).2, sem_eq_zero_of_no_sems (by decide) r.2⟩) (Cert.NormFwdRefIdeal.Value.run m ρ)

theorem frame_hgrn_out_ref : Cert.quiescent_HgrnOutRefIdeal := by
  intro m ρ _
  exact (θ_run Cert.HgrnOutRefIdeal.defs _ _).mono
    (fun r h => ⟨fun c => (h c).2.2, sem_eq_zero_of_no_sems (by decide) r.2⟩) (Cert.HgrnOutRefIdeal.Value.run m ρ)

theorem frame_mla_out_ref : Cert.quiescent_MlaOutRefIdeal := by
  intro m ρ _
  exact (θ_run Cert.MlaOutRefIdeal.defs _ _).mono
    (fun r h => ⟨fun c => (h c).2.2, sem_eq_zero_of_no_sems (by decide) r.2⟩) (Cert.MlaOutRefIdeal.Value.run m ρ)

theorem frame_ffn_down_ref : Cert.quiescent_FfnDownRefIdeal := by
  intro m ρ _
  exact (θ_run Cert.FfnDownRefIdeal.defs _ _).mono
    (fun r h => ⟨fun c => (h c).2.2, sem_eq_zero_of_no_sems (by decide) r.2⟩) (Cert.FfnDownRefIdeal.Value.run m ρ)

theorem frame_ffn_up_ref : Cert.quiescent_FfnUpRefIdeal := by
  intro m ρ _
  exact (θ_run Cert.FfnUpRefIdeal.defs _ _).mono
    (fun r h => ⟨fun c => (h c).2.2.2, sem_eq_zero_of_no_sems (by decide) r.2⟩) (Cert.FfnUpRefIdeal.Value.run m ρ)

theorem frame_ffn_act_ref : Cert.quiescent_FfnActRefIdeal := by
  intro m ρ _
  exact (θ_run Cert.FfnActRefIdeal.defs _ _).mono
    (fun r h => ⟨fun c => (h c).2.2.2, sem_eq_zero_of_no_sems (by decide) r.2⟩) (Cert.FfnActRefIdeal.Value.run m ρ)

/-- The two results of the norm before the recurrence. -/
theorem hgrn_dx : Cert.algebraic_HgrnDxIdeal_HgrnDxRefIdeal := by
  pair_intro
  · run_from Cert.HgrnDxIdeal.Gen.run_main m g
  · run_from Cert.HgrnDxRefIdeal.Value.run m' g'
    · obtain ⟨e0, e1, e2, e3, e4⟩ := hagree c
      rw [Cert.HgrnDxRefIdeal.Read.val_main_v41_eq, e0, e1, e2, e3, e4]
      exact (Cert.HgrnDxIdeal.Norm.final5 m c).symm
    · exact (Cert.HgrnDxRefIdeal.Read.val_main_v42_eq _ _ _).trans (Cert.HgrnDxIdeal.Norm.final6 m c).symm

/-- The two results of the norm before the feed-forward layer. -/
theorem ffn_dh : Cert.algebraic_FfnDhIdeal_FfnDhRefIdeal := by
  pair_intro
  · run_from Cert.FfnDhIdeal.Gen.run_main m g
  · run_from Cert.FfnDhRefIdeal.Value.run m' g'
    · obtain ⟨e0, e1, e2, e3, e4⟩ := hagree c
      rw [Cert.FfnDhRefIdeal.Read.val_main_v41_eq, e0, e1, e2, e3, e4]
      exact (Cert.FfnDhIdeal.Norm.final5 m c).symm
    · exact (Cert.FfnDhRefIdeal.Read.val_main_v42_eq _ _ _).trans (Cert.FfnDhIdeal.Norm.final6 m c).symm

/-- The loss's two results: the gradient of its input and its lanes. -/
theorem loss : Cert.algebraic_LossIdeal_LossRefIdeal := by
  pair_intro
  · run_from Cert.LossIdeal.Gen.run_main m g
  · refine (θ_run Cert.LossRefIdeal.defs _ _).mono (fun r h c => ?_) (Cert.LossRefIdeal.Value.run m' g')
    obtain ⟨e0, e1⟩ := hagree c
    obtain ⟨h0, h1, hargs⟩ := h c
    refine ⟨h0.trans ?_, h1.trans ?_, hargs⟩
    · rw [Cert.LossRefIdeal.Read.val_main_v15_eq, e0, e1]
      exact (Cert.LossIdeal.Rows.final2 m c).symm
    · rw [Cert.LossRefIdeal.Read.val_main_v16_eq, e0, e1]
      exact (Cert.LossIdeal.Rows.final3 m c).symm

set_option maxHeartbeats 2000000 in
/-- The three results of the gate's and the convolution's backward pass, for real arguments. -/
theorem ffn_act : Cert.algebraic_FfnActIdeal_FfnActRefIdeal_pre_ffn_finite (hPre_ffn_finite := Cert.Pre_ffn_finite.facts) := by
  pair_intro
  · run_from Cert.FfnActIdeal.Gen.run_main m g
  · refine (θ_run Cert.FfnActRefIdeal.defs _ _).mono (fun r h c => ?_) (Cert.FfnActRefIdeal.Value.run m' g')
    have H : Cert.FfnActIdeal.Gate.Fine m c :=
      @Cert.Pre_ffn_finite.real_of_fn Cert.Pre_ffn_finite.facts _ _ _ _ _ (hpre c)
    obtain ⟨e0, e1, e2, e3, e4⟩ := hagree c
    obtain ⟨h0, h1, h2, hargs⟩ := h c
    refine ⟨?_, ?_, ?_, hargs⟩
    · refine h0.trans ?_
      rw [Cert.FfnActRefIdeal.Read.val_main_v77_eq, e0, e1, e2, e3, e4]
      exact (Cert.FfnActIdeal.Gate.final6 m c H).symm
    · refine h1.trans ?_
      rw [Cert.FfnActRefIdeal.Read.val_main_v79_eq, e0, e1, e2, e3, e4]
      exact (Cert.FfnActIdeal.Gate.final7 m c H).symm
    · refine h2.trans ?_
      rw [Cert.FfnActRefIdeal.Read.val_main_v80_eq, e0, e1, e2, e3, e4]
      exact (Cert.FfnActIdeal.Gate.final8 m c H).symm

/-- The forward normalisation's result. -/
theorem norm_fwd : Cert.algebraic_NormFwdIdeal_NormFwdRefIdeal := by
  pair_intro
  · run_from Cert.NormFwdIdeal.Gen.run_main m g
  · refine (θ_run Cert.NormFwdRefIdeal.defs _ _).mono (fun r h c => ?_) (Cert.NormFwdRefIdeal.Value.run m' g')
    obtain ⟨e0, e1⟩ := hagree c
    obtain ⟨h0, hargs⟩ := h c
    refine ⟨h0.trans ?_, hargs⟩
    rw [Cert.NormFwdRefIdeal.Read.val_main_v14_eq, e0, e1]
    exact (Cert.NormFwdIdeal.Rows.final2 m c).symm

set_option maxHeartbeats 2000000 in
/-- The three results of the up projection: the gated array, the product, the convolution's output. -/
theorem ffn_up : Cert.algebraic_FfnUpIdeal_FfnUpRefIdeal := by
  pair_intro
  · run_from Cert.FfnUpIdeal.Gen.run_main m g
  · refine (θ_run Cert.FfnUpRefIdeal.defs _ _).mono (fun r h c => ?_) (Cert.FfnUpRefIdeal.Value.run m' g')
    obtain ⟨e0, e1, e2, e3⟩ := hagree c
    obtain ⟨h0, h1, h2, hargs⟩ := h c
    refine ⟨?_, ?_, ?_, hargs⟩
    · refine h0.trans ?_
      rw [Cert.FfnUpRefIdeal.Read.val_main_v34_eq, e0, e1, e2, e3]
      exact (Cert.FfnUpIdeal.Gate.final7 m c).symm
    · refine h1.trans ?_
      rw [Cert.FfnUpRefIdeal.Read.val_main_v37_eq, e0, e1]
      exact (Cert.FfnUpIdeal.Gate.final8 m c).symm
    · refine h2.trans ?_
      rw [Cert.FfnUpRefIdeal.Read.val_main_v40_eq, e0, e1, e2, e3]
      exact (Cert.FfnUpIdeal.Gate.final9 m c).symm

/-- The two results of the recurrence's output projection: the residual stream and its normalisation. -/
theorem hgrn_out : Cert.algebraic_HgrnOutIdeal_HgrnOutRefIdeal := by
  pair_intro
  · run_from Cert.HgrnOutIdeal.Gen.run_main m g
  · refine (θ_run Cert.HgrnOutRefIdeal.defs _ _).mono (fun r h c => ?_) (Cert.HgrnOutRefIdeal.Value.run m' g')
    obtain ⟨e0, e1, e2, e3⟩ := hagree c
    obtain ⟨h0, h1, hargs⟩ := h c
    refine ⟨h0.trans ?_, h1.trans ?_, hargs⟩
    · rw [Cert.HgrnOutRefIdeal.Read.val_main_v3_eq, e0, e2, e3]
      exact (Cert.HgrnOutIdeal.Rows.final4 m c).symm
    · rw [Cert.HgrnOutRefIdeal.Read.val_main_v17_eq, e0, e1, e2, e3]
      exact (Cert.HgrnOutIdeal.Rows.final5 m c).symm

/-- The two results of the attention's output projection. -/
theorem mla_out : Cert.algebraic_MlaOutIdeal_MlaOutRefIdeal := by
  pair_intro
  · run_from Cert.MlaOutIdeal.Gen.run_main m g
  · refine (θ_run Cert.MlaOutRefIdeal.defs _ _).mono (fun r h c => ?_) (Cert.MlaOutRefIdeal.Value.run m' g')
    obtain ⟨e0, e1, e2, e3⟩ := hagree c
    obtain ⟨h0, h1, hargs⟩ := h c
    refine ⟨h0.trans ?_, h1.trans ?_, hargs⟩
    · rw [Cert.MlaOutRefIdeal.Read.val_main_v3_eq, e0, e2, e3]
      exact (Cert.MlaOutIdeal.Rows.final4 m c).symm
    · rw [Cert.MlaOutRefIdeal.Read.val_main_v17_eq, e0, e1, e2, e3]
      exact (Cert.MlaOutIdeal.Rows.final5 m c).symm

/-- The two results of the feed-forward layer's down projection. -/
theorem ffn_down : Cert.algebraic_FfnDownIdeal_FfnDownRefIdeal := by
  pair_intro
  · run_from Cert.FfnDownIdeal.Gen.run_main m g
  · refine (θ_run Cert.FfnDownRefIdeal.defs _ _).mono (fun r h c => ?_) (Cert.FfnDownRefIdeal.Value.run m' g')
    obtain ⟨e0, e1, e2, e3⟩ := hagree c
    obtain ⟨h0, h1, hargs⟩ := h c
    refine ⟨h0.trans ?_, h1.trans ?_, hargs⟩
    · rw [Cert.FfnDownRefIdeal.Read.val_main_v3_eq, e0, e2, e3]
      exact (Cert.FfnDownIdeal.Rows.final4 m c).symm
    · rw [Cert.FfnDownRefIdeal.Read.val_main_v17_eq, e0, e1, e2, e3]
      exact (Cert.FfnDownIdeal.Rows.final5 m c).symm

theorem claim : Cert.Claim := ⟨Cert.NormBwd.Gen.facts, Cert.NormBwdIdeal.Gen.facts, Cert.NormBwdRefIdeal.Gen.facts,
  Cert.Attn.Gen.facts, Cert.AttnIdeal.Gen.facts, Cert.AttnRefIdeal.Gen.facts,
  Cert.FfnDh.Gen.facts, Cert.FfnDhIdeal.Gen.facts, Cert.FfnDhRefIdeal.Gen.facts,
  Cert.HgrnDx.Gen.facts, Cert.HgrnDxIdeal.Gen.facts, Cert.HgrnDxRefIdeal.Gen.facts,
  Cert.Loss.Gen.facts, Cert.LossIdeal.Gen.facts, Cert.LossRefIdeal.Gen.facts,
  Cert.FfnAct.Gen.facts, Cert.FfnActIdeal.Gen.facts, Cert.FfnActRefIdeal.Gen.facts,
  Cert.NormFwd.Gen.facts, Cert.NormFwdIdeal.Gen.facts, Cert.NormFwdRefIdeal.Gen.facts,
  Cert.FfnUp.Gen.facts, Cert.FfnUpIdeal.Gen.facts, Cert.FfnUpRefIdeal.Gen.facts,
  Cert.HgrnOut.Gen.facts, Cert.HgrnOutIdeal.Gen.facts, Cert.HgrnOutRefIdeal.Gen.facts,
  Cert.MlaOut.Gen.facts, Cert.MlaOutIdeal.Gen.facts, Cert.MlaOutRefIdeal.Gen.facts,
  Cert.FfnDown.Gen.facts, Cert.FfnDownIdeal.Gen.facts, Cert.FfnDownRefIdeal.Gen.facts,
  Cert.Pre_finite.facts, Cert.Pre_ffn_finite.facts,
  fun m ρ _ => Cert.NormBwd.Gen.frame m ρ, fun m ρ _ => Cert.NormBwdIdeal.Gen.frame m ρ, frame_norm_ref,
  Cert.AttnIdeal.Body.frame_attn, Cert.AttnIdeal.Body.frame_attn_ideal, fun m ρ _ => Cert.AttnIdeal.Body.frame_attn_ideal m ρ trivial,
  frame_attn_ref, fun m ρ _ => frame_attn_ref m ρ trivial,
  fun m ρ _ => Cert.FfnDh.Gen.frame m ρ, fun m ρ _ => Cert.FfnDhIdeal.Gen.frame m ρ, frame_ffn_dh_ref,
  fun m ρ _ => Cert.HgrnDx.Gen.frame m ρ, fun m ρ _ => Cert.HgrnDxIdeal.Gen.frame m ρ, frame_hgrn_dx_ref,
  fun m ρ _ => Cert.Loss.Gen.frame m ρ, fun m ρ _ => Cert.LossIdeal.Gen.frame m ρ, frame_loss_ref,
  fun m ρ _ => Cert.FfnAct.Gen.frame m ρ, fun m ρ _ => Cert.FfnActIdeal.Gen.frame m ρ, fun m ρ _ => Cert.FfnActIdeal.Gen.frame m ρ,
  frame_ffn_act_ref, fun m ρ _ => frame_ffn_act_ref m ρ trivial,
  fun m ρ _ => Cert.NormFwd.Gen.frame m ρ, fun m ρ _ => Cert.NormFwdIdeal.Gen.frame m ρ, frame_norm_fwd_ref,
  fun m ρ _ => Cert.FfnUp.Gen.frame m ρ, fun m ρ _ => Cert.FfnUpIdeal.Gen.frame m ρ, frame_ffn_up_ref,
  fun m ρ _ => Cert.HgrnOut.Gen.frame m ρ, fun m ρ _ => Cert.HgrnOutIdeal.Gen.frame m ρ, frame_hgrn_out_ref,
  fun m ρ _ => Cert.MlaOut.Gen.frame m ρ, fun m ρ _ => Cert.MlaOutIdeal.Gen.frame m ρ, frame_mla_out_ref,
  fun m ρ _ => Cert.FfnDown.Gen.frame m ρ, fun m ρ _ => Cert.FfnDownIdeal.Gen.frame m ρ, frame_ffn_down_ref,
  trivial, norm, named, attn, trivial, ffn_dh, trivial, hgrn_dx, trivial, loss, trivial, ffn_act, trivial, norm_fwd, trivial, ffn_up,
  trivial, hgrn_out, trivial, mla_out, trivial, ffn_down⟩

end Cert.Proof

end
